-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedRefIdeal (m : (ℓ : Loc Cert.SharedRefIdeal.nD Cert.SharedRefIdeal.τ Cert.SharedRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ r.2.sem = fun _ => 0)

def quiescent_SharedRefIdeal [hSharedRefIdeal : Cert.SharedRefIdeal.Facts] : Prop :=
  ∀ (m : (ℓ : Loc Cert.SharedRefIdeal.nD Cert.SharedRefIdeal.τ Cert.SharedRefIdeal.sig) → Buf (Elt Ideal) ℓ) (g : Dev Cert.SharedRefIdeal.nD → PrngReg), Pre_SharedRefIdeal m →
    θ_run (Cert.SharedRefIdeal.defs (F := Ideal)) (onTc (τ := Cert.SharedRefIdeal.τ) (Cert.SharedRefIdeal.main (F := Ideal))) ⟨m, fun _ => 0, g⟩ (fun r => (∀ c : Dev Cert.SharedRefIdeal.nD,
      r.2.mem ((c.tc : Thread Cert.SharedRefIdeal.nD Cert.SharedRefIdeal.τ).loc Cert.SharedRefIdeal.main_arg0) = m ((c.tc : Thread Cert.SharedRefIdeal.nD Cert.SharedRefIdeal.τ).loc Cert.SharedRefIdeal.main_arg0)
      ∧ r.2.mem ((c.tc : Thread Cert.SharedRefIdeal.nD Cert.SharedRefIdeal.τ).loc Cert.SharedRefIdeal.main_arg1) = m ((c.tc : Thread Cert.SharedRefIdeal.nD Cert.SharedRefIdeal.τ).loc Cert.SharedRefIdeal.main_arg1)
      ∧ r.2.mem ((c.tc : Thread Cert.SharedRefIdeal.nD Cert.SharedRefIdeal.τ).loc Cert.SharedRefIdeal.main_arg2) = m ((c.tc : Thread Cert.SharedRefIdeal.nD Cert.SharedRefIdeal.τ).loc Cert.SharedRefIdeal.main_arg2)
      ∧ r.2.mem ((c.tc : Thread Cert.SharedRefIdeal.nD Cert.SharedRefIdeal.τ).loc Cert.SharedRefIdeal.main_arg3) = m ((c.tc : Thread Cert.SharedRefIdeal.nD Cert.SharedRefIdeal.τ).loc Cert.SharedRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Shared_SharedIdeal : Prop :=
  True

def algebraic_SharedIdeal_SharedRefIdeal [hSharedIdeal : Cert.SharedIdeal.Facts] [hSharedRefIdeal : Cert.SharedRefIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedRefIdeal.nD Cert.SharedRefIdeal.τ Cert.SharedRefIdeal.sig) → Buf (Elt Ideal) ℓ) (g' : Dev Cert.SharedRefIdeal.nD → PrngReg), Pre_SharedIdeal m →
    (∀ c : Dev Cert.SharedIdeal.nD,
      m' ((c.tc : Thread Cert.SharedRefIdeal.nD Cert.SharedRefIdeal.τ).loc Cert.SharedRefIdeal.main_arg0) = m ((c.tc : Thread Cert.SharedIdeal.nD Cert.SharedIdeal.τ).loc Cert.SharedIdeal.main_arg0)
      ∧ m' ((c.tc : Thread Cert.SharedRefIdeal.nD Cert.SharedRefIdeal.τ).loc Cert.SharedRefIdeal.main_arg1) = m ((c.tc : Thread Cert.SharedIdeal.nD Cert.SharedIdeal.τ).loc Cert.SharedIdeal.main_arg1)
      ∧ m' ((c.tc : Thread Cert.SharedRefIdeal.nD Cert.SharedRefIdeal.τ).loc Cert.SharedRefIdeal.main_arg2) = m ((c.tc : Thread Cert.SharedIdeal.nD Cert.SharedIdeal.τ).loc Cert.SharedIdeal.main_arg2)
      ∧ m' ((c.tc : Thread Cert.SharedRefIdeal.nD Cert.SharedRefIdeal.τ).loc Cert.SharedRefIdeal.main_arg3) = m ((c.tc : Thread Cert.SharedIdeal.nD Cert.SharedIdeal.τ).loc Cert.SharedIdeal.main_arg3)) →
    ∃ (v0 : (c : Dev Cert.SharedIdeal.nD) → Buf (Elt Ideal) ((c.tc : Thread Cert.SharedIdeal.nD Cert.SharedIdeal.τ).loc Cert.SharedIdeal.main_v13)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v13) = v0 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ θ_run (Cert.SharedRefIdeal.defs (F := Ideal)) (onTc (τ := Cert.SharedRefIdeal.τ) (Cert.SharedRefIdeal.main (F := Ideal))) ⟨m', fun _ => 0, g'⟩ (fun r => ∀ c : Dev Cert.SharedRefIdeal.nD,
          r.2.mem ((c.tc : Thread Cert.SharedRefIdeal.nD Cert.SharedRefIdeal.τ).loc Cert.SharedRefIdeal.main_v5) = v0 c
          ∧ r.2.mem ((c.tc : Thread Cert.SharedRefIdeal.nD Cert.SharedRefIdeal.τ).loc Cert.SharedRefIdeal.main_arg0) = m' ((c.tc : Thread Cert.SharedRefIdeal.nD Cert.SharedRefIdeal.τ).loc Cert.SharedRefIdeal.main_arg0)
          ∧ r.2.mem ((c.tc : Thread Cert.SharedRefIdeal.nD Cert.SharedRefIdeal.τ).loc Cert.SharedRefIdeal.main_arg1) = m' ((c.tc : Thread Cert.SharedRefIdeal.nD Cert.SharedRefIdeal.τ).loc Cert.SharedRefIdeal.main_arg1)
          ∧ r.2.mem ((c.tc : Thread Cert.SharedRefIdeal.nD Cert.SharedRefIdeal.τ).loc Cert.SharedRefIdeal.main_arg2) = m' ((c.tc : Thread Cert.SharedRefIdeal.nD Cert.SharedRefIdeal.τ).loc Cert.SharedRefIdeal.main_arg2)
          ∧ r.2.mem ((c.tc : Thread Cert.SharedRefIdeal.nD Cert.SharedRefIdeal.τ).loc Cert.SharedRefIdeal.main_arg3) = m' ((c.tc : Thread Cert.SharedRefIdeal.nD Cert.SharedRefIdeal.τ).loc Cert.SharedRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v27) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v3_0)) (v1 : (c : Dev Cert.ConvIdeal.nD) → Buf (Elt Ideal) ((c.tc : Thread Cert.ConvIdeal.nD Cert.ConvIdeal.τ).loc Cert.ConvIdeal.main_v3_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3_0) = v0 c
          ∧ r.2.mem ((c.tc : Thread Cert.ConvIdeal.nD Cert.ConvIdeal.τ).loc Cert.ConvIdeal.main_v3_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v29) = v0 c
          ∧ r.2.mem ((c.tc : Thread Cert.ConvRefIdeal.nD Cert.ConvRefIdeal.τ).loc Cert.ConvRefIdeal.main_v30) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)) (v2 : (c : Dev Cert.ProjIdeal.nD) → Buf (Elt Ideal) ((c.tc : Thread Cert.ProjIdeal.nD Cert.ProjIdeal.τ).loc Cert.ProjIdeal.main_v4_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_v4_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v29) = v0 c
          ∧ r.2.mem ((c.tc : Thread Cert.ProjRefIdeal.nD Cert.ProjRefIdeal.τ).loc Cert.ProjRefIdeal.main_v30) = v1 c
          ∧ r.2.mem ((c.tc : Thread Cert.ProjRefIdeal.nD Cert.ProjRefIdeal.τ).loc Cert.ProjRefIdeal.main_v37) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def Claim : Prop :=
  ∃ (hKernel : Cert.Kernel.Facts) (hKernelIdeal : Cert.KernelIdeal.Facts) (hReferenceIdeal : Cert.ReferenceIdeal.Facts) (hShared : Cert.Shared.Facts) (hSharedIdeal : Cert.SharedIdeal.Facts) (hSharedRefIdeal : Cert.SharedRefIdeal.Facts) (hNorm : Cert.Norm.Facts) (hNormIdeal : Cert.NormIdeal.Facts) (hNormRefIdeal : Cert.NormRefIdeal.Facts) (hConv : Cert.Conv.Facts) (hConvIdeal : Cert.ConvIdeal.Facts) (hConvRefIdeal : Cert.ConvRefIdeal.Facts) (hProj : Cert.Proj.Facts) (hProjIdeal : Cert.ProjIdeal.Facts) (hProjRefIdeal : Cert.ProjRefIdeal.Facts),
    quiescent_Kernel (hKernel := hKernel)
    ∧ quiescent_KernelIdeal (hKernelIdeal := hKernelIdeal)
    ∧ quiescent_ReferenceIdeal (hReferenceIdeal := hReferenceIdeal)
    ∧ quiescent_Shared (hShared := hShared)
    ∧ quiescent_SharedIdeal (hSharedIdeal := hSharedIdeal)
    ∧ quiescent_SharedRefIdeal (hSharedRefIdeal := hSharedRefIdeal)
    ∧ quiescent_Norm (hNorm := hNorm)
    ∧ quiescent_NormIdeal (hNormIdeal := hNormIdeal)
    ∧ quiescent_NormRefIdeal (hNormRefIdeal := hNormRefIdeal)
    ∧ quiescent_Conv (hConv := hConv)
    ∧ quiescent_ConvIdeal (hConvIdeal := hConvIdeal)
    ∧ quiescent_ConvRefIdeal (hConvRefIdeal := hConvRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_ReferenceIdeal (hKernelIdeal := hKernelIdeal) (hReferenceIdeal := hReferenceIdeal)
    ∧ preserves_Shared_SharedIdeal
    ∧ algebraic_SharedIdeal_SharedRefIdeal (hSharedIdeal := hSharedIdeal) (hSharedRefIdeal := hSharedRefIdeal)
    ∧ preserves_Norm_NormIdeal
    ∧ algebraic_NormIdeal_NormRefIdeal (hNormIdeal := hNormIdeal) (hNormRefIdeal := hNormRefIdeal)
    ∧ preserves_Conv_ConvIdeal
    ∧ algebraic_ConvIdeal_ConvRefIdeal (hConvIdeal := hConvIdeal) (hConvRefIdeal := hConvRefIdeal)
    ∧ preserves_Proj_ProjIdeal
    ∧ algebraic_ProjIdeal_ProjRefIdeal (hProjIdeal := hProjIdeal) (hProjRefIdeal := hProjRefIdeal)
-- ==== Kernel.lean ====
abbrev S8320x4096 : Shape := ⟨2, ![8320, 4096]⟩
abbrev S8320x256 : Shape := ⟨2, ![8320, 256]⟩
abbrev S256 : Shape := ⟨1, ![256]⟩
abbrev S1x256x4096x1152 : Shape := ⟨4, ![1, 256, 4096, 1152]⟩
abbrev S1x256x1152x4096 : Shape := ⟨4, ![1, 256, 1152, 4096]⟩
abbrev S1x256 : Shape := ⟨2, ![1, 256]⟩
abbrev S8320x8 : Shape := ⟨2, ![8320, 8]⟩
abbrev S_ : Shape := ⟨0, ![]⟩
abbrev S8320x8x1 : Shape := ⟨3, ![8320, 8, 1]⟩
abbrev S1 : Shape := ⟨1, ![1]⟩
abbrev S1x1x1 : Shape := ⟨3, ![1, 1, 1]⟩
abbrev S8320 : Shape := ⟨1, ![8320]⟩
abbrev S8320x1 : Shape := ⟨2, ![8320, 1]⟩
abbrev S66560 : Shape := ⟨1, ![66560]⟩
abbrev S66560x1 : Shape := ⟨2, ![66560, 1]⟩
abbrev S99584 : Shape := ⟨1, ![99584]⟩
abbrev S386 : Shape := ⟨1, ![386]⟩
abbrev S386x1 : Shape := ⟨2, ![386, 1]⟩
abbrev S386x256 : Shape := ⟨2, ![386, 256]⟩
abbrev S385 : Shape := ⟨1, ![385]⟩
abbrev S99584x1 : Shape := ⟨2, ![99584, 1]⟩
abbrev S1x1 : Shape := ⟨2, ![1, 1]⟩
abbrev S99584x4096 : Shape := ⟨2, ![99584, 4096]⟩
abbrev S99584x128 : Shape := ⟨2, ![99584, 128]⟩
abbrev S512x1024 : Shape := ⟨2, ![512, 1024]⟩
abbrev S512x128 : Shape := ⟨2, ![512, 128]⟩
abbrev S1x1x1024x1152 : Shape := ⟨4, ![1, 1, 1024, 1152]⟩
abbrev S1x1x1152x1024 : Shape := ⟨4, ![1, 1, 1152, 1024]⟩
abbrev S512x2304 : Shape := ⟨2, ![512, 2304]⟩
abbrev S1024x2304 : Shape := ⟨2, ![1024, 2304]⟩
abbrev S1152x1024 : Shape := ⟨2, ![1152, 1024]⟩
abbrev S512x1152 : Shape := ⟨2, ![512, 1152]⟩
abbrev S2x512x1024 : Shape := ⟨3, ![2, 512, 1024]⟩
abbrev S2 : Shape := ⟨1, ![2]⟩
abbrev S128x1024 : Shape := ⟨2, ![128, 1024]⟩
abbrev S1x128x1024 : Shape := ⟨3, ![1, 128, 1024]⟩
abbrev S1024x1152 : Shape := ⟨2, ![1024, 1152]⟩
abbrev S128x2304 : Shape := ⟨2, ![128, 2304]⟩
abbrev S128x1152 : Shape := ⟨2, ![128, 1152]⟩
abbrev S128x128 : Shape := ⟨2, ![128, 128]⟩
abbrev S8320x8x4096 : Shape := ⟨3, ![8320, 8, 4096]⟩

abbrev nBuf : Space → Nat
  | .hbm => 372
  | .vmem => 15
  | .smem => 4
  | _ => 0

abbrev hbmTy0_0 (i : Nat) : BufTy := match i % 128 with
  | 0 => ⟨S8320x4096, .bf16⟩
  | 1 => ⟨S8320x256, .f32⟩
  | 2 => ⟨S256, .f32⟩
  | 3 => ⟨S1x256x4096x1152, .f32⟩
  | 4 => ⟨S1x256x4096x1152, .f32⟩
  | 5 => ⟨S1x256x1152x4096, .f32⟩
  | 6 => ⟨S1x256, .f32⟩
  | 7 => ⟨S8320x256, .f32⟩
  | 8 => ⟨S8320x256, .f32⟩
  | 9 => ⟨S8320x8, .f32⟩
  | 10 => ⟨S8320x8, .i32⟩
  | 11 => ⟨S_, .i32⟩
  | 12 => ⟨S8320x8, .i32⟩
  | 13 => ⟨S8320x8, .i1⟩
  | 14 => ⟨S_, .i32⟩
  | 15 => ⟨S8320x8, .i32⟩
  | 16 => ⟨S8320x8, .i32⟩
  | 17 => ⟨S8320x8, .i32⟩
  | 18 => ⟨S8320x8x1, .i32⟩
  | 19 => ⟨S1, .i32⟩
  | 20 => ⟨S_, .i32⟩
  | 21 => ⟨S8320x8x1, .i32⟩
  | 22 => ⟨S8320x8x1, .i1⟩
  | 23 => ⟨S1x1x1, .i32⟩
  | 24 => ⟨S8320x8x1, .i32⟩
  | 25 => ⟨S8320x8x1, .i1⟩
  | 26 => ⟨S8320x8x1, .i1⟩
  | 27 => ⟨S_, .i1⟩
  | 28 => ⟨S8320x8, .i1⟩
  | 29 => ⟨S8320x8, .f32⟩
  | 30 => ⟨S_, .f32⟩
  | 31 => ⟨S8320x8, .f32⟩
  | 32 => ⟨S8320x8, .f32⟩
  | 33 => ⟨S_, .f32⟩
  | 34 => ⟨S8320, .f32⟩
  | 35 => ⟨S8320x1, .f32⟩
  | 36 => ⟨S8320x8, .f32⟩
  | 37 => ⟨S8320x8, .f32⟩
  | 38 => ⟨S_, .f32⟩
  | 39 => ⟨S8320x8, .f32⟩
  | 40 => ⟨S8320x8, .f32⟩
  | 41 => ⟨S66560, .i32⟩
  | 42 => ⟨S66560, .i32⟩
  | 43 => ⟨S66560, .i32⟩
  | 44 => ⟨S66560, .i32⟩
  | 45 => ⟨S_, .i32⟩
  | 46 => ⟨S66560, .i32⟩
  | 47 => ⟨S66560, .i1⟩
  | 48 => ⟨S_, .i32⟩
  | 49 => ⟨S66560, .i32⟩
  | 50 => ⟨S66560, .i32⟩
  | 51 => ⟨S66560, .i32⟩
  | 52 => ⟨S66560x1, .i32⟩
  | 53 => ⟨S66560, .i32⟩
  | 54 => ⟨S_, .i32⟩
  | 55 => ⟨S256, .i32⟩
  | 56 => ⟨S_, .i32⟩
  | 57 => ⟨S_, .i32⟩
  | 58 => ⟨S66560, .i32⟩
  | 59 => ⟨S66560, .i32⟩
  | 60 => ⟨S_, .i32⟩
  | 61 => ⟨S66560, .i32⟩
  | 62 => ⟨S66560, .i1⟩
  | 63 => ⟨S_, .i32⟩
  | 64 => ⟨S66560, .i32⟩
  | 65 => ⟨S66560, .i32⟩
  | 66 => ⟨S66560, .i32⟩
  | 67 => ⟨S66560x1, .i32⟩
  | 68 => ⟨S_, .i32⟩
  | 69 => ⟨S66560, .i32⟩
  | 70 => ⟨S256, .i32⟩
  | 71 => ⟨S_, .i32⟩
  | 72 => ⟨S256, .i32⟩
  | 73 => ⟨S256, .i32⟩
  | 74 => ⟨S_, .i32⟩
  | 75 => ⟨S256, .i32⟩
  | 76 => ⟨S256, .i32⟩
  | 77 => ⟨S_, .i32⟩
  | 78 => ⟨S_, .i32⟩
  | 79 => ⟨S256, .i32⟩
  | 80 => ⟨S256, .i32⟩
  | 81 => ⟨S256, .i32⟩
  | 82 => ⟨S_, .i32⟩
  | 83 => ⟨S256, .i32⟩
  | 84 => ⟨S256, .i1⟩
  | 85 => ⟨S256, .i32⟩
  | 86 => ⟨S256, .i32⟩
  | 87 => ⟨S_, .i32⟩
  | 88 => ⟨S256, .i32⟩
  | 89 => ⟨S256, .i1⟩
  | 90 => ⟨S256, .i1⟩
  | 91 => ⟨S_, .i32⟩
  | 92 => ⟨S256, .i32⟩
  | 93 => ⟨S256, .i32⟩
  | 94 => ⟨S256, .i32⟩
  | 95 => ⟨S_, .i32⟩
  | 96 => ⟨S256, .i32⟩
  | 97 => ⟨S256, .i32⟩
  | 98 => ⟨S_, .i32⟩
  | 99 => ⟨S_, .i32⟩
  | 100 => ⟨S256, .i32⟩
  | 101 => ⟨S256, .i32⟩
  | 102 => ⟨S_, .i32⟩
  | 103 => ⟨S_, .i32⟩
  | 104 => ⟨S256, .i32⟩
  | 105 => ⟨S256, .i32⟩
  | 106 => ⟨S_, .i32⟩
  | 107 => ⟨S66560, .i32⟩
  | 108 => ⟨S66560, .i1⟩
  | 109 => ⟨S_, .i32⟩
  | 110 => ⟨S66560, .i32⟩
  | 111 => ⟨S66560, .i32⟩
  | 112 => ⟨S66560, .i32⟩
  | 113 => ⟨S66560x1, .i32⟩
  | 114 => ⟨S66560, .i32⟩
  | 115 => ⟨S66560, .i32⟩
  | 116 => ⟨S_, .i32⟩
  | 117 => ⟨S66560, .i32⟩
  | 118 => ⟨S66560, .i1⟩
  | 119 => ⟨S_, .i32⟩
  | 120 => ⟨S66560, .i32⟩
  | 121 => ⟨S66560, .i32⟩
  | 122 => ⟨S66560, .i32⟩
  | 123 => ⟨S66560x1, .i32⟩
  | 124 => ⟨S66560, .i32⟩
  | 125 => ⟨S66560, .i32⟩
  | 126 => ⟨S66560, .i32⟩
  | 127 => ⟨S_, .i32⟩
  | _ => ⟨S8320x4096, .bf16⟩

abbrev hbmTy0_1 (i : Nat) : BufTy := match i % 128 with
  | 0 => ⟨S99584, .i32⟩
  | 1 => ⟨S_, .i32⟩
  | 2 => ⟨S_, .i32⟩
  | 3 => ⟨S66560, .i32⟩
  | 4 => ⟨S66560, .i32⟩
  | 5 => ⟨S66560, .i32⟩
  | 6 => ⟨S_, .i32⟩
  | 7 => ⟨S66560, .i32⟩
  | 8 => ⟨S66560, .i1⟩
  | 9 => ⟨S66560, .i32⟩
  | 10 => ⟨S66560, .i32⟩
  | 11 => ⟨S_, .i32⟩
  | 12 => ⟨S66560, .i32⟩
  | 13 => ⟨S66560, .i1⟩
  | 14 => ⟨S66560, .i1⟩
  | 15 => ⟨S_, .i32⟩
  | 16 => ⟨S66560, .i32⟩
  | 17 => ⟨S66560, .i32⟩
  | 18 => ⟨S66560, .i32⟩
  | 19 => ⟨S_, .i32⟩
  | 20 => ⟨S66560, .i32⟩
  | 21 => ⟨S66560, .i1⟩
  | 22 => ⟨S_, .i32⟩
  | 23 => ⟨S66560, .i32⟩
  | 24 => ⟨S66560, .i32⟩
  | 25 => ⟨S66560, .i32⟩
  | 26 => ⟨S66560x1, .i32⟩
  | 27 => ⟨S99584, .i32⟩
  | 28 => ⟨S_, .f32⟩
  | 29 => ⟨S99584, .f32⟩
  | 30 => ⟨S66560, .f32⟩
  | 31 => ⟨S_, .i32⟩
  | 32 => ⟨S66560, .i32⟩
  | 33 => ⟨S66560, .i1⟩
  | 34 => ⟨S_, .i32⟩
  | 35 => ⟨S66560, .i32⟩
  | 36 => ⟨S66560, .i32⟩
  | 37 => ⟨S66560, .i32⟩
  | 38 => ⟨S66560x1, .i32⟩
  | 39 => ⟨S66560, .f32⟩
  | 40 => ⟨S_, .i32⟩
  | 41 => ⟨S66560, .i32⟩
  | 42 => ⟨S66560, .i1⟩
  | 43 => ⟨S_, .i32⟩
  | 44 => ⟨S66560, .i32⟩
  | 45 => ⟨S66560, .i32⟩
  | 46 => ⟨S66560, .i32⟩
  | 47 => ⟨S66560x1, .i32⟩
  | 48 => ⟨S99584, .f32⟩
  | 49 => ⟨S_, .i32⟩
  | 50 => ⟨S66560, .i32⟩
  | 51 => ⟨S_, .i32⟩
  | 52 => ⟨S66560, .i32⟩
  | 53 => ⟨S66560, .i1⟩
  | 54 => ⟨S_, .i32⟩
  | 55 => ⟨S66560, .i32⟩
  | 56 => ⟨S66560, .i32⟩
  | 57 => ⟨S66560, .i32⟩
  | 58 => ⟨S66560x1, .i32⟩
  | 59 => ⟨S66560, .i32⟩
  | 60 => ⟨S8320x8, .i32⟩
  | 61 => ⟨S_, .i32⟩
  | 62 => ⟨S256, .i32⟩
  | 63 => ⟨S256, .i32⟩
  | 64 => ⟨S_, .i32⟩
  | 65 => ⟨S256, .i32⟩
  | 66 => ⟨S256, .i32⟩
  | 67 => ⟨S_, .i32⟩
  | 68 => ⟨S_, .i32⟩
  | 69 => ⟨S256, .i32⟩
  | 70 => ⟨S256, .i32⟩
  | 71 => ⟨S256, .i32⟩
  | 72 => ⟨S_, .i32⟩
  | 73 => ⟨S256, .i32⟩
  | 74 => ⟨S256, .i1⟩
  | 75 => ⟨S256, .i32⟩
  | 76 => ⟨S256, .i32⟩
  | 77 => ⟨S_, .i32⟩
  | 78 => ⟨S256, .i32⟩
  | 79 => ⟨S256, .i1⟩
  | 80 => ⟨S256, .i1⟩
  | 81 => ⟨S_, .i32⟩
  | 82 => ⟨S256, .i32⟩
  | 83 => ⟨S256, .i32⟩
  | 84 => ⟨S256, .i32⟩
  | 85 => ⟨S_, .i32⟩
  | 86 => ⟨S_, .i32⟩
  | 87 => ⟨S256, .i32⟩
  | 88 => ⟨S1, .i32⟩
  | 89 => ⟨S_, .i32⟩
  | 90 => ⟨S386, .i32⟩
  | 91 => ⟨S386, .i32⟩
  | 92 => ⟨S386, .i1⟩
  | 93 => ⟨S_, .i32⟩
  | 94 => ⟨S_, .i32⟩
  | 95 => ⟨S386, .i32⟩
  | 96 => ⟨S386, .i32⟩
  | 97 => ⟨S1x256, .i32⟩
  | 98 => ⟨S386x1, .i32⟩
  | 99 => ⟨S386x256, .i32⟩
  | 100 => ⟨S386x256, .i32⟩
  | 101 => ⟨S386x256, .i1⟩
  | 102 => ⟨S386x256, .i32⟩
  | 103 => ⟨S_, .i32⟩
  | 104 => ⟨S_, .i32⟩
  | 105 => ⟨S386, .i32⟩
  | 106 => ⟨S386, .i1⟩
  | 107 => ⟨S_, .i32⟩
  | 108 => ⟨S386, .i32⟩
  | 109 => ⟨S386, .i32⟩
  | 110 => ⟨S386, .i32⟩
  | 111 => ⟨S386x1, .i32⟩
  | 112 => ⟨S386, .i32⟩
  | 113 => ⟨S_, .i32⟩
  | 114 => ⟨S386, .i32⟩
  | 115 => ⟨S386, .i1⟩
  | 116 => ⟨S_, .i32⟩
  | 117 => ⟨S386, .i32⟩
  | 118 => ⟨S386, .i32⟩
  | 119 => ⟨S386, .i32⟩
  | 120 => ⟨S386x1, .i32⟩
  | 121 => ⟨S386, .i32⟩
  | 122 => ⟨S386, .i32⟩
  | 123 => ⟨S386, .i32⟩
  | 124 => ⟨S_, .i32⟩
  | 125 => ⟨S386, .i32⟩
  | 126 => ⟨S386, .i1⟩
  | 127 => ⟨S_, .i32⟩
  | _ => ⟨S8320x4096, .bf16⟩

abbrev hbmTy0_2 (i : Nat) : BufTy := match i % 128 with
  | 0 => ⟨S386, .i32⟩
  | 1 => ⟨S386, .i32⟩
  | 2 => ⟨S386, .i32⟩
  | 3 => ⟨S386x1, .i32⟩
  | 4 => ⟨S386, .i32⟩
  | 5 => ⟨S_, .i32⟩
  | 6 => ⟨S_, .i32⟩
  | 7 => ⟨S386, .i32⟩
  | 8 => ⟨S386, .i32⟩
  | 9 => ⟨S386, .i32⟩
  | 10 => ⟨S_, .i32⟩
  | 11 => ⟨S386, .i32⟩
  | 12 => ⟨S386, .i1⟩
  | 13 => ⟨S386, .i32⟩
  | 14 => ⟨S386, .i32⟩
  | 15 => ⟨S_, .i32⟩
  | 16 => ⟨S386, .i32⟩
  | 17 => ⟨S386, .i1⟩
  | 18 => ⟨S386, .i1⟩
  | 19 => ⟨S_, .i32⟩
  | 20 => ⟨S386, .i32⟩
  | 21 => ⟨S386, .i32⟩
  | 22 => ⟨S386, .i32⟩
  | 23 => ⟨S_, .i32⟩
  | 24 => ⟨S386, .i32⟩
  | 25 => ⟨S386, .i32⟩
  | 26 => ⟨S_, .i32⟩
  | 27 => ⟨S386, .i32⟩
  | 28 => ⟨S386, .i1⟩
  | 29 => ⟨S_, .i32⟩
  | 30 => ⟨S386, .i32⟩
  | 31 => ⟨S386, .i32⟩
  | 32 => ⟨S386, .i32⟩
  | 33 => ⟨S386x1, .i32⟩
  | 34 => ⟨S386, .i32⟩
  | 35 => ⟨S_, .i32⟩
  | 36 => ⟨S386, .i32⟩
  | 37 => ⟨S386, .i32⟩
  | 38 => ⟨S386, .i32⟩
  | 39 => ⟨S_, .i32⟩
  | 40 => ⟨S_, .i32⟩
  | 41 => ⟨S386, .i32⟩
  | 42 => ⟨S386, .i32⟩
  | 43 => ⟨S386, .i32⟩
  | 44 => ⟨S_, .i32⟩
  | 45 => ⟨S386, .i32⟩
  | 46 => ⟨S386, .i1⟩
  | 47 => ⟨S386, .i32⟩
  | 48 => ⟨S386, .i32⟩
  | 49 => ⟨S_, .i32⟩
  | 50 => ⟨S386, .i32⟩
  | 51 => ⟨S386, .i1⟩
  | 52 => ⟨S386, .i1⟩
  | 53 => ⟨S_, .i32⟩
  | 54 => ⟨S386, .i32⟩
  | 55 => ⟨S386, .i32⟩
  | 56 => ⟨S386, .i32⟩
  | 57 => ⟨S_, .i32⟩
  | 58 => ⟨S386, .i32⟩
  | 59 => ⟨S386, .i32⟩
  | 60 => ⟨S_, .i32⟩
  | 61 => ⟨S_, .i32⟩
  | 62 => ⟨S386, .i32⟩
  | 63 => ⟨S1, .i32⟩
  | 64 => ⟨S385, .i32⟩
  | 65 => ⟨S_, .i32⟩
  | 66 => ⟨S99584, .i32⟩
  | 67 => ⟨S99584, .i1⟩
  | 68 => ⟨S_, .i32⟩
  | 69 => ⟨S99584, .i32⟩
  | 70 => ⟨S99584, .i32⟩
  | 71 => ⟨S99584, .i32⟩
  | 72 => ⟨S99584x1, .i32⟩
  | 73 => ⟨S1, .i32⟩
  | 74 => ⟨S_, .i32⟩
  | 75 => ⟨S99584x1, .i32⟩
  | 76 => ⟨S99584x1, .i1⟩
  | 77 => ⟨S1x1, .i32⟩
  | 78 => ⟨S99584x1, .i32⟩
  | 79 => ⟨S99584x1, .i1⟩
  | 80 => ⟨S99584x1, .i1⟩
  | 81 => ⟨S_, .i1⟩
  | 82 => ⟨S99584, .i1⟩
  | 83 => ⟨S99584x4096, .bf16⟩
  | 84 => ⟨S99584x4096, .i1⟩
  | 85 => ⟨S_, .bf16⟩
  | 86 => ⟨S99584x4096, .bf16⟩
  | 87 => ⟨S99584x4096, .bf16⟩
  | 88 => ⟨S99584x1, .f32⟩
  | 89 => ⟨S99584x128, .f32⟩
  | 90 => ⟨S99584x4096, .f32⟩
  | 91 => ⟨S_, .i32⟩
  | 92 => ⟨S8320x8, .i32⟩
  | 93 => ⟨S8320x8, .i1⟩
  | 94 => ⟨S_, .i32⟩
  | 95 => ⟨S8320x8, .i32⟩
  | 96 => ⟨S8320x8, .i32⟩
  | 97 => ⟨S8320x8, .i32⟩
  | 98 => ⟨S8320x8x1, .i32⟩
  | 99 => ⟨S1, .i32⟩
  | 100 => ⟨S_, .i32⟩
  | 101 => ⟨S8320x8x1, .i32⟩
  | 102 => ⟨S8320x8x1, .i1⟩
  | 103 => ⟨S1x1x1, .i32⟩
  | 104 => ⟨S8320x8x1, .i32⟩
  | 105 => ⟨S8320x8x1, .i1⟩
  | 106 => ⟨S8320x8x1, .i1⟩
  | 107 => ⟨S_, .i1⟩
  | 108 => ⟨S8320x8, .i1⟩
  | 109 => ⟨S8320x8x4096, .f32⟩
  | 110 => ⟨S8320x8x4096, .i1⟩
  | 111 => ⟨S_, .f32⟩
  | 112 => ⟨S8320x8x4096, .f32⟩
  | 113 => ⟨S8320x8x4096, .f32⟩
  | 114 => ⟨S_, .f32⟩
  | 115 => ⟨S8320x4096, .f32⟩
  | _ => ⟨S8320x4096, .bf16⟩

abbrev hbmTy (i : Nat) : BufTy := match i / 128 with
  | 0 => hbmTy0_0 i
  | 1 => hbmTy0_1 i
  | 2 => hbmTy0_2 i
  | _ => ⟨S8320x4096, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S1x1x1024x1152, .f32⟩
  | .local _ .vmem, ⟨5, _⟩ => ⟨S1x1x1024x1152, .f32⟩
  | .local _ .vmem, ⟨6, _⟩ => ⟨S1x1x1024x1152, .f32⟩
  | .local _ .vmem, ⟨7, _⟩ => ⟨S1x1x1024x1152, .f32⟩
  | .local _ .vmem, ⟨8, _⟩ => ⟨S1x1x1152x1024, .f32⟩
  | .local _ .vmem, ⟨9, _⟩ => ⟨S1x1x1152x1024, .f32⟩
  | .local _ .vmem, ⟨10, _⟩ => ⟨S512x2304, .f32⟩
  | .local _ .vmem, ⟨11, _⟩ => ⟨S1024x2304, .bf16⟩
  | .local _ .vmem, ⟨12, _⟩ => ⟨S1152x1024, .bf16⟩
  | .local _ .vmem, ⟨13, _⟩ => ⟨S512x1152, .bf16⟩
  | .local _ .vmem, ⟨14, _⟩ => ⟨S2x512x1024, .f32⟩
  | .local _ .smem, ⟨0, _⟩ => ⟨S386, .i32⟩
  | .local _ .smem, ⟨1, _⟩ => ⟨S386, .i32⟩
  | .local _ .smem, ⟨2, _⟩ => ⟨S386, .i32⟩
  | .local _ .smem, ⟨3, _⟩ => ⟨S386, .i32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_values : Ref sig .tc := ⟨.hbm, 9, rfl⟩
abbrev main_indices : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_call1_v0 : Ref sig .tc := ⟨.hbm, 42, rfl⟩
abbrev main_call1_v1_0 : Ref sig .tc := ⟨.hbm, 43, rfl⟩
abbrev main_v11 : Ref sig .tc := ⟨.hbm, 44, rfl⟩
abbrev main_c : Ref sig .tc := ⟨.hbm, 45, rfl⟩
abbrev main_v12 : Ref sig .tc := ⟨.hbm, 46, rfl⟩
abbrev main_v13 : Ref sig .tc := ⟨.hbm, 47, rfl⟩
abbrev main_c_1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_c_2 : Ref sig .tc := ⟨.hbm, 54, rfl⟩
abbrev main_v19 : Ref sig .tc := ⟨.hbm, 55, rfl⟩
abbrev main_c_3 : Ref sig .tc := ⟨.hbm, 56, rfl⟩
abbrev main_call2_v0 : Ref sig .tc := ⟨.hbm, 57, rfl⟩
abbrev main_call2_v1 : Ref sig .tc := ⟨.hbm, 58, rfl⟩
abbrev main_v20 : Ref sig .tc := ⟨.hbm, 59, rfl⟩
abbrev main_c_4 : Ref sig .tc := ⟨.hbm, 60, rfl⟩
abbrev main_v21 : Ref sig .tc := ⟨.hbm, 61, rfl⟩
abbrev main_v22 : Ref sig .tc := ⟨.hbm, 62, rfl⟩
abbrev main_c_5 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_c_6 : Ref sig .tc := ⟨.hbm, 68, rfl⟩
abbrev main_v27 : Ref sig .tc := ⟨.hbm, 69, rfl⟩
abbrev main_v28 : Ref sig .tc := ⟨.hbm, 70, rfl⟩
abbrev main_c_7 : Ref sig .tc := ⟨.hbm, 71, rfl⟩
abbrev main_v29 : Ref sig .tc := ⟨.hbm, 72, rfl⟩
abbrev main_v30 : Ref sig .tc := ⟨.hbm, 73, rfl⟩
abbrev main_c_8 : Ref sig .tc := ⟨.hbm, 74, rfl⟩
abbrev main_v31 : Ref sig .tc := ⟨.hbm, 75, rfl⟩
abbrev main_v32 : Ref sig .tc := ⟨.hbm, 76, rfl⟩
abbrev main_c_9 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_c : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_0 : Ref sig .tc := ⟨.hbm, 91, rfl⟩
abbrev main_call3_v12 : Ref sig .tc := ⟨.hbm, 92, rfl⟩
abbrev main_call3_v13 : Ref sig .tc := ⟨.hbm, 93, rfl⟩
abbrev main_v33 : Ref sig .tc := ⟨.hbm, 94, rfl⟩
abbrev main_c_10 : Ref sig .tc := ⟨.hbm, 95, rfl⟩
abbrev main_v34 : Ref sig .tc := ⟨.hbm, 96, rfl⟩
abbrev main_v35 : Ref sig .tc := ⟨.hbm, 97, rfl⟩
abbrev main_call4_call0_c : Ref sig .tc := ⟨.hbm, 98, rfl⟩
abbrev main_call4_call0_v0 : Ref sig .tc := ⟨.hbm, 99, rfl⟩
abbrev main_v36 : Ref sig .tc := ⟨.hbm, 100, rfl⟩
abbrev main_v37 : Ref sig .tc := ⟨.hbm, 101, rfl⟩
abbrev main_call5_call0_c : Ref sig .tc := ⟨.hbm, 102, rfl⟩
abbrev main_call5_call0_v0 : Ref sig .tc := ⟨.hbm, 103, rfl⟩
abbrev main_v38 : Ref sig .tc := ⟨.hbm, 104, rfl⟩
abbrev main_v39 : Ref sig .tc := ⟨.hbm, 105, rfl⟩
abbrev main_c_11 : Ref sig .tc := ⟨.hbm, 106, rfl⟩
abbrev main_v40 : Ref sig .tc := ⟨.hbm, 107, rfl⟩
abbrev main_v41 : Ref sig .tc := ⟨.hbm, 108, rfl⟩
abbrev main_c_12 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_c_13 : Ref sig .tc := ⟨.hbm, 116, rfl⟩
abbrev main_v48 : Ref sig .tc := ⟨.hbm, 117, rfl⟩
abbrev main_v49 : Ref sig .tc := ⟨.hbm, 118, rfl⟩
abbrev main_c_14 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_c_15 : Ref sig .tc := ⟨.hbm, 127, rfl⟩
abbrev main_v57 : Ref sig .tc := ⟨.hbm, 128, rfl⟩
abbrev main_c_16 : Ref sig .tc := ⟨.hbm, 129, rfl⟩
abbrev main_call6_v0 : Ref sig .tc := ⟨.hbm, 130, rfl⟩
abbrev main_call6_v1 : Ref sig .tc := ⟨.hbm, 131, rfl⟩
abbrev main_call6_v2 : Ref sig .tc := ⟨.hbm, 132, rfl⟩
abbrev main_call6_v3 : Ref sig .tc := ⟨.hbm, 133, rfl⟩
abbrev main_call6_v4 : Ref sig .tc := ⟨.hbm, 134, rfl⟩
abbrev main_call6_v5 : Ref sig .tc := ⟨.hbm, 135, rfl⟩
abbrev main_call6_v6 : Ref sig .tc := ⟨.hbm, 136, rfl⟩
abbrev main_call6_v7 : Ref sig .tc := ⟨.hbm, 137, rfl⟩
abbrev main_call6_v8 : Ref sig .tc := ⟨.hbm, 138, rfl⟩
abbrev main_call6_c : Ref sig .tc := ⟨.hbm, 139, rfl⟩
abbrev main_call6_v9 : Ref sig .tc := ⟨.hbm, 140, rfl⟩
abbrev main_call6_v10 : Ref sig .tc := ⟨.hbm, 141, rfl⟩
abbrev main_call6_v11 : Ref sig .tc := ⟨.hbm, 142, rfl⟩
abbrev main_call6_c_0 : Ref sig .tc := ⟨.hbm, 143, rfl⟩
abbrev main_call6_v12 : Ref sig .tc := ⟨.hbm, 144, rfl⟩
abbrev main_call6_v13 : Ref sig .tc := ⟨.hbm, 145, rfl⟩
abbrev main_v58 : Ref sig .tc := ⟨.hbm, 146, rfl⟩
abbrev main_c_17 : Ref sig .tc := ⟨.hbm, 147, rfl⟩
abbrev main_v59 : Ref sig .tc := ⟨.hbm, 148, rfl⟩
abbrev main_v60 : Ref sig .tc := ⟨.hbm, 149, rfl⟩
abbrev main_c_18 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_cst_19 : Ref sig .tc := ⟨.hbm, 156, rfl⟩
abbrev main_v66 : Ref sig .tc := ⟨.hbm, 157, rfl⟩
abbrev main_v67 : Ref sig .tc := ⟨.hbm, 158, rfl⟩
abbrev main_c_20 : Ref sig .tc := ⟨.hbm, 159, rfl⟩
abbrev main_v68 : Ref sig .tc := ⟨.hbm, 160, rfl⟩
abbrev main_v69 : Ref sig .tc := ⟨.hbm, 161, rfl⟩
abbrev main_c_21 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_c_22 : Ref sig .tc := ⟨.hbm, 168, rfl⟩
abbrev main_v75 : Ref sig .tc := ⟨.hbm, 169, rfl⟩
abbrev main_v76 : Ref sig .tc := ⟨.hbm, 170, rfl⟩
abbrev main_c_23 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_c_24 : Ref sig .tc := ⟨.hbm, 177, rfl⟩
abbrev main_v82 : Ref sig .tc := ⟨.hbm, 178, rfl⟩
abbrev main_c_25 : Ref sig .tc := ⟨.hbm, 179, rfl⟩
abbrev main_v83 : Ref sig .tc := ⟨.hbm, 180, rfl⟩
abbrev main_v84 : Ref sig .tc := ⟨.hbm, 181, rfl⟩
abbrev main_c_26 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_c_27 : Ref sig .tc := ⟨.hbm, 189, rfl⟩
abbrev main_v91 : Ref sig .tc := ⟨.hbm, 190, rfl⟩
abbrev main_v92 : Ref sig .tc := ⟨.hbm, 191, rfl⟩
abbrev main_c_28 : Ref sig .tc := ⟨.hbm, 192, rfl⟩
abbrev main_v93 : Ref sig .tc := ⟨.hbm, 193, rfl⟩
abbrev main_v94 : Ref sig .tc := ⟨.hbm, 194, rfl⟩
abbrev main_c_29 : Ref sig .tc := ⟨.hbm, 195, rfl⟩
abbrev main_call7_v0 : Ref sig .tc := ⟨.hbm, 196, rfl⟩
abbrev main_call7_v1 : Ref sig .tc := ⟨.hbm, 197, rfl⟩
abbrev main_call7_v2 : Ref sig .tc := ⟨.hbm, 198, rfl⟩
abbrev main_call7_v3 : Ref sig .tc := ⟨.hbm, 199, rfl⟩
abbrev main_call7_v4 : Ref sig .tc := ⟨.hbm, 200, rfl⟩
abbrev main_call7_v5 : Ref sig .tc := ⟨.hbm, 201, rfl⟩
abbrev main_call7_v6 : Ref sig .tc := ⟨.hbm, 202, rfl⟩
abbrev main_call7_v7 : Ref sig .tc := ⟨.hbm, 203, rfl⟩
abbrev main_call7_v8 : Ref sig .tc := ⟨.hbm, 204, rfl⟩
abbrev main_call7_c : Ref sig .tc := ⟨.hbm, 205, rfl⟩
abbrev main_call7_v9 : Ref sig .tc := ⟨.hbm, 206, rfl⟩
abbrev main_call7_v10 : Ref sig .tc := ⟨.hbm, 207, rfl⟩
abbrev main_call7_v11 : Ref sig .tc := ⟨.hbm, 208, rfl⟩
abbrev main_call7_c_0 : Ref sig .tc := ⟨.hbm, 209, rfl⟩
abbrev main_call7_v12 : Ref sig .tc := ⟨.hbm, 210, rfl⟩
abbrev main_call7_v13 : Ref sig .tc := ⟨.hbm, 211, rfl⟩
abbrev main_v95 : Ref sig .tc := ⟨.hbm, 212, rfl⟩
abbrev main_call8_call0_c : Ref sig .tc := ⟨.hbm, 213, rfl⟩
abbrev main_call8_call0_v0 : Ref sig .tc := ⟨.hbm, 214, rfl⟩
abbrev main_v96 : Ref sig .tc := ⟨.hbm, 215, rfl⟩
abbrev main_v97 : Ref sig .tc := ⟨.hbm, 216, rfl⟩
abbrev main_v98 : Ref sig .tc := ⟨.hbm, 217, rfl⟩
abbrev main_v99 : Ref sig .tc := ⟨.hbm, 218, rfl⟩
abbrev main_v100 : Ref sig .tc := ⟨.hbm, 219, rfl⟩
abbrev main_v101 : Ref sig .tc := ⟨.hbm, 220, rfl⟩
abbrev main_c_30 : Ref sig .tc := ⟨.hbm, 221, rfl⟩
abbrev main_v102 : Ref sig .tc := ⟨.hbm, 222, rfl⟩
abbrev main_v103 : Ref sig .tc := ⟨.hbm, 223, rfl⟩
abbrev main_v104 : Ref sig .tc := ⟨.hbm, 224, rfl⟩
abbrev main_v105 : Ref sig .tc := ⟨.hbm, 225, rfl⟩
abbrev main_v106 : Ref sig .tc := ⟨.hbm, 226, rfl⟩
abbrev main_v107 : Ref sig .tc := ⟨.hbm, 227, rfl⟩
abbrev main_v108 : Ref sig .tc := ⟨.hbm, 228, rfl⟩
abbrev main_v109 : Ref sig .tc := ⟨.hbm, 229, rfl⟩
abbrev main_v110 : Ref sig .tc := ⟨.hbm, 230, rfl⟩
abbrev main_c_31 : Ref sig .tc := ⟨.hbm, 231, rfl⟩
abbrev main_c_32 : Ref sig .tc := ⟨.hbm, 232, rfl⟩
abbrev main_v112 : Ref sig .tc := ⟨.hbm, 233, rfl⟩
abbrev main_v113 : Ref sig .tc := ⟨.hbm, 234, rfl⟩
abbrev main_c_33 : Ref sig .tc := ⟨.hbm, 235, rfl⟩
abbrev main_v114 : Ref sig .tc := ⟨.hbm, 236, rfl⟩
abbrev main_v115 : Ref sig .tc := ⟨.hbm, 237, rfl⟩
abbrev main_v116 : Ref sig .tc := ⟨.hbm, 238, rfl⟩
abbrev main_v117 : Ref sig .tc := ⟨.hbm, 239, rfl⟩
abbrev main_v118 : Ref sig .tc := ⟨.hbm, 240, rfl⟩
abbrev main_c_34 : Ref sig .tc := ⟨.hbm, 241, rfl⟩
abbrev main_v119 : Ref sig .tc := ⟨.hbm, 242, rfl⟩
abbrev main_v120 : Ref sig .tc := ⟨.hbm, 243, rfl⟩
abbrev main_c_35 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_c_36 : Ref sig .tc := ⟨.hbm, 252, rfl⟩
abbrev main_v128 : Ref sig .tc := ⟨.hbm, 253, rfl⟩
abbrev main_v129 : Ref sig .tc := ⟨.hbm, 254, rfl⟩
abbrev main_c_37 : Ref sig .tc := ⟨.hbm, 255, rfl⟩
abbrev main_v130 : Ref sig .tc := ⟨.hbm, 256, rfl⟩
abbrev main_v131 : Ref sig .tc := ⟨.hbm, 257, rfl⟩
abbrev main_v132 : Ref sig .tc := ⟨.hbm, 258, rfl⟩
abbrev main_v133 : Ref sig .tc := ⟨.hbm, 259, rfl⟩
abbrev main_v134 : Ref sig .tc := ⟨.hbm, 260, rfl⟩
abbrev main_c_38 : Ref sig .tc := ⟨.hbm, 261, rfl⟩
abbrev main_call9_v0 : Ref sig .tc := ⟨.hbm, 262, rfl⟩
abbrev main_call9_v1 : Ref sig .tc := ⟨.hbm, 263, rfl⟩
abbrev main_call9_v2 : Ref sig .tc := ⟨.hbm, 264, rfl⟩
abbrev main_call9_v3 : Ref sig .tc := ⟨.hbm, 265, rfl⟩
abbrev main_call9_v4 : Ref sig .tc := ⟨.hbm, 266, rfl⟩
abbrev main_call9_v5 : Ref sig .tc := ⟨.hbm, 267, rfl⟩
abbrev main_call9_v6 : Ref sig .tc := ⟨.hbm, 268, rfl⟩
abbrev main_call9_v7 : Ref sig .tc := ⟨.hbm, 269, rfl⟩
abbrev main_call9_v8 : Ref sig .tc := ⟨.hbm, 270, rfl⟩
abbrev main_call9_c : Ref sig .tc := ⟨.hbm, 271, rfl⟩
abbrev main_call9_v9 : Ref sig .tc := ⟨.hbm, 272, rfl⟩
abbrev main_call9_v10 : Ref sig .tc := ⟨.hbm, 273, rfl⟩
abbrev main_call9_v11 : Ref sig .tc := ⟨.hbm, 274, rfl⟩
abbrev main_call9_c_0 : Ref sig .tc := ⟨.hbm, 275, rfl⟩
abbrev main_call9_v12 : Ref sig .tc := ⟨.hbm, 276, rfl⟩
abbrev main_call9_v13 : Ref sig .tc := ⟨.hbm, 277, rfl⟩
abbrev main_v135 : Ref sig .tc := ⟨.hbm, 278, rfl⟩
abbrev main_c_39 : Ref sig .tc := ⟨.hbm, 279, rfl⟩
abbrev main_v136 : Ref sig .tc := ⟨.hbm, 280, rfl⟩
abbrev main_v137 : Ref sig .tc := ⟨.hbm, 281, rfl⟩
abbrev main_c_40 : Ref sig .tc := ⟨.hbm, 282, rfl⟩
abbrev main_v139 : Ref sig .tc := ⟨.hbm, 283, rfl⟩
abbrev main_v140 : Ref sig .tc := ⟨.hbm, 284, rfl⟩
abbrev main_c_41 : Ref sig .tc := ⟨.hbm, 285, rfl⟩
abbrev main_v141 : Ref sig .tc := ⟨.hbm, 286, rfl⟩
abbrev main_v142 : Ref sig .tc := ⟨.hbm, 287, rfl⟩
abbrev main_v143 : Ref sig .tc := ⟨.hbm, 288, rfl⟩
abbrev main_v144 : Ref sig .tc := ⟨.hbm, 289, rfl⟩
abbrev main_v145 : Ref sig .tc := ⟨.hbm, 290, rfl⟩
abbrev main_c_42 : Ref sig .tc := ⟨.hbm, 291, rfl⟩
abbrev main_v146 : Ref sig .tc := ⟨.hbm, 292, rfl⟩
abbrev main_v147 : Ref sig .tc := ⟨.hbm, 293, rfl⟩
abbrev main_v148 : Ref sig .tc := ⟨.hbm, 294, rfl⟩
abbrev main_c_43 : Ref sig .tc := ⟨.hbm, 295, rfl⟩
abbrev main_call10_v0 : Ref sig .tc := ⟨.hbm, 296, rfl⟩
abbrev main_call10_v1 : Ref sig .tc := ⟨.hbm, 297, rfl⟩
abbrev main_call10_v2 : Ref sig .tc := ⟨.hbm, 298, rfl⟩
abbrev main_call10_v3 : Ref sig .tc := ⟨.hbm, 299, rfl⟩
abbrev main_call10_v4 : Ref sig .tc := ⟨.hbm, 300, rfl⟩
abbrev main_call10_v5 : Ref sig .tc := ⟨.hbm, 301, rfl⟩
abbrev main_call10_v6 : Ref sig .tc := ⟨.hbm, 302, rfl⟩
abbrev main_call10_v7 : Ref sig .tc := ⟨.hbm, 303, rfl⟩
abbrev main_call10_v8 : Ref sig .tc := ⟨.hbm, 304, rfl⟩
abbrev main_call10_c : Ref sig .tc := ⟨.hbm, 305, rfl⟩
abbrev main_call10_v9 : Ref sig .tc := ⟨.hbm, 306, rfl⟩
abbrev main_call10_v10 : Ref sig .tc := ⟨.hbm, 307, rfl⟩
abbrev main_call10_v11 : Ref sig .tc := ⟨.hbm, 308, rfl⟩
abbrev main_call10_c_0 : Ref sig .tc := ⟨.hbm, 309, rfl⟩
abbrev main_call10_v12 : Ref sig .tc := ⟨.hbm, 310, rfl⟩
abbrev main_call10_v13 : Ref sig .tc := ⟨.hbm, 311, rfl⟩
abbrev main_v149 : Ref sig .tc := ⟨.hbm, 312, rfl⟩
abbrev main_c_44 : Ref sig .tc := ⟨.hbm, 313, rfl⟩
abbrev main_v150 : Ref sig .tc := ⟨.hbm, 314, rfl⟩
abbrev main_v151 : Ref sig .tc := ⟨.hbm, 315, rfl⟩
abbrev main_c_45 : Ref sig .tc := ⟨.hbm, 316, rfl⟩
abbrev main_call11_v0 : Ref sig .tc := ⟨.hbm, 317, rfl⟩
abbrev main_call11_v1 : Ref sig .tc := ⟨.hbm, 318, rfl⟩
abbrev main_v153 : Ref sig .tc := ⟨.hbm, 319, rfl⟩
abbrev main_v154 : Ref sig .tc := ⟨.hbm, 320, rfl⟩
abbrev main_call12_c : Ref sig .tc := ⟨.hbm, 321, rfl⟩
abbrev main_call12_v0 : Ref sig .tc := ⟨.hbm, 322, rfl⟩
abbrev main_call12_v1 : Ref sig .tc := ⟨.hbm, 323, rfl⟩
abbrev main_call12_c_0 : Ref sig .tc := ⟨.hbm, 324, rfl⟩
abbrev main_call12_v2 : Ref sig .tc := ⟨.hbm, 325, rfl⟩
abbrev main_call12_v3 : Ref sig .tc := ⟨.hbm, 326, rfl⟩
abbrev main_call12_v4 : Ref sig .tc := ⟨.hbm, 327, rfl⟩
abbrev main_call12_v5 : Ref sig .tc := ⟨.hbm, 328, rfl⟩
abbrev main_call12_c_1 : Ref sig .tc := ⟨.hbm, 329, rfl⟩
abbrev main_call12_c_2 : Ref sig .tc := ⟨.hbm, 330, rfl⟩
abbrev main_call12_v6 : Ref sig .tc := ⟨.hbm, 331, rfl⟩
abbrev main_call12_v7 : Ref sig .tc := ⟨.hbm, 332, rfl⟩
abbrev main_call12_v8 : Ref sig .tc := ⟨.hbm, 333, rfl⟩
abbrev main_call12_v9 : Ref sig .tc := ⟨.hbm, 334, rfl⟩
abbrev main_call12_v10 : Ref sig .tc := ⟨.hbm, 335, rfl⟩
abbrev main_call12_v11 : Ref sig .tc := ⟨.hbm, 336, rfl⟩
abbrev main_call12_c_3 : Ref sig .tc := ⟨.hbm, 337, rfl⟩
abbrev main_call12_v12 : Ref sig .tc := ⟨.hbm, 338, rfl⟩
abbrev main_call12_v13 : Ref sig .tc := ⟨.hbm, 339, rfl⟩
abbrev main_call12_v14 : Ref sig .tc := ⟨.hbm, 340, rfl⟩
abbrev main_call12_cst : Ref sig .tc := ⟨.hbm, 341, rfl⟩
abbrev main_call12_v15 : Ref sig .tc := ⟨.hbm, 342, rfl⟩
abbrev main_v156 : Ref sig .tc := ⟨.hbm, 343, rfl⟩
abbrev main_v157 : Ref sig .tc := ⟨.hbm, 344, rfl⟩
abbrev main_v158 : Ref sig .tc := ⟨.hbm, 345, rfl⟩
abbrev main_v159 : Ref sig .tc := ⟨.hbm, 346, rfl⟩
abbrev main_call13_c : Ref sig .tc := ⟨.hbm, 347, rfl⟩
abbrev main_call13_v0 : Ref sig .tc := ⟨.hbm, 348, rfl⟩
abbrev main_call13_v1 : Ref sig .tc := ⟨.hbm, 349, rfl⟩
abbrev main_call13_c_0 : Ref sig .tc := ⟨.hbm, 350, rfl⟩
abbrev main_call13_v2 : Ref sig .tc := ⟨.hbm, 351, rfl⟩
abbrev main_call13_v3 : Ref sig .tc := ⟨.hbm, 352, rfl⟩
abbrev main_call13_v4 : Ref sig .tc := ⟨.hbm, 353, rfl⟩
abbrev main_call13_v5 : Ref sig .tc := ⟨.hbm, 354, rfl⟩
abbrev main_call13_c_1 : Ref sig .tc := ⟨.hbm, 355, rfl⟩
abbrev main_call13_c_2 : Ref sig .tc := ⟨.hbm, 356, rfl⟩
abbrev main_call13_v6 : Ref sig .tc := ⟨.hbm, 357, rfl⟩
abbrev main_call13_v7 : Ref sig .tc := ⟨.hbm, 358, rfl⟩
abbrev main_call13_v8 : Ref sig .tc := ⟨.hbm, 359, rfl⟩
abbrev main_call13_v9 : Ref sig .tc := ⟨.hbm, 360, rfl⟩
abbrev main_call13_v10 : Ref sig .tc := ⟨.hbm, 361, rfl⟩
abbrev main_call13_v11 : Ref sig .tc := ⟨.hbm, 362, rfl⟩
abbrev main_call13_c_3 : Ref sig .tc := ⟨.hbm, 363, rfl⟩
abbrev main_call13_v12 : Ref sig .tc := ⟨.hbm, 364, rfl⟩
abbrev main_call13_v13 : Ref sig .tc := ⟨.hbm, 365, rfl⟩
abbrev main_call13_v14 : Ref sig .tc := ⟨.hbm, 366, rfl⟩
abbrev main_call13_cst : Ref sig .tc := ⟨.hbm, 367, rfl⟩
abbrev main_call13_v15 : Ref sig .tc := ⟨.hbm, 368, rfl⟩
abbrev main_v160 : Ref sig .tc := ⟨.hbm, 369, rfl⟩
abbrev main_cst_46 : Ref sig .tc := ⟨.hbm, 370, rfl⟩
abbrev main_v161 : Ref sig .tc := ⟨.hbm, 371, rfl⟩
abbrev main_v111 : Ref sig .tc := ⟨.smem, 0, rfl⟩
abbrev main_v155 : Ref sig .tc := ⟨.smem, 1, rfl⟩
abbrev main_v138 : Ref sig .tc := ⟨.smem, 2, rfl⟩
abbrev main_v152 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![386, 8], ![false, false]⟩

abbrev pre0 : Pipeline.Prefetch sig := ⟨4, ![main_v111.idx, main_v155.idx, main_v138.idx, main_v152.idx], fun | 0 => main_v111.names | 1 => main_v155.names | 2 => main_v138.names | 3 => main_v152.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 2 ![v0.toNat]
  let c128_i32 : BitVec 32 := 128#32
  let v2 : BitVec 32 := Scalar.muli v1 c128_i32
  v2

def k0_mult2 (pf : pre0.Contents (Elt F)) (i : grid0.Coords) : BitVec 32 :=
  let arg0 : BitVec 32 := BitVec.ofNat 32 (i 0).val
  let v4 : Index := Scalar.indexCast arg0
  let v5 : BitVec 32 := pf.atD 3 ![v4.toNat]
  let c0_i32 : BitVec 32 := 0#32
  let v6 : BitVec 1 := Scalar.cmpi .sgt v5 c0_i32
  let arg1 : BitVec 32 := BitVec.ofNat 32 (i 1).val
  let c3_i32 : BitVec 32 := 3#32
  let v7 : BitVec 32 := Scalar.minsi arg1 c3_i32
  let c3_i32_0 : BitVec 32 := 3#32
  let v8 : BitVec 32 := Scalar.select v6 v7 c3_i32_0
  let c1024_i32 : BitVec 32 := 1024#32
  let v9 : BitVec 32 := Scalar.muli v8 c1024_i32
  v9

def k0_mult3 (pf : pre0.Contents (Elt F)) (i : grid0.Coords) : BitVec 32 :=
  let arg0 : BitVec 32 := BitVec.ofNat 32 (i 0).val
  let v0 : Index := Scalar.indexCast arg0
  let v1 : BitVec 32 := pf.atD 2 ![v0.toNat]
  let c128_i32 : BitVec 32 := 128#32
  let v2 : BitVec 32 := Scalar.muli v1 c128_i32
  v2

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let arg0 : BitVec 32 := BitVec.ofNat 32 (i 0).val
  let c0_i32_0 : BitVec 32 := 0#32
  let v3 : BitVec 1 := Scalar.cmpi .sgt arg0 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def k0_off2 (i : grid0.Coords) : Fin 1 → Nat :=
  let arg0 : BitVec 32 := BitVec.ofNat 32 (i 0).val
  let c1_i32 : BitVec 32 := 1#32
  let v13 : BitVec 32 := Scalar.subi arg0 c1_i32
  let c0_i32_5 : BitVec 32 := 0#32
  let v14 : BitVec 32 := Scalar.maxsi v13 c0_i32_5
  let v15 : Index := Scalar.indexCast v14
  ![v15.toNat]
def k0_off3 (v16 : BitVec 32) : Fin 2 → Nat :=
  let c128_i32 : BitVec 32 := 128#32
  let v17 : BitVec 32 := Scalar.muli v16 c128_i32
  let c0_i32_12 : BitVec 32 := 0#32
  let v32 : BitVec 32 := Scalar.addi v17 c0_i32_12
  let c3072_i32 : BitVec 32 := 3072#32
  ![v32.toNat, 3072]
def k0_cond2 (v19 : BitVec 32) : BitVec 1 :=
  let c0_i32_6 : BitVec 32 := 0#32
  let v20 : BitVec 1 := Scalar.cmpi .sgt v19 c0_i32_6
  let v21 : BitVec 32 := Scalar.extui v20
  let c0_i32_7 : BitVec 32 := 0#32
  let v22 : BitVec 1 := Scalar.cmpi .ne v21 c0_i32_7
  v22

def k0_off4 (v16 : BitVec 32) : Fin 2 → Nat :=
  let c128_i32 : BitVec 32 := 128#32
  let v17 : BitVec 32 := Scalar.muli v16 c128_i32
  let c128_i32_12 : BitVec 32 := 128#32
  let v32 : BitVec 32 := Scalar.addi v17 c128_i32_12
  let c3072_i32 : BitVec 32 := 3072#32
  ![v32.toNat, 3072]
def k0_cond3 (v19 : BitVec 32) : BitVec 1 :=
  let c1_i32_8 : BitVec 32 := 1#32
  let v23 : BitVec 1 := Scalar.cmpi .sgt v19 c1_i32_8
  let v24 : BitVec 32 := Scalar.extui v23
  let c0_i32_9 : BitVec 32 := 0#32
  let v25 : BitVec 1 := Scalar.cmpi .ne v24 c0_i32_9
  v25

def k0_off5 (v16 : BitVec 32) : Fin 2 → Nat :=
  let c128_i32 : BitVec 32 := 128#32
  let v17 : BitVec 32 := Scalar.muli v16 c128_i32
  let c256_i32 : BitVec 32 := 256#32
  let v32 : BitVec 32 := Scalar.addi v17 c256_i32
  let c3072_i32 : BitVec 32 := 3072#32
  ![v32.toNat, 3072]
def k0_cond4 (v19 : BitVec 32) : BitVec 1 :=
  let c2_i32 : BitVec 32 := 2#32
  let v26 : BitVec 1 := Scalar.cmpi .sgt v19 c2_i32
  let v27 : BitVec 32 := Scalar.extui v26
  let c0_i32_10 : BitVec 32 := 0#32
  let v28 : BitVec 1 := Scalar.cmpi .ne v27 c0_i32_10
  v28

def k0_off6 (v16 : BitVec 32) : Fin 2 → Nat :=
  let c128_i32 : BitVec 32 := 128#32
  let v17 : BitVec 32 := Scalar.muli v16 c128_i32
  let c384_i32 : BitVec 32 := 384#32
  let v32 : BitVec 32 := Scalar.addi v17 c384_i32
  let c3072_i32 : BitVec 32 := 3072#32
  ![v32.toNat, 3072]
def k0_cond5 (v19 : BitVec 32) : BitVec 1 :=
  let c3_i32 : BitVec 32 := 3#32
  let v29 : BitVec 1 := Scalar.cmpi .sgt v19 c3_i32
  let v30 : BitVec 32 := Scalar.extui v29
  let c0_i32_11 : BitVec 32 := 0#32
  let v31 : BitVec 1 := Scalar.cmpi .ne v30 c0_i32_11
  v31

def k0_chk1 (i : grid0.Coords) (v16 : BitVec 32) (v19 : BitVec 32) : Prop :=
  (∀ (k0_h1 : k0_cond1 i = 1#1), ∀ (k0_h2 : k0_cond2 v19 = 1#1), ∀ a, (k0_off3 v16) a + S128x1024.size a ≤ S99584x4096.size a) ∧
  (∀ (k0_h1 : k0_cond1 i = 1#1), ∀ (k0_h3 : k0_cond3 v19 = 1#1), ∀ a, (k0_off4 v16) a + S128x1024.size a ≤ S99584x4096.size a) ∧
  (∀ (k0_h1 : k0_cond1 i = 1#1), ∀ (k0_h4 : k0_cond4 v19 = 1#1), ∀ a, (k0_off5 v16) a + S128x1024.size a ≤ S99584x4096.size a) ∧
  (∀ (k0_h1 : k0_cond1 i = 1#1), ∀ (k0_h5 : k0_cond5 v19 = 1#1), ∀ a, (k0_off6 v16) a + S128x1024.size a ≤ S99584x4096.size a)
theorem k0_off3_inb : ∀ (i : grid0.Coords) (v16 : BitVec 32) (v19 : BitVec 32) (k0_hw1 : k0_chk1 i v16 v19), ∀ (k0_h1 : k0_cond1 i = 1#1), ∀ (k0_h2 : k0_cond2 v19 = 1#1), ∀ a, (k0_off3 v16) a + S128x1024.size a ≤ S99584x4096.size a := fun i v16 v19 k0_hw1 k0_h1 k0_h2 => k0_hw1.1 k0_h1 k0_h2
theorem k0_off4_inb : ∀ (i : grid0.Coords) (v16 : BitVec 32) (v19 : BitVec 32) (k0_hw1 : k0_chk1 i v16 v19), ∀ (k0_h1 : k0_cond1 i = 1#1), ∀ (k0_h3 : k0_cond3 v19 = 1#1), ∀ a, (k0_off4 v16) a + S128x1024.size a ≤ S99584x4096.size a := fun i v16 v19 k0_hw1 k0_h1 k0_h3 => k0_hw1.2.1 k0_h1 k0_h3
theorem k0_off5_inb : ∀ (i : grid0.Coords) (v16 : BitVec 32) (v19 : BitVec 32) (k0_hw1 : k0_chk1 i v16 v19), ∀ (k0_h1 : k0_cond1 i = 1#1), ∀ (k0_h4 : k0_cond4 v19 = 1#1), ∀ a, (k0_off5 v16) a + S128x1024.size a ≤ S99584x4096.size a := fun i v16 v19 k0_hw1 k0_h1 k0_h4 => k0_hw1.2.2.1 k0_h1 k0_h4
theorem k0_off6_inb : ∀ (i : grid0.Coords) (v16 : BitVec 32) (v19 : BitVec 32) (k0_hw1 : k0_chk1 i v16 v19), ∀ (k0_h1 : k0_cond1 i = 1#1), ∀ (k0_h5 : k0_cond5 v19 = 1#1), ∀ a, (k0_off6 v16) a + S128x1024.size a ≤ S99584x4096.size a := fun i v16 v19 k0_hw1 k0_h1 k0_h5 => k0_hw1.2.2.2 k0_h1 k0_h5

def k0_cond12 (i : grid0.Coords) : BitVec 1 :=
  let arg1 : BitVec 32 := BitVec.ofNat 32 (i 1).val
  let c4_i32_3 : BitVec 32 := 4#32
  let v10 : BitVec 1 := Scalar.cmpi .sge arg1 c4_i32_3
  let v11 : BitVec 32 := Scalar.extui v10
  let c0_i32_4 : BitVec 32 := 0#32
  let v12 : BitVec 1 := Scalar.cmpi .ne v11 c0_i32_4
  v12

def k0_off7 (i : grid0.Coords) : Fin 1 → Nat :=
  let arg0 : BitVec 32 := BitVec.ofNat 32 (i 0).val
  let v24 : Index := Scalar.indexCast arg0
  ![v24.toNat]
def k0_mult4 (i : grid0.Coords) : BitVec 32 :=
  let arg1 : BitVec 32 := BitVec.ofNat 32 (i 1).val
  let c4_i32_5 : BitVec 32 := 4#32
  let v13 : BitVec 32 := Scalar.subi arg1 c4_i32_5
  let c1024_i32 : BitVec 32 := 1024#32
  let v27 : BitVec 32 := Scalar.muli v13 c1024_i32
  v27
def k0_off8 (i : grid0.Coords) : Fin 3 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let v65 : Index := Scalar.indexCast v23
  let c0_34 : Index := 0#32
  let c0_35 : Index := 0#32
  ![v65.toNat, 0, 0]
def k0_off9 (i : grid0.Coords) : Fin 1 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  ![v23.toNat]
def k0_off10 (i : grid0.Coords) (v25 : BitVec 32) : Fin 2 → Nat :=
  let c128_i32 : BitVec 32 := 128#32
  let v26 : BitVec 32 := Scalar.muli v25 c128_i32
  let c0_i32_36 : BitVec 32 := 0#32
  let v69 : BitVec 32 := Scalar.addi v26 c0_i32_36
  let arg1 : BitVec 32 := BitVec.ofNat 32 (i 1).val
  let c4_i32_5 : BitVec 32 := 4#32
  let v13 : BitVec 32 := Scalar.subi arg1 c4_i32_5
  let c1024_i32 : BitVec 32 := 1024#32
  let v27 : BitVec 32 := Scalar.muli v13 c1024_i32
  let v28 : BitVec 32 := v27
  ![v69.toNat, v28.toNat]
def k0_cond18 (v1 : BitVec 32) : BitVec 1 :=
  let c0_i32_17 : BitVec 32 := 0#32
  let v38 : BitVec 1 := Scalar.cmpi .sgt v1 c0_i32_17
  let v39 : BitVec 32 := Scalar.extui v38
  let c0_i32_18 : BitVec 32 := 0#32
  let v40 : BitVec 1 := Scalar.cmpi .ne v39 c0_i32_18
  v40

def k0_off11 (i : grid0.Coords) : Fin 3 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c0_i32_37 : BitVec 32 := 0#32
  let c0_i32_38 : BitVec 32 := 0#32
  ![v23.toNat, 0, 0]
def k0_off12 (i : grid0.Coords) : Fin 3 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let v65 : Index := Scalar.indexCast v23
  let c128_33 : Index := 128#32
  let c0_34 : Index := 0#32
  ![v65.toNat, 128, 0]
def k0_off13 (i : grid0.Coords) : Fin 1 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  ![v23.toNat]
def k0_off14 (i : grid0.Coords) (v25 : BitVec 32) : Fin 2 → Nat :=
  let c128_i32 : BitVec 32 := 128#32
  let v26 : BitVec 32 := Scalar.muli v25 c128_i32
  let c128_i32_35 : BitVec 32 := 128#32
  let v69 : BitVec 32 := Scalar.addi v26 c128_i32_35
  let arg1 : BitVec 32 := BitVec.ofNat 32 (i 1).val
  let c4_i32_5 : BitVec 32 := 4#32
  let v13 : BitVec 32 := Scalar.subi arg1 c4_i32_5
  let c1024_i32 : BitVec 32 := 1024#32
  let v27 : BitVec 32 := Scalar.muli v13 c1024_i32
  let v28 : BitVec 32 := v27
  ![v69.toNat, v28.toNat]
def k0_cond19 (v1 : BitVec 32) : BitVec 1 :=
  let c1_i32_19 : BitVec 32 := 1#32
  let v41 : BitVec 1 := Scalar.cmpi .sgt v1 c1_i32_19
  let v42 : BitVec 32 := Scalar.extui v41
  let c0_i32_20 : BitVec 32 := 0#32
  let v43 : BitVec 1 := Scalar.cmpi .ne v42 c0_i32_20
  v43

def k0_off15 (i : grid0.Coords) : Fin 3 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c128_i32_36 : BitVec 32 := 128#32
  let c0_i32_37 : BitVec 32 := 0#32
  ![v23.toNat, 128, 0]
def k0_off16 (i : grid0.Coords) : Fin 3 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let v65 : Index := Scalar.indexCast v23
  let c256_33 : Index := 256#32
  let c0_34 : Index := 0#32
  ![v65.toNat, 256, 0]
def k0_off17 (i : grid0.Coords) : Fin 1 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  ![v23.toNat]
def k0_off18 (i : grid0.Coords) (v25 : BitVec 32) : Fin 2 → Nat :=
  let c128_i32 : BitVec 32 := 128#32
  let v26 : BitVec 32 := Scalar.muli v25 c128_i32
  let c256_i32 : BitVec 32 := 256#32
  let v69 : BitVec 32 := Scalar.addi v26 c256_i32
  let arg1 : BitVec 32 := BitVec.ofNat 32 (i 1).val
  let c4_i32_5 : BitVec 32 := 4#32
  let v13 : BitVec 32 := Scalar.subi arg1 c4_i32_5
  let c1024_i32 : BitVec 32 := 1024#32
  let v27 : BitVec 32 := Scalar.muli v13 c1024_i32
  let v28 : BitVec 32 := v27
  ![v69.toNat, v28.toNat]
def k0_cond20 (v1 : BitVec 32) : BitVec 1 :=
  let c2_i32_21 : BitVec 32 := 2#32
  let v44 : BitVec 1 := Scalar.cmpi .sgt v1 c2_i32_21
  let v45 : BitVec 32 := Scalar.extui v44
  let c0_i32_22 : BitVec 32 := 0#32
  let v46 : BitVec 1 := Scalar.cmpi .ne v45 c0_i32_22
  v46

def k0_off19 (i : grid0.Coords) : Fin 3 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c256_i32_35 : BitVec 32 := 256#32
  let c0_i32_36 : BitVec 32 := 0#32
  ![v23.toNat, 256, 0]
def k0_off20 (i : grid0.Coords) : Fin 3 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let v65 : Index := Scalar.indexCast v23
  let c384_33 : Index := 384#32
  let c0_34 : Index := 0#32
  ![v65.toNat, 384, 0]
def k0_off21 (i : grid0.Coords) : Fin 1 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  ![v23.toNat]
def k0_off22 (i : grid0.Coords) (v25 : BitVec 32) : Fin 2 → Nat :=
  let c128_i32 : BitVec 32 := 128#32
  let v26 : BitVec 32 := Scalar.muli v25 c128_i32
  let c384_i32 : BitVec 32 := 384#32
  let v69 : BitVec 32 := Scalar.addi v26 c384_i32
  let arg1 : BitVec 32 := BitVec.ofNat 32 (i 1).val
  let c4_i32_5 : BitVec 32 := 4#32
  let v13 : BitVec 32 := Scalar.subi arg1 c4_i32_5
  let c1024_i32 : BitVec 32 := 1024#32
  let v27 : BitVec 32 := Scalar.muli v13 c1024_i32
  let v28 : BitVec 32 := v27
  ![v69.toNat, v28.toNat]
def k0_cond21 (v1 : BitVec 32) : BitVec 1 :=
  let c3_i32 : BitVec 32 := 3#32
  let v47 : BitVec 1 := Scalar.cmpi .sgt v1 c3_i32
  let v48 : BitVec 32 := Scalar.extui v47
  let c0_i32_23 : BitVec 32 := 0#32
  let v49 : BitVec 1 := Scalar.cmpi .ne v48 c0_i32_23
  v49

def k0_off23 (i : grid0.Coords) : Fin 3 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c384_i32_35 : BitVec 32 := 384#32
  let c0_i32_36 : BitVec 32 := 0#32
  ![v23.toNat, 384, 0]
def k0_cond22 (i : grid0.Coords) : BitVec 1 :=
  let arg1 : BitVec 32 := BitVec.ofNat 32 (i 1).val
  let c4_i32_5 : BitVec 32 := 4#32
  let v13 : BitVec 32 := Scalar.subi arg1 c4_i32_5
  let c0_i32_24 : BitVec 32 := 0#32
  let v50 : BitVec 1 := Scalar.cmpi .sgt v13 c0_i32_24
  let v51 : BitVec 32 := Scalar.extui v50
  let c0_i32_25 : BitVec 32 := 0#32
  let v52 : BitVec 1 := Scalar.cmpi .ne v51 c0_i32_25
  v52

def k0_mult5 (i : grid0.Coords) : BitVec 32 :=
  let arg1 : BitVec 32 := BitVec.ofNat 32 (i 1).val
  let c4_i32_5 : BitVec 32 := 4#32
  let v13 : BitVec 32 := Scalar.subi arg1 c4_i32_5
  let c1_i32_28 : BitVec 32 := 1#32
  let v58 : BitVec 32 := Scalar.subi v13 c1_i32_28
  let c1024_i32_29 : BitVec 32 := 1024#32
  let v59 : BitVec 32 := Scalar.muli v58 c1024_i32_29
  v59
def k0_off24 (i : grid0.Coords) : Fin 1 → Nat :=
  let c1_i32_38 : BitVec 32 := 1#32
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let v73 : BitVec 32 := Scalar.subi c1_i32_38 v23
  ![v73.toNat]
def k0_off25 (i : grid0.Coords) (v25 : BitVec 32) : Fin 2 → Nat :=
  let c128_i32 : BitVec 32 := 128#32
  let v26 : BitVec 32 := Scalar.muli v25 c128_i32
  let c0_i32_39 : BitVec 32 := 0#32
  let v74 : BitVec 32 := Scalar.addi v26 c0_i32_39
  let arg1 : BitVec 32 := BitVec.ofNat 32 (i 1).val
  let c4_i32_5 : BitVec 32 := 4#32
  let v13 : BitVec 32 := Scalar.subi arg1 c4_i32_5
  let c1_i32_28 : BitVec 32 := 1#32
  let v58 : BitVec 32 := Scalar.subi v13 c1_i32_28
  let c1024_i32_29 : BitVec 32 := 1024#32
  let v59 : BitVec 32 := Scalar.muli v58 c1024_i32_29
  let v60 : BitVec 32 := v59
  ![v74.toNat, v60.toNat]
def k0_cond23 (v1 : BitVec 32) : BitVec 1 :=
  let c0_i32_30 : BitVec 32 := 0#32
  let v61 : BitVec 1 := Scalar.cmpi .sgt v1 c0_i32_30
  let v62 : BitVec 32 := Scalar.extui v61
  let c0_i32_31 : BitVec 32 := 0#32
  let v63 : BitVec 1 := Scalar.cmpi .ne v62 c0_i32_31
  v63

def k0_off26 (i : grid0.Coords) : Fin 3 → Nat :=
  let c1_i32_38 : BitVec 32 := 1#32
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let v73 : BitVec 32 := Scalar.subi c1_i32_38 v23
  let c0_i32_40 : BitVec 32 := 0#32
  let c0_i32_41 : BitVec 32 := 0#32
  ![v73.toNat, 0, 0]
def k0_off27 (i : grid0.Coords) : Fin 1 → Nat :=
  let c1_i32_38 : BitVec 32 := 1#32
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let v73 : BitVec 32 := Scalar.subi c1_i32_38 v23
  ![v73.toNat]
def k0_off28 (i : grid0.Coords) (v25 : BitVec 32) : Fin 2 → Nat :=
  let c128_i32 : BitVec 32 := 128#32
  let v26 : BitVec 32 := Scalar.muli v25 c128_i32
  let c128_i32_39 : BitVec 32 := 128#32
  let v74 : BitVec 32 := Scalar.addi v26 c128_i32_39
  let arg1 : BitVec 32 := BitVec.ofNat 32 (i 1).val
  let c4_i32_5 : BitVec 32 := 4#32
  let v13 : BitVec 32 := Scalar.subi arg1 c4_i32_5
  let c1_i32_28 : BitVec 32 := 1#32
  let v58 : BitVec 32 := Scalar.subi v13 c1_i32_28
  let c1024_i32_29 : BitVec 32 := 1024#32
  let v59 : BitVec 32 := Scalar.muli v58 c1024_i32_29
  let v60 : BitVec 32 := v59
  ![v74.toNat, v60.toNat]
def k0_cond24 (v1 : BitVec 32) : BitVec 1 :=
  let c1_i32_32 : BitVec 32 := 1#32
  let v64 : BitVec 1 := Scalar.cmpi .sgt v1 c1_i32_32
  let v65 : BitVec 32 := Scalar.extui v64
  let c0_i32_33 : BitVec 32 := 0#32
  let v66 : BitVec 1 := Scalar.cmpi .ne v65 c0_i32_33
  v66

def k0_off29 (i : grid0.Coords) : Fin 3 → Nat :=
  let c1_i32_38 : BitVec 32 := 1#32
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let v73 : BitVec 32 := Scalar.subi c1_i32_38 v23
  let c128_i32_40 : BitVec 32 := 128#32
  let c0_i32_41 : BitVec 32 := 0#32
  ![v73.toNat, 128, 0]
def k0_off30 (i : grid0.Coords) : Fin 1 → Nat :=
  let c1_i32_38 : BitVec 32 := 1#32
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let v73 : BitVec 32 := Scalar.subi c1_i32_38 v23
  ![v73.toNat]
def k0_off31 (i : grid0.Coords) (v25 : BitVec 32) : Fin 2 → Nat :=
  let c128_i32 : BitVec 32 := 128#32
  let v26 : BitVec 32 := Scalar.muli v25 c128_i32
  let c256_i32 : BitVec 32 := 256#32
  let v74 : BitVec 32 := Scalar.addi v26 c256_i32
  let arg1 : BitVec 32 := BitVec.ofNat 32 (i 1).val
  let c4_i32_5 : BitVec 32 := 4#32
  let v13 : BitVec 32 := Scalar.subi arg1 c4_i32_5
  let c1_i32_28 : BitVec 32 := 1#32
  let v58 : BitVec 32 := Scalar.subi v13 c1_i32_28
  let c1024_i32_29 : BitVec 32 := 1024#32
  let v59 : BitVec 32 := Scalar.muli v58 c1024_i32_29
  let v60 : BitVec 32 := v59
  ![v74.toNat, v60.toNat]
def k0_cond25 (v1 : BitVec 32) : BitVec 1 :=
  let c2_i32_34 : BitVec 32 := 2#32
  let v67 : BitVec 1 := Scalar.cmpi .sgt v1 c2_i32_34
  let v68 : BitVec 32 := Scalar.extui v67
  let c0_i32_35 : BitVec 32 := 0#32
  let v69 : BitVec 1 := Scalar.cmpi .ne v68 c0_i32_35
  v69

def k0_off32 (i : grid0.Coords) : Fin 3 → Nat :=
  let c1_i32_38 : BitVec 32 := 1#32
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let v73 : BitVec 32 := Scalar.subi c1_i32_38 v23
  let c256_i32_39 : BitVec 32 := 256#32
  let c0_i32_40 : BitVec 32 := 0#32
  ![v73.toNat, 256, 0]
def k0_off33 (i : grid0.Coords) : Fin 1 → Nat :=
  let c1_i32_38 : BitVec 32 := 1#32
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let v73 : BitVec 32 := Scalar.subi c1_i32_38 v23
  ![v73.toNat]
def k0_off34 (i : grid0.Coords) (v25 : BitVec 32) : Fin 2 → Nat :=
  let c128_i32 : BitVec 32 := 128#32
  let v26 : BitVec 32 := Scalar.muli v25 c128_i32
  let c384_i32 : BitVec 32 := 384#32
  let v74 : BitVec 32 := Scalar.addi v26 c384_i32
  let arg1 : BitVec 32 := BitVec.ofNat 32 (i 1).val
  let c4_i32_5 : BitVec 32 := 4#32
  let v13 : BitVec 32 := Scalar.subi arg1 c4_i32_5
  let c1_i32_28 : BitVec 32 := 1#32
  let v58 : BitVec 32 := Scalar.subi v13 c1_i32_28
  let c1024_i32_29 : BitVec 32 := 1024#32
  let v59 : BitVec 32 := Scalar.muli v58 c1024_i32_29
  let v60 : BitVec 32 := v59
  ![v74.toNat, v60.toNat]
def k0_cond26 (v1 : BitVec 32) : BitVec 1 :=
  let c3_i32_36 : BitVec 32 := 3#32
  let v70 : BitVec 1 := Scalar.cmpi .sgt v1 c3_i32_36
  let v71 : BitVec 32 := Scalar.extui v70
  let c0_i32_37 : BitVec 32 := 0#32
  let v72 : BitVec 1 := Scalar.cmpi .ne v71 c0_i32_37
  v72

def k0_off35 (i : grid0.Coords) : Fin 3 → Nat :=
  let c1_i32_38 : BitVec 32 := 1#32
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let v73 : BitVec 32 := Scalar.subi c1_i32_38 v23
  let c384_i32_39 : BitVec 32 := 384#32
  let c0_i32_40 : BitVec 32 := 0#32
  ![v73.toNat, 384, 0]
def k0_cond27 (i : grid0.Coords) : BitVec 1 :=
  let arg1 : BitVec 32 := BitVec.ofNat 32 (i 1).val
  let c4_i32_5 : BitVec 32 := 4#32
  let v13 : BitVec 32 := Scalar.subi arg1 c4_i32_5
  let c3_i32_26 : BitVec 32 := 3#32
  let v53 : BitVec 1 := Scalar.cmpi .eq v13 c3_i32_26
  let arg0 : BitVec 32 := BitVec.ofNat 32 (i 0).val
  let c385_i32 : BitVec 32 := 385#32
  let v54 : BitVec 1 := Scalar.cmpi .eq arg0 c385_i32
  let v55 : BitVec 1 := Scalar.andi v53 v54
  let v56 : BitVec 32 := Scalar.extui v55
  let c0_i32_27 : BitVec 32 := 0#32
  let v57 : BitVec 1 := Scalar.cmpi .ne v56 c0_i32_27
  v57

def k0_off36 (i : grid0.Coords) : Fin 1 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  ![v23.toNat]
def k0_off37 (i : grid0.Coords) (v25 : BitVec 32) : Fin 2 → Nat :=
  let c128_i32 : BitVec 32 := 128#32
  let v26 : BitVec 32 := Scalar.muli v25 c128_i32
  let c0_i32_36 : BitVec 32 := 0#32
  let v70 : BitVec 32 := Scalar.addi v26 c0_i32_36
  let arg1 : BitVec 32 := BitVec.ofNat 32 (i 1).val
  let c4_i32_5 : BitVec 32 := 4#32
  let v13 : BitVec 32 := Scalar.subi arg1 c4_i32_5
  let c1024_i32 : BitVec 32 := 1024#32
  let v27 : BitVec 32 := Scalar.muli v13 c1024_i32
  let v28 : BitVec 32 := v27
  ![v70.toNat, v28.toNat]
def k0_cond28 (v1 : BitVec 32) : BitVec 1 :=
  let c0_i32_28 : BitVec 32 := 0#32
  let v58 : BitVec 1 := Scalar.cmpi .sgt v1 c0_i32_28
  let v59 : BitVec 32 := Scalar.extui v58
  let c0_i32_29 : BitVec 32 := 0#32
  let v60 : BitVec 1 := Scalar.cmpi .ne v59 c0_i32_29
  v60

def k0_off38 (i : grid0.Coords) : Fin 3 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c0_i32_37 : BitVec 32 := 0#32
  let c0_i32_38 : BitVec 32 := 0#32
  ![v23.toNat, 0, 0]
def k0_off39 (i : grid0.Coords) : Fin 1 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  ![v23.toNat]
def k0_off40 (i : grid0.Coords) (v25 : BitVec 32) : Fin 2 → Nat :=
  let c128_i32 : BitVec 32 := 128#32
  let v26 : BitVec 32 := Scalar.muli v25 c128_i32
  let c128_i32_36 : BitVec 32 := 128#32
  let v70 : BitVec 32 := Scalar.addi v26 c128_i32_36
  let arg1 : BitVec 32 := BitVec.ofNat 32 (i 1).val
  let c4_i32_5 : BitVec 32 := 4#32
  let v13 : BitVec 32 := Scalar.subi arg1 c4_i32_5
  let c1024_i32 : BitVec 32 := 1024#32
  let v27 : BitVec 32 := Scalar.muli v13 c1024_i32
  let v28 : BitVec 32 := v27
  ![v70.toNat, v28.toNat]
def k0_cond29 (v1 : BitVec 32) : BitVec 1 :=
  let c1_i32_30 : BitVec 32 := 1#32
  let v61 : BitVec 1 := Scalar.cmpi .sgt v1 c1_i32_30
  let v62 : BitVec 32 := Scalar.extui v61
  let c0_i32_31 : BitVec 32 := 0#32
  let v63 : BitVec 1 := Scalar.cmpi .ne v62 c0_i32_31
  v63

def k0_off41 (i : grid0.Coords) : Fin 3 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c128_i32_37 : BitVec 32 := 128#32
  let c0_i32_38 : BitVec 32 := 0#32
  ![v23.toNat, 128, 0]
def k0_off42 (i : grid0.Coords) : Fin 1 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  ![v23.toNat]
def k0_off43 (i : grid0.Coords) (v25 : BitVec 32) : Fin 2 → Nat :=
  let c128_i32 : BitVec 32 := 128#32
  let v26 : BitVec 32 := Scalar.muli v25 c128_i32
  let c256_i32 : BitVec 32 := 256#32
  let v70 : BitVec 32 := Scalar.addi v26 c256_i32
  let arg1 : BitVec 32 := BitVec.ofNat 32 (i 1).val
  let c4_i32_5 : BitVec 32 := 4#32
  let v13 : BitVec 32 := Scalar.subi arg1 c4_i32_5
  let c1024_i32 : BitVec 32 := 1024#32
  let v27 : BitVec 32 := Scalar.muli v13 c1024_i32
  let v28 : BitVec 32 := v27
  ![v70.toNat, v28.toNat]
def k0_cond30 (v1 : BitVec 32) : BitVec 1 :=
  let c2_i32_32 : BitVec 32 := 2#32
  let v64 : BitVec 1 := Scalar.cmpi .sgt v1 c2_i32_32
  let v65 : BitVec 32 := Scalar.extui v64
  let c0_i32_33 : BitVec 32 := 0#32
  let v66 : BitVec 1 := Scalar.cmpi .ne v65 c0_i32_33
  v66

def k0_off44 (i : grid0.Coords) : Fin 3 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c256_i32_36 : BitVec 32 := 256#32
  let c0_i32_37 : BitVec 32 := 0#32
  ![v23.toNat, 256, 0]
def k0_off45 (i : grid0.Coords) : Fin 1 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  ![v23.toNat]
def k0_off46 (i : grid0.Coords) (v25 : BitVec 32) : Fin 2 → Nat :=
  let c128_i32 : BitVec 32 := 128#32
  let v26 : BitVec 32 := Scalar.muli v25 c128_i32
  let c384_i32 : BitVec 32 := 384#32
  let v70 : BitVec 32 := Scalar.addi v26 c384_i32
  let arg1 : BitVec 32 := BitVec.ofNat 32 (i 1).val
  let c4_i32_5 : BitVec 32 := 4#32
  let v13 : BitVec 32 := Scalar.subi arg1 c4_i32_5
  let c1024_i32 : BitVec 32 := 1024#32
  let v27 : BitVec 32 := Scalar.muli v13 c1024_i32
  let v28 : BitVec 32 := v27
  ![v70.toNat, v28.toNat]
def k0_cond31 (v1 : BitVec 32) : BitVec 1 :=
  let c3_i32_34 : BitVec 32 := 3#32
  let v67 : BitVec 1 := Scalar.cmpi .sgt v1 c3_i32_34
  let v68 : BitVec 32 := Scalar.extui v67
  let c0_i32_35 : BitVec 32 := 0#32
  let v69 : BitVec 1 := Scalar.cmpi .ne v68 c0_i32_35
  v69

def k0_chk2 (i : grid0.Coords) (v1 : BitVec 32) (v25 : BitVec 32) : Prop :=
  (∀ (k0_h12 : k0_cond12 i = 1#1), ∀ (k0_h18 : k0_cond18 v1 = 1#1), ∀ a, (k0_off10 i v25) a + S128x1024.size a ≤ S99584x4096.size a) ∧
  (∀ (k0_h12 : k0_cond12 i = 1#1), ∀ (k0_h19 : k0_cond19 v1 = 1#1), ∀ a, (k0_off14 i v25) a + S128x1024.size a ≤ S99584x4096.size a) ∧
  (∀ (k0_h12 : k0_cond12 i = 1#1), ∀ (k0_h20 : k0_cond20 v1 = 1#1), ∀ a, (k0_off18 i v25) a + S128x1024.size a ≤ S99584x4096.size a) ∧
  (∀ (k0_h12 : k0_cond12 i = 1#1), ∀ (k0_h21 : k0_cond21 v1 = 1#1), ∀ a, (k0_off22 i v25) a + S128x1024.size a ≤ S99584x4096.size a) ∧
  (∀ (k0_h12 : k0_cond12 i = 1#1), ∀ (k0_h22 : k0_cond22 i = 1#1), ∀ (k0_h23 : k0_cond23 v1 = 1#1), ∀ a, (k0_off25 i v25) a + S128x1024.size a ≤ S99584x4096.size a) ∧
  (∀ (k0_h12 : k0_cond12 i = 1#1), ∀ (k0_h22 : k0_cond22 i = 1#1), ∀ (k0_h24 : k0_cond24 v1 = 1#1), ∀ a, (k0_off28 i v25) a + S128x1024.size a ≤ S99584x4096.size a) ∧
  (∀ (k0_h12 : k0_cond12 i = 1#1), ∀ (k0_h22 : k0_cond22 i = 1#1), ∀ (k0_h25 : k0_cond25 v1 = 1#1), ∀ a, (k0_off31 i v25) a + S128x1024.size a ≤ S99584x4096.size a) ∧
  (∀ (k0_h12 : k0_cond12 i = 1#1), ∀ (k0_h22 : k0_cond22 i = 1#1), ∀ (k0_h26 : k0_cond26 v1 = 1#1), ∀ a, (k0_off34 i v25) a + S128x1024.size a ≤ S99584x4096.size a) ∧
  (∀ (k0_h12 : k0_cond12 i = 1#1), ∀ (k0_h27 : k0_cond27 i = 1#1), ∀ (k0_h28 : k0_cond28 v1 = 1#1), ∀ a, (k0_off37 i v25) a + S128x1024.size a ≤ S99584x4096.size a) ∧
  (∀ (k0_h12 : k0_cond12 i = 1#1), ∀ (k0_h27 : k0_cond27 i = 1#1), ∀ (k0_h29 : k0_cond29 v1 = 1#1), ∀ a, (k0_off40 i v25) a + S128x1024.size a ≤ S99584x4096.size a) ∧
  (∀ (k0_h12 : k0_cond12 i = 1#1), ∀ (k0_h27 : k0_cond27 i = 1#1), ∀ (k0_h30 : k0_cond30 v1 = 1#1), ∀ a, (k0_off43 i v25) a + S128x1024.size a ≤ S99584x4096.size a) ∧
  (∀ (k0_h12 : k0_cond12 i = 1#1), ∀ (k0_h27 : k0_cond27 i = 1#1), ∀ (k0_h31 : k0_cond31 v1 = 1#1), ∀ a, (k0_off46 i v25) a + S128x1024.size a ≤ S99584x4096.size a)
theorem k0_off10_inb : ∀ (i : grid0.Coords) (v1 : BitVec 32) (v25 : BitVec 32) (k0_hw2 : k0_chk2 i v1 v25), ∀ (k0_h12 : k0_cond12 i = 1#1), ∀ (k0_h18 : k0_cond18 v1 = 1#1), ∀ a, (k0_off10 i v25) a + S128x1024.size a ≤ S99584x4096.size a := fun i v1 v25 k0_hw2 k0_h12 k0_h18 => k0_hw2.1 k0_h12 k0_h18
theorem k0_off14_inb : ∀ (i : grid0.Coords) (v1 : BitVec 32) (v25 : BitVec 32) (k0_hw2 : k0_chk2 i v1 v25), ∀ (k0_h12 : k0_cond12 i = 1#1), ∀ (k0_h19 : k0_cond19 v1 = 1#1), ∀ a, (k0_off14 i v25) a + S128x1024.size a ≤ S99584x4096.size a := fun i v1 v25 k0_hw2 k0_h12 k0_h19 => k0_hw2.2.1 k0_h12 k0_h19
theorem k0_off18_inb : ∀ (i : grid0.Coords) (v1 : BitVec 32) (v25 : BitVec 32) (k0_hw2 : k0_chk2 i v1 v25), ∀ (k0_h12 : k0_cond12 i = 1#1), ∀ (k0_h20 : k0_cond20 v1 = 1#1), ∀ a, (k0_off18 i v25) a + S128x1024.size a ≤ S99584x4096.size a := fun i v1 v25 k0_hw2 k0_h12 k0_h20 => k0_hw2.2.2.1 k0_h12 k0_h20
theorem k0_off22_inb : ∀ (i : grid0.Coords) (v1 : BitVec 32) (v25 : BitVec 32) (k0_hw2 : k0_chk2 i v1 v25), ∀ (k0_h12 : k0_cond12 i = 1#1), ∀ (k0_h21 : k0_cond21 v1 = 1#1), ∀ a, (k0_off22 i v25) a + S128x1024.size a ≤ S99584x4096.size a := fun i v1 v25 k0_hw2 k0_h12 k0_h21 => k0_hw2.2.2.2.1 k0_h12 k0_h21
theorem k0_off25_inb : ∀ (i : grid0.Coords) (v1 : BitVec 32) (v25 : BitVec 32) (k0_hw2 : k0_chk2 i v1 v25), ∀ (k0_h12 : k0_cond12 i = 1#1), ∀ (k0_h22 : k0_cond22 i = 1#1), ∀ (k0_h23 : k0_cond23 v1 = 1#1), ∀ a, (k0_off25 i v25) a + S128x1024.size a ≤ S99584x4096.size a := fun i v1 v25 k0_hw2 k0_h12 k0_h22 k0_h23 => k0_hw2.2.2.2.2.1 k0_h12 k0_h22 k0_h23
theorem k0_off28_inb : ∀ (i : grid0.Coords) (v1 : BitVec 32) (v25 : BitVec 32) (k0_hw2 : k0_chk2 i v1 v25), ∀ (k0_h12 : k0_cond12 i = 1#1), ∀ (k0_h22 : k0_cond22 i = 1#1), ∀ (k0_h24 : k0_cond24 v1 = 1#1), ∀ a, (k0_off28 i v25) a + S128x1024.size a ≤ S99584x4096.size a := fun i v1 v25 k0_hw2 k0_h12 k0_h22 k0_h24 => k0_hw2.2.2.2.2.2.1 k0_h12 k0_h22 k0_h24
theorem k0_off31_inb : ∀ (i : grid0.Coords) (v1 : BitVec 32) (v25 : BitVec 32) (k0_hw2 : k0_chk2 i v1 v25), ∀ (k0_h12 : k0_cond12 i = 1#1), ∀ (k0_h22 : k0_cond22 i = 1#1), ∀ (k0_h25 : k0_cond25 v1 = 1#1), ∀ a, (k0_off31 i v25) a + S128x1024.size a ≤ S99584x4096.size a := fun i v1 v25 k0_hw2 k0_h12 k0_h22 k0_h25 => k0_hw2.2.2.2.2.2.2.1 k0_h12 k0_h22 k0_h25
theorem k0_off34_inb : ∀ (i : grid0.Coords) (v1 : BitVec 32) (v25 : BitVec 32) (k0_hw2 : k0_chk2 i v1 v25), ∀ (k0_h12 : k0_cond12 i = 1#1), ∀ (k0_h22 : k0_cond22 i = 1#1), ∀ (k0_h26 : k0_cond26 v1 = 1#1), ∀ a, (k0_off34 i v25) a + S128x1024.size a ≤ S99584x4096.size a := fun i v1 v25 k0_hw2 k0_h12 k0_h22 k0_h26 => k0_hw2.2.2.2.2.2.2.2.1 k0_h12 k0_h22 k0_h26
theorem k0_off37_inb : ∀ (i : grid0.Coords) (v1 : BitVec 32) (v25 : BitVec 32) (k0_hw2 : k0_chk2 i v1 v25), ∀ (k0_h12 : k0_cond12 i = 1#1), ∀ (k0_h27 : k0_cond27 i = 1#1), ∀ (k0_h28 : k0_cond28 v1 = 1#1), ∀ a, (k0_off37 i v25) a + S128x1024.size a ≤ S99584x4096.size a := fun i v1 v25 k0_hw2 k0_h12 k0_h27 k0_h28 => k0_hw2.2.2.2.2.2.2.2.2.1 k0_h12 k0_h27 k0_h28
theorem k0_off40_inb : ∀ (i : grid0.Coords) (v1 : BitVec 32) (v25 : BitVec 32) (k0_hw2 : k0_chk2 i v1 v25), ∀ (k0_h12 : k0_cond12 i = 1#1), ∀ (k0_h27 : k0_cond27 i = 1#1), ∀ (k0_h29 : k0_cond29 v1 = 1#1), ∀ a, (k0_off40 i v25) a + S128x1024.size a ≤ S99584x4096.size a := fun i v1 v25 k0_hw2 k0_h12 k0_h27 k0_h29 => k0_hw2.2.2.2.2.2.2.2.2.2.1 k0_h12 k0_h27 k0_h29
theorem k0_off43_inb : ∀ (i : grid0.Coords) (v1 : BitVec 32) (v25 : BitVec 32) (k0_hw2 : k0_chk2 i v1 v25), ∀ (k0_h12 : k0_cond12 i = 1#1), ∀ (k0_h27 : k0_cond27 i = 1#1), ∀ (k0_h30 : k0_cond30 v1 = 1#1), ∀ a, (k0_off43 i v25) a + S128x1024.size a ≤ S99584x4096.size a := fun i v1 v25 k0_hw2 k0_h12 k0_h27 k0_h30 => k0_hw2.2.2.2.2.2.2.2.2.2.2.1 k0_h12 k0_h27 k0_h30
theorem k0_off46_inb : ∀ (i : grid0.Coords) (v1 : BitVec 32) (v25 : BitVec 32) (k0_hw2 : k0_chk2 i v1 v25), ∀ (k0_h12 : k0_cond12 i = 1#1), ∀ (k0_h27 : k0_cond27 i = 1#1), ∀ (k0_h31 : k0_cond31 v1 = 1#1), ∀ a, (k0_off46 i v25) a + S128x1024.size a ≤ S99584x4096.size a := fun i v1 v25 k0_hw2 k0_h12 k0_h27 k0_h31 => k0_hw2.2.2.2.2.2.2.2.2.2.2.2 k0_h12 k0_h27 k0_h31

def k0_off47 (i : grid0.Coords) : Fin 3 → Nat :=
  let arg1 : BitVec 32 := BitVec.ofNat 32 (i 1).val
  let c4_i32_5 : BitVec 32 := 4#32
  let v13 : BitVec 32 := Scalar.subi arg1 c4_i32_5
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c384_i32_36 : BitVec 32 := 384#32
  let c0_i32_37 : BitVec 32 := 0#32
  ![v23.toNat, 384, 0]
def cc0_transform_0 (k0_off1_inb : ∀ i : grid0.Coords, ∀ a, (k0_off1 i) a + S1.size a ≤ S386.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S386) ![v0.toNat] S1.size (k0_off1_inb i)) numel1_S1
  let c128_i32 : BitVec 32 := 128#32
  let v2 : BitVec 32 := Scalar.muli v1 c128_i32
  let v3 : BitVec 32 := v2
  let v4 : Index := Scalar.indexCast arg0
  let v5 : BitVec 32 := pf.at 3 (Rect.unit (s := S386) ![v4.toNat] S1.size (k0_off1_inb i)) numel1_S1
  let c0_i32 : BitVec 32 := 0#32
  let v6 : BitVec 1 := Scalar.cmpi .sgt v5 c0_i32
  let c3_i32 : BitVec 32 := 3#32
  let v7 : BitVec 32 := Scalar.minsi arg1 c3_i32
  let c3_i32_0 : BitVec 32 := 3#32
  let v8 : BitVec 32 := Scalar.select v6 v7 c3_i32_0
  let c1024_i32 : BitVec 32 := 1024#32
  let v9 : BitVec 32 := Scalar.muli v8 c1024_i32
  let v10 : BitVec 32 := v9
  let c0_i32_1 : BitVec 32 := 0#32
  ![v3.toNat, v10.toNat]

def cc0_transform_1 (k0_off1_inb : ∀ i : grid0.Coords, ∀ a, (k0_off1 i) a + S1.size a ≤ S386.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S386) ![v0.toNat] S1.size (k0_off1_inb i)) numel1_S1
  let c128_i32 : BitVec 32 := 128#32
  let v2 : BitVec 32 := Scalar.muli v1 c128_i32
  let v3 : BitVec 32 := v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S386.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S386) ![v0.toNat] S1.size (k0_off1_inb i)) numel1_S1
  let v2 : Index := Scalar.indexCast arg0
  let v3 : BitVec 32 := pf.at 3 (Rect.unit (s := S386) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.minsi arg1 c3_i32
  let c3_i32_0 : BitVec 32 := 3#32
  let v6 : BitVec 32 := Scalar.select v4 v5 c3_i32_0
  let c0_i32_1 : BitVec 32 := 0#32
  let c0_i32_2 : BitVec 32 := 0#32
  let c0_i32_3 : BitVec 32 := 0#32
  ![c0_i32_1.toNat, v1.toNat, v6.toNat, c0_i32_2.toNat]

def cc0_transform_3 (k0_off1_inb : ∀ i : grid0.Coords, ∀ a, (k0_off1 i) a + S1.size a ≤ S386.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S386) ![v0.toNat] S1.size (k0_off1_inb i)) numel1_S1
  let v2 : Index := Scalar.indexCast arg0
  let v3 : BitVec 32 := pf.at 3 (Rect.unit (s := S386) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.minsi arg1 c3_i32
  let c3_i32_0 : BitVec 32 := 3#32
  let v6 : BitVec 32 := Scalar.select v4 v5 c3_i32_0
  let c0_i32_1 : BitVec 32 := 0#32
  let c0_i32_2 : BitVec 32 := 0#32
  let c0_i32_3 : BitVec 32 := 0#32
  ![c0_i32_1.toNat, v1.toNat, v6.toNat, c0_i32_2.toNat]

def cc0_transform_4 (k0_off1_inb : ∀ i : grid0.Coords, ∀ a, (k0_off1 i) a + S1.size a ≤ S386.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 3 (Rect.unit (s := S386) ![v0.toNat] S1.size (k0_off1_inb i)) numel1_S1
  let c0_i32 : BitVec 32 := 0#32
  let v2 : BitVec 1 := Scalar.cmpi .sgt v1 c0_i32
  let c4_i32 : BitVec 32 := 4#32
  let v3 : BitVec 1 := Scalar.cmpi .slt arg1 c4_i32
  let v4 : Index := Scalar.indexCast arg0
  let v5 : BitVec 32 := pf.at 1 (Rect.unit (s := S386) ![v4.toNat] S1.size (k0_off1_inb i)) numel1_S1
  let v6 : Index := Scalar.indexCast arg0
  let v7 : BitVec 32 := pf.at 0 (Rect.unit (s := S386) ![v6.toNat] S1.size (k0_off1_inb i)) numel1_S1
  let v8 : BitVec 32 := Scalar.select v3 v5 v7
  let v_true : BitVec 1 := 1#1
  let v9 : BitVec 1 := Scalar.xori v3 v_true
  let v10 : BitVec 1 := Scalar.andi v2 v9
  let c4_i32_0 : BitVec 32 := 4#32
  let v11 : BitVec 32 := Scalar.subi arg1 c4_i32_0
  let c3_i32 : BitVec 32 := 3#32
  let v12 : BitVec 32 := Scalar.select v10 v11 c3_i32
  let c0_i32_1 : BitVec 32 := 0#32
  let c0_i32_2 : BitVec 32 := 0#32
  let c0_i32_3 : BitVec 32 := 0#32
  ![c0_i32_1.toNat, v8.toNat, c0_i32_2.toNat, v12.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1152x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8320x4096 : Shape := ⟨2, ![8320, 4096]⟩
abbrev S8320x256 : Shape := ⟨2, ![8320, 256]⟩
abbrev S256 : Shape := ⟨1, ![256]⟩
abbrev S1x256x4096x1152 : Shape := ⟨4, ![1, 256, 4096, 1152]⟩
abbrev S1x256x1152x4096 : Shape := ⟨4, ![1, 256, 1152, 4096]⟩
abbrev S1x256 : Shape := ⟨2, ![1, 256]⟩
abbrev S8320x8 : Shape := ⟨2, ![8320, 8]⟩
abbrev S_ : Shape := ⟨0, ![]⟩
abbrev S8320x8x1 : Shape := ⟨3, ![8320, 8, 1]⟩
abbrev S1 : Shape := ⟨1, ![1]⟩
abbrev S1x1x1 : Shape := ⟨3, ![1, 1, 1]⟩
abbrev S8320 : Shape := ⟨1, ![8320]⟩
abbrev S8320x1 : Shape := ⟨2, ![8320, 1]⟩
abbrev S8320x8x2 : Shape := ⟨3, ![8320, 8, 2]⟩
abbrev S8320x8x4096x1152 : Shape := ⟨4, ![8320, 8, 4096, 1152]⟩
abbrev S8320x8x1152 : Shape := ⟨3, ![8320, 8, 1152]⟩
abbrev S8320x8x1152x4096 : Shape := ⟨4, ![8320, 8, 1152, 4096]⟩
abbrev S8320x8x4096 : Shape := ⟨3, ![8320, 8, 4096]⟩

abbrev nBuf : Space → Nat
  | .hbm => 102
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S8320x256, .f32⟩
  | .hbm, ⟨2, _⟩ => ⟨S256, .f32⟩
  | .hbm, ⟨3, _⟩ => ⟨S1x256x4096x1152, .f32⟩
  | .hbm, ⟨4, _⟩ => ⟨S1x256x4096x1152, .f32⟩
  | .hbm, ⟨5, _⟩ => ⟨S1x256x1152x4096, .f32⟩
  | .hbm, ⟨6, _⟩ => ⟨S8320x4096, .f32⟩
  | .hbm, ⟨7, _⟩ => ⟨S1x256, .f32⟩
  | .hbm, ⟨8, _⟩ => ⟨S8320x256, .f32⟩
  | .hbm, ⟨9, _⟩ => ⟨S8320x256, .f32⟩
  | .hbm, ⟨10, _⟩ => ⟨S8320x8, .f32⟩
  | .hbm, ⟨11, _⟩ => ⟨S8320x8, .i32⟩
  | .hbm, ⟨12, _⟩ => ⟨S_, .i32⟩
  | .hbm, ⟨13, _⟩ => ⟨S8320x8, .i32⟩
  | .hbm, ⟨14, _⟩ => ⟨S8320x8, .i1⟩
  | .hbm, ⟨15, _⟩ => ⟨S_, .i32⟩
  | .hbm, ⟨16, _⟩ => ⟨S8320x8, .i32⟩
  | .hbm, ⟨17, _⟩ => ⟨S8320x8, .i32⟩
  | .hbm, ⟨18, _⟩ => ⟨S8320x8, .i32⟩
  | .hbm, ⟨19, _⟩ => ⟨S8320x8x1, .i32⟩
  | .hbm, ⟨20, _⟩ => ⟨S1, .i32⟩
  | .hbm, ⟨21, _⟩ => ⟨S_, .i32⟩
  | .hbm, ⟨22, _⟩ => ⟨S8320x8x1, .i32⟩
  | .hbm, ⟨23, _⟩ => ⟨S8320x8x1, .i1⟩
  | .hbm, ⟨24, _⟩ => ⟨S1x1x1, .i32⟩
  | .hbm, ⟨25, _⟩ => ⟨S8320x8x1, .i32⟩
  | .hbm, ⟨26, _⟩ => ⟨S8320x8x1, .i1⟩
  | .hbm, ⟨27, _⟩ => ⟨S8320x8x1, .i1⟩
  | .hbm, ⟨28, _⟩ => ⟨S_, .i1⟩
  | .hbm, ⟨29, _⟩ => ⟨S8320x8, .i1⟩
  | .hbm, ⟨30, _⟩ => ⟨S8320x8, .f32⟩
  | .hbm, ⟨31, _⟩ => ⟨S_, .f32⟩
  | .hbm, ⟨32, _⟩ => ⟨S8320x8, .f32⟩
  | .hbm, ⟨33, _⟩ => ⟨S8320x8, .f32⟩
  | .hbm, ⟨34, _⟩ => ⟨S_, .f32⟩
  | .hbm, ⟨35, _⟩ => ⟨S8320, .f32⟩
  | .hbm, ⟨36, _⟩ => ⟨S8320x1, .f32⟩
  | .hbm, ⟨37, _⟩ => ⟨S8320x8, .f32⟩
  | .hbm, ⟨38, _⟩ => ⟨S8320x8, .f32⟩
  | .hbm, ⟨39, _⟩ => ⟨S_, .f32⟩
  | .hbm, ⟨40, _⟩ => ⟨S8320x8, .f32⟩
  | .hbm, ⟨41, _⟩ => ⟨S8320x8, .f32⟩
  | .hbm, ⟨42, _⟩ => ⟨S_, .i32⟩
  | .hbm, ⟨43, _⟩ => ⟨S8320x8, .i32⟩
  | .hbm, ⟨44, _⟩ => ⟨S8320x8, .i1⟩
  | .hbm, ⟨45, _⟩ => ⟨S_, .i32⟩
  | .hbm, ⟨46, _⟩ => ⟨S8320x8, .i32⟩
  | .hbm, ⟨47, _⟩ => ⟨S8320x8, .i32⟩
  | .hbm, ⟨48, _⟩ => ⟨S8320x8, .i32⟩
  | .hbm, ⟨49, _⟩ => ⟨S_, .i32⟩
  | .hbm, ⟨50, _⟩ => ⟨S8320x8, .i32⟩
  | .hbm, ⟨51, _⟩ => ⟨S8320x8, .i32⟩
  | .hbm, ⟨52, _⟩ => ⟨S8320x8x1, .i32⟩
  | .hbm, ⟨53, _⟩ => ⟨S8320x8x1, .i32⟩
  | .hbm, ⟨54, _⟩ => ⟨S8320x8x2, .i32⟩
  | .hbm, ⟨55, _⟩ => ⟨S8320x8x4096x1152, .f32⟩
  | .hbm, ⟨56, _⟩ => ⟨S8320x8x1152, .f32⟩
  | .hbm, ⟨57, _⟩ => ⟨S_, .i32⟩
  | .hbm, ⟨58, _⟩ => ⟨S8320x8, .i32⟩
  | .hbm, ⟨59, _⟩ => ⟨S8320x8, .i1⟩
  | .hbm, ⟨60, _⟩ => ⟨S_, .i32⟩
  | .hbm, ⟨61, _⟩ => ⟨S8320x8, .i32⟩
  | .hbm, ⟨62, _⟩ => ⟨S8320x8, .i32⟩
  | .hbm, ⟨63, _⟩ => ⟨S8320x8, .i32⟩
  | .hbm, ⟨64, _⟩ => ⟨S_, .i32⟩
  | .hbm, ⟨65, _⟩ => ⟨S8320x8, .i32⟩
  | .hbm, ⟨66, _⟩ => ⟨S8320x8, .i32⟩
  | .hbm, ⟨67, _⟩ => ⟨S8320x8x1, .i32⟩
  | .hbm, ⟨68, _⟩ => ⟨S8320x8x1, .i32⟩
  | .hbm, ⟨69, _⟩ => ⟨S8320x8x2, .i32⟩
  | .hbm, ⟨70, _⟩ => ⟨S8320x8x4096x1152, .f32⟩
  | .hbm, ⟨71, _⟩ => ⟨S8320x8x1152, .f32⟩
  | .hbm, ⟨72, _⟩ => ⟨S8320x8x1152, .f32⟩
  | .hbm, ⟨73, _⟩ => ⟨S8320x8x1152, .f32⟩
  | .hbm, ⟨74, _⟩ => ⟨S_, .f32⟩
  | .hbm, ⟨75, _⟩ => ⟨S8320x8x1152, .f32⟩
  | .hbm, ⟨76, _⟩ => ⟨S8320x8x1152, .f32⟩
  | .hbm, ⟨77, _⟩ => ⟨S_, .f32⟩
  | .hbm, ⟨78, _⟩ => ⟨S8320x8x1152, .f32⟩
  | .hbm, ⟨79, _⟩ => ⟨S8320x8x1152, .f32⟩
  | .hbm, ⟨80, _⟩ => ⟨S8320x8x1152, .f32⟩
  | .hbm, ⟨81, _⟩ => ⟨S8320x8x1152, .f32⟩
  | .hbm, ⟨82, _⟩ => ⟨S_, .i32⟩
  | .hbm, ⟨83, _⟩ => ⟨S8320x8, .i32⟩
  | .hbm, ⟨84, _⟩ => ⟨S8320x8, .i1⟩
  | .hbm, ⟨85, _⟩ => ⟨S_, .i32⟩
  | .hbm, ⟨86, _⟩ => ⟨S8320x8, .i32⟩
  | .hbm, ⟨87, _⟩ => ⟨S8320x8, .i32⟩
  | .hbm, ⟨88, _⟩ => ⟨S8320x8, .i32⟩
  | .hbm, ⟨89, _⟩ => ⟨S_, .i32⟩
  | .hbm, ⟨90, _⟩ => ⟨S8320x8, .i32⟩
  | .hbm, ⟨91, _⟩ => ⟨S8320x8, .i32⟩
  | .hbm, ⟨92, _⟩ => ⟨S8320x8x1, .i32⟩
  | .hbm, ⟨93, _⟩ => ⟨S8320x8x1, .i32⟩
  | .hbm, ⟨94, _⟩ => ⟨S8320x8x2, .i32⟩
  | .hbm, ⟨95, _⟩ => ⟨S8320x8x1152x4096, .f32⟩
  | .hbm, ⟨96, _⟩ => ⟨S8320x8x4096, .f32⟩
  | .hbm, ⟨97, _⟩ => ⟨S8320x8x1, .f32⟩
  | .hbm, ⟨98, _⟩ => ⟨S8320x8x4096, .f32⟩
  | .hbm, ⟨99, _⟩ => ⟨S8320x8x4096, .f32⟩
  | .hbm, ⟨100, _⟩ => ⟨S_, .f32⟩
  | .hbm, ⟨101, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_values : Ref sig .tc := ⟨.hbm, 10, rfl⟩
abbrev main_indices : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_0 : Ref sig .tc := ⟨.hbm, 39, rfl⟩
abbrev main_v9 : Ref sig .tc := ⟨.hbm, 40, rfl⟩
abbrev main_v10 : Ref sig .tc := ⟨.hbm, 41, rfl⟩
abbrev main_c : Ref sig .tc := ⟨.hbm, 42, rfl⟩
abbrev main_v11 : Ref sig .tc := ⟨.hbm, 43, rfl⟩
abbrev main_v12 : Ref sig .tc := ⟨.hbm, 44, rfl⟩
abbrev main_c_1 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_c_2 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_3 : Ref sig .tc := ⟨.hbm, 57, rfl⟩
abbrev main_v23 : Ref sig .tc := ⟨.hbm, 58, rfl⟩
abbrev main_v24 : Ref sig .tc := ⟨.hbm, 59, rfl⟩
abbrev main_c_4 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_5 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v35 : Ref sig .tc := ⟨.hbm, 80, rfl⟩
abbrev main_v36 : Ref sig .tc := ⟨.hbm, 81, rfl⟩
abbrev main_c_6 : Ref sig .tc := ⟨.hbm, 82, rfl⟩
abbrev main_v37 : Ref sig .tc := ⟨.hbm, 83, rfl⟩
abbrev main_v38 : Ref sig .tc := ⟨.hbm, 84, rfl⟩
abbrev main_c_7 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_c_8 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_9 : Ref sig .tc := ⟨.hbm, 100, rfl⟩
abbrev main_v52 : Ref sig .tc := ⟨.hbm, 101, rfl⟩

abbrev nD : Nat := 1
abbrev τ : Topo := Topo.v7x

variable {F : FTy → Type} [FloatOps F]
-- ==== Shared.lean ====
abbrev S8320x4096 : Shape := ⟨2, ![8320, 4096]⟩
abbrev S4096x1152 : Shape := ⟨2, ![4096, 1152]⟩
abbrev S1152x4096 : Shape := ⟨2, ![1152, 4096]⟩
abbrev S4096x384 : Shape := ⟨2, ![4096, 384]⟩
abbrev S4096x768 : Shape := ⟨2, ![4096, 768]⟩
abbrev S4096x2304 : Shape := ⟨2, ![4096, 2304]⟩
abbrev S320x4096 : Shape := ⟨2, ![320, 4096]⟩
abbrev S384x4096 : Shape := ⟨2, ![384, 4096]⟩
abbrev S320x768 : Shape := ⟨2, ![320, 768]⟩
abbrev S320x384 : Shape := ⟨2, ![320, 384]⟩

abbrev nBuf : Space → Nat
  | .hbm => 18
  | .vmem => 8
  | .smem => 0
  | _ => 0

abbrev bufTy : (tb : Table) → Fin (tcTables nBuf tb) → BufTy
  | .hbm, ⟨0, _⟩ => ⟨S8320x4096, .bf16⟩
  | .hbm, ⟨1, _⟩ => ⟨S4096x1152, .f32⟩
  | .hbm, ⟨2, _⟩ => ⟨S4096x1152, .f32⟩
  | .hbm, ⟨3, _⟩ => ⟨S1152x4096, .f32⟩
  | .hbm, ⟨4, _⟩ => ⟨S4096x1152, .bf16⟩
  | .hbm, ⟨5, _⟩ => ⟨S4096x1152, .bf16⟩
  | .hbm, ⟨6, _⟩ => ⟨S1152x4096, .bf16⟩
  | .hbm, ⟨7, _⟩ => ⟨S4096x384, .bf16⟩
  | .hbm, ⟨8, _⟩ => ⟨S4096x384, .bf16⟩
  | .hbm, ⟨9, _⟩ => ⟨S4096x768, .bf16⟩
  | .hbm, ⟨10, _⟩ => ⟨S4096x384, .bf16⟩
  | .hbm, ⟨11, _⟩ => ⟨S4096x384, .bf16⟩
  | .hbm, ⟨12, _⟩ => ⟨S4096x768, .bf16⟩
  | .hbm, ⟨13, _⟩ => ⟨S4096x384, .bf16⟩
  | .hbm, ⟨14, _⟩ => ⟨S4096x384, .bf16⟩
  | .hbm, ⟨15, _⟩ => ⟨S4096x768, .bf16⟩
  | .hbm, ⟨16, _⟩ => ⟨S4096x2304, .bf16⟩
  | .hbm, ⟨17, _⟩ => ⟨S8320x4096, .f32⟩
  | .local _ .vmem, ⟨0, _⟩ => ⟨S320x4096, .bf16⟩
  | .local _ .vmem, ⟨1, _⟩ => ⟨S320x4096, .bf16⟩
  | .local _ .vmem, ⟨2, _⟩ => ⟨S4096x768, .bf16⟩
  | .local _ .vmem, ⟨3, _⟩ => ⟨S4096x768, .bf16⟩
  | .local _ .vmem, ⟨4, _⟩ => ⟨S384x4096, .bf16⟩
  | .local _ .vmem, ⟨5, _⟩ => ⟨S384x4096, .bf16⟩
  | .local _ .vmem, ⟨6, _⟩ => ⟨S320x4096, .f32⟩
  | .local _ .vmem, ⟨7, _⟩ => ⟨S320x4096, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![26, 3], ![false, false]⟩

def k0_cond1 (i : grid0.Coords) : BitVec 1 :=
  let arg1 : BitVec 32 := BitVec.ofNat 32 (i 1).val
  let c0_i32 : BitVec 32 := 0#32
  let v13 : BitVec 1 := Scalar.cmpi .eq arg1 c0_i32
  let v14 : BitVec 32 := Scalar.extui v13
  let c0_i32_6 : BitVec 32 := 0#32
  let v15 : BitVec 1 := Scalar.cmpi .ne v14 c0_i32_6
  v15

def k0_cond2 (i : grid0.Coords) : BitVec 1 :=
  let arg1 : BitVec 32 := BitVec.ofNat 32 (i 1).val
  let c0_i32_7 : BitVec 32 := 0#32
  let v16 : BitVec 1 := Scalar.cmpi .sgt arg1 c0_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S320x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S320x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== SharedRefIdeal.lean ====
abbrev S8320x4096 : Shape := ⟨2, ![8320, 4096]⟩
abbrev S4096x1152 : Shape := ⟨2, ![4096, 1152]⟩
abbrev S1152x4096 : Shape := ⟨2, ![1152, 4096]⟩
abbrev S8320x1152 : Shape := ⟨2, ![8320, 1152]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x1152, .f32⟩
  | .hbm, ⟨2, _⟩ => ⟨S4096x1152, .f32⟩
  | .hbm, ⟨3, _⟩ => ⟨S1152x4096, .f32⟩
  | .hbm, ⟨4, _⟩ => ⟨S8320x4096, .f32⟩
  | .hbm, ⟨5, _⟩ => ⟨S8320x1152, .f32⟩
  | .hbm, ⟨6, _⟩ => ⟨S8320x1152, .f32⟩
  | .hbm, ⟨7, _⟩ => ⟨S8320x1152, .f32⟩
  | .hbm, ⟨8, _⟩ => ⟨S_, .f32⟩
  | .hbm, ⟨9, _⟩ => ⟨S8320x1152, .f32⟩
  | .hbm, ⟨10, _⟩ => ⟨S8320x1152, .f32⟩
  | .hbm, ⟨11, _⟩ => ⟨S_, .f32⟩
  | .hbm, ⟨12, _⟩ => ⟨S8320x1152, .f32⟩
  | .hbm, ⟨13, _⟩ => ⟨S8320x1152, .f32⟩
  | .hbm, ⟨14, _⟩ => ⟨S8320x1152, .f32⟩
  | .hbm, ⟨15, _⟩ => ⟨S8320x1152, .f32⟩
  | .hbm, ⟨16, _⟩ => ⟨S8320x1152, .f32⟩
  | .hbm, ⟨17, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Norm.lean ====
abbrev S8320x4096 : Shape := ⟨2, ![8320, 4096]⟩
abbrev S4096 : Shape := ⟨1, ![4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 8
  | .vmem => 10
  | .smem => 0
  | _ => 0

abbrev bufTy : (tb : Table) → Fin (tcTables nBuf tb) → BufTy
  | .hbm, ⟨0, _⟩ => ⟨S8320x4096, .f32⟩
  | .hbm, ⟨1, _⟩ => ⟨S8320x4096, .f32⟩
  | .hbm, ⟨2, _⟩ => ⟨S8320x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S8320x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormRefIdeal.lean ====
abbrev S8320x4096 : Shape := ⟨2, ![8320, 4096]⟩
abbrev S4096 : Shape := ⟨1, ![4096]⟩
abbrev S_ : Shape := ⟨0, ![]⟩
abbrev S8320 : Shape := ⟨1, ![8320]⟩
abbrev S8320x1 : Shape := ⟨2, ![8320, 1]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S8320x4096, .f32⟩
  | .hbm, ⟨2, _⟩ => ⟨S8320x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S8320x4096, .f32⟩
  | .hbm, ⟨7, _⟩ => ⟨S8320x4096, .f32⟩
  | .hbm, ⟨8, _⟩ => ⟨S8320x4096, .f32⟩
  | .hbm, ⟨9, _⟩ => ⟨S8320x4096, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x4096, .f32⟩
  | .hbm, ⟨17, _⟩ => ⟨S8320x4096, .f32⟩
  | .hbm, ⟨18, _⟩ => ⟨S8320x4096, .f32⟩
  | .hbm, ⟨19, _⟩ => ⟨S_, .f32⟩
  | .hbm, ⟨20, _⟩ => ⟨S8320, .f32⟩
  | .hbm, ⟨21, _⟩ => ⟨S8320x1, .f32⟩
  | .hbm, ⟨22, _⟩ => ⟨S_, .f32⟩
  | .hbm, ⟨23, _⟩ => ⟨S8320x1, .f32⟩
  | .hbm, ⟨24, _⟩ => ⟨S8320x1, .f32⟩
  | .hbm, ⟨25, _⟩ => ⟨S8320x4096, .f32⟩
  | .hbm, ⟨26, _⟩ => ⟨S8320x4096, .f32⟩
  | .hbm, ⟨27, _⟩ => ⟨S_, .f32⟩
  | .hbm, ⟨28, _⟩ => ⟨S8320x1, .f32⟩
  | .hbm, ⟨29, _⟩ => ⟨S8320x1, .f32⟩
  | .hbm, ⟨30, _⟩ => ⟨S8320x1, .f32⟩
  | .hbm, ⟨31, _⟩ => ⟨S8320x4096, .f32⟩
  | .hbm, ⟨32, _⟩ => ⟨S8320x4096, .f32⟩
  | .hbm, ⟨33, _⟩ => ⟨S1x4096, .f32⟩
  | .hbm, ⟨34, _⟩ => ⟨S8320x4096, .f32⟩
  | .hbm, ⟨35, _⟩ => ⟨S8320x4096, .f32⟩
  | .hbm, ⟨36, _⟩ => ⟨S1x4096, .f32⟩
  | .hbm, ⟨37, _⟩ => ⟨S8320x4096, .f32⟩
  | .hbm, ⟨38, _⟩ => ⟨S8320x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Conv.lean ====
abbrev S4x2048x4096 : Shape := ⟨3, ![4, 2048, 4096]⟩
abbrev S4096x8192 : Shape := ⟨2, ![4096, 8192]⟩
abbrev S3x2048 : Shape := ⟨2, ![3, 2048]⟩
abbrev S8192x4096 : Shape := ⟨2, ![8192, 4096]⟩
abbrev S8192x2048 : Shape := ⟨2, ![8192, 2048]⟩
abbrev S4x2x2048 : Shape := ⟨3, ![4, 2, 2048]⟩
abbrev S1024x4096 : Shape := ⟨2, ![1024, 4096]⟩
abbrev S4096x512 : Shape := ⟨2, ![4096, 512]⟩
abbrev S3x512 : Shape := ⟨2, ![3, 512]⟩
abbrev S1024x512 : Shape := ⟨2, ![1024, 512]⟩
abbrev S1x2x512 : Shape := ⟨3, ![1, 2, 512]⟩
abbrev S1032x512 : Shape := ⟨2, ![1032, 512]⟩
abbrev S8x512 : Shape := ⟨2, ![8, 512]⟩
abbrev S1x512 : Shape := ⟨2, ![1, 512]⟩
abbrev S2x512 : Shape := ⟨2, ![2, 512]⟩

abbrev nBuf : Space → Nat
  | .hbm => 8
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x8192, .f32⟩
  | .hbm, ⟨2, _⟩ => ⟨S3x2048, .f32⟩
  | .hbm, ⟨3, _⟩ => ⟨S8192x4096, .f32⟩
  | .hbm, ⟨4, _⟩ => ⟨S8192x4096, .bf16⟩
  | .hbm, ⟨5, _⟩ => ⟨S4096x8192, .bf16⟩
  | .hbm, ⟨6, _⟩ => ⟨S8192x2048, .bf16⟩
  | .hbm, ⟨7, _⟩ => ⟨S4x2x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S3x512, .f32⟩
  | .local _ .vmem, ⟨9, _⟩ => ⟨S3x512, .f32⟩
  | .local _ .vmem, ⟨10, _⟩ => ⟨S1024x512, .bf16⟩
  | .local _ .vmem, ⟨11, _⟩ => ⟨S1024x512, .bf16⟩
  | .local _ .vmem, ⟨12, _⟩ => ⟨S1x2x512, .f32⟩
  | .local _ .vmem, ⟨13, _⟩ => ⟨S1x2x512, .f32⟩
  | .local _ .vmem, ⟨14, _⟩ => ⟨S1032x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v34 : BitVec 1 := Scalar.cmpi .eq arg2 c1_i32
  let v35 : BitVec 32 := Scalar.extui v34
  let c0_i32_19 : BitVec 32 := 0#32
  let v36 : BitVec 1 := Scalar.cmpi .ne v35 c0_i32_19
  v36

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  ![v1.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ConvRefIdeal.lean ====
abbrev S4x2048x4096 : Shape := ⟨3, ![4, 2048, 4096]⟩
abbrev S4096x8192 : Shape := ⟨2, ![4096, 8192]⟩
abbrev S3x2048 : Shape := ⟨2, ![3, 2048]⟩
abbrev S4x2048x8192 : Shape := ⟨3, ![4, 2048, 8192]⟩
abbrev S4x2048x2048 : Shape := ⟨3, ![4, 2048, 2048]⟩
abbrev S_ : Shape := ⟨0, ![]⟩
abbrev S4x2x2048 : Shape := ⟨3, ![4, 2, 2048]⟩
abbrev S4x2050x2048 : Shape := ⟨3, ![4, 2050, 2048]⟩
abbrev S1x2048 : Shape := ⟨2, ![1, 2048]⟩
abbrev S2048 : Shape := ⟨1, ![2048]⟩
abbrev S1x1x2048 : Shape := ⟨3, ![1, 1, 2048]⟩
abbrev S8192x2048 : Shape := ⟨2, ![8192, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x8192, .f32⟩
  | .hbm, ⟨2, _⟩ => ⟨S3x2048, .f32⟩
  | .hbm, ⟨3, _⟩ => ⟨S4x2048x8192, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S_, .f32⟩
  | .hbm, ⟨8, _⟩ => ⟨S4x2x2048, .f32⟩
  | .hbm, ⟨9, _⟩ => ⟨S4x2048x2048, .f32⟩
  | .hbm, ⟨10, _⟩ => ⟨S4x2050x2048, .f32⟩
  | .hbm, ⟨11, _⟩ => ⟨S1x2048, .f32⟩
  | .hbm, ⟨12, _⟩ => ⟨S2048, .f32⟩
  | .hbm, ⟨13, _⟩ => ⟨S4x2048x2048, .f32⟩
  | .hbm, ⟨14, _⟩ => ⟨S1x1x2048, .f32⟩
  | .hbm, ⟨15, _⟩ => ⟨S4x2048x2048, .f32⟩
  | .hbm, ⟨16, _⟩ => ⟨S4x2048x2048, .f32⟩
  | .hbm, ⟨17, _⟩ => ⟨S1x2048, .f32⟩
  | .hbm, ⟨18, _⟩ => ⟨S2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S1x2048, .f32⟩
  | .hbm, ⟨25, _⟩ => ⟨S2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S8192x2048, .f32⟩
  | .hbm, ⟨33, _⟩ => ⟨S8192x2048, .bf16⟩
  | .hbm, ⟨34, _⟩ => ⟨S4x2x2048, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== Proj.lean ====
abbrev S8320x2048 : Shape := ⟨2, ![8320, 2048]⟩
abbrev S4096x4096 : Shape := ⟨2, ![4096, 4096]⟩
abbrev S8320x4096 : Shape := ⟨2, ![8320, 4096]⟩
abbrev S4096 : Shape := ⟨1, ![4096]⟩
abbrev S4096x256 : Shape := ⟨2, ![4096, 256]⟩
abbrev S1x4096 : Shape := ⟨2, ![1, 4096]⟩
abbrev S8320x256 : Shape := ⟨2, ![8320, 256]⟩
abbrev S320x512 : Shape := ⟨2, ![320, 512]⟩
abbrev S512x4096 : Shape := ⟨2, ![512, 4096]⟩
abbrev S320x4096 : Shape := ⟨2, ![320, 4096]⟩
abbrev S320x256 : Shape := ⟨2, ![320, 256]⟩
abbrev S320 : Shape := ⟨1, ![320]⟩
abbrev S320x1 : Shape := ⟨2, ![320, 1]⟩

abbrev nBuf : Space → Nat
  | .hbm => 14
  | .vmem => 18
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S4096x4096, .f32⟩
  | .hbm, ⟨3, _⟩ => ⟨S8320x4096, .f32⟩
  | .hbm, ⟨4, _⟩ => ⟨S4096, .f32⟩
  | .hbm, ⟨5, _⟩ => ⟨S4096, .f32⟩
  | .hbm, ⟨6, _⟩ => ⟨S4096x256, .f32⟩
  | .hbm, ⟨7, _⟩ => ⟨S4096x4096, .bf16⟩
  | .hbm, ⟨8, _⟩ => ⟨S1x4096, .f32⟩
  | .hbm, ⟨9, _⟩ => ⟨S1x4096, .f32⟩
  | .hbm, ⟨10, _⟩ => ⟨S4096x256, .bf16⟩
  | .hbm, ⟨11, _⟩ => ⟨S8320x4096, .f32⟩
  | .hbm, ⟨12, _⟩ => ⟨S8320x4096, .bf16⟩
  | .hbm, ⟨13, _⟩ => ⟨S8320x256, .f32⟩
  | .local _ .vmem, ⟨0, _⟩ => ⟨S320x512, .bf16⟩
  | .local _ .vmem, ⟨1, _⟩ => ⟨S320x512, .bf16⟩
  | .local _ .vmem, ⟨2, _⟩ => ⟨S320x512, .bf16⟩
  | .local _ .vmem, ⟨3, _⟩ => ⟨S320x512, .bf16⟩
  | .local _ .vmem, ⟨4, _⟩ => ⟨S512x4096, .bf16⟩
  | .local _ .vmem, ⟨5, _⟩ => ⟨S512x4096, .bf16⟩
  | .local _ .vmem, ⟨6, _⟩ => ⟨S320x4096, .f32⟩
  | .local _ .vmem, ⟨7, _⟩ => ⟨S320x4096, .f32⟩
  | .local _ .vmem, ⟨8, _⟩ => ⟨S1x4096, .f32⟩
  | .local _ .vmem, ⟨9, _⟩ => ⟨S1x4096, .f32⟩
  | .local _ .vmem, ⟨10, _⟩ => ⟨S4096x256, .bf16⟩
  | .local _ .vmem, ⟨11, _⟩ => ⟨S320x4096, .f32⟩
  | .local _ .vmem, ⟨12, _⟩ => ⟨S320x4096, .f32⟩
  | .local _ .vmem, ⟨13, _⟩ => ⟨S320x4096, .bf16⟩
  | .local _ .vmem, ⟨14, _⟩ => ⟨S320x4096, .bf16⟩
  | .local _ .vmem, ⟨15, _⟩ => ⟨S320x256, .f32⟩
  | .local _ .vmem, ⟨16, _⟩ => ⟨S320x256, .f32⟩
  | .local _ .vmem, ⟨17, _⟩ => ⟨S320x4096, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![26, 8], ![false, false]⟩

def k0_cond4 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S320x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S320x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S320x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S320x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S320x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S320x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ProjRefIdeal.lean ====
abbrev S8320x2048 : Shape := ⟨2, ![8320, 2048]⟩
abbrev S4096x4096 : Shape := ⟨2, ![4096, 4096]⟩
abbrev S8320x4096 : Shape := ⟨2, ![8320, 4096]⟩
abbrev S4096 : Shape := ⟨1, ![4096]⟩
abbrev S4096x256 : Shape := ⟨2, ![4096, 256]⟩
abbrev S_ : Shape := ⟨0, ![]⟩
abbrev S8320 : Shape := ⟨1, ![8320]⟩
abbrev S8320x1 : Shape := ⟨2, ![8320, 1]⟩
abbrev S1x4096 : Shape := ⟨2, ![1, 4096]⟩
abbrev S8320x256 : Shape := ⟨2, ![8320, 256]⟩

abbrev nBuf : Space → Nat
  | .hbm => 53
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S4096x4096, .f32⟩
  | .hbm, ⟨3, _⟩ => ⟨S8320x4096, .f32⟩
  | .hbm, ⟨4, _⟩ => ⟨S4096, .f32⟩
  | .hbm, ⟨5, _⟩ => ⟨S4096, .f32⟩
  | .hbm, ⟨6, _⟩ => ⟨S4096x256, .f32⟩
  | .hbm, ⟨7, _⟩ => ⟨S_, .f32⟩
  | .hbm, ⟨8, _⟩ => ⟨S8320x4096, .f32⟩
  | .hbm, ⟨9, _⟩ => ⟨S8320x4096, .f32⟩
  | .hbm, ⟨10, _⟩ => ⟨S8320x4096, .bf16⟩
  | .hbm, ⟨11, _⟩ => ⟨S8320x4096, .f32⟩
  | .hbm, ⟨12, _⟩ => ⟨S8320x4096, .f32⟩
  | .hbm, ⟨13, _⟩ => ⟨S8320x4096, .f32⟩
  | .hbm, ⟨14, _⟩ => ⟨S_, .f32⟩
  | .hbm, ⟨15, _⟩ => ⟨S8320, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x4096, .f32⟩
  | .hbm, ⟨21, _⟩ => ⟨S8320x4096, .f32⟩
  | .hbm, ⟨22, _⟩ => ⟨S8320x4096, .f32⟩
  | .hbm, ⟨23, _⟩ => ⟨S_, .f32⟩
  | .hbm, ⟨24, _⟩ => ⟨S8320, .f32⟩
  | .hbm, ⟨25, _⟩ => ⟨S8320x1, .f32⟩
  | .hbm, ⟨26, _⟩ => ⟨S_, .f32⟩
  | .hbm, ⟨27, _⟩ => ⟨S8320x1, .f32⟩
  | .hbm, ⟨28, _⟩ => ⟨S8320x1, .f32⟩
  | .hbm, ⟨29, _⟩ => ⟨S8320x4096, .f32⟩
  | .hbm, ⟨30, _⟩ => ⟨S8320x4096, .f32⟩
  | .hbm, ⟨31, _⟩ => ⟨S_, .f32⟩
  | .hbm, ⟨32, _⟩ => ⟨S8320x1, .f32⟩
  | .hbm, ⟨33, _⟩ => ⟨S8320x1, .f32⟩
  | .hbm, ⟨34, _⟩ => ⟨S8320x1, .f32⟩
  | .hbm, ⟨35, _⟩ => ⟨S8320x4096, .f32⟩
  | .hbm, ⟨36, _⟩ => ⟨S8320x4096, .f32⟩
  | .hbm, ⟨37, _⟩ => ⟨S1x4096, .f32⟩
  | .hbm, ⟨38, _⟩ => ⟨S8320x4096, .f32⟩
  | .hbm, ⟨39, _⟩ => ⟨S8320x4096, .f32⟩
  | .hbm, ⟨40, _⟩ => ⟨S1x4096, .f32⟩
  | .hbm, ⟨41, _⟩ => ⟨S8320x4096, .f32⟩
  | .hbm, ⟨42, _⟩ => ⟨S8320x4096, .f32⟩
  | .hbm, ⟨43, _⟩ => ⟨S8320x4096, .bf16⟩
  | .hbm, ⟨44, _⟩ => ⟨S8320x256, .f32⟩
  | .hbm, ⟨45, _⟩ => ⟨S8320x256, .f32⟩
  | .hbm, ⟨46, _⟩ => ⟨S8320x256, .f32⟩
  | .hbm, ⟨47, _⟩ => ⟨S_, .f32⟩
  | .hbm, ⟨48, _⟩ => ⟨S8320x256, .f32⟩
  | .hbm, ⟨49, _⟩ => ⟨S8320x256, .f32⟩
  | .hbm, ⟨50, _⟩ => ⟨S_, .f32⟩
  | .hbm, ⟨51, _⟩ => ⟨S8320x256, .f32⟩
  | .hbm, ⟨52, _⟩ => ⟨S8320x256, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Proof.Val.Norm.lean ====
/-
  The last layer norm: what the call leaves, and what the reference computes.
-/
module

public import proofs.«01_k».proof.Proof.Gen.NormIdeal.Value
public import proofs.«01_k».proof.Proof.Gen.NormRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.NormIdeal.Hand

open Cert.NormIdeal Cert.NormIdeal.Gen
open Idealize.ShloMosaic Idealize.ShloMosaic.TcCoe Idealize.ShloMosaic.Tactic
open scoped BigOperators

/-- The sum over a row of `4096` numbers, divided by `4096`. -/
def mean (x : Fin 4096 → EReal) : EReal := Ideal.div (∑ k, x k) (Ideal.ofBits .f32 0x45800000#32)

/-- The layer norm of a row, at column `j`. -/
def norm (x : Fin 4096 → EReal) (g b : EReal) (j : Fin 4096) : EReal :=
  (x j - mean x) * Ideal.rsqrt (mean (fun k => (x k - mean x) * (x k - mean x)) + Ideal.ofBits .f32 0x3727C5AC#32) * g + b

/-- The row that is normed: the scaled residual, and the two parts of the experts' layer. -/
def res (h r s : EReal) : EReal := Ideal.ofBits .f32 0x3F9837F0#32 * h + (r + s)

/-- What a block's body computes, entry by entry. -/
theorem pay_at (x0 x1 x2 : Vec Ideal S128x4096 .f32) (x3 x4 : Vec Ideal S1x4096 .f32) (a : Fin 128) (j : Fin 4096) :
    k0_pay1 (F := Ideal) x0 x1 x2 x3 x4 (ix2 a j)
      = norm (fun k => res (x0 (ix2 a k)) (x1 (ix2 a k)) (x2 (ix2 a k))) (x3 (ix2 0 j)) (x4 (ix2 0 j)) j := by
  pointwise [k0_pay1, norm, mean, res]

/-- The array of normed rows. -/
def G (h r s : FVec Ideal S8320x4096 .f32) (g b : FVec Ideal S4096 .f32) : FVec Ideal S8320x4096 .f32 :=
  fun i => norm (fun k => res (h (ix2 (i 0) k)) (r (ix2 (i 0) k)) (s (ix2 (i 0) k))) (g (ix1 (i 1))) (b (ix1 (i 1))) (i 1)

variable (m : (ℓ : Loc nD τ sig) → Buf (Elt Ideal) ℓ) (c : Dev nD)

/-- Where every window's block is. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] := by decide +kernel

/-- What the call leaves. -/
theorem left : (dats m 0 c).arrAt 5 cfg0.N = G (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  blk_simp
  rw [after0_5]
  frame_out
  idx_vars y
  refine (pay_at _ _ _ _ _ _ _).trans ?_
  dsimp only [G, norm, mean, res]
  blk_point [iblk, V, idx t]

end Cert.NormIdeal.Hand

end
-- ==== Proof.Val.NormRef.lean ====
/-
  The last layer norm's reference, entry by entry.
-/
module

public import proofs.«01_k».proof.Proof.Val.Norm

@[expose] public section

set_option maxRecDepth 16384

noncomputable section

namespace Cert.NormRefIdeal.Hand

open Cert.NormRefIdeal Cert.NormRefIdeal.Gen
open Idealize.ShloMosaic Idealize.ShloMosaic.TcCoe Idealize.ShloMosaic.Tactic
open scoped BigOperators
open Cert.NormIdeal.Hand (norm mean res G)

section
variable {F : FTy → Type} [FloatOps F]

/-- The sum that is normed. -/
def sumF (h r s : FVec F S8320x4096 .f32) : FVec F S8320x4096 .f32 :=
  addf (mulf (broadcastInDim S8320x4096 ![] bcast_S_S8320x4096 (constant S_ .f32 0x3F9837F0#32)) h) (addf r s)

/-- The mean of every row, as a column. -/
def meanF (x : FVec F S8320x4096 .f32) : FVec F S8320x1 .f32 :=
  Host.divf (broadcastInDim S8320x1 ![0] bcast_S8320_S8320x1_0 (Host.reduceAdd x (constant S_ .f32 0x00000000#32) reducesTo_S8320x4096_S8320_d1 h_S_))
    (broadcastInDim S8320x1 ![] bcast_S_S8320x1 (constant S_ .f32 0x45800000#32))

/-- The rows less a column. -/
def lessF (x : FVec F S8320x4096 .f32) (u : FVec F S8320x1 .f32) : FVec F S8320x4096 .f32 :=
  subf x (broadcastInDim S8320x4096 ![0, 1] bcast_S8320x1_S8320x4096_0_1 u)

/-- The layer norm of every row. -/
def normF (x : FVec F S8320x4096 .f32) (g b : FVec F S4096 .f32) : FVec F S8320x4096 .f32 :=
  addf (mulf (mulf (lessF x (meanF x)) (broadcastInDim S8320x4096 ![0, 1] bcast_S8320x1_S8320x4096_0_1
      (Host.rsqrt (addf (meanF (mulf (lessF x (meanF x)) (lessF x (meanF x)))) (broadcastInDim S8320x1 ![] bcast_S_S8320x1 (constant S_ .f32 0x3727C5AC#32))))))
    (broadcastInDim S8320x4096 ![0, 1] bcast_S1x4096_S8320x4096_0_1 (broadcastInDim S1x4096 ![1] bcast_S4096_S1x4096_1 g)))
    (broadcastInDim S8320x4096 ![0, 1] bcast_S1x4096_S8320x4096_0_1 (broadcastInDim S1x4096 ![1] bcast_S4096_S1x4096_1 b))
end

/-- The mean of a row. -/
theorem meanF_at (x : FVec Ideal S8320x4096 .f32) (i : Fin 8320) (z : Fin 1) : meanF (F := Ideal) x (ix2 i z) = mean (fun k => x (ix2 i k)) := by
  pointwise [meanF, mean]

/-- The normed entries. -/
theorem normF_at (h r s : FVec Ideal S8320x4096 .f32) (g b : FVec Ideal S4096 .f32) : normF (F := Ideal) (sumF h r s) g b = G h r s g b := by
  funext j
  idx_vars j
  pointwise [normF, sumF, lessF, meanF, G, Cert.NormIdeal.Hand.norm, mean, res]

end Cert.NormRefIdeal.Hand

end
-- ==== Proof.Val.Shared.lean ====
/-
  The shared expert: what the call leaves.
-/
module

public import proofs.«01_k».proof.Proof.Gen.SharedIdeal.Value
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.SharedIdeal.Hand

open Cert.SharedIdeal Cert.SharedIdeal.Gen
open Idealize.ShloMosaic Idealize.ShloMosaic.TcCoe Idealize.ShloMosaic.Tactic
open scoped BigOperators

/-- The gated activation. -/
def act (g u : EReal) : EReal := g * Ideal.logistic g * u

/-- What a point adds to its block, entry by entry. -/
def part (x0 : FVec Ideal S320x4096 .bf16) (x1 : FVec Ideal S4096x768 .bf16) (x2 : FVec Ideal S384x4096 .bf16) (a : Fin 320) (j : Fin 4096) : EReal :=
  ∑ k : Fin 384, act (∑ q : Fin 4096, x0 (ix2 a q) * x1 (ix2 q ⟨k.val, by omega⟩)) (∑ q : Fin 4096, x0 (ix2 a q) * x1 (ix2 q ⟨384 + k.val, by omega⟩)) * x2 (ix2 k j)

/-- A first point's block. -/
theorem pay_at (x0 : Vec Ideal S320x4096 .bf16) (x1 : Vec Ideal S4096x768 .bf16) (x2 : Vec Ideal S384x4096 .bf16) (a : Fin 320) (j : Fin 4096) :
    k0_pay1 (F := Ideal) x0 x1 x2 (ix2 a j) = part x0 x1 x2 a j := by
  pointwise [k0_pay1, part, act]

/-- A later point's block. -/
theorem pay2_at (x0 : Vec Ideal S320x4096 .bf16) (x1 : Vec Ideal S4096x768 .bf16) (x2 : Vec Ideal S384x4096 .bf16) (x3 : Vec Ideal S320x4096 .f32) (a : Fin 320) (j : Fin 4096) :
    k0_pay2 (F := Ideal) x0 x1 x2 x3 (ix2 a j) = x3 (ix2 a j) + part x0 x1 x2 a j := by
  rw [← pay_at]
  pointwise [k0_pay2]

variable (m : (ℓ : Loc nD τ sig) → Buf (Elt Ideal) ℓ) (c : Dev nD)

/-- Two parts joined, part by part. -/
theorem cat2 {x x' y y' : FVec Ideal S4096x384 .bf16} (hx : x = x') (hy : y = y') :
    concatenate S4096x768 1 [⟨S4096x384, x⟩, ⟨S4096x384, y⟩] concatenates_S4096x384_S4096x384_S4096x768_d1
      = concatenate S4096x768 1 [⟨S4096x384, x'⟩, ⟨S4096x384, y'⟩] concatenates_S4096x384_S4096x384_S4096x768_d1 := by
  rw [hx, hy]

/-- Three parts joined, part by part. -/
theorem cat3 {x x' y y' z z' : FVec Ideal S4096x768 .bf16} (hx : x = x') (hy : y = y') (hz : z = z') :
    concatenate S4096x2304 1 [⟨S4096x768, x⟩, ⟨S4096x768, y⟩, ⟨S4096x768, z⟩] concatenates_S4096x768_S4096x768_S4096x768_S4096x2304_d1
      = concatenate S4096x2304 1 [⟨S4096x768, x'⟩, ⟨S4096x768, y'⟩, ⟨S4096x768, z'⟩] concatenates_S4096x768_S4096x768_S4096x768_S4096x2304_d1 := by
  rw [hx, hy, hz]

/-- The joined gate and up weights, as the region finds them. -/
theorem joined : V m c main_v12 = concatenate S4096x2304 1 [
      ⟨S4096x768, concatenate S4096x768 1 [⟨S4096x384, extractStridedSlice S4096x384 ![0, 0] (truncf (F := Ideal) .bf16 (m ((c : Thread nD τ).loc main_arg1) : FVec Ideal S4096x1152 .f32) bitsLt_bf16_f32) slices_S4096x1152_S4096x384_0_0⟩,
        ⟨S4096x384, extractStridedSlice S4096x384 ![0, 0] (truncf (F := Ideal) .bf16 (m ((c : Thread nD τ).loc main_arg2) : FVec Ideal S4096x1152 .f32) bitsLt_bf16_f32) slices_S4096x1152_S4096x384_0_0⟩] concatenates_S4096x384_S4096x384_S4096x768_d1⟩,
      ⟨S4096x768, concatenate S4096x768 1 [⟨S4096x384, extractStridedSlice S4096x384 ![0, 384] (truncf (F := Ideal) .bf16 (m ((c : Thread nD τ).loc main_arg1) : FVec Ideal S4096x1152 .f32) bitsLt_bf16_f32) slices_S4096x1152_S4096x384_0_384⟩,
        ⟨S4096x384, extractStridedSlice S4096x384 ![0, 384] (truncf (F := Ideal) .bf16 (m ((c : Thread nD τ).loc main_arg2) : FVec Ideal S4096x1152 .f32) bitsLt_bf16_f32) slices_S4096x1152_S4096x384_0_384⟩] concatenates_S4096x384_S4096x384_S4096x768_d1⟩,
      ⟨S4096x768, concatenate S4096x768 1 [⟨S4096x384, extractStridedSlice S4096x384 ![0, 768] (truncf (F := Ideal) .bf16 (m ((c : Thread nD τ).loc main_arg1) : FVec Ideal S4096x1152 .f32) bitsLt_bf16_f32) slices_S4096x1152_S4096x384_0_768⟩,
        ⟨S4096x384, extractStridedSlice S4096x384 ![0, 768] (truncf (F := Ideal) .bf16 (m ((c : Thread nD τ).loc main_arg2) : FVec Ideal S4096x1152 .f32) bitsLt_bf16_f32) slices_S4096x1152_S4096x384_0_768⟩] concatenates_S4096x384_S4096x384_S4096x768_d1⟩]
      concatenates_S4096x768_S4096x768_S4096x768_S4096x2304_d1 := by
  unfold V
  after_reads_simp
  refine cat3 ?_ ?_ ?_
  · show StableHlo.upto hostOps0 (fun b => m (c, b)) 12 (Proc.devRef .tc main_v5) = _
    after_reads_simp
    refine cat2 ?_ ?_ <;> after_reads_simp
  · show StableHlo.upto hostOps0 (fun b => m (c, b)) 12 (Proc.devRef .tc main_v8) = _
    after_reads_simp
    refine cat2 ?_ ?_ <;> after_reads_simp
  · show StableHlo.upto hostOps0 (fun b => m (c, b)) 12 (Proc.devRef .tc main_v11) = _
    after_reads_simp
    refine cat2 ?_ ?_ <;> after_reads_simp

/-- The down weights, as the region finds them. -/
theorem down : V m c main_v2 = truncf (F := Ideal) .bf16 (m ((c : Thread nD τ).loc main_arg3) : FVec Ideal S1152x4096 .f32) bitsLt_bf16_f32 := by
  unfold V
  after_reads_simp

/-- The joined weights' gate columns. -/
theorem gate_at (q : Fin 4096) (s : Fin 3) (k : Fin 384) (n : Fin 2304) (f : Fin 1152) (hn : n.val = 768 * s.val + k.val) (hf : f.val = 384 * s.val + k.val) :
    V m c main_v12 (ix2 q n) = m ((c : Thread nD τ).loc main_arg1) (ix2 q f) := by
  rw [joined]
  pointwise
  split_ifs <;> first | omega | (refine congrArg _ ?_; congr 1; apply Fin.ext; simp only []; omega) | skip

/-- The joined weights' up columns. -/
theorem up_at (q : Fin 4096) (s : Fin 3) (k : Fin 384) (n : Fin 2304) (f : Fin 1152) (hn : n.val = 768 * s.val + (384 + k.val)) (hf : f.val = 384 * s.val + k.val) :
    V m c main_v12 (ix2 q n) = m ((c : Thread nD τ).loc main_arg2) (ix2 q f) := by
  rw [joined]
  pointwise
  split_ifs <;> first | omega | (refine congrArg _ ?_; congr 1; apply Fin.ext; simp only []; omega) | skip

/-- Where every window's block is. -/
theorem idx : ∀ t : Fin cfg0.N, win0_0.index t = ![t.val / 3, 0] ∧ win0_1.index t = ![0, t.val % 3] ∧ win0_2.index t = ![t.val % 3, 0]
    ∧ win0_3.index t = ![t.val / 3, 0] := by decide +kernel

/-- A point's rows. -/
theorem row_blk (t : Fin cfg0.N) (a : Fin 320) (q : Fin 4096) (i : Fin 8320) (hi : i.val = t.val / 3 * 320 + a.val) :
    iblk m c 0 t (ix2 a q) = m ((c : Thread nD τ).loc main_arg0) (ix2 i q) := by
  blk_ext [iblk, V, idx t]

/-- A point's gate columns. -/
theorem gate_blk (t : Fin cfg0.N) (q : Fin 4096) (k : Fin 384) (k' : Fin 768) (f : Fin 1152) (hk : k'.val = k.val) (hf : f.val = t.val % 3 * 384 + k.val) :
    iblk m c 1 t (ix2 q k') = m ((c : Thread nD τ).loc main_arg1) (ix2 q f) := by
  have h3 : t.val % 3 < 3 := Nat.mod_lt _ (by decide)
  refine Eq.trans ?_ (gate_at m c q ⟨t.val % 3, h3⟩ k ⟨768 * (t.val % 3) + k.val, by omega⟩ f rfl (by simp only []; omega))
  blk_ext [iblk, idx t]

/-- A point's up columns. -/
theorem up_blk (t : Fin cfg0.N) (q : Fin 4096) (k : Fin 384) (k' : Fin 768) (f : Fin 1152) (hk : k'.val = 384 + k.val) (hf : f.val = t.val % 3 * 384 + k.val) :
    iblk m c 1 t (ix2 q k') = m ((c : Thread nD τ).loc main_arg2) (ix2 q f) := by
  have h3 : t.val % 3 < 3 := Nat.mod_lt _ (by decide)
  refine Eq.trans ?_ (up_at m c q ⟨t.val % 3, h3⟩ k ⟨768 * (t.val % 3) + (384 + k.val), by omega⟩ f rfl (by simp only []; omega))
  blk_ext [iblk, idx t]

/-- A point's down rows. -/
theorem down_blk (t : Fin cfg0.N) (k : Fin 384) (j : Fin 4096) (f : Fin 1152) (hf : f.val = t.val % 3 * 384 + k.val) :
    iblk m c 2 t (ix2 k j) = m ((c : Thread nD τ).loc main_arg3) (ix2 f j) := by
  refine Eq.trans ?_ (congrFun (down m c) (ix2 f j))
  blk_ext [iblk, idx t]

/-- The array of the shared expert's rows. -/
def G (x : FVec Ideal S8320x4096 .bf16) (wg wu : FVec Ideal S4096x1152 .f32) (wd : FVec Ideal S1152x4096 .f32) : FVec Ideal S8320x4096 .f32 :=
  fun i => ∑ f : Fin 1152, act (∑ q : Fin 4096, x (ix2 (i 0) q) * wg (ix2 q f)) (∑ q : Fin 4096, x (ix2 (i 0) q) * wu (ix2 q f)) * wd (ix2 f (i 1))

/-- What the call leaves. -/
theorem left : (dats m 0 c).arrAt 3 cfg0.N = G (m ((c : Thread nD τ).loc main_arg0)) (m ((c : Thread nD τ).loc main_arg1)) (m ((c : Thread nD τ).loc main_arg2))
    (m ((c : Thread nD τ).loc main_arg3)) := by
  refine (dats m 0 c).arrAt_eq_of_covers 3 _ (by decide +kernel) fun t hf y => ?_
  blk_simp
  rw [after0_3]
  refine (Pipeline.eq_sum_fin_of_reset_step_apply_of_flush (fun n h => outsAt0 m c n h) 3 (fun _ => 0)
    (fun t j => part (iblk m c 0 t) (iblk m c 1 t) (iblk m c 2 t) (j 0) (j 1)) (fun t h j => ?_) (fun t h j => ?_) t ((flush0_3 t).mp hf) y).trans ?_
  · rw [outsAt0_A m c t h (by omega)]
    frame_out
    idx_vars j
    exact (pay_at _ _ _ _ _).trans (zero_add _).symm
  · rw [outsAt0_B m c t h (by omega)]
    frame_out
    idx_vars j
    exact pay2_at _ _ _ _ _ _
  rw [zero_add]
  idx_vars y
  unfold G part
  refine Fin.sum_mul_add_congr fun s k hl => ?_
  have hs : (3 * (t.val / 3) + s.val) % 3 = s.val := by omega
  have hd : (3 * (t.val / 3) + s.val) / 3 = t.val / 3 := by omega
  have ht := t.isLt
  refine congrArg₂ (fun u v : EReal => u * v) (congrArg₂ act (Finset.sum_congr rfl fun q _ => congrArg₂ (fun u v : EReal => u * v) ?_ ?_)
    (Finset.sum_congr rfl fun q _ => congrArg₂ (fun u v : EReal => u * v) ?_ ?_)) ?_
  · exact row_blk m c _ _ q _ (by blk_simp [idx t, hd])
  · exact gate_blk m c _ q k _ _ rfl (by simp only [hs])
  · exact row_blk m c _ _ q _ (by blk_simp [idx t, hd])
  · exact up_blk m c _ q k _ _ rfl (by simp only [hs])
  · refine (down_blk m c _ k _ ⟨s.val * 384 + k.val, hl⟩ (by simp only [hs])).trans ?_
    blk_ext [idx t]

end Cert.SharedIdeal.Hand

end
-- ==== Proof.Val.SharedRef.lean ====
/-
  The shared expert's reference, entry by entry.
-/
module

public import proofs.«01_k».proof.Proof.Val.Shared
public import proofs.«01_k».proof.Proof.Gen.SharedRefIdeal.Run

@[expose] public section

set_option maxRecDepth 16384

noncomputable section

namespace Cert.SharedRefIdeal.Hand

open Cert.SharedRefIdeal Cert.SharedRefIdeal.Gen
open Idealize.ShloMosaic Idealize.ShloMosaic.TcCoe Idealize.ShloMosaic.Tactic
open scoped BigOperators
open Cert.SharedIdeal.Hand (act G)

section
variable {F : FTy → Type} [FloatOps F]

/-- The rows times a projection's weights. -/
def projF (x : FVec F S8320x4096 .bf16) (w : FVec F S4096x1152 .f32) : FVec F S8320x1152 .f32 :=
  Host.dotGeneral dot_S8320x4096_S4096x1152_S8320x1152_1_0_0_1_n_n none (extf .f32 x bitsLt_bf16_f32) w

/-- The gated activations. -/
def actF (g u : FVec F S8320x1152 .f32) : FVec F S8320x1152 .f32 :=
  mulf (mulf g (Host.divf (broadcastInDim S8320x1152 ![] bcast_S_S8320x1152 (constant S_ .f32 0x3F800000#32))
    (addf (broadcastInDim S8320x1152 ![] bcast_S_S8320x1152 (constant S_ .f32 0x3F800000#32)) (Host.exp (Host.negf g))))) u

/-- The shared expert's rows. -/
def outF (x : FVec F S8320x4096 .bf16) (wg wu : FVec F S4096x1152 .f32) (wd : FVec F S1152x4096 .f32) : FVec F S8320x4096 .f32 :=
  Host.dotGeneral dot_S8320x1152_S1152x4096_S8320x4096_1_0_0_1_n_n none (actF (projF x wg) (projF x wu)) wd
end

/-- A projected entry. -/
theorem projF_at (x : FVec Ideal S8320x4096 .bf16) (w : FVec Ideal S4096x1152 .f32) (i : Fin 8320) (f : Fin 1152) :
    projF (F := Ideal) x w (ix2 i f) = ∑ q : Fin 4096, x (ix2 i q) * w (ix2 q f) := by
  pointwise [projF]

/-- An activation. -/
theorem actF_at (g u : FVec Ideal S8320x1152 .f32) (i : Fin 8320) (f : Fin 1152) : actF (F := Ideal) g u (ix2 i f) = act (g (ix2 i f)) (u (ix2 i f)) := by
  pointwise [actF, act]
  rfl

/-- The reference's entries. -/
theorem outF_at (x : FVec Ideal S8320x4096 .bf16) (wg wu : FVec Ideal S4096x1152 .f32) (wd : FVec Ideal S1152x4096 .f32) : outF (F := Ideal) x wg wu wd = G x wg wu wd := by
  funext j
  idx_vars j
  have h : outF (F := Ideal) x wg wu wd (ix2 j0 j1) = ∑ f : Fin 1152, actF (F := Ideal) (projF x wg) (projF x wu) (ix2 j0 f) * wd (ix2 f j1) := by
    unfold outF
    generalize actF (F := Ideal) (projF x wg) (projF x wu) = a
    pointwise
  rw [h]
  refine Finset.sum_congr rfl fun f _ => ?_
  rw [actF_at, projF_at, projF_at]
  rfl

end Cert.SharedRefIdeal.Hand

end
-- ==== Proof.Val.Conv.lean ====
/-
  The prompt's short convolution: what the call leaves.
-/
module

public import proofs.«01_k».proof.Proof.Gen.ConvIdeal.Value
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim
public import Idealize.ShloMosaic.Lib.StableHlo.ReadAt

@[expose] public section

set_option maxRecDepth 16384

noncomputable section

namespace Cert.ConvIdeal.Hand

open Cert.ConvIdeal Cert.ConvIdeal.Gen
open Idealize.ShloMosaic Idealize.ShloMosaic.TcCoe Idealize.ShloMosaic.Tactic
open scoped BigOperators

/-- A row of the block times a column of the weights. -/
def dot (x : FVec Ideal S1024x4096 .bf16) (w : FVec Ideal S4096x512 .bf16) (a : Fin 1024) (j : Fin 512) : EReal := ∑ q : Fin 4096, x (ix2 a q) * w (ix2 q j)

/-- The values the convolution runs over. -/
theorem pay6_at (x : Vec Ideal S1024x4096 .bf16) (w h : Vec Ideal S4096x512 .bf16) (a : Fin 1024) (j : Fin 512) :
    k0_pay6 (F := Ideal) x w h (ix2 a j) = dot x w a j * dot x h a j := by
  pointwise [k0_pay6, k0_pay5, dot]

/-- The same values, as they are stored. -/
theorem pay7_at (x : Vec Ideal S1024x4096 .bf16) (w h : Vec Ideal S4096x512 .bf16) (a : Fin 1024) (j : Fin 512) :
    k0_pay7 (F := Ideal) x w h (ix2 a j) = dot x w a j * dot x h a j := by
  rw [← pay6_at]
  pointwise [k0_pay7]

/-- The convolution's entries. -/
theorem pay8_at (x : Vec Ideal S1024x4096 .bf16) (w h : Vec Ideal S4096x512 .bf16) (c0 : Vec Ideal S1x512 .f32) (v0 : Vec Ideal S1024x512 .f32)
    (c1 : Vec Ideal S1x512 .f32) (v1 : Vec Ideal S1024x512 .f32) (c2 : Vec Ideal S1x512 .f32) (a : Fin 1024) (j : Fin 512) :
    k0_pay8 (F := Ideal) x w h c0 v0 c1 v1 c2 (ix2 a j)
      = c0 (ix2 0 j) * v0 (ix2 a j) + c1 (ix2 0 j) * v1 (ix2 a j) + c2 (ix2 0 j) * (dot x w a j * dot x h a j) := by
  rw [← pay6_at]
  pointwise [k0_pay8]

/-- The gated entries. -/
theorem pay1_at (x : Vec Ideal S1024x4096 .bf16) (g : Vec Ideal S4096x512 .bf16) (y : FVec Ideal S1024x512 .f32) (a : Fin 1024) (j : Fin 512) :
    k0_pay1 (F := Ideal) (k0_pay5 x) y (k0_pay9 g) (constant S1024x512 .f32 0x00000000#32) (ix2 a j) = dot x g a j * y (ix2 a j) := by
  pointwise [k0_pay1, k0_pay5, k0_pay9, dot]

/-- The state's entries. -/
theorem pay2_at (s : Vec Ideal S2x512 .f32) (a : Fin 2) (j : Fin 512) : k0_pay2 (F := Ideal) s (ix3 0 a j) = s (ix2 a j) := by
  pointwise [k0_pay2]

variable (m : (ℓ : Loc nD τ sig) → Buf (Elt Ideal) ℓ) (c : Dev nD)

/-- Where every window's block is. -/
theorem idx : ∀ t : Fin cfg0.N, win0_0.index t = ![t.val % 8, 0] ∧ win0_1.index t = ![0, 4 + t.val / 8] ∧ win0_2.index t = ![0, 8 + t.val / 8]
    ∧ win0_3.index t = ![0, 12 + t.val / 8] ∧ win0_4.index t = ![0, t.val / 8] ∧ win0_5.index t = ![t.val % 8, t.val / 8]
    ∧ win0_6.index t = ![t.val / 2 % 4, 0, t.val / 8] := by decide +kernel

/-- A stored tile's cells hold the tile's entries, whatever was there before. -/
theorem canon_hit (off size : Fin 2 → ℕ) (i : ∀ a : Fin 2, off a + size a ≤ S1032x512.size a) (P : (Rect.unit (s := S1032x512) off size i).shape.Idx → Elt Ideal .f32)
    (L : List (View.Piece (Elt Ideal) S1032x512 .f32)) (y : S1032x512.Idx) (x : (Rect.unit (s := S1032x512) off size i).shape.Idx)
    (h : ∀ a : Fin 2, (y a).val = off a + (x a).val) :
    View.canon (Val := Elt Ideal) ((⟨Rect.unit (s := S1032x512) off size i, P⟩ : View.Piece (Elt Ideal) S1032x512 .f32) :: L) y = P x := by
  have e : (Rect.unit (s := S1032x512) off size i).emb x = y := funext fun a => Fin.ext (by
    show off a + 1 * (x a).val = (y a).val
    rw [h a, Nat.one_mul])
  rw [← e]
  exact View.canon_cons_emb (Val := Elt Ideal) _ P L x

/-- Rows outside a stored tile hold what they held before. -/
theorem canon_miss (off size : Fin 2 → ℕ) (i : ∀ a : Fin 2, off a + size a ≤ S1032x512.size a) (P : (Rect.unit (s := S1032x512) off size i).shape.Idx → Elt Ideal .f32)
    (L : List (View.Piece (Elt Ideal) S1032x512 .f32)) (y : S1032x512.Idx) (h : (y 0).val < off 0 ∨ off 0 + size 0 ≤ (y 0).val) :
    View.canon (Val := Elt Ideal) ((⟨Rect.unit (s := S1032x512) off size i, P⟩ : View.Piece (Elt Ideal) S1032x512 .f32) :: L) y = View.canon (Val := Elt Ideal) L y := by
  refine View.canon_cons_of_not_mem (Val := Elt Ideal) (⟨Rect.unit (s := S1032x512) off size i, P⟩ : View.Piece (Elt Ideal) S1032x512 .f32) L ?_
  rw [Rect.mem_set_unit]
  intro hall
  have := hall 0
  omega

/-- A load after the block's store, in the rows the block holds. -/
theorem cov_hit {κ : Kind} {sp : Space} (v : View sig κ sp S1032x512 .f32) (i8 : ∀ a : Fin 2, (![8, 0] : Fin 2 → ℕ) a + S1024x512.size a ≤ S1032x512.size a) (P : Vec Ideal S1024x512 .f32)
    (L : List (View.Piece (Elt Ideal) S1032x512 .f32)) (k n : ℕ) (i : ∀ a : Fin 2, (![k, 0] : Fin 2 → ℕ) a + (![n, 512] : Fin 2 → ℕ) a ≤ S1032x512.size a)
    (a : Fin n) (j : Fin 512) (b : Fin 1024) (h : k + a.val = 8 + b.val) :
    v.readCov (Val := Elt Ideal) ((⟨Rect.unit (s := S1032x512) ![8, 0] S1024x512.size i8, P⟩ : View.Piece (Elt Ideal) S1032x512 .f32) :: L)
      (Rect.unit (s := S1032x512) ![k, 0] ![n, 512] i).toLoadRect (ix2 a j) = P (ix2 b j) := by
  rw [View.readCov_eq_canon']
  refine canon_hit ![8, 0] S1024x512.size i8 P L _ (ix2 b j) fun z => ?_
  refine (Rect.idx_unit_val (s := S1032x512) ![k, 0] ![n, 512] i _ z).trans ?_
  fin_cases z
  · exact h
  · rfl

/-- A load after the block's store, in the rows before it: zero at a sequence's start. -/
theorem cov_zero {κ : Kind} {sp : Space} (v : View sig κ sp S1032x512 .f32) (i8 : ∀ a : Fin 2, (![8, 0] : Fin 2 → ℕ) a + S1024x512.size a ≤ S1032x512.size a) (P : Vec Ideal S1024x512 .f32)
    (i0 : ∀ a : Fin 2, (![0, 0] : Fin 2 → ℕ) a + S8x512.size a ≤ S1032x512.size a) (k n : ℕ)
    (i : ∀ a : Fin 2, (![k, 0] : Fin 2 → ℕ) a + (![n, 512] : Fin 2 → ℕ) a ≤ S1032x512.size a)
    (a : Fin n) (j : Fin 512) (h : k + a.val < 8) :
    v.readCov (Val := Elt Ideal) [(⟨Rect.unit (s := S1032x512) ![8, 0] S1024x512.size i8, P⟩ : View.Piece (Elt Ideal) S1032x512 .f32),
        ⟨Rect.unit (s := S1032x512) ![0, 0] S8x512.size i0, k0_pay4 (F := Ideal)⟩]
      (Rect.unit (s := S1032x512) ![k, 0] ![n, 512] i).toLoadRect (ix2 a j) = 0 := by
  rw [View.readCov_eq_canon']
  have e0 : ((Rect.unit (s := S1032x512) ![k, 0] ![n, 512] i).idx (ix2 a j) 0 : ℕ) = k + a.val := Rect.idx_unit_val (s := S1032x512) ![k, 0] ![n, 512] i _ 0
  refine (canon_miss ![8, 0] S1024x512.size i8 P _ _ (.inl (lt_of_eq_of_lt e0 h))).trans ?_
  refine (canon_hit ![0, 0] S8x512.size i0 (k0_pay4 (F := Ideal)) _ _ (ix2 ⟨k + a.val, h⟩ j) fun z => ?_).trans ?_
  · refine (Rect.idx_unit_val (s := S1032x512) ![k, 0] ![n, 512] i _ z).trans ?_
    fin_cases z
    · exact (Nat.zero_add _).symm
    · rfl
  · pointwise [k0_pay4]

/-- A load after the block's store over a carried buffer, in the rows the block holds. -/
theorem ld_hit {κ : Kind} {sp : Space} (v : View sig κ sp S1032x512 .f32) (i8 : ∀ a : Fin 2, (![8, 0] : Fin 2 → ℕ) a + S1024x512.size a ≤ S1032x512.size a) (P : Vec Ideal S1024x512 .f32)
    (f : v.ty.Contents (Elt Ideal)) (k : ℕ) (i : ∀ a : Fin 2, (![k, 0] : Fin 2 → ℕ) a + S1024x512.size a ≤ S1032x512.size a)
    (a : Fin 1024) (j : Fin 512) (b : Fin 1024) (h : k + a.val = 8 + b.val) :
    View.ld (View.read (Elt Ideal) v (v.writes (Elt Ideal) f [(⟨Rect.unit (s := S1032x512) ![8, 0] S1024x512.size i8, P⟩ : View.Piece (Elt Ideal) S1032x512 .f32)]))
      (Rect.unit (s := S1032x512) ![k, 0] S1024x512.size i) (ix2 a j) = P (ix2 b j) := by
  rw [View.ld_apply]
  refine View.read_writes_cons_unit_of_mem (s := S1032x512) v f i8 P [] _ (ix2 b j) rfl fun z => ?_
  refine (Rect.idx_unit_val (s := S1032x512) ![k, 0] S1024x512.size i _ z).trans ?_
  fin_cases z
  · exact h
  · rfl

/-- A load after the block's store over a carried buffer, in the rows before it. -/
theorem ld_miss {κ : Kind} {sp : Space} (v : View sig κ sp S1032x512 .f32) (i8 : ∀ a : Fin 2, (![8, 0] : Fin 2 → ℕ) a + S1024x512.size a ≤ S1032x512.size a) (P : Vec Ideal S1024x512 .f32)
    (f : v.ty.Contents (Elt Ideal)) (k : ℕ) (i : ∀ a : Fin 2, (![k, 0] : Fin 2 → ℕ) a + S1024x512.size a ≤ S1032x512.size a)
    (a : Fin 1024) (j : Fin 512) (b : Fin 1032) (hb : b.val = k + a.val) (h : k + a.val < 8) :
    View.ld (View.read (Elt Ideal) v (v.writes (Elt Ideal) f [(⟨Rect.unit (s := S1032x512) ![8, 0] S1024x512.size i8, P⟩ : View.Piece (Elt Ideal) S1032x512 .f32)]))
      (Rect.unit (s := S1032x512) ![k, 0] S1024x512.size i) (ix2 a j) = View.read (Elt Ideal) v f (ix2 b j) := by
  rw [View.ld_apply]
  have e : (Rect.unit (s := S1032x512) ![k, 0] S1024x512.size i).idx (ix2 a j) = ix2 b j := funext fun z => Fin.ext (by
    refine (Rect.idx_unit_val (s := S1032x512) ![k, 0] S1024x512.size i _ z).trans ?_
    fin_cases z
    · exact hb.symm
    · exact Nat.zero_add _)
  rw [e]
  exact View.read_writes_cons_unit_of_not_mem (s := S1032x512) v f i8 P [] _ rfl 0 (.inl (by show b.val < 8; omega))

/-- A prompt row times a column of the input projection. -/
def dd (x : FVec Ideal S4x2048x4096 .f32) (w : FVec Ideal S4096x8192 .f32) (r : Fin 8192) (k : Fin 8192) : EReal :=
  ∑ q : Fin 4096, x (ix3 ⟨r.val / 2048, by omega⟩ ⟨r.val % 2048, by omega⟩ q) * w (ix2 q k)

/-- The values the convolution runs over. -/
def vv (x : FVec Ideal S4x2048x4096 .f32) (w : FVec Ideal S4096x8192 .f32) (r : Fin 8192) (j : Fin 2048) : EReal :=
  dd x w r ⟨4096 + j.val, by omega⟩ * dd x w r ⟨6144 + j.val, by omega⟩

/-- The value `s` rows before, zero before the sequence's start. -/
def tap (x : FVec Ideal S4x2048x4096 .f32) (w : FVec Ideal S4096x8192 .f32) (s : ℕ) (r : Fin 8192) (j : Fin 2048) : EReal :=
  if s ≤ r.val % 2048 then vv x w ⟨r.val - s, by omega⟩ j else 0

/-- The gated convolution, at a row and a column. -/
def out (x : FVec Ideal S4x2048x4096 .f32) (w : FVec Ideal S4096x8192 .f32) (cw : FVec Ideal S3x2048 .f32) (r : Fin 8192) (j : Fin 2048) : EReal :=
  dd x w r ⟨2048 + j.val, by omega⟩ * (cw (ix2 0 j) * tap x w 2 r j + cw (ix2 1 j) * tap x w 1 r j + cw (ix2 2 j) * vv x w r j)

/-- The gated convolution. -/
def G5 (x : FVec Ideal S4x2048x4096 .f32) (w : FVec Ideal S4096x8192 .f32) (cw : FVec Ideal S3x2048 .f32) : FVec Ideal S8192x2048 .bf16 :=
  fun y => out x w cw (y 0) (y 1)

/-- The state a sequence leaves: its last two values. -/
def G6 (x : FVec Ideal S4x2048x4096 .f32) (w : FVec Ideal S4096x8192 .f32) : FVec Ideal S4x2x2048 .f32 :=
  fun y => vv x w ⟨(y 0).val * 2048 + 2046 + (y 1).val, by have := (y 0).isLt; have := (y 1).isLt; simp only [S4x2x2048] at *; simp at *; omega⟩ (y 2)

/-- The prompt's rows, as they are passed. -/
theorem x_in (r : Fin 8192) (q : Fin 4096) : (V m c main_v1 : FVec Ideal S8192x4096 .bf16) (ix2 r q)
    = (m ((c : Thread nD τ).loc main_arg0) : FVec Ideal S4x2048x4096 .f32) (ix3 ⟨r.val / 2048, by omega⟩ ⟨r.val % 2048, by omega⟩ q) := by
  unfold V
  after_reads_simp
  pointwise []

/-- The weights, as they are passed. -/
theorem w_in : (V m c main_v2 : FVec Ideal S4096x8192 .bf16) = (m ((c : Thread nD τ).loc main_arg1) : FVec Ideal S4096x8192 .f32) := by
  unfold V
  after_reads_simp
  rfl

/-- A block of the prompt's rows. -/
theorem x_blk (t : Fin cfg0.N) (a : Fin 1024) (q : Fin 4096) (r : Fin 8192) (hr : r.val = t.val % 8 * 1024 + a.val) :
    (iblk m c 0 t : FVec Ideal S1024x4096 .bf16) (ix2 a q)
      = (m ((c : Thread nD τ).loc main_arg0) : FVec Ideal S4x2048x4096 .f32) (ix3 ⟨r.val / 2048, by omega⟩ ⟨r.val % 2048, by omega⟩ q) := by
  refine Eq.trans ?_ (x_in m c r q)
  blk_ext [iblk, idx t]

/-- A block of the gate's columns. -/
theorem g_blk (t : Fin cfg0.N) (q : Fin 4096) (j : Fin 512) (k : Fin 8192) (hk : k.val = 2048 + t.val / 8 * 512 + j.val) :
    (iblk m c 1 t : FVec Ideal S4096x512 .bf16) (ix2 q j) = (m ((c : Thread nD τ).loc main_arg1) : FVec Ideal S4096x8192 .f32) (ix2 q k) := by
  refine Eq.trans ?_ (congrFun (w_in m c) (ix2 q k))
  blk_ext [iblk, idx t]

/-- A block of the content's columns. -/
theorem c_blk (t : Fin cfg0.N) (q : Fin 4096) (j : Fin 512) (k : Fin 8192) (hk : k.val = 4096 + t.val / 8 * 512 + j.val) :
    (iblk m c 2 t : FVec Ideal S4096x512 .bf16) (ix2 q j) = (m ((c : Thread nD τ).loc main_arg1) : FVec Ideal S4096x8192 .f32) (ix2 q k) := by
  refine Eq.trans ?_ (congrFun (w_in m c) (ix2 q k))
  blk_ext [iblk, idx t]

/-- A block of the second factor's columns. -/
theorem h_blk (t : Fin cfg0.N) (q : Fin 4096) (j : Fin 512) (k : Fin 8192) (hk : k.val = 6144 + t.val / 8 * 512 + j.val) :
    (iblk m c 3 t : FVec Ideal S4096x512 .bf16) (ix2 q j) = (m ((c : Thread nD τ).loc main_arg1) : FVec Ideal S4096x8192 .f32) (ix2 q k) := by
  refine Eq.trans ?_ (congrFun (w_in m c) (ix2 q k))
  blk_ext [iblk, idx t]

/-- A block of the taps. -/
theorem cw_blk (t : Fin cfg0.N) (s : Fin 3) (j : Fin 512) (k : Fin 2048) (hk : k.val = t.val / 8 * 512 + j.val) :
    (iblk m c 4 t : FVec Ideal S3x512 .f32) (ix2 s j) = (m ((c : Thread nD τ).loc main_arg2) : FVec Ideal S3x2048 .f32) (ix2 s k) := by
  blk_ext [iblk, V, idx t]

/-- A point's gate. -/
theorem gate_blk (t : Fin cfg0.N) (a : Fin 1024) (j : Fin 512) (r : Fin 8192) (hr : r.val = t.val % 8 * 1024 + a.val) (k : Fin 2048) (hk : k.val = t.val / 8 * 512 + j.val) :
    dot (iblk m c 0 t) (iblk m c 1 t) a j = dd (m ((c : Thread nD τ).loc main_arg0)) (m ((c : Thread nD τ).loc main_arg1)) r ⟨2048 + k.val, by omega⟩ :=
  Finset.sum_congr rfl fun q _ => congrArg₂ (fun u v : EReal => u * v) (x_blk m c t a q r hr) (g_blk m c t q j _ (by simp only []; omega))

/-- A point's values. -/
theorem v_blk (t : Fin cfg0.N) (a : Fin 1024) (j : Fin 512) (r : Fin 8192) (hr : r.val = t.val % 8 * 1024 + a.val) (k : Fin 2048) (hk : k.val = t.val / 8 * 512 + j.val) :
    dot (iblk m c 0 t) (iblk m c 2 t) a j * dot (iblk m c 0 t) (iblk m c 3 t) a j
      = vv (m ((c : Thread nD τ).loc main_arg0)) (m ((c : Thread nD τ).loc main_arg1)) r k :=
  congrArg₂ (fun u v : EReal => u * v)
    (Finset.sum_congr rfl fun q _ => congrArg₂ (fun u v : EReal => u * v) (x_blk m c t a q r hr) (c_blk m c t q j _ (by simp only []; omega)))
    (Finset.sum_congr rfl fun q _ => congrArg₂ (fun u v : EReal => u * v) (x_blk m c t a q r hr) (h_blk m c t q j _ (by simp only []; omega)))

/-- A point's values, as stored. -/
theorem st_blk (t : Fin cfg0.N) (a : Fin 1024) (j : Fin 512) (r : Fin 8192) (hr : r.val = t.val % 8 * 1024 + a.val) (k : Fin 2048) (hk : k.val = t.val / 8 * 512 + j.val) :
    k0_pay7 (F := Ideal) (iblk m c 0 t) (iblk m c 2 t) (iblk m c 3 t) (ix2 a j)
      = vv (m ((c : Thread nD τ).loc main_arg0)) (m ((c : Thread nD τ).loc main_arg1)) r k :=
  (pay7_at _ _ _ a j).trans (v_blk m c t a j r hr k hk)

/-- What a sequence's first point leaves in the buffer's first rows: the last rows of its block. -/
theorem halo (t : Fin cfg0.N) (h : t.val % 2 = 0) (b : Fin 1032) (hb : b.val < 8) (j : Fin 512) :
    (outsAt0 m c t.val t.isLt).2.2 (ix2 b j)
      = k0_pay7 (F := Ideal) (iblk m c 0 t) (iblk m c 2 t) (iblk m c 3 t) (ix2 ⟨1016 + b.val, by omega⟩ j) := by
  rw [outsAt0_A m c t h (by omega)]
  frame_out
  refine (canon_hit ![0, 0] S8x512.size inb_S1032x512_S8x512_0_0 _ _ _ (ix2 ⟨b.val, hb⟩ j) fun z => ?_).trans ?_
  · fin_cases z
    · exact (Nat.zero_add _).symm
    · exact (Nat.zero_add _).symm
  · have e : ∀ s : Vec Ideal S8x512 .f32, k0_pay3 (F := Ideal) s = s := fun s => by
      funext y
      idx_vars y
      pointwise [k0_pay3]
    rw [e]
    exact cov_hit _ _ _ _ 1024 8 _ _ j _ (by simp only []; omega)

/-- A row of the taps, loaded. -/
theorem tap_ld (x : Vec Ideal S3x512 .f32) (s : ℕ) (hs : s < 3) (i : ∀ a : Fin 2, (![s, 0] : Fin 2 → ℕ) a + S1x512.size a ≤ S3x512.size a) (j : Fin 512) :
    View.ld (Val := Elt Ideal) x (Rect.unit (s := S3x512) ![s, 0] S1x512.size i) (ix2 0 j) = x (ix2 ⟨s, hs⟩ j) := by
  refine View.ld_unit_apply_of (S := S3x512) x ![s, 0] S1x512.size i _ (ix2 ⟨s, hs⟩ j) fun z => ?_
  fin_cases z
  · rfl
  · exact (Nat.zero_add _).symm

/-- The gated convolution's block. -/
theorem out_blk (t : Fin cfg0.N) (a : Fin 1024) (j : Fin 512) (r : Fin 8192) (hr : r.val = t.val % 8 * 1024 + a.val) (k : Fin 2048) (hk : k.val = t.val / 8 * 512 + j.val) :
    (outsAt0 m c t.val t.isLt).1 (ix2 a j)
      = out (m ((c : Thread nD τ).loc main_arg0)) (m ((c : Thread nD τ).loc main_arg1)) (m ((c : Thread nD τ).loc main_arg2)) r k := by
  have ht : t.val < 32 := lt_of_lt_of_eq t.isLt N_0
  by_cases h : t.val % 2 = 0
  · rw [outsAt0_A m c t h (by omega)]
    frame_out
    refine (pay1_at _ _ _ a j).trans (congrArg₂ (fun u v : EReal => u * v) (gate_blk m c t a j r hr k hk) ?_)
    refine (pay8_at _ _ _ _ _ _ _ _ a j).trans ?_
    refine congrArg₂ (fun u v : EReal => u + v) (congrArg₂ (fun u v : EReal => u + v) ?_ ?_) ?_
    · refine congrArg₂ (fun u v : EReal => u * v) ((tap_ld _ 0 (by omega) _ j).trans (cw_blk m c t _ j k hk)) ?_
      unfold tap
      by_cases ha : 2 ≤ a.val
      · rw [if_pos (by omega)]
        exact (cov_hit _ _ _ _ 6 1024 _ a j ⟨a.val - 2, by omega⟩ (by simp only []; omega)).trans (st_blk m c t _ j _ (by simp only []; omega) k hk)
      · rw [if_neg (by omega)]
        exact cov_zero _ _ _ _ 6 1024 _ a j (by omega)
    · refine congrArg₂ (fun u v : EReal => u * v) ((tap_ld _ 1 (by omega) _ j).trans (cw_blk m c t _ j k hk)) ?_
      unfold tap
      by_cases ha : 1 ≤ a.val
      · rw [if_pos (by omega)]
        exact (cov_hit _ _ _ _ 7 1024 _ a j ⟨a.val - 1, by omega⟩ (by simp only []; omega)).trans (st_blk m c t _ j _ (by simp only []; omega) k hk)
      · rw [if_neg (by omega)]
        exact cov_zero _ _ _ _ 7 1024 _ a j (by omega)
    · exact congrArg₂ (fun u v : EReal => u * v) ((tap_ld _ 2 (by omega) _ j).trans (cw_blk m c t _ j k hk)) (v_blk m c t a j r hr k hk)
  · have hp : t.val - 1 < cfg0.N := Nat.lt_of_le_of_lt (Nat.sub_le _ _) t.isLt
    rw [outsAt0_B m c t h (by omega)]
    frame_out
    refine (pay1_at _ _ _ a j).trans (congrArg₂ (fun u v : EReal => u * v) (gate_blk m c t a j r hr k hk) ?_)
    refine (pay8_at _ _ _ _ _ _ _ _ a j).trans ?_
    refine congrArg₂ (fun u v : EReal => u + v) (congrArg₂ (fun u v : EReal => u + v) ?_ ?_) ?_
    · refine congrArg₂ (fun u v : EReal => u * v) ((tap_ld _ 0 (by omega) _ j).trans (cw_blk m c t _ j k hk)) ?_
      unfold tap
      rw [if_pos (by omega)]
      by_cases ha : 2 ≤ a.val
      · exact (ld_hit _ _ _ _ 6 _ a j ⟨a.val - 2, by omega⟩ (by simp only []; omega)).trans (st_blk m c t _ j _ (by simp only []; omega) k hk)
      · refine (ld_miss _ _ _ _ 6 _ a j ⟨6 + a.val, by omega⟩ rfl (by omega)).trans ?_
        rw [read_unread_whole]
        exact (halo m c ⟨t.val - 1, hp⟩ (by simp only []; omega) _ (by simp only []; omega) j).trans (st_blk m c ⟨t.val - 1, hp⟩ _ j _ (by simp only []; omega) k (by simp only []; omega))
    · refine congrArg₂ (fun u v : EReal => u * v) ((tap_ld _ 1 (by omega) _ j).trans (cw_blk m c t _ j k hk)) ?_
      unfold tap
      rw [if_pos (by omega)]
      by_cases ha : 1 ≤ a.val
      · exact (ld_hit _ _ _ _ 7 _ a j ⟨a.val - 1, by omega⟩ (by simp only []; omega)).trans (st_blk m c t _ j _ (by simp only []; omega) k hk)
      · refine (ld_miss _ _ _ _ 7 _ a j ⟨7 + a.val, by omega⟩ rfl (by omega)).trans ?_
        rw [read_unread_whole]
        exact (halo m c ⟨t.val - 1, hp⟩ (by simp only []; omega) _ (by simp only []; omega) j).trans (st_blk m c ⟨t.val - 1, hp⟩ _ j _ (by simp only []; omega) k (by simp only []; omega))
    · exact congrArg₂ (fun u v : EReal => u * v) ((tap_ld _ 2 (by omega) _ j).trans (cw_blk m c t _ j k hk)) (v_blk m c t a j r hr k hk)

/-- The state's block. -/
theorem state_blk (t : Fin cfg0.N) (h : t.val % 2 = 1) (a : Fin 2) (j : Fin 512) (r : Fin 8192) (hr : r.val = t.val % 8 * 1024 + 1022 + a.val) (k : Fin 2048) (hk : k.val = t.val / 8 * 512 + j.val) :
    (outsAt0 m c t.val t.isLt).2.1 (ix3 0 a j) = vv (m ((c : Thread nD τ).loc main_arg0)) (m ((c : Thread nD τ).loc main_arg1)) r k := by
  rw [outsAt0_B m c t (by omega) h]
  frame_out
  refine (pay2_at _ a j).trans ?_
  exact (cov_hit _ _ _ _ 1030 2 _ a j ⟨1022 + a.val, by omega⟩ (by simp only []; omega)).trans (st_blk m c t _ j r (by simp only []; omega) k hk)

/-- The gated convolution the call leaves. -/
theorem left5 : (dats m 0 c).arrAt 5 cfg0.N = G5 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  idx_vars y
  dsimp only [G5]
  refine out_blk m c t _ _ _ ?_ _ ?_
  · blk_simp [idx t]
  · blk_simp [idx t]

/-- The states the call leaves. -/
theorem left6 : (dats m 0 c).arrAt 6 cfg0.N = G6 (m ((c : Thread nD τ).loc main_arg0)) (m ((c : Thread nD τ).loc main_arg1)) := by
  refine (dats m 0 c).arrAt_eq_of_covers 6 _ (by decide +kernel) fun t hf y => ?_
  have h1 := (flush0_6 t).mp hf
  blk_simp
  rw [after0_6]
  idx_vars y
  dsimp only [G6]
  obtain rfl : y0 = 0 := Subsingleton.elim _ _
  refine state_blk m c t (by omega) _ _ _ ?_ _ ?_
  · blk_simp [idx t]
    show (t.val / 2 % 4 + 0) * 2048 + 2046 + y1.val = _
    omega
  · blk_simp [idx t]

end Cert.ConvIdeal.Hand

end
-- ==== Proof.Val.ConvRef.lean ====
/-
  The prompt convolution's reference, entry by entry.
-/
module

public import proofs.«01_k».proof.Proof.Val.Conv
public import proofs.«01_k».proof.Proof.Gen.ConvRefIdeal.Run

@[expose] public section

set_option maxRecDepth 16384

noncomputable section

namespace Cert.ConvRefIdeal.Hand

open Cert.ConvRefIdeal Cert.ConvRefIdeal.Gen
open Idealize.ShloMosaic Idealize.ShloMosaic.TcCoe Idealize.ShloMosaic.Tactic
open scoped BigOperators
open Cert.ConvIdeal.Hand (dd vv tap out G5 G6)

section
variable {F : FTy → Type} [FloatOps F]

/-- The input projection. -/
def projF (x : FVec F S4x2048x4096 .f32) (w : FVec F S4096x8192 .f32) : FVec F S4x2048x8192 .f32 :=
  Host.dotGeneral dot_S4x2048x4096_S4096x8192_S4x2048x8192_2_0_01_1_n_n none x w

/-- The values the convolution runs over, after the two zero rows. -/
def catF (p : FVec F S4x2048x8192 .f32) : FVec F S4x2050x2048 .f32 :=
  concatenate S4x2050x2048 1 [⟨S4x2x2048, (broadcastInDim S4x2x2048 ![] bcast_S_S4x2x2048 (constant S_ .f32 0x00000000#32))⟩, ⟨S4x2048x2048, (mulf (extractStridedSlice S4x2048x2048 ![0, 0, 4096] p slices_S4x2048x8192_S4x2048x2048_0_0_4096) (extractStridedSlice S4x2048x2048 ![0, 0, 6144] p slices_S4x2048x8192_S4x2048x2048_0_0_6144))⟩] concatenates_S4x2x2048_S4x2048x2048_S4x2050x2048_d1

/-- The gated convolution, by sequence. -/
def gateF (p : FVec F S4x2048x8192 .f32) (v : FVec F S4x2050x2048 .f32) (cw : FVec F S3x2048 .f32) : FVec F S4x2048x2048 .f32 :=
  mulf (extractStridedSlice S4x2048x2048 ![0, 0, 2048] p slices_S4x2048x8192_S4x2048x2048_0_0_2048) (addf (addf (mulf (broadcastInDim S4x2048x2048 ![0, 1, 2] bcast_S1x1x2048_S4x2048x2048_0_1_2 (broadcastInDim S1x1x2048 ![2] bcast_S2048_S1x1x2048_2 (shapeCast _ (extractStridedSlice S1x2048 ![0, 0] cw slices_S3x2048_S1x2048_0_0) shapeCasts_S1x2048_S2048))) (extractStridedSlice S4x2048x2048 ![0, 0, 0] v slices_S4x2050x2048_S4x2048x2048_0_0_0)) (mulf (broadcastInDim S4x2048x2048 ![0, 1, 2] bcast_S1x1x2048_S4x2048x2048_0_1_2 (broadcastInDim S1x1x2048 ![2] bcast_S2048_S1x1x2048_2 (shapeCast _ (extractStridedSlice S1x2048 ![1, 0] cw slices_S3x2048_S1x2048_1_0) shapeCasts_S1x2048_S2048))) (extractStridedSlice S4x2048x2048 ![0, 1, 0] v slices_S4x2050x2048_S4x2048x2048_0_1_0))) (mulf (broadcastInDim S4x2048x2048 ![0, 1, 2] bcast_S1x1x2048_S4x2048x2048_0_1_2 (broadcastInDim S1x1x2048 ![2] bcast_S2048_S1x1x2048_2 (shapeCast _ (extractStridedSlice S1x2048 ![2, 0] cw slices_S3x2048_S1x2048_2_0) shapeCasts_S1x2048_S2048))) (extractStridedSlice S4x2048x2048 ![0, 2, 0] v slices_S4x2050x2048_S4x2048x2048_0_2_0)))

/-- The gated convolution, its sequences' rows one after the other. -/
def flatF (y : FVec F S4x2048x2048 .f32) : FVec F S8192x2048 .bf16 :=
  truncf .bf16 (shapeCast S8192x2048 y shapeCasts_S4x2048x2048_S8192x2048) bitsLt_bf16_f32

/-- The last two values of every sequence. -/
def lastF (v : FVec F S4x2050x2048 .f32) : FVec F S4x2x2048 .f32 :=
  extractStridedSlice S4x2x2048 ![0, 2048, 0] v slices_S4x2050x2048_S4x2x2048_0_2048_0

end

/-- The projection's entries. -/
theorem projF_at (x : FVec Ideal S4x2048x4096 .f32) (w : FVec Ideal S4096x8192 .f32) (b : Fin 4) (i : Fin 2048) (k : Fin 8192) :
    projF x w (ix3 b i k) = ∑ q : Fin 4096, x (ix3 b i q) * w (ix2 q k) := by
  pointwise [projF]

/-- The projection's entries, by row. -/
theorem projF_dd (x : FVec Ideal S4x2048x4096 .f32) (w : FVec Ideal S4096x8192 .f32) (b : Fin 4) (i : Fin 2048) (k : Fin 8192) (r : Fin 8192)
    (h : r.val = b.val * 2048 + i.val) : projF x w (ix3 b i k) = dd x w r k := by
  rw [projF_at]
  unfold dd
  have h1 : (⟨r.val / 2048, by omega⟩ : Fin 4) = b := Fin.ext (by simp only []; omega)
  have h2 : (⟨r.val % 2048, by omega⟩ : Fin 2048) = i := Fin.ext (by simp only []; omega)
  rw [h1, h2]

/-- The two zero rows. -/
theorem cat_lo (p : FVec Ideal S4x2048x8192 .f32) (b : Fin 4) (i : Fin 2050) (j : Fin 2048) (h : i.val < 2) : catF p (ix3 b i j) = 0 := by
  pointwise [catF, h]

/-- The values after them. -/
theorem cat_hi (p : FVec Ideal S4x2048x8192 .f32) (b : Fin 4) (i : Fin 2050) (j : Fin 2048) (h : 2 ≤ i.val) :
    catF p (ix3 b i j) = p (ix3 b ⟨i.val - 2, by omega⟩ ⟨4096 + j.val, by omega⟩) * p (ix3 b ⟨i.val - 2, by omega⟩ ⟨6144 + j.val, by omega⟩) := by
  have h' : ¬ i.val < 2 := by omega
  pointwise [catF, h']

/-- A row of the joined values is a tap. -/
theorem cat_tap (x : FVec Ideal S4x2048x4096 .f32) (w : FVec Ideal S4096x8192 .f32) (b : Fin 4) (i : Fin 2050) (j : Fin 2048) (s : ℕ) (r : Fin 8192)
    (hs : s ≤ 2) (hi : i.val + s < 2050) (h : r.val = b.val * 2048 + (i.val + s - 2)) (h2 : 2 ≤ i.val + s) : catF (projF x w) (ix3 b i j) = tap x w s r j := by
  unfold tap
  by_cases hc : 2 ≤ i.val
  · rw [if_pos (by omega), cat_hi _ b i j hc]
    exact congrArg₂ (fun u v : EReal => u * v) (projF_dd x w b _ _ _ (by simp only []; omega)) (projF_dd x w b _ _ _ (by simp only []; omega))
  · rw [if_neg (by omega)]
    exact cat_lo _ b i j (by omega)

/-- The gated entries. -/
theorem gateF_at (p : FVec Ideal S4x2048x8192 .f32) (v : FVec Ideal S4x2050x2048 .f32) (cw : FVec Ideal S3x2048 .f32) (b : Fin 4) (i : Fin 2048) (j : Fin 2048) :
    gateF p v cw (ix3 b i j) = p (ix3 b i ⟨2048 + j.val, by omega⟩) * (cw (ix2 0 j) * v (ix3 b ⟨i.val, by omega⟩ j) + cw (ix2 1 j) * v (ix3 b ⟨1 + i.val, by omega⟩ j)
      + cw (ix2 2 j) * v (ix3 b ⟨2 + i.val, by omega⟩ j)) := by
  pointwise [gateF]

/-- The flattened entries. -/
theorem flatF_at (y : FVec Ideal S4x2048x2048 .f32) (r : Fin 8192) (j : Fin 2048) :
    flatF y (ix2 r j) = y (ix3 ⟨r.val / 2048, by omega⟩ ⟨r.val % 2048, by omega⟩ j) := by
  pointwise [flatF]

/-- The reference's gated convolution. -/
theorem conv_eq (x : FVec Ideal S4x2048x4096 .f32) (w : FVec Ideal S4096x8192 .f32) (cw : FVec Ideal S3x2048 .f32) :
    flatF (gateF (projF x w) (catF (projF x w)) cw) = G5 x w cw := by
  funext y
  idx_vars y
  rw [flatF_at, gateF_at]
  show _ = out x w cw y0 y1
  unfold out
  refine congrArg₂ (fun u v : EReal => u * v) (projF_dd x w _ _ _ _ (by simp only []; omega)) (congrArg₂ (fun u v : EReal => u + v) (congrArg₂ (fun u v : EReal => u + v) ?_ ?_) ?_)
  · exact congrArg (fun u : EReal => cw (ix2 0 y1) * u) (cat_tap x w _ _ _ 2 _ (by omega) (by simp only []; omega) (by simp only []; omega) (by simp only []; omega))
  · exact congrArg (fun u : EReal => cw (ix2 1 y1) * u) (cat_tap x w _ _ _ 1 _ (by omega) (by simp only []; omega) (by simp only []; omega) (by simp only []; omega))
  · refine congrArg (fun u : EReal => cw (ix2 2 y1) * u) ((cat_tap x w _ _ _ 0 y0 (by omega) (by simp only []; omega) (by simp only []; omega) (by simp only []; omega)).trans ?_)
    unfold tap
    rw [if_pos (Nat.zero_le _)]
    rfl

/-- The reference's states. -/
theorem last_eq (x : FVec Ideal S4x2048x4096 .f32) (w : FVec Ideal S4096x8192 .f32) : lastF (catF (projF x w)) = G6 x w := by
  funext y
  idx_vars y
  have e : ∀ v : FVec Ideal S4x2050x2048 .f32, lastF v (ix3 y0 y1 y2) = v (ix3 y0 ⟨2048 + y1.val, by omega⟩ y2) := fun v => by
    pointwise [lastF]
  rw [e, cat_hi _ _ _ _ (by simp only []; omega)]
  dsimp only [G6]
  exact congrArg₂ (fun u v : EReal => u * v) (projF_dd x w _ _ _ _ (by simp only []; show y0.val * 2048 + 2046 + y1.val = _; omega))
    (projF_dd x w _ _ _ _ (by simp only []; show y0.val * 2048 + 2046 + y1.val = _; omega))

end Cert.ConvRefIdeal.Hand

end
-- ==== Proof.Val.Proj.lean ====
/-
  The output projection, its norm and the router: what the call leaves.
-/
module

public import proofs.«01_k».proof.Proof.Val.Norm
public import proofs.«01_k».proof.Proof.Gen.ProjIdeal.Value
public import Idealize.ShloMosaic.Lib.StableHlo.ReadAt
public import Idealize.ShloMosaic.Lib.Pipeline.ReadBack

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open scoped BigOperators
open Cert.NormIdeal.Hand (norm mean)

/-- A block of rows times a block of weights, at an entry. -/
def part (x : FVec Ideal S320x512 .bf16) (w : FVec Ideal S512x4096 .bf16) (a : Fin 320) (j : Fin 4096) : EReal := ∑ k : Fin 512, x (ix2 a k) * w (ix2 k j)

/-- The residual a first point starts from. -/
theorem pay1_at (x : Vec Ideal S320x4096 .f32) (a : Fin 320) (j : Fin 4096) :
    k0_pay1 (F := Ideal) x (ix2 a j) = Ideal.ofBits .f32 0x3F9837F0#32 * x (ix2 a j) := by
  pointwise [k0_pay1]

/-- What an early point adds. -/
theorem pay2_at (s : Vec Ideal S320x4096 .f32) (x : Vec Ideal S320x512 .bf16) (w : Vec Ideal S512x4096 .bf16) (a : Fin 320) (j : Fin 4096) :
    k0_pay2 (F := Ideal) s x w (ix2 a j) = s (ix2 a j) + part x w a j := by
  pointwise [k0_pay2, part]

/-- What a late point adds. -/
theorem pay3_at (s : Vec Ideal S320x4096 .f32) (x : Vec Ideal S320x512 .bf16) (w : Vec Ideal S512x4096 .bf16) (a : Fin 320) (j : Fin 4096) :
    k0_pay3 (F := Ideal) s x w (ix2 a j) = s (ix2 a j) + part x w a j := by
  pointwise [k0_pay3, part]

/-- The normed block. -/
theorem pay4_at (s : Vec Ideal S320x4096 .f32) (g b : Vec Ideal S1x4096 .f32) (a : Fin 320) (j : Fin 4096) :
    k0_pay4 (F := Ideal) s g b (ix2 a j) = norm (fun k => s (ix2 a k)) (g (ix2 0 j)) (b (ix2 0 j)) j := by
  pointwise [k0_pay4, Cert.NormIdeal.Hand.norm, mean]

/-- The normed block, narrowed. -/
theorem pay5_at (s : Vec Ideal S320x4096 .f32) (g b : Vec Ideal S1x4096 .f32) (a : Fin 320) (j : Fin 4096) :
    k0_pay5 (F := Ideal) s g b (ix2 a j) = norm (fun k => s (ix2 a k)) (g (ix2 0 j)) (b (ix2 0 j)) j :=
  pay4_at s g b a j

/-- The block of scores. -/
theorem pay6_at (s : Vec Ideal S320x4096 .f32) (g b : Vec Ideal S1x4096 .f32) (w : Vec Ideal S4096x256 .bf16) (a : Fin 320) (e : Fin 256) :
    k0_pay6 (F := Ideal) s g b w (ix2 a e)
      = Ideal.logistic (∑ q : Fin 4096, norm (fun k => s (ix2 a k)) (g (ix2 0 q)) (b (ix2 0 q)) q * w (ix2 q e)) := by
  have h : k0_pay6 (F := Ideal) s g b w (ix2 a e) = Ideal.logistic (∑ q : Fin 4096, k0_pay5 (F := Ideal) s g b (ix2 a q) * w (ix2 q e)) := by
    unfold k0_pay6
    generalize k0_pay5 (F := Ideal) s g b = y
    pointwise
  rw [h]
  simp only [pay5_at]

/-- The two mixers' outputs, side by side. -/
def both (p q : FVec Ideal S8320x2048 .bf16) (i : Fin 8320) (f : Fin 4096) : EReal :=
  if h : f.val < 2048 then p (ix2 i ⟨f.val, h⟩) else q (ix2 i ⟨f.val - 2048, by omega⟩)

/-- The residual plus the projection, at an entry. -/
def pre (p q : FVec Ideal S8320x2048 .bf16) (w : FVec Ideal S4096x4096 .f32) (x : FVec Ideal S8320x4096 .f32) (i : Fin 8320) (j : Fin 4096) : EReal :=
  Ideal.ofBits .f32 0x3F9837F0#32 * x (ix2 i j) + ∑ f : Fin 4096, both p q i f * w (ix2 f j)

/-- The normed row, at an entry. -/
def row (p q : FVec Ideal S8320x2048 .bf16) (w : FVec Ideal S4096x4096 .f32) (x : FVec Ideal S8320x4096 .f32) (g b : FVec Ideal S4096 .f32)
    (i : Fin 8320) (j : Fin 4096) : EReal := norm (pre p q w x i) (g (ix1 j)) (b (ix1 j)) j

/-- The array of normed rows. -/
def H (p q : FVec Ideal S8320x2048 .bf16) (w : FVec Ideal S4096x4096 .f32) (x : FVec Ideal S8320x4096 .f32) (g b : FVec Ideal S4096 .f32) :
    FVec Ideal S8320x4096 .f32 := fun i => row p q w x g b (i 0) (i 1)

/-- The array of scores. -/
def sc (p q : FVec Ideal S8320x2048 .bf16) (w : FVec Ideal S4096x4096 .f32) (x : FVec Ideal S8320x4096 .f32) (g b : FVec Ideal S4096 .f32)
    (r : FVec Ideal S4096x256 .f32) : FVec Ideal S8320x256 .f32 :=
  fun i => Ideal.logistic (∑ k : Fin 4096, row p q w x g b (i 0) k * r (ix2 k (i 1)))

variable (m : (ℓ : Loc nD τ sig) → Buf (Elt Ideal) ℓ) (c : Dev nD)

/-- The projection's weights, as the region finds them. -/
theorem wo_in : V m c main_v0 = truncf (F := Ideal) .bf16 (m ((c : Thread nD τ).loc main_arg2) : FVec Ideal S4096x4096 .f32) bitsLt_bf16_f32 := by
  unfold V
  after_reads_simp

/-- The router's weights, as the region finds them. -/
theorem wr_in : V m c main_v3 = truncf (F := Ideal) .bf16 (m ((c : Thread nD τ).loc main_arg6) : FVec Ideal S4096x256 .f32) bitsLt_bf16_f32 := by
  unfold V
  after_reads_simp

/-- Where every window's block is. -/
theorem idx : ∀ t : Fin cfg0.N, win0_0.index t = ![t.val / 8, min (t.val % 8) 3] ∧ win0_1.index t = ![t.val / 8, t.val % 8 - 4] ∧ win0_2.index t = ![t.val % 8, 0]
    ∧ win0_3.index t = ![t.val / 8, 0] ∧ win0_4.index t = ![0, 0] ∧ win0_5.index t = ![0, 0] ∧ win0_6.index t = ![0, 0]
    ∧ win0_7.index t = ![t.val / 8, 0] ∧ win0_8.index t = ![t.val / 8, 0] ∧ win0_9.index t = ![t.val / 8, 0] := by decide +kernel

/-- What a point adds to the running sum. -/
def term (t : Fin cfg0.N) (a : Fin 320) (j : Fin 4096) : EReal :=
  (if t.val % 8 = 0 then Ideal.ofBits .f32 0x3F9837F0#32 * (iblk m c 3 t : FVec Ideal S320x4096 .f32) (ix2 a j) else 0)
    + (if t.val % 8 ≤ 3 then part (iblk m c 0 t) (iblk m c 2 t) a j else part (iblk m c 1 t) (iblk m c 2 t) a j)

/-- What the running sum holds after a point that writes back. -/
theorem sum_at (t : Fin cfg0.N) (h7 : t.val % 8 = 7) (y : S320x4096.Idx) :
    (outsAt0 m c t.val t.isLt).2.2.2 y = 0 + ∑ s : Fin 8, term m c ⟨8 * (t.val / 8) + s.val, by have := t.isLt; omega⟩ (y 0) (y 1) := by
  refine (Pipeline.eq_sum_fin_of_reset_step_apply_of_flush (fun n h => (outsAt0 m c n h).2.2.2) 8 (fun _ => 0)
    (fun t j => term m c t (j 0) (j 1)) (fun t h j => ?_) (fun t h j => ?_) t h7 y)
  · rw [outsAt0_A m c t h (by omega) (by omega) (by omega)]
    frame_out
    idx_vars j
    refine (pay2_at _ _ _ _ _).trans ?_
    rw [pay1_at, zero_add]
    unfold term
    rw [if_pos h, if_pos (by omega)]
  · unfold term
    rw [if_neg h, zero_add]
    by_cases h3 : t.val % 8 ≤ 3
    · rw [if_pos h3, outsAt0_B m c t h h3 (by omega) (by omega)]
      frame_out
      rw [read_unread_whole]
      idx_vars j
      exact pay2_at _ _ _ _ _
    · rw [if_neg h3]
      by_cases h6 : t.val % 8 = 7
      · rw [outsAt0_D m c t h h3 (by omega) h6]
        frame_out
        rw [read_unread_whole]
        idx_vars j
        exact pay3_at _ _ _ _ _
      · rw [outsAt0_C m c t h h3 (by omega) h6]
        frame_out
        rw [read_unread_whole]
        idx_vars j
        exact pay3_at _ _ _ _ _

/-- A point's block of the first mixer's rows. -/
theorem p_blk (t : Fin cfg0.N) (h : t.val % 8 ≤ 3) (a : Fin 320) (k : Fin 512) (i : Fin 8320) (f : Fin 2048) (hi : i.val = t.val / 8 * 320 + a.val) (hf : f.val = t.val % 8 * 512 + k.val) :
    iblk m c 0 t (ix2 a k) = m ((c : Thread nD τ).loc main_arg0) (ix2 i f) := by
  have hm : min (t.val % 8) 3 = t.val % 8 := by omega
  blk_ext [iblk, V, idx t, hm]

/-- A point's block of the second mixer's rows. -/
theorem q_blk (t : Fin cfg0.N) (h : ¬ t.val % 8 ≤ 3) (a : Fin 320) (k : Fin 512) (i : Fin 8320) (f : Fin 2048) (hi : i.val = t.val / 8 * 320 + a.val) (hf : f.val + 2048 = t.val % 8 * 512 + k.val) :
    iblk m c 1 t (ix2 a k) = m ((c : Thread nD τ).loc main_arg1) (ix2 i f) := by
  have hm : f.val = (t.val % 8 - 4) * 512 + k.val := by omega
  blk_ext [iblk, V, idx t]

/-- A point's block of the projection's weights. -/
theorem w_blk (t : Fin cfg0.N) (k : Fin 512) (j : Fin 4096) (f : Fin 4096) (hf : f.val = t.val % 8 * 512 + k.val) :
    iblk m c 2 t (ix2 k j) = m ((c : Thread nD τ).loc main_arg2) (ix2 f j) := by
  refine Eq.trans ?_ (congrFun (wo_in m c) (ix2 f j))
  blk_ext [iblk, idx t]

/-- A point's block of the residual. -/
theorem x_blk (t : Fin cfg0.N) (a : Fin 320) (j : Fin 4096) (i : Fin 8320) (hi : i.val = t.val / 8 * 320 + a.val) :
    iblk m c 3 t (ix2 a j) = m ((c : Thread nD τ).loc main_arg3) (ix2 i j) := by
  blk_ext [iblk, V, idx t]

/-- The running sum at the end is the residual plus the projection. -/
theorem pre_at (t : Fin cfg0.N) (h7 : t.val % 8 = 7) (a : Fin 320) (j : Fin 4096) (i : Fin 8320) (hi : i.val = t.val / 8 * 320 + a.val) :
    (outsAt0 m c t.val t.isLt).2.2.2 (ix2 a j) = pre (m ((c : Thread nD τ).loc main_arg0)) (m ((c : Thread nD τ).loc main_arg1)) (m ((c : Thread nD τ).loc main_arg2))
      (m ((c : Thread nD τ).loc main_arg3)) i j := by
  have ht := t.isLt
  rw [sum_at m c t h7, zero_add]
  unfold term pre
  rw [Finset.sum_add_distrib]
  refine congrArg₂ (fun u v : EReal => u + v) ?_ ?_
  · rw [Finset.sum_eq_single (0 : Fin 8)]
    · rw [if_pos (by simp)]
      refine congrArg _ (x_blk m c _ a j i ?_)
      simp only []
      omega
    · intro s _ hs
      have : s.val ≠ 0 := fun h => hs (Fin.ext h)
      rw [if_neg (by simp only []; omega)]
    · intro h
      exact absurd (Finset.mem_univ _) h
  · have e : ∀ s : Fin 8, (if (8 * (t.val / 8) + s.val) % 8 ≤ 3 then part (iblk m c 0 ⟨8 * (t.val / 8) + s.val, by omega⟩) (iblk m c 2 ⟨8 * (t.val / 8) + s.val, by omega⟩) a j
        else part (iblk m c 1 ⟨8 * (t.val / 8) + s.val, by omega⟩) (iblk m c 2 ⟨8 * (t.val / 8) + s.val, by omega⟩) a j)
        = ∑ k : Fin 512, both (m ((c : Thread nD τ).loc main_arg0)) (m ((c : Thread nD τ).loc main_arg1)) i ⟨s.val * 512 + k.val, by omega⟩
          * (m ((c : Thread nD τ).loc main_arg2) : FVec Ideal S4096x4096 .f32) (ix2 ⟨s.val * 512 + k.val, by omega⟩ j) := by
      intro s
      have hs : (8 * (t.val / 8) + s.val) % 8 = s.val := by omega
      have hd : (8 * (t.val / 8) + s.val) / 8 = t.val / 8 := by omega
      split_ifs with h
      · refine Finset.sum_congr rfl fun k _ => congrArg₂ (fun u v : EReal => u * v) ?_ (w_blk m c _ k j _ (by simp only [hs]))
        unfold both
        rw [dif_pos (show s.val * 512 + k.val < 2048 by omega)]
        exact p_blk m c _ h a k i _ (by simp only [hd]; exact hi) (by simp only [hs])
      · refine Finset.sum_congr rfl fun k _ => congrArg₂ (fun u v : EReal => u * v) ?_ (w_blk m c _ k j _ (by simp only [hs]))
        unfold both
        rw [dif_neg (show ¬ s.val * 512 + k.val < 2048 by omega)]
        exact q_blk m c _ h a k i _ (by simp only [hd]; exact hi) (by simp only [hs]; omega)
    refine (Finset.sum_congr rfl fun s _ => e s).trans ?_
    exact Fin.sum_mul_add_congr fun s k hl => rfl

/-- A block of normed rows. -/
theorem row_blk (t : Fin cfg0.N) (h7 : t.val % 8 = 7) (a : Fin 320) (j : Fin 4096) (i : Fin 8320) (hi : i.val = t.val / 8 * 320 + a.val) :
    norm (fun k => (outsAt0 m c t.val t.isLt).2.2.2 (ix2 a k)) ((iblk m c 4 t : FVec Ideal S1x4096 .f32) (ix2 0 j)) ((iblk m c 5 t : FVec Ideal S1x4096 .f32) (ix2 0 j)) j
      = row (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) i j := by
  have e : (fun k => (outsAt0 m c t.val t.isLt).2.2.2 (ix2 a k)) = pre (m ((c : Thread nD τ).loc main_arg0)) (m ((c : Thread nD τ).loc main_arg1)) (m ((c : Thread nD τ).loc main_arg2))
      (m ((c : Thread nD τ).loc main_arg3)) i := funext fun k => pre_at m c t h7 a k i hi
  rw [e]
  unfold row
  have hg : (iblk m c 4 t : FVec Ideal S1x4096 .f32) (ix2 0 j) = (m ((c : Thread nD τ).loc main_arg4) : FVec Ideal S4096 .f32) (ix1 j) := by
    blk_point [iblk, V, idx t]
  have hb : (iblk m c 5 t : FVec Ideal S1x4096 .f32) (ix2 0 j) = (m ((c : Thread nD τ).loc main_arg5) : FVec Ideal S4096 .f32) (ix1 j) := by
    blk_point [iblk, V, idx t]
  rw [hg, hb]

/-- The running sum at the end, as the last point leaves it. -/
theorem last (t : Fin cfg0.N) (h7 : t.val % 8 = 7) :
    (outsAt0 m c t.val t.isLt).2.2.2 = k0_pay3 (F := Ideal) (outsAt0 m c (t.val - 1) (Nat.lt_of_le_of_lt (Nat.sub_le _ _) t.isLt)).2.2.2 (iblk m c 1 t) (iblk m c 2 t) := by
  rw [outsAt0_D m c t (by omega) (by omega) (by omega) h7]
  funext y
  frame_out
  rw [read_unread_whole]

/-- The normed rows the call leaves. -/
theorem left7 : (dats m 0 c).arrAt 7 cfg0.N = H (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 7 _ (by decide +kernel) fun t hf y => ?_
  have h7 := (flush0_7 t).mp hf
  blk_simp
  rw [after0_7, outsAt0_D m c t (by omega) (by omega) (by omega) h7]
  frame_out
  rw [read_unread_whole]
  rw [← last m c t h7]
  idx_vars y
  dsimp only [H]
  refine (pay4_at _ _ _ _ _).trans ((row_blk m c t h7 _ _ _ ?_).trans (congrArg (row _ _ _ _ _ _ _) ?_))
  · blk_simp [idx t]
  · apply Fin.ext
    blk_simp [idx t]

/-- The normed rows the call leaves, narrowed. -/
theorem left8 : (dats m 0 c).arrAt 8 cfg0.N = H (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 8 _ (by decide +kernel) fun t hf y => ?_
  have h7 := (flush0_8 t).mp hf
  blk_simp
  rw [after0_8, outsAt0_D m c t (by omega) (by omega) (by omega) h7]
  frame_out
  rw [read_unread_whole]
  rw [← last m c t h7]
  idx_vars y
  dsimp only [H]
  refine (pay5_at _ _ _ _ _).trans ((row_blk m c t h7 _ _ _ ?_).trans (congrArg (row _ _ _ _ _ _ _) ?_))
  · blk_simp [idx t]
  · apply Fin.ext
    blk_simp [idx t]

/-- The scores the call leaves. -/
theorem left9 : (dats m 0 c).arrAt 9 cfg0.N = sc (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have h7 := (flush0_9 t).mp hf
  blk_simp
  rw [after0_9, outsAt0_D m c t (by omega) (by omega) (by omega) h7]
  frame_out
  rw [read_unread_whole]
  rw [← last m c t h7]
  idx_vars y
  refine (pay6_at _ _ _ _ _ _).trans ?_
  dsimp only [sc]
  refine congrArg Ideal.logistic (Finset.sum_congr rfl fun q _ => congrArg₂ (fun u v : EReal => u * v) (row_blk m c t h7 _ _ _ ?_) ?_)
  · blk_simp [idx t]
  · refine Eq.trans ?_ (congrFun (wr_in m c) _)
    blk_point [iblk, idx t]

end Cert.ProjIdeal.Hand

end
-- ==== Proof.Val.ProjRef.lean ====
/-
  The output projection's reference, entry by entry.
-/
module

public import proofs.«01_k».proof.Proof.Val.Proj
public import proofs.«01_k».proof.Proof.Gen.ProjRefIdeal.Run

@[expose] public section

set_option maxRecDepth 16384

noncomputable section

namespace Cert.ProjRefIdeal.Hand

open Cert.ProjRefIdeal Cert.ProjRefIdeal.Gen
open Idealize.ShloMosaic Idealize.ShloMosaic.TcCoe Idealize.ShloMosaic.Tactic
open scoped BigOperators
open Cert.NormIdeal.Hand (mean)
open Cert.ProjIdeal.Hand (both pre row H sc)

section
variable {F : FTy → Type} [FloatOps F]

/-- The two mixers' outputs, joined. -/
def bothF (p q : FVec F S8320x2048 .bf16) : FVec F S8320x4096 .bf16 :=
  concatenate S8320x4096 1 [⟨S8320x2048, p⟩, ⟨S8320x2048, q⟩] concatenates_S8320x2048_S8320x2048_S8320x4096_d1

/-- The residual plus the projection of joined rows. -/
def preF (y : FVec F S8320x4096 .bf16) (w : FVec F S4096x4096 .f32) (x : FVec F S8320x4096 .f32) : FVec F S8320x4096 .f32 :=
  addf (mulf (broadcastInDim S8320x4096 ![] bcast_S_S8320x4096 (constant S_ .f32 0x3F9837F0#32)) x)
    (Host.dotGeneral dot_S8320x4096_S4096x4096_S8320x4096_1_0_0_1_n_n none (extf .f32 y bitsLt_bf16_f32) w)

/-- The mean of every row, as a column. -/
def meanF (x : FVec F S8320x4096 .f32) : FVec F S8320x1 .f32 :=
  Host.divf (broadcastInDim S8320x1 ![0] bcast_S8320_S8320x1_0 (Host.reduceAdd x (constant S_ .f32 0x00000000#32) reducesTo_S8320x4096_S8320_d1 h_S_))
    (broadcastInDim S8320x1 ![] bcast_S_S8320x1 (constant S_ .f32 0x45800000#32))

/-- The rows less a column. -/
def lessF (x : FVec F S8320x4096 .f32) (u : FVec F S8320x1 .f32) : FVec F S8320x4096 .f32 :=
  subf x (broadcastInDim S8320x4096 ![0, 1] bcast_S8320x1_S8320x4096_0_1 u)

/-- The layer norm of every row. -/
def normF (x : FVec F S8320x4096 .f32) (g b : FVec F S4096 .f32) : FVec F S8320x4096 .f32 :=
  addf (mulf (mulf (lessF x (meanF x)) (broadcastInDim S8320x4096 ![0, 1] bcast_S8320x1_S8320x4096_0_1
      (Host.rsqrt (addf (meanF (mulf (lessF x (meanF x)) (lessF x (meanF x)))) (broadcastInDim S8320x1 ![] bcast_S_S8320x1 (constant S_ .f32 0x3727C5AC#32))))))
    (broadcastInDim S8320x4096 ![0, 1] bcast_S1x4096_S8320x4096_0_1 (broadcastInDim S1x4096 ![1] bcast_S4096_S1x4096_1 g)))
    (broadcastInDim S8320x4096 ![0, 1] bcast_S1x4096_S8320x4096_0_1 (broadcastInDim S1x4096 ![1] bcast_S4096_S1x4096_1 b))

/-- The router's scores of every row. -/
def scF (h : FVec F S8320x4096 .f32) (r : FVec F S4096x256 .f32) : FVec F S8320x256 .f32 :=
  Host.divf (broadcastInDim S8320x256 ![] bcast_S_S8320x256 (constant S_ .f32 0x3F800000#32))
    (addf (broadcastInDim S8320x256 ![] bcast_S_S8320x256 (constant S_ .f32 0x3F800000#32))
      (Host.exp (Host.negf (Host.dotGeneral dot_S8320x4096_S4096x256_S8320x256_1_0_0_1_n_n none h r))))
end

/-- A joined entry. -/
theorem bothF_at (p q : FVec Ideal S8320x2048 .bf16) (i : Fin 8320) (f : Fin 4096) : bothF (F := Ideal) p q (ix2 i f) = both p q i f := by
  pointwise [bothF, both]

/-- An entry before the norm. -/
theorem preF_at (p q : FVec Ideal S8320x2048 .bf16) (w : FVec Ideal S4096x4096 .f32) (x : FVec Ideal S8320x4096 .f32) (i : Fin 8320) (j : Fin 4096) :
    preF (F := Ideal) (bothF p q) w x (ix2 i j) = pre p q w x i j := by
  have h : preF (F := Ideal) (bothF p q) w x (ix2 i j) = Ideal.ofBits .f32 0x3F9837F0#32 * x (ix2 i j) + ∑ f : Fin 4096, bothF (F := Ideal) p q (ix2 i f) * w (ix2 f j) := by
    unfold preF
    generalize bothF (F := Ideal) p q = y
    pointwise
  rw [h]
  simp only [bothF_at]
  rfl

/-- A normed entry. -/
theorem normF_at (x : FVec Ideal S8320x4096 .f32) (g b : FVec Ideal S4096 .f32) (i : Fin 8320) (j : Fin 4096) :
    normF (F := Ideal) x g b (ix2 i j) = Cert.NormIdeal.Hand.norm (fun k => x (ix2 i k)) (g (ix1 j)) (b (ix1 j)) j := by
  pointwise [normF, lessF, meanF, Cert.NormIdeal.Hand.norm, mean]

/-- The reference's normed rows. -/
theorem rows_eq (p q : FVec Ideal S8320x2048 .bf16) (w : FVec Ideal S4096x4096 .f32) (x : FVec Ideal S8320x4096 .f32) (g b : FVec Ideal S4096 .f32) :
    normF (F := Ideal) (preF (bothF p q) w x) g b = H p q w x g b := by
  funext j
  idx_vars j
  rw [normF_at]
  simp only [preF_at]
  rfl

/-- The reference's scores. -/
theorem sc_eq (p q : FVec Ideal S8320x2048 .bf16) (w : FVec Ideal S4096x4096 .f32) (x : FVec Ideal S8320x4096 .f32) (g b : FVec Ideal S4096 .f32)
    (r : FVec Ideal S4096x256 .f32) : scF (F := Ideal) (normF (preF (bothF p q) w x) g b) r = sc p q w x g b r := by
  rw [rows_eq]
  funext j
  idx_vars j
  unfold sc
  have h : scF (F := Ideal) (H p q w x g b) r (ix2 j0 j1) = Ideal.logistic (∑ k : Fin 4096, H p q w x g b (ix2 j0 k) * r (ix2 k j1)) := by
    generalize H p q w x g b = y
    pointwise [scF]
    rfl
  rw [h]
  rfl

end Cert.ProjRefIdeal.Hand

end
-- ==== Proof.Blk.lean ====
/-
  The kernel's body as a chain of small blocks. Each block is written with what follows it as an argument, so that a
  statement about a block says what it needs, what it leaves, and nothing about the rest of the body.
-/
module

public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- A program of the tensor core that returns nothing. -/
abbrev PK (F : FTy → Type) : Type 1 := Prog (TpuEff nD τ sig (Elt F) Λ₀ .tc) PUnit

/-- A program of the tensor core. -/
abbrev PA (F : FTy → Type) (α : Type) : Type 1 := Prog (TpuEff nD τ sig (Elt F) Λ₀ .tc) α

variable {α β : Type}

/-- Rows of the result in HBM, 128 by 1024, at offset `o`. -/
abbrev yWin (a11 : Memref sig .tc .hbm S99584x4096 .f32) (o : Fin 2 → ℕ) (h : ∀ a, o a + S128x1024.size a ≤ S99584x4096.size a) :
    Memref sig .tc .hbm S128x1024 .f32 := a11.slice (Rect.unit (s := S99584x4096) o S128x1024.size h) (fun _ => rfl)

/-- A 128 by 1024 tile of the two-slot staging buffer at offset `o`. -/
abbrev bWin (a16 : Memref sig .tc .vmem S2x512x1024 .f32) (o : Fin 3 → ℕ) (h : ∀ a, o a + S1x128x1024.size a ≤ S2x512x1024.size a) :
    Memref sig .tc .vmem S128x1024 .f32 :=
  (a16.slice (Rect.unit (s := S2x512x1024) o S1x128x1024.size h) (fun _ => rfl)).squeeze S128x1024 squeezes_S1x128x1024_S128x1024

/-- The semaphore cell at offset `o` of the pair. -/
abbrev semAt (a17 : DmaSems sig S2) (o : Fin 1 → ℕ) (h : ∀ a, o a + S1.size a ≤ S2.size a) : DmaSem sig :=
  ((a17.slice (Rect.unit (s := S2) o S1.size h)).squeeze S_ squeezes_S1_S_).sem

/-- One conditional wait for a tile's copy. -/
def waitBlk (cnd : BitVec 1) (a11 : Memref sig .tc .hbm S99584x4096 .f32) (a16 : Memref sig .tc .vmem S2x512x1024 .f32) (a17 : DmaSems sig S2)
    (so : Fin 1 → ℕ) (hso : ∀ a, so a + S1.size a ≤ S2.size a)
    (yo : Fin 2 → ℕ) (hyo : cnd = 1#1 → ∀ a, yo a + S128x1024.size a ≤ S99584x4096.size a)
    (bo : Fin 3 → ℕ) (hbo : ∀ a, bo a + S1x128x1024.size a ≤ S2x512x1024.size a) (k : PA F α) : PA F α :=
  if h : cnd = 1#1 then
    .op (.waitDma2 (semAt a17 so hso) (bWin a16 bo hbo) (yWin a11 yo (hyo h)) ((View.wordExact_bits rfl).reshape _ _) (View.wordExact_bits rfl)) fun _ => k
  else k

/-- One conditional gate-and-up block: 128 rows of the accumulator get a chunk's products added. -/
def guBlk (cnd : BitVec 1) (a6 : Memref sig .tc .vmem S512x1024 .bf16) (a12 : Memref sig .tc .vmem S512x2304 .f32) (a13 : Memref sig .tc .vmem S1024x2304 .bf16)
    (o : Fin 2 → ℕ) (ho : ∀ a, o a + S128x2304.size a ≤ S512x2304.size a) (hx : ∀ a, o a + S128x1024.size a ≤ S512x1024.size a)
    (pay : Vec F S128x2304 .f32 → Vec F S128x1024 .bf16 → Vec F S1024x2304 .bf16 → FVec F S128x2304 .f32) (k : PA F α) : PA F α :=
  if cnd = 1#1 then
    .op (.load a12 (Rect.unit (s := S512x2304) o S128x2304.size ho).toLoadRect (View.loadsAt_vmem h_S128x2304)) fun v40 =>
    .op (.load a6 (Rect.unit (s := S512x1024) o S128x1024.size hx).toLoadRect (View.loadsAt_vmem h_S128x1024)) fun v41 =>
    .op (.load a13 (Rect.unit (s := S1024x2304) ![0, 0] S1024x2304.size inb_S1024x2304_S1024x2304_0_0).toLoadRect (View.loadsAt_vmem h_S1024x2304)) fun v43 =>
    .op (.load a12 (Rect.unit (s := S512x2304) o S128x2304.size ho).toLoadRect (View.loadsAt_vmem h_S128x2304)) fun _ =>
    .op (.store a12 (Rect.unit (s := S512x2304) o S128x2304.size ho) (pay v40 v41 v43) Finset.univ (View.stores_vmem_bits_univ h_S128x2304 rfl) (.inl rfl)) fun _ => k
  else k

/-- One conditional activation block: 128 rows of the activations from the finished accumulator. -/
def actBlk (cnd : BitVec 1) (a12 : Memref sig .tc .vmem S512x2304 .f32) (a15 : Memref sig .tc .vmem S512x1152 .bf16)
    (o o' : Fin 2 → ℕ) (ho : ∀ a, o a + S128x1152.size a ≤ S512x2304.size a) (ho' : ∀ a, o' a + S128x1152.size a ≤ S512x2304.size a)
    (hh : ∀ a, o a + S128x1152.size a ≤ S512x1152.size a)
    (hst : (a15.access (Rect.unit (s := S512x1152) o S128x1152.size hh)).Stores Finset.univ)
    (pay : Vec F S128x1152 .f32 → Vec F S128x1152 .f32 → FVec F S128x1152 .bf16) (k : PA F α) : PA F α :=
  if cnd = 1#1 then
    .op (.load a12 (Rect.unit (s := S512x2304) o S128x1152.size ho).toLoadRect (View.loadsAt_vmem h_S128x1152)) fun v70 =>
    .op (.load a12 (Rect.unit (s := S512x2304) o' S128x1152.size ho').toLoadRect (View.loadsAt_vmem h_S128x1152)) fun v73 =>
    .op (.load a15 (Rect.unit (s := S512x1152) o S128x1152.size hh).toLoadRect (View.loadsAt_vmem h_S128x1152)) fun _ =>
    .op (.store a15 (Rect.unit (s := S512x1152) o S128x1152.size hh) (pay v70 v73) Finset.univ hst (.inl rfl)) fun _ => k
  else k

/-- One conditional down block: a tile of the result is computed into the staging buffer and its copy is started. -/
def downBlk (cnd : BitVec 1) (a7 : Memref sig .tc .vmem S512x128 .f32) (a11 : Memref sig .tc .hbm S99584x4096 .f32) (a14 : Memref sig .tc .vmem S1152x1024 .bf16)
    (a15 : Memref sig .tc .vmem S512x1152 .bf16) (a16 : Memref sig .tc .vmem S2x512x1024 .f32) (a17 : DmaSems sig S2)
    (o : Fin 2 → ℕ) (hg : ∀ a, o a + S128x128.size a ≤ S512x128.size a) (hh : ∀ a, o a + S128x1152.size a ≤ S512x1152.size a)
    (bo : Fin 3 → ℕ) (hbo : ∀ a, bo a + S1x128x1024.size a ≤ S2x512x1024.size a)
    (so : Fin 1 → ℕ) (hso : ∀ a, so a + S1.size a ≤ S2.size a)
    (yo : Fin 2 → ℕ) (hyo : cnd = 1#1 → ∀ a, yo a + S128x1024.size a ≤ S99584x4096.size a)
    (bo' : Fin 3 → ℕ) (hbo' : ∀ a, bo' a + S1x128x1024.size a ≤ S2x512x1024.size a)
    (pay : Vec F S128x128 .f32 → Vec F S128x1152 .bf16 → Vec F S1152x1024 .bf16 → FVec F S1x128x1024 .f32) (k : PA F α) : PA F α :=
  if h : cnd = 1#1 then
    .op (.load a7 (Rect.unit (s := S512x128) o S128x128.size hg).toLoadRect (View.loadsAt_vmem h_S128x128)) fun v58 =>
    .op (.load a15 (Rect.unit (s := S512x1152) o S128x1152.size hh).toLoadRect (View.loadsAt_vmem h_S128x1152)) fun v61 =>
    .op (.load a14 (Rect.unit (s := S1152x1024) ![0, 0] S1152x1024.size inb_S1152x1024_S1152x1024_0_0).toLoadRect (View.loadsAt_vmem h_S1152x1024)) fun v62 =>
    .op (.load a16 (Rect.unit (s := S2x512x1024) bo S1x128x1024.size hbo).toLoadRect (View.loadsAt_vmem h_S1x128x1024)) fun _ =>
    .op (.store a16 (Rect.unit (s := S2x512x1024) bo S1x128x1024.size hbo) (pay v58 v61 v62) Finset.univ (View.stores_vmem_bits_univ h_S1x128x1024 rfl) (.inl rfl)) fun _ =>
    .op (.enqueueDma (bWin a16 bo' hbo') (.here (yWin a11 yo (hyo h))) (.dma (semAt a17 so hso)) ((View.wordExact_bits rfl).reshape _ _) (View.wordExact_bits rfl) ⟨Or.inl rfl, trivial⟩) fun _ => k
  else k

/-- The cast of the two projections' chunk into the shared weight buffer. -/
def wguBlk (a8 a9 : Memref sig .tc .vmem S1x1x1024x1152 .f32) (a13 : Memref sig .tc .vmem S1024x2304 .bf16) (h13 : a13.IsWhole) (k : PA F α) : PA F α :=
  .op (.load a8 (Rect.unit (s := S1x1x1024x1152) ![0, 0, 0, 0] S1x1x1024x1152.size inb_S1x1x1024x1152_S1x1x1024x1152_0_0_0_0).toLoadRect (View.loadsAt_vmem h_S1x1x1024x1152)) fun v13 =>
  .op (.load a13 (Rect.unit (s := S1024x2304) ![0, 0] S1024x1152.size inb_S1024x2304_S1024x1152_0_0).toLoadRect (View.loadsAt_vmem h_S1024x1152)) fun _ =>
  .op (.store a13 (Rect.unit (s := S1024x2304) ![0, 0] S1024x1152.size inb_S1024x2304_S1024x1152_0_0) (k0_pay1 v13) Finset.univ (View.stores_vmem h_S1024x1152 (h13.storeExact_slice rfl _ packedbf16_S1024x2304_S1024x1152_0_0) (fun _ => rfl)) (.inl rfl)) fun _ =>
  .op (.load a9 (Rect.unit (s := S1x1x1024x1152) ![0, 0, 0, 0] S1x1x1024x1152.size inb_S1x1x1024x1152_S1x1x1024x1152_0_0_0_0).toLoadRect (View.loadsAt_vmem h_S1x1x1024x1152)) fun v19 =>
  .op (.load a13 (Rect.unit (s := S1024x2304) ![0, 1152] S1024x1152.size inb_S1024x2304_S1024x1152_0_1152).toLoadRect (View.loadsAt_vmem h_S1024x1152)) fun _ =>
  .op (.store a13 (Rect.unit (s := S1024x2304) ![0, 1152] S1024x1152.size inb_S1024x2304_S1024x1152_0_1152) (k0_pay2 v19) Finset.univ (View.stores_vmem h_S1024x1152 (h13.storeExact_slice rfl _ packedbf16_S1024x2304_S1024x1152_0_1152) (fun _ => rfl)) (.inl rfl)) fun _ => k

/-- The conditional reset of the accumulator. -/
def zeroBlk (cnd : BitVec 1) (a12 : Memref sig .tc .vmem S512x2304 .f32) (k : PA F α) : PA F α :=
  if cnd = 1#1 then
    .op (.load a12 (Rect.unit (s := S512x2304) ![0, 0] S512x2304.size inb_S512x2304_S512x2304_0_0).toLoadRect (View.loadsAt_vmem h_S512x2304)) fun _ =>
    .op (.store a12 (Rect.unit (s := S512x2304) ![0, 0] S512x2304.size inb_S512x2304_S512x2304_0_0) (k0_pay3 (F := F)) Finset.univ (View.stores_vmem_bits_univ h_S512x2304 rfl) (.inl rfl)) fun _ => k
  else k

/-- The cast of the down projection's chunk. -/
def wdBlk (a10 : Memref sig .tc .vmem S1x1x1152x1024 .f32) (a14 : Memref sig .tc .vmem S1152x1024 .bf16) (h14 : a14.IsWhole) (k : PA F α) : PA F α :=
  .op (.load a10 (Rect.unit (s := S1x1x1152x1024) ![0, 0, 0, 0] S1x1x1152x1024.size inb_S1x1x1152x1024_S1x1x1152x1024_0_0_0_0).toLoadRect (View.loadsAt_vmem h_S1x1x1152x1024)) fun v32 =>
  .op (.load a14 (Rect.unit (s := S1152x1024) ![0, 0] S1152x1024.size inb_S1152x1024_S1152x1024_0_0).toLoadRect (View.loadsAt_vmem h_S1152x1024)) fun _ =>
  .op (.store a14 (Rect.unit (s := S1152x1024) ![0, 0] S1152x1024.size inb_S1152x1024_S1152x1024_0_0) (k0_pay14 v32) Finset.univ (View.stores_vmem h_S1152x1024 (h14.storeExact_slice rfl _ packedbf16_S1152x1024_S1152x1024_0_0) (fun _ => rfl)) (.inl rfl)) fun _ => k

/-- The condition `v > n` as the printed body states it. -/
abbrev gtc (v n : BitVec 32) : BitVec 1 := Scalar.cmpi .ne (Scalar.extui (Scalar.cmpi .sgt v n)) 0#32

variable (i : grid0.Coords)
  (arg4 : Memref sig .tc .smem S386 .i32) (arg5 : Memref sig .tc .smem S386 .i32) (arg6 : Memref sig .tc .vmem S512x1024 .bf16)
  (arg7 : Memref sig .tc .vmem S512x128 .f32) (arg8 arg9 : Memref sig .tc .vmem S1x1x1024x1152 .f32) (arg10 : Memref sig .tc .vmem S1x1x1152x1024 .f32)
  (arg11 : Memref sig .tc .hbm S99584x4096 .f32) (arg12 : Memref sig .tc .vmem S512x2304 .f32) (arg13 : Memref sig .tc .vmem S1024x2304 .bf16) (harg13 : arg13.IsWhole)
  (arg14 : Memref sig .tc .vmem S1152x1024 .bf16) (harg14 : arg14.IsWhole) (arg15 : Memref sig .tc .vmem S512x1152 .bf16) (harg15 : arg15.IsWhole)
  (arg16 : Memref sig .tc .vmem S2x512x1024 .f32) (arg17 : DmaSems sig S2)

/-- The waits for the last group of the item before. -/
def prevS (k : PA F α) : PA F α :=
  if h1 : k0_cond1 i = 1#1 then
    smemLoadElt arg4 (Rect.unit (s := S386) (k0_off2 i) S1.size (k0_off2_inb i h1)) (View.loads_smem_one rfl numel1_S1) (Shape.Idx.first (numel1_S1.symm ▸ Nat.one_pos)) fun v16 =>
    smemLoadElt arg5 (Rect.unit (s := S386) (k0_off2 i) S1.size (k0_off2_inb i h1)) (View.loads_smem_one rfl numel1_S1) (Shape.Idx.first (numel1_S1.symm ▸ Nat.one_pos)) fun v19 =>
    .op (.assume (k0_chk1 i v16 v19) (k0_chk1.dec i v16 v19)) fun w =>
    waitBlk (k0_cond2 v19) arg11 arg16 arg17 ![1] inb_S2_S1_1 (k0_off3 v16) (fun h => k0_off3_inb i v16 v19 w.down h1 h) ![1, 0, 0] inb_S2x512x1024_S1x128x1024_1_0_0 <|
    waitBlk (k0_cond3 v19) arg11 arg16 arg17 ![1] inb_S2_S1_1 (k0_off4 v16) (fun h => k0_off4_inb i v16 v19 w.down h1 h) ![1, 128, 0] inb_S2x512x1024_S1x128x1024_1_128_0 <|
    waitBlk (k0_cond4 v19) arg11 arg16 arg17 ![1] inb_S2_S1_1 (k0_off5 v16) (fun h => k0_off5_inb i v16 v19 w.down h1 h) ![1, 256, 0] inb_S2x512x1024_S1x128x1024_1_256_0 <|
    waitBlk (k0_cond5 v19) arg11 arg16 arg17 ![1] inb_S2_S1_1 (k0_off6 v16) (fun h => k0_off6_inb i v16 v19 w.down h1 h) ![1, 384, 0] inb_S2x512x1024_S1x128x1024_1_384_0 k
  else k

/-- The gate-and-up half. -/
def guS (v1 : BitVec 32) (k : PA F α) : PA F α :=
  if Scalar.cmpi .ne (Scalar.extui (Scalar.cmpi .slt (BitVec.ofNat 32 (i 1).val) 4#32) : BitVec 32) 0#32 = 1#1 then
    wguBlk arg8 arg9 arg13 harg13 <|
    zeroBlk (Scalar.cmpi .ne (Scalar.extui (Scalar.cmpi .eq (BitVec.ofNat 32 (i 1).val) 0#32) : BitVec 32) 0#32) arg12 <|
    guBlk (gtc v1 0#32) arg6 arg12 arg13 ![0, 0] inb_S512x2304_S128x2304_0_0 inb_S512x1024_S128x1024_0_0 k0_pay4 <|
    guBlk (gtc v1 1#32) arg6 arg12 arg13 ![128, 0] inb_S512x2304_S128x2304_128_0 inb_S512x1024_S128x1024_128_0 k0_pay5 <|
    guBlk (gtc v1 2#32) arg6 arg12 arg13 ![256, 0] inb_S512x2304_S128x2304_256_0 inb_S512x1024_S128x1024_256_0 k0_pay6 <|
    guBlk (gtc v1 3#32) arg6 arg12 arg13 ![384, 0] inb_S512x2304_S128x2304_384_0 inb_S512x1024_S128x1024_384_0 k0_pay7 k
  else k

/-- The activations. -/
def actS (v1 : BitVec 32) (k : PA F α) : PA F α :=
  if Scalar.cmpi .ne (Scalar.extui (Scalar.cmpi .eq (Scalar.subi (BitVec.ofNat 32 (i 1).val) 4#32) 0#32) : BitVec 32) 0#32 = 1#1 then
    actBlk (gtc v1 0#32) arg12 arg15 ![0, 0] ![0, 1152] inb_S512x2304_S128x1152_0_0 inb_S512x2304_S128x1152_0_1152 inb_S512x1152_S128x1152_0_0 (View.stores_vmem h_S128x1152 (harg15.storeExact_slice rfl _ packedbf16_S512x1152_S128x1152_0_0) (fun _ => rfl)) k0_pay10 <|
    actBlk (gtc v1 1#32) arg12 arg15 ![128, 0] ![128, 1152] inb_S512x2304_S128x1152_128_0 inb_S512x2304_S128x1152_128_1152 inb_S512x1152_S128x1152_128_0 (View.stores_vmem h_S128x1152 (harg15.storeExact_slice rfl _ packedbf16_S512x1152_S128x1152_128_0) (fun _ => rfl)) k0_pay11 <|
    actBlk (gtc v1 2#32) arg12 arg15 ![256, 0] ![256, 1152] inb_S512x2304_S128x1152_256_0 inb_S512x2304_S128x1152_256_1152 inb_S512x1152_S128x1152_256_0 (View.stores_vmem h_S128x1152 (harg15.storeExact_slice rfl _ packedbf16_S512x1152_S128x1152_256_0) (fun _ => rfl)) k0_pay12 <|
    actBlk (gtc v1 3#32) arg12 arg15 ![384, 0] ![384, 1152] inb_S512x2304_S128x1152_384_0 inb_S512x2304_S128x1152_384_1152 inb_S512x1152_S128x1152_384_0 (View.stores_vmem h_S128x1152 (harg15.storeExact_slice rfl _ packedbf16_S512x1152_S128x1152_384_0) (fun _ => rfl)) k0_pay13 k
  else k

/-- What the first part of the down half hands on. -/
abbrev Mid (v1 : BitVec 32) : Type := Σ' (_ : BitVec 32) (_ : BitVec 32) (v25 : BitVec 32) (_ : k0_chk2 i v1 v25) (_ : BitVec 32), BitVec 32

/-- The down half's first part: the item's first row, activations, weights and two of the four tiles. -/
def dnA (v1 : BitVec 32) (h12 : k0_cond12 i = 1#1) (k : (v25 : BitVec 32) → k0_chk2 i v1 v25 → PA F α) : PA F α :=
  smemLoadElt arg4 (Rect.unit (s := S386) (k0_off7 i) S1.size (k0_off7_inb i h12)) (View.loads_smem_one rfl numel1_S1) (Shape.Idx.first (numel1_S1.symm ▸ Nat.one_pos)) fun v25 =>
  .op (.assume (k0_chk2 i v1 v25) (k0_chk2.dec i v1 v25)) fun w =>
  actS i arg12 arg15 harg15 v1 <|
  wdBlk arg10 arg14 harg14 <|
  downBlk (k0_cond18 v1) arg7 arg11 arg14 arg15 arg16 arg17 ![0, 0] inb_S512x128_S128x128_0_0 inb_S512x1152_S128x1152_0_0 (k0_off8 i) (k0_off8_inb i h12) (k0_off9 i) (k0_off9_inb i h12) (k0_off10 i v25) (fun h => k0_off10_inb i v1 v25 w.down h12 h) (k0_off11 i) (k0_off11_inb i h12) k0_pay15 <|
  downBlk (k0_cond19 v1) arg7 arg11 arg14 arg15 arg16 arg17 ![128, 0] inb_S512x128_S128x128_128_0 inb_S512x1152_S128x1152_128_0 (k0_off12 i) (k0_off12_inb i h12) (k0_off13 i) (k0_off13_inb i h12) (k0_off14 i v25) (fun h => k0_off14_inb i v1 v25 w.down h12 h) (k0_off15 i) (k0_off15_inb i h12) k0_pay16 <| k v25 w.down

/-- The down half's second part: the other two tiles, then the waits for the column before and, at the end, for this one. -/
def dnB (v1 : BitVec 32) (h12 : k0_cond12 i = 1#1) (v25 : BitVec 32) (w : k0_chk2 i v1 v25) : PK F :=
  downBlk (k0_cond20 v1) arg7 arg11 arg14 arg15 arg16 arg17 ![256, 0] inb_S512x128_S128x128_256_0 inb_S512x1152_S128x1152_256_0 (k0_off16 i) (k0_off16_inb i h12) (k0_off17 i) (k0_off17_inb i h12) (k0_off18 i v25) (fun h => k0_off18_inb i v1 v25 w h12 h) (k0_off19 i) (k0_off19_inb i h12) k0_pay8 <|
  downBlk (k0_cond21 v1) arg7 arg11 arg14 arg15 arg16 arg17 ![384, 0] inb_S512x128_S128x128_384_0 inb_S512x1152_S128x1152_384_0 (k0_off20 i) (k0_off20_inb i h12) (k0_off21 i) (k0_off21_inb i h12) (k0_off22 i v25) (fun h => k0_off22_inb i v1 v25 w h12 h) (k0_off23 i) (k0_off23_inb i h12) k0_pay9 <|
  (fun k : PK F => if h22 : k0_cond22 i = 1#1 then
    waitBlk (k0_cond23 v1) arg11 arg16 arg17 (k0_off24 i) (k0_off24_inb i h12 h22) (k0_off25 i v25) (fun h => k0_off25_inb i v1 v25 w h12 h22 h) (k0_off26 i) (k0_off26_inb i h12 h22) <|
    waitBlk (k0_cond24 v1) arg11 arg16 arg17 (k0_off27 i) (k0_off27_inb i h12 h22) (k0_off28 i v25) (fun h => k0_off28_inb i v1 v25 w h12 h22 h) (k0_off29 i) (k0_off29_inb i h12 h22) <|
    waitBlk (k0_cond25 v1) arg11 arg16 arg17 (k0_off30 i) (k0_off30_inb i h12 h22) (k0_off31 i v25) (fun h => k0_off31_inb i v1 v25 w h12 h22 h) (k0_off32 i) (k0_off32_inb i h12 h22) <|
    waitBlk (k0_cond26 v1) arg11 arg16 arg17 (k0_off33 i) (k0_off33_inb i h12 h22) (k0_off34 i v25) (fun h => k0_off34_inb i v1 v25 w h12 h22 h) (k0_off35 i) (k0_off35_inb i h12 h22) k
   else k) <|
  if h27 : k0_cond27 i = 1#1 then
    waitBlk (k0_cond28 v1) arg11 arg16 arg17 (k0_off36 i) (k0_off36_inb i h12 h27) (k0_off37 i v25) (fun h => k0_off37_inb i v1 v25 w h12 h27 h) (k0_off38 i) (k0_off38_inb i h12 h27) <|
    waitBlk (k0_cond29 v1) arg11 arg16 arg17 (k0_off39 i) (k0_off39_inb i h12 h27) (k0_off40 i v25) (fun h => k0_off40_inb i v1 v25 w h12 h27 h) (k0_off41 i) (k0_off41_inb i h12 h27) <|
    waitBlk (k0_cond30 v1) arg11 arg16 arg17 (k0_off42 i) (k0_off42_inb i h12 h27) (k0_off43 i v25) (fun h => k0_off43_inb i v1 v25 w h12 h27 h) (k0_off44 i) (k0_off44_inb i h12 h27) <|
    waitBlk (k0_cond31 v1) arg11 arg16 arg17 (k0_off45 i) (k0_off45_inb i h12 h27) (k0_off46 i v25) (fun h => k0_off46_inb i v1 v25 w h12 h27 h) (k0_off47 i) (k0_off47_inb i h12 h27) (.ret ⟨⟩)
  else .ret ⟨⟩

/-- The down half. -/
def dnS (v1 : BitVec 32) : PK F :=
  if h12 : k0_cond12 i = 1#1 then
    dnA i arg4 arg7 arg10 arg11 arg12 arg14 harg14 arg15 harg15 arg16 arg17 v1 h12 fun v25 w => dnB i arg7 arg11 arg14 arg15 arg16 arg17 v1 h12 v25 w
  else .ret ⟨⟩

/-- The whole body as a chain of blocks. -/
def bodyS : PK F :=
  smemLoadElt arg5 (Rect.unit (s := S386) (k0_off1 i) S1.size (k0_off1_inb i)) (View.loads_smem_one rfl numel1_S1) (Shape.Idx.first (numel1_S1.symm ▸ Nat.one_pos)) fun v1 =>
  prevS i arg4 arg5 arg11 arg16 arg17 <|
  guS i arg6 arg8 arg9 arg12 arg13 harg13 v1 <|
  dnS i arg4 arg7 arg10 arg11 arg12 arg14 harg14 arg15 harg15 arg16 arg17 v1

/-- Going on after a block is the block with what goes on. -/
theorem actBlk_bind (cnd : BitVec 1) (a12 : Memref sig .tc .vmem S512x2304 .f32) (a15 : Memref sig .tc .vmem S512x1152 .bf16)
    (o o' : Fin 2 → ℕ) (ho : ∀ a, o a + S128x1152.size a ≤ S512x2304.size a) (ho' : ∀ a, o' a + S128x1152.size a ≤ S512x2304.size a)
    (hh : ∀ a, o a + S128x1152.size a ≤ S512x1152.size a)
    (hst : (a15.access (Rect.unit (s := S512x1152) o S128x1152.size hh)).Stores Finset.univ)
    (pay : Vec F S128x1152 .f32 → Vec F S128x1152 .f32 → FVec F S128x1152 .bf16) (k : PA F α) (g : α → PA F β) :
    (actBlk cnd a12 a15 o o' ho ho' hh hst pay k >>= g) = actBlk cnd a12 a15 o o' ho ho' hh hst pay (k >>= g) := by
  unfold actBlk; split <;> rfl

/-- Going on after the activations. -/
theorem actS_bind (v1 : BitVec 32) (k : PA F α) (g : α → PA F β) :
    (actS i arg12 arg15 harg15 v1 k >>= g) = actS i arg12 arg15 harg15 v1 (k >>= g) := by
  unfold actS; split
  · simp only [actBlk_bind]
  · rfl

/-- Going on after a tile. -/
theorem downBlk_bind (cnd : BitVec 1) (a7 : Memref sig .tc .vmem S512x128 .f32) (a11 : Memref sig .tc .hbm S99584x4096 .f32) (a14 : Memref sig .tc .vmem S1152x1024 .bf16)
    (a15 : Memref sig .tc .vmem S512x1152 .bf16) (a16 : Memref sig .tc .vmem S2x512x1024 .f32) (a17 : DmaSems sig S2)
    (o : Fin 2 → ℕ) (hg : ∀ a, o a + S128x128.size a ≤ S512x128.size a) (hh : ∀ a, o a + S128x1152.size a ≤ S512x1152.size a)
    (bo : Fin 3 → ℕ) (hbo : ∀ a, bo a + S1x128x1024.size a ≤ S2x512x1024.size a)
    (so : Fin 1 → ℕ) (hso : ∀ a, so a + S1.size a ≤ S2.size a)
    (yo : Fin 2 → ℕ) (hyo : cnd = 1#1 → ∀ a, yo a + S128x1024.size a ≤ S99584x4096.size a)
    (bo' : Fin 3 → ℕ) (hbo' : ∀ a, bo' a + S1x128x1024.size a ≤ S2x512x1024.size a)
    (pay : Vec F S128x128 .f32 → Vec F S128x1152 .bf16 → Vec F S1152x1024 .bf16 → FVec F S1x128x1024 .f32) (k : PA F α) (g : α → PA F β) :
    (downBlk cnd a7 a11 a14 a15 a16 a17 o hg hh bo hbo so hso yo hyo bo' hbo' pay k >>= g)
      = downBlk cnd a7 a11 a14 a15 a16 a17 o hg hh bo hbo so hso yo hyo bo' hbo' pay (k >>= g) := by
  unfold downBlk; split <;> rfl

/-- Going on after the down half's first part. -/
theorem dnA_bind (v1 : BitVec 32) (h12 : k0_cond12 i = 1#1) (k : (v25 : BitVec 32) → k0_chk2 i v1 v25 → PA F α) (g : α → PA F β) :
    (dnA i arg4 arg7 arg10 arg11 arg12 arg14 harg14 arg15 harg15 arg16 arg17 v1 h12 k >>= g)
      = dnA i arg4 arg7 arg10 arg11 arg12 arg14 harg14 arg15 harg15 arg16 arg17 v1 h12 fun v25 w => k v25 w >>= g := by
  unfold dnA
  refine congrArg (Prog.op _) (funext fun v25 => congrArg (Prog.op _) (funext fun w => ?_))
  refine (actS_bind i arg12 arg15 harg15 v1 _ g).trans (congrArg _ ?_)
  refine congrArg (Prog.op _) (funext fun v => congrArg (Prog.op _) (funext fun v' => congrArg (Prog.op _) (funext fun v'' => ?_)))
  refine (downBlk_bind _ _ _ _ _ _ _ _ _ _ _ _ _ _ _ _ _ _ _ _ _).trans (congrArg _ ?_)
  exact downBlk_bind _ _ _ _ _ _ _ _ _ _ _ _ _ _ _ _ _ _ _ _ _

/-- The slot's number as the printed body computes it. -/
abbrev slotW (arg1 : BitVec 32) : BitVec 32 :=
  let v13 : BitVec 32 := Scalar.subi arg1 4#32
  let v15 : BitVec 32 := Scalar.select (Scalar.cmpi .eq 2#32 0#32) 1#32 2#32
  let v16 : BitVec 32 := Scalar.remsi v13 v15
  Scalar.select (Scalar.andi (Scalar.xori (Scalar.cmpi .slt v16 0#32) (Scalar.cmpi .slt v15 0#32)) (Scalar.cmpi .ne v16 0#32)) (Scalar.addi v16 v15) v16

/-- The printed first part of the down half. -/
theorem part1_eq (arg2 : Memref sig .tc .smem S386 .i32) (harg2 : arg2.IsWhole) (arg3 : Memref sig .tc .smem S386 .i32) (harg3 : arg3.IsWhole) (harg4 : arg4.IsWhole)
    (harg5 : arg5.IsWhole) (harg6 : arg6.IsWhole) (harg7 : arg7.IsWhole) (harg8 : arg8.IsWhole) (harg9 : arg9.IsWhole) (harg10 : arg10.IsWhole) (harg11 : arg11.IsWhole)
    (harg12 : arg12.IsWhole) (harg16 : arg16.IsWhole) (v1 : BitVec 32) (h12 : k0_cond12 i = 1#1) :
    k0_part1_skel (F := F) i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 (BitVec.ofNat 32 (i 0).val) (BitVec.ofNat 32 (i 1).val) v1 h12
    = dnA i arg4 arg7 arg10 arg11 arg12 arg14 harg14 arg15 harg15 arg16 arg17 v1 h12 fun v25 w =>
        .ret ⟨Scalar.subi (BitVec.ofNat 32 (i 1).val) 4#32, slotW (BitVec.ofNat 32 (i 1).val), v25, w, Scalar.muli v25 128#32, Scalar.extui (Scalar.cmpi .sgt v1 2#32)⟩ := rfl

/-- The body with its first part still a call. -/
def bodyR (arg2 : Memref sig .tc .smem S386 .i32) (harg2 : arg2.IsWhole) (arg3 : Memref sig .tc .smem S386 .i32) (harg3 : arg3.IsWhole) (harg4 : arg4.IsWhole)
    (harg5 : arg5.IsWhole) (harg6 : arg6.IsWhole) (harg7 : arg7.IsWhole) (harg8 : arg8.IsWhole) (harg9 : arg9.IsWhole) (harg10 : arg10.IsWhole) (harg11 : arg11.IsWhole)
    (harg12 : arg12.IsWhole) (harg16 : arg16.IsWhole) : PK F :=
  smemLoadElt arg5 (Rect.unit (s := S386) (k0_off1 i) S1.size (k0_off1_inb i)) (View.loads_smem_one rfl numel1_S1) (Shape.Idx.first (numel1_S1.symm ▸ Nat.one_pos)) fun v1 =>
  prevS i arg4 arg5 arg11 arg16 arg17 <|
  guS i arg6 arg8 arg9 arg12 arg13 harg13 v1 <|
  if h12 : k0_cond12 i = 1#1 then
    k0_part1_skel (F := F) i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 (BitVec.ofNat 32 (i 0).val) (BitVec.ofNat 32 (i 1).val) v1 h12
    >>= fun x => dnB i arg7 arg11 arg14 arg15 arg16 arg17 v1 h12 x.2.2.1 x.2.2.2.1
  else .ret ⟨⟩

set_option maxHeartbeats 4000000 in
/-- The printed body is the chain of blocks. -/
theorem body_eq (arg2 : Memref sig .tc .smem S386 .i32) (harg2 : arg2.IsWhole) (arg3 : Memref sig .tc .smem S386 .i32) (harg3 : arg3.IsWhole) (harg4 : arg4.IsWhole)
    (harg5 : arg5.IsWhole) (harg6 : arg6.IsWhole) (harg7 : arg7.IsWhole) (harg8 : arg8.IsWhole) (harg9 : arg9.IsWhole) (harg10 : arg10.IsWhole) (harg11 : arg11.IsWhole)
    (harg12 : arg12.IsWhole) (harg16 : arg16.IsWhole) :
    cc0_moe_routed (F := F) i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17
    = bodyS i arg4 arg5 arg6 arg7 arg8 arg9 arg10 arg11 arg12 arg13 harg13 arg14 harg14 arg15 harg15 arg16 arg17 := by
  rw [cc0_moe_routed_eq_skeleton]
  have h : cc0_moe_routed_skel (F := F) i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 = bodyR i arg4 arg5 arg6 arg7 arg8 arg9 arg10 arg11 arg12 arg13 harg13 arg14 harg14 arg15 harg15 arg16 arg17
        arg2 harg2 arg3 harg3 harg4 harg5 harg6 harg7 harg8 harg9 harg10 harg11 harg12 harg16 := rfl
  rw [h]; unfold bodyR bodyS dnS
  simp only [part1_eq, dnA_bind]
  rfl

end Cert.KernelIdeal.Hand
-- ==== Proof.Micro.lean ====
/-
  Loads and stores of a memref held whole, by the values it holds, and what each block that touches only such memrefs does.
-/
module

public import proofs.«01_k».proof.Proof.Blk
public import Idealize.ShloMosaic.Lib.VecWindow
public import Idealize.ShloMosaic.Lib.Pipeline.FrameBody
public import Idealize.ShloMosaic.Lib.Batch
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {α : Type}

local notation "𝕄" => MT nD τ sig Unit (Elt F) ℕ (Pipeline.UD sig nD τ) ℕ

/-- The weakest precondition of a program of core `c`. -/
abbrev WP (c : Dev nD) (p : PA F α) (Q : α → sProp 𝕄) : sProp 𝕄 :=
  wp frame (wpE (defs₀ (F := F)) Variants.none (c : Thread nD τ) none) Set.univ p Q

/-- A load of a window of a memref held whole. -/
theorem wp_ld (c : Dev nD) {cs : CoreSpace} {s : Shape} {e : EltTy} (m : Memref sig .tc cs s e) (off size : Fin s.rank → ℕ) (h : ∀ a, off a + size a ≤ s.size a)
    (q : PosShare TreeShare) (d : s.Idx → Elt F e) {hl : m.view.LoadsAt (Rect.unit off size h).toLoadRect} (k : ((Rect.unit off size h).shape.Idx → Elt F e) → PA F α) (Q : α → sProp 𝕄) :
    owns (c : Thread nD τ) m q d ⊢ iprop((owns (c : Thread nD τ) m q d -∗ WP c (k (VecWindow.window d off size h)) Q)
      -∗ WP c (.op (.load m (Rect.unit off size h).toLoadRect hl) k) Q) := by
  unfold owns
  iintro ⟨%f, %hf, H⟩ Hk
  iapply (wp_load_rect Variants.none (c : Thread nD τ) none Set.univ (m := m) (r := Rect.unit off size h) (S := m.view.set) (View.set_slice_subset _ _)) $$ H
  iintro H
  subst hf
  iapply Hk
  iexists f
  isplitr; · ipureintro; rfl
  iexact H

/-- A window of the whole extent is everything. -/
theorem window_all {s : Shape} {γ : Type} (d : s.Idx → γ) (off : Fin s.rank → ℕ) (h : ∀ a, off a + s.size a ≤ s.size a) :
    VecWindow.window d off s.size h = d := by
  funext y
  exact congrArg d (Rect.emb_unit_full h y)

/-- A store of the whole extent leaves its payload. -/
theorem put_all {s : Shape} {γ : Type} (d : s.Idx → γ) (off : Fin s.rank → ℕ) (h : ∀ a, off a + s.size a ≤ s.size a) (w : s.Idx → γ) :
    VecWindow.put d off s.size w = w := by
  rw [← window_all (VecWindow.put d off s.size w) off h]
  exact VecWindow.window_put_same d off s.size h w

/-- The contents a store leaves, by values. -/
theorem read_store {cs : CoreSpace} {s : Shape} {e : EltTy} (m : Memref sig .tc cs s e) (off size : Fin s.rank → ℕ) (h : ∀ a, off a + size a ≤ s.size a)
    (f : m.view.ty.Contents (Elt F)) (w : (Rect.unit off size h).shape.Idx → Elt F e) :
    m.view.read (Elt F) ((m.access (Rect.unit off size h)).write (Elt F) f w Finset.univ) = VecWindow.put (m.view.read (Elt F) f) off size w :=
  View.read_writes_cons_put m.view f h w [] rfl

/-- A store over a window of a memref held whole. -/
theorem wp_st (c : Dev nD) {cs : CoreSpace} {s : Shape} {e : EltTy} (m : Memref sig .tc cs s e) (off size : Fin s.rank → ℕ) (h : ∀ a, off a + size a ≤ s.size a)
    (d : s.Idx → Elt F e) (w : (Rect.unit off size h).shape.Idx → Elt F e) {hx : (m.access (Rect.unit off size h)).Stores Finset.univ} {hm}
    (k : PUnit → PA F α) (Q : α → sProp 𝕄) :
    owns (c : Thread nD τ) m fullShare d ⊢ iprop((owns (c : Thread nD τ) m fullShare (VecWindow.put d off size w) -∗ WP c (k ⟨⟩) Q)
      -∗ WP c (.op (.store m (Rect.unit off size h) w Finset.univ hx hm) k) Q) := by
  unfold owns
  iintro ⟨%f, %hf, H⟩ Hk
  iapply (wp_store Variants.none (c : Thread nD τ) none Set.univ (m := m) (r := Rect.unit off size h) (S := m.view.set) (View.set_slice_subset _ _)) $$ H
  iintro H
  subst hf
  iapply Hk
  iexists _
  isplitr
  swap
  · iexact H
  ipureintro
  exact read_store m off size h f w

/-- The cast of the two projections' chunk. -/
theorem wgu_wp (c : Dev nD) (a8 a9 : Memref sig .tc .vmem S1x1x1024x1152 .f32) (a13 : Memref sig .tc .vmem S1024x2304 .bf16) (h13 : a13.IsWhole) (k : PA F α)
    (Q : α → sProp 𝕄) (x8 x9 : Vec F S1x1x1024x1152 .f32) (d13 : Vec F S1024x2304 .bf16) :
    iprop(owns (c : Thread nD τ) a8 fullShare x8 ∗ owns (c : Thread nD τ) a9 fullShare x9 ∗ owns (c : Thread nD τ) a13 fullShare d13)
    ⊢ iprop(((owns (c : Thread nD τ) a8 fullShare x8 ∗ owns (c : Thread nD τ) a9 fullShare x9
        ∗ owns (c : Thread nD τ) a13 fullShare (VecWindow.put (VecWindow.put d13 ![0, 0] S1024x1152.size (k0_pay1 x8)) ![0, 1152] S1024x1152.size (k0_pay2 x9))) -∗ WP c k Q)
      -∗ WP c (wguBlk a8 a9 a13 h13 k) Q) := by
  unfold wguBlk
  iintro ⟨H8, H9, H13⟩ Hk
  iapply (wp_ld c a8 _ _ _ _ x8) $$ H8; iintro H8
  iapply (wp_ld c a13 _ _ _ _ d13) $$ H13; iintro H13
  iapply (wp_st c a13 _ _ _ d13) $$ H13; iintro H13
  iapply (wp_ld c a9 _ _ _ _ x9) $$ H9; iintro H9
  iapply (wp_ld c a13 _ _ _ _ _) $$ H13; iintro H13
  iapply (wp_st c a13 _ _ _ _) $$ H13; iintro H13
  rw [window_all, window_all]
  iapply Hk
  isplitl [H8]; · iexact H8
  isplitl [H9]; · iexact H9
  iexact H13

/-- The reset of the accumulator. -/
theorem zero_wp (c : Dev nD) (cnd : BitVec 1) (a12 : Memref sig .tc .vmem S512x2304 .f32) (k : PA F α) (Q : α → sProp 𝕄) (d12 : Vec F S512x2304 .f32) :
    owns (c : Thread nD τ) a12 fullShare d12
    ⊢ iprop((owns (c : Thread nD τ) a12 fullShare (if cnd = 1#1 then k0_pay3 (F := F) else d12) -∗ WP c k Q) -∗ WP c (zeroBlk cnd a12 k) Q) := by
  unfold zeroBlk
  split
  · iintro H Hk
    iapply (wp_ld c a12 _ _ _ _ d12) $$ H; iintro H
    iapply (wp_st c a12 _ _ _ d12) $$ H; iintro H
    rw [put_all (s := S512x2304) _ _ inb_S512x2304_S512x2304_0_0]
    iapply Hk
    iexact H
  · iintro H Hk
    iapply Hk
    iexact H

/-- What a gate-and-up block leaves in the accumulator. -/
def guU (cnd : BitVec 1) (o : Fin 2 → ℕ) (ho : ∀ a, o a + S128x2304.size a ≤ S512x2304.size a) (hx : ∀ a, o a + S128x1024.size a ≤ S512x1024.size a)
    (pay : Vec F S128x2304 .f32 → Vec F S128x1024 .bf16 → Vec F S1024x2304 .bf16 → FVec F S128x2304 .f32)
    (x : Vec F S512x1024 .bf16) (w : Vec F S1024x2304 .bf16) (d : Vec F S512x2304 .f32) : Vec F S512x2304 .f32 :=
  if cnd = 1#1 then VecWindow.put d o S128x2304.size (pay (VecWindow.window d o S128x2304.size ho) (VecWindow.window x o S128x1024.size hx) w) else d

/-- A gate-and-up block. -/
theorem gu_wp (c : Dev nD) (cnd : BitVec 1) (a6 : Memref sig .tc .vmem S512x1024 .bf16) (a12 : Memref sig .tc .vmem S512x2304 .f32) (a13 : Memref sig .tc .vmem S1024x2304 .bf16)
    (o : Fin 2 → ℕ) (ho : ∀ a, o a + S128x2304.size a ≤ S512x2304.size a) (hx : ∀ a, o a + S128x1024.size a ≤ S512x1024.size a)
    (pay : Vec F S128x2304 .f32 → Vec F S128x1024 .bf16 → Vec F S1024x2304 .bf16 → FVec F S128x2304 .f32) (k : PA F α)
    (Q : α → sProp 𝕄) (x : Vec F S512x1024 .bf16) (w : Vec F S1024x2304 .bf16) (d : Vec F S512x2304 .f32) :
    iprop(owns (c : Thread nD τ) a6 fullShare x ∗ owns (c : Thread nD τ) a13 fullShare w ∗ owns (c : Thread nD τ) a12 fullShare d)
    ⊢ iprop(((owns (c : Thread nD τ) a6 fullShare x ∗ owns (c : Thread nD τ) a13 fullShare w
        ∗ owns (c : Thread nD τ) a12 fullShare (guU cnd o ho hx pay x w d)) -∗ WP c k Q)
      -∗ WP c (guBlk cnd a6 a12 a13 o ho hx pay k) Q) := by
  unfold guBlk guU
  split
  · iintro ⟨H6, H13, H12⟩ Hk
    iapply (wp_ld c a12 _ _ _ _ d) $$ H12; iintro H12
    iapply (wp_ld c a6 _ _ _ _ x) $$ H6; iintro H6
    iapply (wp_ld c a13 _ _ _ _ w) $$ H13; iintro H13
    iapply (wp_ld c a12 _ _ _ _ d) $$ H12; iintro H12
    iapply (wp_st c a12 _ _ _ d) $$ H12; iintro H12
    rw [window_all w]
    iapply Hk
    isplitl [H6]; · iexact H6
    isplitl [H13]; · iexact H13
    iexact H12
  · iintro ⟨H6, H13, H12⟩ Hk
    iapply Hk
    isplitl [H6]; · iexact H6
    isplitl [H13]; · iexact H13
    iexact H12

/-- What an activation block leaves in the activations. -/
def actU (cnd : BitVec 1) (o o' : Fin 2 → ℕ) (ho : ∀ a, o a + S128x1152.size a ≤ S512x2304.size a) (ho' : ∀ a, o' a + S128x1152.size a ≤ S512x2304.size a)
    (pay : Vec F S128x1152 .f32 → Vec F S128x1152 .f32 → FVec F S128x1152 .bf16)
    (d : Vec F S512x2304 .f32) (b : Vec F S512x1152 .bf16) : Vec F S512x1152 .bf16 :=
  if cnd = 1#1 then VecWindow.put b o S128x1152.size (pay (VecWindow.window d o S128x1152.size ho) (VecWindow.window d o' S128x1152.size ho')) else b

/-- An activation block. -/
theorem act_wp (c : Dev nD) (cnd : BitVec 1) (a12 : Memref sig .tc .vmem S512x2304 .f32) (a15 : Memref sig .tc .vmem S512x1152 .bf16)
    (o o' : Fin 2 → ℕ) (ho : ∀ a, o a + S128x1152.size a ≤ S512x2304.size a) (ho' : ∀ a, o' a + S128x1152.size a ≤ S512x2304.size a)
    (hh : ∀ a, o a + S128x1152.size a ≤ S512x1152.size a)
    (hst : (a15.access (Rect.unit (s := S512x1152) o S128x1152.size hh)).Stores Finset.univ)
    (pay : Vec F S128x1152 .f32 → Vec F S128x1152 .f32 → FVec F S128x1152 .bf16) (k : PA F α)
    (Q : α → sProp 𝕄) (d : Vec F S512x2304 .f32) (b : Vec F S512x1152 .bf16) :
    iprop(owns (c : Thread nD τ) a12 fullShare d ∗ owns (c : Thread nD τ) a15 fullShare b)
    ⊢ iprop(((owns (c : Thread nD τ) a12 fullShare d ∗ owns (c : Thread nD τ) a15 fullShare (actU cnd o o' ho ho' pay d b)) -∗ WP c k Q)
      -∗ WP c (actBlk cnd a12 a15 o o' ho ho' hh hst pay k) Q) := by
  unfold actBlk actU
  split
  · iintro ⟨H12, H15⟩ Hk
    iapply (wp_ld c a12 _ _ _ _ d) $$ H12; iintro H12
    iapply (wp_ld c a12 _ _ _ _ d) $$ H12; iintro H12
    iapply (wp_ld c a15 _ _ _ _ b) $$ H15; iintro H15
    iapply (wp_st c a15 _ _ _ b) $$ H15; iintro H15
    iapply Hk
    isplitl [H12]; · iexact H12
    iexact H15
  · iintro ⟨H12, H15⟩ Hk
    iapply Hk
    isplitl [H12]; · iexact H12
    iexact H15

/-- The cast of the down projection's chunk. -/
theorem wd_wp (c : Dev nD) (a10 : Memref sig .tc .vmem S1x1x1152x1024 .f32) (a14 : Memref sig .tc .vmem S1152x1024 .bf16) (h14 : a14.IsWhole) (k : PA F α)
    (Q : α → sProp 𝕄) (x : Vec F S1x1x1152x1024 .f32) (d : Vec F S1152x1024 .bf16) :
    iprop(owns (c : Thread nD τ) a10 fullShare x ∗ owns (c : Thread nD τ) a14 fullShare d)
    ⊢ iprop(((owns (c : Thread nD τ) a10 fullShare x ∗ owns (c : Thread nD τ) a14 fullShare (k0_pay14 x)) -∗ WP c k Q)
      -∗ WP c (wdBlk a10 a14 h14 k) Q) := by
  unfold wdBlk
  iintro ⟨H10, H14⟩ Hk
  iapply (wp_ld c a10 _ _ _ _ x) $$ H10; iintro H10
  iapply (wp_ld c a14 _ _ _ _ d) $$ H14; iintro H14
  iapply (wp_st c a14 _ _ _ d) $$ H14; iintro H14
  rw [put_all (s := S1152x1024) _ _ inb_S1152x1024_S1152x1024_0_0, window_all x]
  iapply Hk
  isplitl [H10]; · iexact H10
  iexact H14

/-- The condition `v > n` of a count of at most four. -/
theorem gtc_iff (v : BitVec 32) (hv : v.toNat ≤ 4) (j : Fin 4) : gtc v (BitVec.ofNat 32 j.val) = 1#1 ↔ j.val < v.toNat := by
  obtain ⟨m, hm⟩ : ∃ m : Fin 5, v = BitVec.ofNat 32 m.val := ⟨⟨v.toNat, by omega⟩, by simp⟩
  subst hm
  revert m j; decide

/-- The 128 rows `j` of an accumulator. -/
abbrev rwA (d : Vec F S512x2304 .f32) (j : Fin 4) : Vec F S128x2304 .f32 :=
  VecWindow.window d ![128 * j.val, 0] S128x2304.size (by revert j; decide)

/-- The 128 rows `j` of the tokens' chunk. -/
abbrev rwX (x : Vec F S512x1024 .bf16) (j : Fin 4) : Vec F S128x1024 .bf16 :=
  VecWindow.window x ![128 * j.val, 0] S128x1024.size (by revert j; decide)

/-- The 128 rows `j` of the activations. -/
abbrev rwH (b : Vec F S512x1152 .bf16) (j : Fin 4) : Vec F S128x1152 .bf16 :=
  VecWindow.window b ![128 * j.val, 0] S128x1152.size (by revert j; decide)

/-- The 128 rows `j` of the gates. -/
abbrev rwG (g : Vec F S512x128 .f32) (j : Fin 4) : Vec F S128x128 .f32 :=
  VecWindow.window g ![128 * j.val, 0] S128x128.size (by revert j; decide)

/-- The gate half of the accumulator's rows `j`. -/
abbrev rwA0 (d : Vec F S512x2304 .f32) (j : Fin 4) : Vec F S128x1152 .f32 :=
  VecWindow.window d ![128 * j.val, 0] S128x1152.size (by revert j; decide)

/-- The up half of the accumulator's rows `j`. -/
abbrev rwA1 (d : Vec F S512x2304 .f32) (j : Fin 4) : Vec F S128x1152 .f32 :=
  VecWindow.window d ![128 * j.val, 1152] S128x1152.size (by revert j; decide)

/-- The four gate-and-up blocks, one after another. -/
def guAll (v : BitVec 32) (x : Vec F S512x1024 .bf16) (w : Vec F S1024x2304 .bf16) (d : Vec F S512x2304 .f32) : Vec F S512x2304 .f32 :=
  guU (gtc v 3#32) ![384, 0] inb_S512x2304_S128x2304_384_0 inb_S512x1024_S128x1024_384_0 k0_pay7 x w <|
  guU (gtc v 2#32) ![256, 0] inb_S512x2304_S128x2304_256_0 inb_S512x1024_S128x1024_256_0 k0_pay6 x w <|
  guU (gtc v 1#32) ![128, 0] inb_S512x2304_S128x2304_128_0 inb_S512x1024_S128x1024_128_0 k0_pay5 x w <|
  guU (gtc v 0#32) ![0, 0] inb_S512x2304_S128x2304_0_0 inb_S512x1024_S128x1024_0_0 k0_pay4 x w d

/-- A gate-and-up block at its own rows. -/
theorem guU_same (v : BitVec 32) (hv : v.toNat ≤ 4) (j : Fin 4) (hj : j.val < v.toNat) (ho hx)
    (pay : Vec F S128x2304 .f32 → Vec F S128x1024 .bf16 → Vec F S1024x2304 .bf16 → FVec F S128x2304 .f32)
    (x : Vec F S512x1024 .bf16) (w : Vec F S1024x2304 .bf16) (d : Vec F S512x2304 .f32) :
    rwA (guU (gtc v (BitVec.ofNat 32 j.val)) ![128 * j.val, 0] ho hx pay x w d) j = pay (rwA d j) (rwX x j) w := by
  unfold guU
  rw [if_pos ((gtc_iff v hv j).2 hj)]
  exact VecWindow.window_put_same _ _ _ _ _

/-- A gate-and-up block at other rows. -/
theorem guU_other (cnd : BitVec 1) (j l : Fin 4) (hl : j ≠ l) (ho hx)
    (pay : Vec F S128x2304 .f32 → Vec F S128x1024 .bf16 → Vec F S1024x2304 .bf16 → FVec F S128x2304 .f32)
    (x : Vec F S512x1024 .bf16) (w : Vec F S1024x2304 .bf16) (d : Vec F S512x2304 .f32) :
    rwA (guU cnd ![128 * j.val, 0] ho hx pay x w d) l = rwA d l := by
  unfold guU
  split
  · refine VecWindow.window_put_of_disjoint _ _ _ _ _ _ _ 0 ?_
    show 128 * l.val + 128 ≤ 128 * j.val ∨ 128 * j.val + 128 ≤ 128 * l.val
    omega
  · rfl

/-- The rows in use after the four blocks. -/
theorem guAll_row (v : BitVec 32) (hv : v.toNat ≤ 4) (j : Fin 4) (hj : j.val < v.toNat)
    (x : Vec F S512x1024 .bf16) (w : Vec F S1024x2304 .bf16) (d : Vec F S512x2304 .f32) :
    rwA (guAll v x w d) j = k0_pay4 (rwA d j) (rwX x j) w := by
  unfold guAll
  have o0 := fun l (hl : (0 : Fin 4) ≠ l) d => guU_other (F := F) (gtc v 0#32) 0 l hl inb_S512x2304_S128x2304_0_0 inb_S512x1024_S128x1024_0_0 k0_pay4 x w d
  have o1 := fun l (hl : (1 : Fin 4) ≠ l) d => guU_other (F := F) (gtc v 1#32) 1 l hl inb_S512x2304_S128x2304_128_0 inb_S512x1024_S128x1024_128_0 k0_pay5 x w d
  have o2 := fun l (hl : (2 : Fin 4) ≠ l) d => guU_other (F := F) (gtc v 2#32) 2 l hl inb_S512x2304_S128x2304_256_0 inb_S512x1024_S128x1024_256_0 k0_pay6 x w d
  have o3 := fun l (hl : (3 : Fin 4) ≠ l) d => guU_other (F := F) (gtc v 3#32) 3 l hl inb_S512x2304_S128x2304_384_0 inb_S512x1024_S128x1024_384_0 k0_pay7 x w d
  have s0 := fun h d => guU_same (F := F) v hv 0 h inb_S512x2304_S128x2304_0_0 inb_S512x1024_S128x1024_0_0 k0_pay4 x w d
  have s1 := fun h d => guU_same (F := F) v hv 1 h inb_S512x2304_S128x2304_128_0 inb_S512x1024_S128x1024_128_0 k0_pay5 x w d
  have s2 := fun h d => guU_same (F := F) v hv 2 h inb_S512x2304_S128x2304_256_0 inb_S512x1024_S128x1024_256_0 k0_pay6 x w d
  have s3 := fun h d => guU_same (F := F) v hv 3 h inb_S512x2304_S128x2304_384_0 inb_S512x1024_S128x1024_384_0 k0_pay7 x w d
  match j, hj with
  | 0, hj => exact (o3 0 (by decide) _).trans ((o2 0 (by decide) _).trans ((o1 0 (by decide) _).trans (s0 hj _)))
  | 1, hj => exact (o3 1 (by decide) _).trans ((o2 1 (by decide) _).trans ((s1 hj _).trans (congrArg (fun r => k0_pay4 r (rwX x 1) w) (o0 1 (by decide) d))))
  | 2, hj => exact (o3 2 (by decide) _).trans ((s2 hj _).trans (congrArg (fun r => k0_pay4 r (rwX x 2) w) ((o1 2 (by decide) _).trans (o0 2 (by decide) d))))
  | 3, hj => exact (s3 hj _).trans (congrArg (fun r => k0_pay4 r (rwX x 3) w) ((o2 3 (by decide) _).trans ((o1 3 (by decide) _).trans (o0 3 (by decide) d))))

/-- The four activation blocks, one after another. -/
def actAll (v : BitVec 32) (d : Vec F S512x2304 .f32) (b : Vec F S512x1152 .bf16) : Vec F S512x1152 .bf16 :=
  actU (gtc v 3#32) ![384, 0] ![384, 1152] inb_S512x2304_S128x1152_384_0 inb_S512x2304_S128x1152_384_1152 k0_pay13 d <|
  actU (gtc v 2#32) ![256, 0] ![256, 1152] inb_S512x2304_S128x1152_256_0 inb_S512x2304_S128x1152_256_1152 k0_pay12 d <|
  actU (gtc v 1#32) ![128, 0] ![128, 1152] inb_S512x2304_S128x1152_128_0 inb_S512x2304_S128x1152_128_1152 k0_pay11 d <|
  actU (gtc v 0#32) ![0, 0] ![0, 1152] inb_S512x2304_S128x1152_0_0 inb_S512x2304_S128x1152_0_1152 k0_pay10 d b

/-- An activation block at its own rows. -/
theorem actU_same (v : BitVec 32) (hv : v.toNat ≤ 4) (j : Fin 4) (hj : j.val < v.toNat) (ho ho')
    (pay : Vec F S128x1152 .f32 → Vec F S128x1152 .f32 → FVec F S128x1152 .bf16) (d : Vec F S512x2304 .f32) (b : Vec F S512x1152 .bf16) :
    rwH (actU (gtc v (BitVec.ofNat 32 j.val)) ![128 * j.val, 0] ![128 * j.val, 1152] ho ho' pay d b) j = pay (rwA0 d j) (rwA1 d j) := by
  unfold actU
  rw [if_pos ((gtc_iff v hv j).2 hj)]
  exact VecWindow.window_put_same _ _ _ _ _

/-- An activation block at other rows. -/
theorem actU_other (cnd : BitVec 1) (j l : Fin 4) (hl : j ≠ l) (o' : Fin 2 → ℕ) (ho ho')
    (pay : Vec F S128x1152 .f32 → Vec F S128x1152 .f32 → FVec F S128x1152 .bf16) (d : Vec F S512x2304 .f32) (b : Vec F S512x1152 .bf16) :
    rwH (actU cnd ![128 * j.val, 0] o' ho ho' pay d b) l = rwH b l := by
  unfold actU
  split
  · refine VecWindow.window_put_of_disjoint _ _ _ _ _ _ _ 0 ?_
    show 128 * l.val + 128 ≤ 128 * j.val ∨ 128 * j.val + 128 ≤ 128 * l.val
    omega
  · rfl

/-- The rows in use after the four activation blocks. -/
theorem actAll_row (v : BitVec 32) (hv : v.toNat ≤ 4) (j : Fin 4) (hj : j.val < v.toNat) (d : Vec F S512x2304 .f32) (b : Vec F S512x1152 .bf16) :
    rwH (actAll v d b) j = k0_pay10 (rwA0 d j) (rwA1 d j) := by
  unfold actAll
  have o1 := fun l (hl : (1 : Fin 4) ≠ l) b => actU_other (F := F) (gtc v 1#32) 1 l hl ![128, 1152] inb_S512x2304_S128x1152_128_0 inb_S512x2304_S128x1152_128_1152 k0_pay11 d b
  have o2 := fun l (hl : (2 : Fin 4) ≠ l) b => actU_other (F := F) (gtc v 2#32) 2 l hl ![256, 1152] inb_S512x2304_S128x1152_256_0 inb_S512x2304_S128x1152_256_1152 k0_pay12 d b
  have o3 := fun l (hl : (3 : Fin 4) ≠ l) b => actU_other (F := F) (gtc v 3#32) 3 l hl ![384, 1152] inb_S512x2304_S128x1152_384_0 inb_S512x2304_S128x1152_384_1152 k0_pay13 d b
  have s0 := fun h b => actU_same (F := F) v hv 0 h inb_S512x2304_S128x1152_0_0 inb_S512x2304_S128x1152_0_1152 k0_pay10 d b
  have s1 := fun h b => actU_same (F := F) v hv 1 h inb_S512x2304_S128x1152_128_0 inb_S512x2304_S128x1152_128_1152 k0_pay11 d b
  have s2 := fun h b => actU_same (F := F) v hv 2 h inb_S512x2304_S128x1152_256_0 inb_S512x2304_S128x1152_256_1152 k0_pay12 d b
  have s3 := fun h b => actU_same (F := F) v hv 3 h inb_S512x2304_S128x1152_384_0 inb_S512x2304_S128x1152_384_1152 k0_pay13 d b
  match j, hj with
  | 0, hj => exact (o3 0 (by decide) _).trans ((o2 0 (by decide) _).trans ((o1 0 (by decide) _).trans (s0 hj _)))
  | 1, hj => exact (o3 1 (by decide) _).trans ((o2 1 (by decide) _).trans (s1 hj _))
  | 2, hj => exact (o3 2 (by decide) _).trans (s2 hj _)
  | 3, hj => exact s3 hj _

end Cert.KernelIdeal.Hand
-- ==== Proof.Own.lean ====
/-
  What is owned while tiles of the result are copied out: a panel of the result's columns, cut at one item's rows, the staging
  slot's four tiles, and the slot's semaphore.
-/
module

public import proofs.«01_k».proof.Proof.Micro
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] {α : Type}

local notation "𝕄" => MT nD τ sig Unit (Elt F) ℕ (Pipeline.UD sig nD τ) ℕ

/-- The result's buffer. -/
abbrev yM : Memref sig .tc .hbm S99584x4096 .f32 := Memref.whole main_v159

/-- The staging buffer. -/
abbrev bM : Memref sig .tc .vmem S2x512x1024 .f32 := Memref.whole cc0_scratch4

/-- Contents of the result's buffer. -/
abbrev YC (F : FTy → Type) : Type := S99584x4096.Idx → Elt F .f32

/-- Elements of the result's buffer, held at some contents. -/
abbrev yPt (c : Dev nD) (I : Finset S99584x4096.Idx) (f : YC F) : sProp 𝕄 :=
  ((c : Thread nD τ).loc main_v159) ↦[I]{fullShare} f

/-- Elements of the staging buffer, held at some contents. -/
abbrev bPt (c : Dev nD) (I : Finset S2x512x1024.Idx) (f : S2x512x1024.Idx → Elt F .f32) : sProp 𝕄 :=
  ((c : Thread nD τ).loc cc0_scratch4) ↦[I]{fullShare} f

/-- The columns of panel `n`. -/
def panel (n : ℕ) : Finset S99584x4096.Idx := Finset.univ.filter fun x => 1024 * n ≤ (x 1).val ∧ (x 1).val < 1024 * n + 1024

/-- The tile of panel `n` whose rows start at `r0 + 128 t`. -/
def winS (r0 n t : ℕ) : Finset S99584x4096.Idx :=
  Finset.univ.filter fun x => (r0 + 128 * t ≤ (x 0).val ∧ (x 0).val < r0 + 128 * t + 128) ∧ 1024 * n ≤ (x 1).val ∧ (x 1).val < 1024 * n + 1024

/-- The tile `t` of staging slot `σ`. -/
def bS (σ t : ℕ) : Finset S2x512x1024.Idx :=
  Finset.univ.filter fun x => (x 0).val = σ ∧ 128 * t ≤ (x 1).val ∧ (x 1).val < 128 * t + 128

/-- The elements of a tile's window of the result. -/
theorem yWin_set (r0 n t : ℕ) (h : ∀ a, (![r0 + 128 * t, 1024 * n] : Fin 2 → ℕ) a + S128x1024.size a ≤ S99584x4096.size a) :
    (yWin yM ![r0 + 128 * t, 1024 * n] h).view.set = winS r0 n t := by
  refine (View.set_slice_whole main_v159 _).trans ?_
  ext x
  rw [Rect.mem_set_unit]
  unfold winS
  rw [Finset.mem_filter]
  constructor
  · intro hx; exact ⟨Finset.mem_univ _, hx 0, hx 1⟩
  · intro hx; exact Fin.forall_fin_two.2 ⟨hx.2.1, hx.2.2⟩

/-- The elements of a staging tile. -/
theorem bWin_set (σ t : ℕ) (h : ∀ a, (![σ, 128 * t, 0] : Fin 3 → ℕ) a + S1x128x1024.size a ≤ S2x512x1024.size a) :
    (bM.access (Rect.unit (s := S2x512x1024) ![σ, 128 * t, 0] S1x128x1024.size h)).set = bS σ t := by
  refine (View.set_slice_whole cc0_scratch4 _).trans ?_
  ext x
  rw [Rect.mem_set_unit]
  unfold bS
  rw [Finset.mem_filter]
  constructor
  · intro hx
    have h0 : σ ≤ (x 0).val ∧ (x 0).val < σ + 1 := hx 0
    exact ⟨Finset.mem_univ _, by omega, hx 1⟩
  · intro hx a
    have h0 := hx.2.1
    match a with
    | 0 => show σ ≤ (x 0).val ∧ (x 0).val < σ + 1; omega
    | 1 => exact hx.2.2
    | 2 => show 0 ≤ (x 2).val ∧ (x 2).val < 0 + 1024; have h2 : (x 2).val < 1024 := (x 2).isLt; omega

/-- The elements of a staging tile, as the copy names them. -/
theorem bWin_set' (σ t : ℕ) (h : ∀ a, (![σ, 128 * t, 0] : Fin 3 → ℕ) a + S1x128x1024.size a ≤ S2x512x1024.size a) :
    (bWin bM ![σ, 128 * t, 0] h).view.set = bS σ t :=
  (View.set_reshape _ _).trans (bWin_set σ t h)

/-- The entry of a column of tiles at row `A` and column `B`. -/
def tileAt (T : ℕ → Vec F S1x128x1024 .f32) (A B : ℕ) : Elt F .f32 :=
  T (A / 128) (ValueIdx.ix3 0 ⟨A % 128, Nat.mod_lt _ (by decide)⟩ ⟨B % 1024, Nat.mod_lt _ (by decide)⟩)

/-- The entry of a column of tiles, by the tile and the place in it. -/
theorem tileAt_eq (T : ℕ → Vec F S1x128x1024 .f32) (A B t : ℕ) (a : Fin 128) (b : Fin 1024) (hA : A = 128 * t + a.val) (hB : B % 1024 = b.val) :
    tileAt T A B = T t (ValueIdx.ix3 0 a b) := by
  subst hA
  have q1 : (128 * t + a.val) / 128 = t := by omega
  have q2 : (⟨(128 * t + a.val) % 128, Nat.mod_lt _ (by decide)⟩ : Fin 128) = a := Fin.ext (by show (128 * t + a.val) % 128 = a.val; omega)
  have q3 : (⟨B % 1024, Nat.mod_lt _ (by decide)⟩ : Fin 1024) = b := Fin.ext hB
  unfold tileAt
  rw [q1, q2, q3]

/-- The result after the item at row `r0` has written its `m` tiles of panel `n`. -/
def grpY (r0 n m : ℕ) (T : ℕ → Vec F S1x128x1024 .f32) (Y : YC F) : YC F := fun x =>
  if (1024 * n ≤ (x 1).val ∧ (x 1).val < 1024 * n + 1024) ∧ r0 ≤ (x 0).val ∧ (x 0).val < r0 + 128 * m then
    tileAt T ((x 0).val - r0) (x 1).val
  else Y x

/-- The rows of a tile's window, by its own index. -/
theorem yWin_emb (o : Fin 2 → ℕ) (hy : ∀ a, o a + S128x1024.size a ≤ S99584x4096.size a) (y : S128x1024.Idx) (a : Fin 2) :
    ((yWin yM o hy).view.emb y a).val = o a + (y a).val := by
  show o a + 1 * (y a).val = _
  rw [Nat.one_mul]

/-- What the copy of a tile reads just after the tile's store. -/
theorem bWin_read (f : S2x512x1024.Idx → Elt F .f32) (o : Fin 3 → ℕ) (hb : ∀ a, o a + S1x128x1024.size a ≤ S2x512x1024.size a) (T : Vec F S1x128x1024 .f32) (y : S128x1024.Idx) :
    (bWin bM o hb).view.read (Elt F) ((bM.access (Rect.unit (s := S2x512x1024) o S1x128x1024.size hb)).write (Elt F) f T Finset.univ) y
      = T (ValueIdx.ix3 0 (y 0) (y 1)) := by
  refine (congrFun (View.read_write_univ (v := bM.access (Rect.unit (s := S2x512x1024) o S1x128x1024.size hb)) f T) (Shape.reshapeEquiv squeezes_S1x128x1024_S128x1024.numel_eq y)).trans ?_
  exact congrArg T ((congrArg _ (ValueIdx.eq_ix2 y)).trans (ValueIdx.reshapeEquiv_ix2_1ab (a := 128) (b := 1024) squeezes_S1x128x1024_S128x1024.numel_eq (y 0) (y 1)))

/-- A tile written over a window is the result after the item there. -/
theorem write_eq (r0 n m t : ℕ) (ht : t < m) (T : ℕ → Vec F S1x128x1024 .f32) (Y : YC F) (u : Vec F S128x1024 .f32)
    (hu : ∀ y : S128x1024.Idx, u y = T t (ValueIdx.ix3 0 (y 0) (y 1)))
    (hy : ∀ a, (![r0 + 128 * t, 1024 * n] : Fin 2 → ℕ) a + S128x1024.size a ≤ S99584x4096.size a) :
    ∀ x ∈ winS r0 n t, (yWin yM ![r0 + 128 * t, 1024 * n] hy).view.write (Elt F) Y u Finset.univ x = grpY r0 n m T Y x := by
  intro x hx
  have hx' := hx
  rw [← yWin_set r0 n t hy] at hx'
  obtain ⟨y, -, rfl⟩ := Finset.mem_map.1 hx'
  have e0 : ((yWin yM ![r0 + 128 * t, 1024 * n] hy).view.emb y 0).val = r0 + 128 * t + (y 0).val := yWin_emb _ hy y 0
  have e1 : ((yWin yM ![r0 + 128 * t, 1024 * n] hy).view.emb y 1).val = 1024 * n + (y 1).val := yWin_emb _ hy y 1
  have b0 : (y 0).val < 128 := (y 0).isLt
  have b1 : (y 1).val < 1024 := (y 1).isLt
  refine (View.write_emb_of_mem (v := (yWin yM ![r0 + 128 * t, 1024 * n] hy).view) _ _ (Finset.mem_univ y)).trans ?_
  refine (show _ = _ from hu y).trans ?_
  unfold grpY
  rw [if_pos (by rw [e0, e1]; omega)]
  exact (tileAt_eq T _ _ t (y 0) (y 1) (by rw [e0]; omega) (by rw [e1]; omega)).symm

/-- The units one tile's copy signals. -/
def NC : ℕ := (yWin yM ![0, 0] (by decide)).view.dmaCredit

/-- A tile's copy signals something. -/
theorem NC_pos : 0 < NC := View.dmaCredit_pos _ (by decide)

/-- The semaphore of slot `σ`. -/
abbrev cellD (σ : Fin 2) : DmaSem sig := semAt cc0_scratch5 ![σ.val] (by revert σ; decide)

/-- One group of copies: its slot, its panel, the item's first row and count, the tiles, and what the result held before. -/
structure Grp (F : FTy → Type) where
  σ : Fin 2
  n : Fin 4
  r0 : ℕ
  m : ℕ
  hm : m ≤ 4
  hr : r0 + 512 ≤ 99584
  T : ℕ → Vec F S1x128x1024 .f32
  Y : YC F

/-- The result after a group. -/
abbrev Grp.Y' (g : Grp F) : YC F := grpY g.r0 g.n.val g.m g.T g.Y

/-- One tile of a group: its window of the result, at `Y`, and its staging tile. -/
def pieceG (c : Dev nD) (g : Grp F) (Y : YC F) (t : ℕ) : sProp 𝕄 :=
  iprop(yPt c (winS g.r0 g.n.val t) Y ∗ ∃ f, bPt c (bS g.σ.val t) f)

/-- What the copy of tile `t` delivers. -/
def delG (c : Dev nD) (g : Grp F) : Fin g.m → sProp 𝕄 := fun t => pieceG c g g.Y' t.val

instance (c : Dev nD) (g : Grp F) (t : Fin g.m) : Storable (upEmb : UEmb _ 𝕄) (delG c g t) := by
  unfold delG pieceG; infer_instance

/-- The group's tiles from the `k`-th on. -/
def tilesFrom (k : ℕ) : Finset (Fin 4) := Finset.univ.filter fun t => k ≤ t.val

/-- The panel's rows that are not the item's. -/
def restS (r0 n : ℕ) : Finset S99584x4096.Idx := panel n \ (Finset.univ : Finset (Fin 4)).biUnion fun t => winS r0 n t.val

/-- A group under way: `k` copies started, `u` waited for. -/
def flight (c : Dev nD) (g : Grp F) (k u : ℕ) : sProp 𝕄 :=
  iprop(Batch (countersEmb (U := Pipeline.UD sig nD τ)) (c : Thread nD τ) (.dma (cellD g.σ)) () NC (delG c g) k (NC * u)
    ∗ bigSep (tilesFrom k) (fun t => pieceG c g g.Y t.val) ∗ yPt c (restS g.r0 g.n.val) g.Y)

/-- A staging slot not in use. -/
def slotF (c : Dev nD) (σ : Fin 2) : sProp 𝕄 :=
  iprop(semVal ((c : Thread nD τ), .dma (cellD σ)) 0 ∗ bigSep Finset.univ (fun t : Fin 4 => iprop(∃ f, bPt (F := F) c (bS σ.val t.val) f)))

/-- The item's tiles lie in the panel. -/
theorem win_sub (r0 n : ℕ) : ((Finset.univ : Finset (Fin 4)).biUnion fun t => winS r0 n t.val) ⊆ panel n := by
  intro x hx
  obtain ⟨t, -, ht⟩ := Finset.mem_biUnion.1 hx
  unfold winS at ht
  exact Finset.mem_filter.2 ⟨Finset.mem_univ _, (Finset.mem_filter.1 ht).2.2⟩

/-- The item's tiles are disjoint. -/
theorem win_disj (r0 n : ℕ) : ∀ t ∈ (Finset.univ : Finset (Fin 4)), ∀ t' ∈ (Finset.univ : Finset (Fin 4)), t ≠ t' → Disjoint (winS r0 n t.val) (winS r0 n t'.val) := by
  intro t _ t' _ htt
  rw [Finset.disjoint_left]
  intro x hx hx'
  unfold winS at hx hx'
  have h1 := (Finset.mem_filter.1 hx).2.1
  have h2 := (Finset.mem_filter.1 hx').2.1
  exact htt (Fin.ext (by omega))

/-- A panel is the item's tiles and the rest. -/
theorem panel_eq (c : Dev nD) (r0 n : ℕ) (Y : YC F) :
    (yPt c (panel n) Y : sProp 𝕄) ⊣⊢ iprop(bigSep Finset.univ (fun t : Fin 4 => yPt c (winS r0 n t.val) Y) ∗ yPt c (restS r0 n) Y) := by
  have h := pointsTo_split_subset (Ix := Unit) (Name := ℕ) (U := Pipeline.UD sig nD τ) (Lvl := ℕ) (Val := Elt F) (ℓ := ((c : Thread nD τ).loc main_v159)) (q := fullShare) (f := Y) (win_sub r0 n)
  have e := pointsTo_biUnion (Ix := Unit) (Name := ℕ) (U := Pipeline.UD sig nD τ) (Lvl := ℕ) (Val := Elt F) (ℓ := ((c : Thread nD τ).loc main_v159)) (q := fullShare) (f := Y)
    (Finset.univ : Finset (Fin 4)) (fun t => winS r0 n t.val) (win_disj r0 n)
  exact h.trans (BIBase.BiEntails.of_eq (congrArg (fun p => iprop(p ∗ yPt c (restS r0 n) Y)) e))

/-- A group's tiles are the windows and the staging tiles. -/
theorem pieces_eq (c : Dev nD) (g : Grp F) (Y : YC F) :
    bigSep Finset.univ (fun t : Fin 4 => pieceG c g Y t.val)
      = iprop(bigSep Finset.univ (fun t : Fin 4 => yPt c (winS g.r0 g.n.val t.val) Y) ∗ bigSep Finset.univ (fun t : Fin 4 => iprop(∃ f, bPt (F := F) c (bS g.σ.val t.val) f)) : sProp 𝕄) :=
  bigSep_sep Finset.univ (fun t : Fin 4 => yPt c (winS g.r0 g.n.val t.val) Y) (fun t : Fin 4 => iprop(∃ f, bPt (F := F) c (bS g.σ.val t.val) f))

/-- Starting a group. -/
theorem open_grp (c : Dev nD) (g : Grp F) :
    iprop(slotF c g.σ ∗ yPt c (panel g.n.val) g.Y) ⊢ (|={Set.univ}=> flight c g 0 0 : sProp 𝕄) := by
  unfold slotF flight
  iintro ⟨⟨Hs, Hb⟩, Hy⟩
  ihave Hy := (panel_eq c g.r0 g.n.val g.Y).1 $$ Hy
  icases Hy with ⟨Hw, Hr⟩
  imod (batch_alloc' (countersEmb (U := Pipeline.UD sig nD τ)) (c := (c : Thread nD τ)) (sm := .dma (cellD g.σ)) () NC (delG c g) (E := Set.univ)) $$ Hs with HB
  imodintro
  isplitl [HB]; · rw [Nat.mul_zero]; iexact HB
  isplitr [Hr]
  · rw [show tilesFrom 0 = Finset.univ from Finset.filter_true_of_mem fun _ _ => Nat.zero_le _]
    iapply (Entails.of_eq (pieces_eq c g g.Y).symm)
    isplitl [Hw] <;> iassumption
  iexact Hr

/-- Off the tiles written, a group changes nothing. -/
theorem grpY_off (r0 n m : ℕ) (T : ℕ → Vec F S1x128x1024 .f32) (Y : YC F) (t : ℕ) (ht : m ≤ t) : ∀ x ∈ winS r0 n t, Y x = grpY r0 n m T Y x := by
  intro x hx
  unfold winS at hx
  have h := (Finset.mem_filter.1 hx).2
  unfold grpY
  rw [if_neg (by omega)]

/-- On the panel's other rows a group changes nothing. -/
theorem grpY_rest (r0 n m : ℕ) (hm : m ≤ 4) (T : ℕ → Vec F S1x128x1024 .f32) (Y : YC F) : ∀ x ∈ restS r0 n, Y x = grpY r0 n m T Y x := by
  intro x hx
  unfold restS at hx
  obtain ⟨h1, h2⟩ := Finset.mem_sdiff.1 hx
  unfold panel at h1
  have h1 := (Finset.mem_filter.1 h1).2
  unfold grpY
  rw [if_neg]
  rintro ⟨-, hr⟩
  refine h2 (Finset.mem_biUnion.2 ⟨⟨((x 0).val - r0) / 128, by omega⟩, Finset.mem_univ _, ?_⟩)
  unfold winS
  exact Finset.mem_filter.2 ⟨Finset.mem_univ _, ⟨by show r0 + 128 * (((x 0).val - r0) / 128) ≤ _; omega, by show _ < r0 + 128 * (((x 0).val - r0) / 128) + 128; omega⟩, h1⟩

/-- Off its own panel a group changes nothing. -/
theorem grpY_panel (r0 n m : ℕ) (T : ℕ → Vec F S1x128x1024 .f32) (Y : YC F) (n' : ℕ) (hn : n' ≠ n) : ∀ x ∈ panel n', Y x = grpY r0 n m T Y x := by
  intro x hx
  unfold panel at hx
  have h1 := (Finset.mem_filter.1 hx).2
  unfold grpY
  rw [if_neg (by omega)]

/-- Ending a group. -/
theorem close_grp (c : Dev nD) (g : Grp F) :
    flight c g g.m g.m ⊢ (|={Set.univ}=> iprop(slotF c g.σ ∗ yPt c (panel g.n.val) g.Y') : sProp 𝕄) := by
  unfold flight
  iintro ⟨HB, Ht, Hr⟩
  imod (batch_collect' (countersEmb (U := Pipeline.UD sig nD τ)) (c := (c : Thread nD τ)) NC_pos (D := delG c g)) $$ HB with ⟨HD, Hs⟩
  imodintro
  have e1 : bigSep (tilesFrom g.m) (fun t => pieceG c g g.Y t.val) = bigSep (tilesFrom g.m) (fun t => pieceG c g g.Y' t.val) :=
    bigSep_congr fun t ht => by
      unfold pieceG
      rw [yPt, pointsTo_congr (grpY_off g.r0 g.n.val g.m g.T g.Y t.val (Finset.mem_filter.1 ht).2)]
  have e2 : bigSep Finset.univ (delG c g) = bigSep ((Finset.univ : Finset (Fin 4)).filter fun t => ¬ g.m ≤ t.val) (fun t => pieceG c g g.Y' t.val) := by
    rw [show ((Finset.univ : Finset (Fin 4)).filter fun t => ¬ g.m ≤ t.val) = Finset.univ.map (Fin.castLEEmb g.hm) from ?_, bigSep_map]
    · rfl
    · ext t
      simp only [Finset.mem_filter, Finset.mem_univ, true_and, Finset.mem_map, not_le]
      exact ⟨fun h => ⟨⟨t.val, h⟩, Fin.ext rfl⟩, fun ⟨a, ha⟩ => by rw [← ha]; exact a.isLt⟩
  have e3 : iprop(bigSep Finset.univ (delG c g) ∗ bigSep (tilesFrom g.m) (fun t => pieceG c g g.Y t.val))
      ⊢ iprop(bigSep Finset.univ (fun t : Fin 4 => yPt c (winS g.r0 g.n.val t.val) g.Y') ∗ bigSep Finset.univ (fun t : Fin 4 => iprop(∃ f, bPt (F := F) c (bS g.σ.val t.val) f)) : sProp 𝕄) := by
    rw [e1, e2]
    refine BIBase.Entails.trans ?_ (Entails.of_eq (pieces_eq c g g.Y'))
    refine BIBase.Entails.trans BI.sep_comm ?_
    exact Entails.of_eq (bigSep_filter_split Finset.univ (fun t : Fin 4 => g.m ≤ t.val)).symm
  ihave H := e3 $$ [HD Ht]
  · isplitl [HD] <;> iassumption
  icases H with ⟨Hw, Hb⟩
  unfold slotF
  isplitl [Hs Hb]
  · isplitl [Hs] <;> iassumption
  iapply (panel_eq c g.r0 g.n.val g.Y').2
  isplitl [Hw]; · iexact Hw
  iapply (Entails.of_eq (pointsTo_congr (grpY_rest g.r0 g.n.val g.m g.hm g.T g.Y))) $$ Hr

end Cert.KernelIdeal.Hand
-- ==== Proof.Copy.lean ====
/-
  The blocks that copy tiles out and wait for the copies.
-/
module

public import proofs.«01_k».proof.Proof.Own

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] {α : Type}

local notation "𝕄" => MT nD τ sig Unit (Elt F) ℕ (Pipeline.UD sig nD τ) ℕ

/-- The tiles from the `k`-th on are the `k`-th and those after it. -/
theorem tilesFrom_succ (k : Fin 4) : tilesFrom k.val = insert k (tilesFrom (k.val + 1)) ∧ k ∉ tilesFrom (k.val + 1) := by
  revert k; decide

/-- The first of the tiles not started, and the others. -/
theorem tiles_take (c : Dev nD) (g : Grp F) (j : Fin 4) :
    (bigSep (tilesFrom j.val) (fun t => pieceG c g g.Y t.val) : sProp 𝕄)
      = iprop((yPt c (winS g.r0 g.n.val j.val) g.Y ∗ ∃ f, bPt c (bS g.σ.val j.val) f) ∗ bigSep (tilesFrom (j.val + 1)) (fun t => pieceG c g g.Y t.val)) := by
  rw [(tilesFrom_succ j).1, bigSep_insert (tilesFrom_succ j).2]
  rfl

/-- Holding at the copy's own window what is held at the group's. -/
theorem yPt_win (c : Dev nD) (r0 n t : ℕ) (h : ∀ a, (![r0 + 128 * t, 1024 * n] : Fin 2 → ℕ) a + S128x1024.size a ≤ S99584x4096.size a) (Y : YC F) :
    (yPt c (winS r0 n t) Y : sProp 𝕄)
      = ((yWin yM ![r0 + 128 * t, 1024 * n] h).view.loc (c : Thread nD τ) ↦[(yWin yM ![r0 + 128 * t, 1024 * n] h).view.set]{fullShare} Y) :=
  congrArg (fun I => (yPt c I Y : sProp 𝕄)) (yWin_set r0 n t h).symm

/-- Holding at the copy's own source what is held of the staging tile. -/
theorem bPt_win (c : Dev nD) (σ t : ℕ) (h : ∀ a, (![σ, 128 * t, 0] : Fin 3 → ℕ) a + S1x128x1024.size a ≤ S2x512x1024.size a) (f : S2x512x1024.Idx → Elt F .f32) :
    (bPt c (bS σ t) f : sProp 𝕄)
      = ((bWin bM ![σ, 128 * t, 0] h).view.loc (c : Thread nD τ) ↦[(bWin bM ![σ, 128 * t, 0] h).view.set]{fullShare} f) :=
  congrArg (fun I => (bPt c I f : sProp 𝕄)) (bWin_set' σ t h).symm

set_option maxHeartbeats 1600000 in
/-- A down block. -/
theorem down_wp (c : Dev nD) (g : Grp F) (v : BitVec 32) (hv : v.toNat = g.m) (j : Fin 4)
    (a7 : Memref sig .tc .vmem S512x128 .f32) (a14 : Memref sig .tc .vmem S1152x1024 .bf16) (a15 : Memref sig .tc .vmem S512x1152 .bf16)
    (o : Fin 2 → ℕ) (ho : o = ![128 * j.val, 0]) (hg : ∀ a, o a + S128x128.size a ≤ S512x128.size a) (hh : ∀ a, o a + S128x1152.size a ≤ S512x1152.size a)
    (bo : Fin 3 → ℕ) (hboe : bo = ![g.σ.val, 128 * j.val, 0]) (hbo : ∀ a, bo a + S1x128x1024.size a ≤ S2x512x1024.size a)
    (so : Fin 1 → ℕ) (hsoe : so = ![g.σ.val]) (hso : ∀ a, so a + S1.size a ≤ S2.size a)
    (cnd : BitVec 1) (hc : cnd = gtc v (BitVec.ofNat 32 j.val))
    (yo : Fin 2 → ℕ) (hyoe : yo = ![g.r0 + 128 * j.val, 1024 * g.n.val]) (hyo : cnd = 1#1 → ∀ a, yo a + S128x1024.size a ≤ S99584x4096.size a)
    (bo' : Fin 3 → ℕ) (hboe' : bo' = ![g.σ.val, 128 * j.val, 0]) (hbo' : ∀ a, bo' a + S1x128x1024.size a ≤ S2x512x1024.size a)
    (pay : Vec F S128x128 .f32 → Vec F S128x1152 .bf16 → Vec F S1152x1024 .bf16 → FVec F S1x128x1024 .f32) (k : PA F α) (Q : α → sProp 𝕄)
    (x7 : Vec F S512x128 .f32) (w : Vec F S1152x1024 .bf16) (b : Vec F S512x1152 .bf16) (hT : j.val < g.m → pay (rwG x7 j) (rwH b j) w = g.T j.val) :
    iprop(owns (c : Thread nD τ) a7 fullShare x7 ∗ owns (c : Thread nD τ) a14 fullShare w ∗ owns (c : Thread nD τ) a15 fullShare b ∗ flight c g (min j.val g.m) 0)
    ⊢ iprop(((owns (c : Thread nD τ) a7 fullShare x7 ∗ owns (c : Thread nD τ) a14 fullShare w ∗ owns (c : Thread nD τ) a15 fullShare b
        ∗ flight c g (min (j.val + 1) g.m) 0) -∗ WP c k Q)
      -∗ WP c (downBlk cnd a7 yM a14 a15 bM cc0_scratch5 o hg hh bo hbo so hso yo hyo bo' hbo' pay k) Q) := by
  have hv4 : v.toNat ≤ 4 := hv ▸ g.hm
  subst ho hboe hsoe hc hyoe hboe'
  unfold downBlk
  split
  case isTrue h =>
    have hj : j.val < g.m := hv ▸ (gtc_iff v hv4 j).1 h
    rw [show min j.val g.m = j.val by omega, show min (j.val + 1) g.m = j.val + 1 by omega]
    unfold flight
    rw [tiles_take c g j]
    iintro ⟨H7, H14, H15, HB, ⟨⟨Hy, %f, Hb⟩, Ht⟩, Hr⟩ Hk
    iapply (wp_ld c a7 _ _ _ _ x7) $$ H7; iintro H7
    iapply (wp_ld c a15 _ _ _ _ b) $$ H15; iintro H15
    iapply (wp_ld c a14 _ _ _ _ w) $$ H14; iintro H14
    rw [window_all w]
    have hb := bWin_set g.σ.val j.val hbo
    iapply (wp_load_rect Variants.none (c : Thread nD τ) none Set.univ (m := bM) (r := Rect.unit (s := S2x512x1024) ![g.σ.val, 128 * j.val, 0] S1x128x1024.size hbo)
      (S := bS g.σ.val j.val) (f := f) hb.subset) $$ Hb
    iintro Hb
    iapply (wp_store Variants.none (c : Thread nD τ) none Set.univ (m := bM) (r := Rect.unit (s := S2x512x1024) ![g.σ.val, 128 * j.val, 0] S1x128x1024.size hbo)
      (S := bS g.σ.val j.val) (f := f) (by rw [View.setOn_univ]; exact hb.subset)) $$ Hb
    iintro Hb
    have hT' := hT hj
    rw [hT']
    ihave Hy := (Entails.of_eq (yPt_win c g.r0 g.n.val j.val (hyo h) g.Y)) $$ Hy
    ihave Hb := (Entails.of_eq (bPt_win c g.σ.val j.val hbo' _)) $$ Hb
    iapply (wp_dmaBatch (countersEmb (U := Pipeline.UD sig nD τ)) Variants.none (c : Thread nD τ) none (D := delG c g) (j := j.val) (u := NC * 0) () NC
      (src := bWin bM ![g.σ.val, 128 * j.val, 0] hbo') (dst := yWin yM ![g.r0 + 128 * j.val, 1024 * g.n.val] (hyo h)) (sm := .dma (cellD g.σ)) rfl
      (Finset.Subset.refl _) hj (by rw [Nat.mul_zero]; exact Nat.zero_le _) ?_) $$ [Hy Hb HB]
    · unfold delG pieceG
      iintro ⟨Hy, Hb⟩
      isplitl [Hy]
      · have hx := write_eq g.r0 g.n.val g.m j.val hj g.T g.Y
          ((bWin bM ![g.σ.val, 128 * j.val, 0] hbo').view.read (Elt F) ((bM.access (Rect.unit (s := S2x512x1024) ![g.σ.val, 128 * j.val, 0] S1x128x1024.size hbo)).write (Elt F) f (g.T j.val) Finset.univ))
          (bWin_read f _ hbo' (g.T j.val)) (hyo h)
        iapply (Entails.of_eq ((yPt_win c g.r0 g.n.val j.val (hyo h) _).symm.trans (pointsTo_congr hx))) $$ Hy
      · iexists _
        iapply (Entails.of_eq (bPt_win c g.σ.val j.val hbo' _).symm) $$ Hb
    · isplitl [Hb]; · iexact Hb
      isplitl [Hy]; · iexact Hy
      iexact HB
    iintro HB
    iapply Hk
    isplitl [H7]; · iexact H7
    isplitl [H14]; · iexact H14
    isplitl [H15]; · iexact H15
    isplitl [HB]; · iexact HB
    isplitl [Ht]; · iexact Ht
    iexact Hr
  case isFalse h =>
    have hj : ¬ j.val < g.m := fun hj => h ((gtc_iff v hv4 j).2 (hv ▸ hj))
    rw [show min j.val g.m = g.m by omega, show min (j.val + 1) g.m = g.m by omega]
    iintro H Hk
    iapply Hk
    iexact H

/-- A conditional wait. -/
theorem wait_wp (c : Dev nD) (g : Grp F) (v : BitVec 32) (hv : v.toNat = g.m) (j : Fin 4)
    (so : Fin 1 → ℕ) (hsoe : so = ![g.σ.val]) (hso : ∀ a, so a + S1.size a ≤ S2.size a)
    (cnd : BitVec 1) (hc : cnd = gtc v (BitVec.ofNat 32 j.val))
    (yo : Fin 2 → ℕ) (hyo : cnd = 1#1 → ∀ a, yo a + S128x1024.size a ≤ S99584x4096.size a)
    (bo : Fin 3 → ℕ) (hbo : ∀ a, bo a + S1x128x1024.size a ≤ S2x512x1024.size a) (k : PA F α) (Q : α → sProp 𝕄) (W : Waits sig Unit) :
    iprop(flight c g g.m (min j.val g.m) ∗ owes (c : Thread nD τ) 0 W)
    ⊢ iprop((∀ W', (flight c g g.m (min (j.val + 1) g.m) ∗ owes (c : Thread nD τ) 0 W') -∗ WP c k Q)
      -∗ WP c (waitBlk cnd yM bM cc0_scratch5 so hso yo hyo bo hbo k) Q) := by
  have hv4 : v.toNat ≤ 4 := hv ▸ g.hm
  subst hsoe hc
  unfold waitBlk
  split
  case isTrue h =>
    have hj : j.val < g.m := hv ▸ (gtc_iff v hv4 j).1 h
    rw [show min j.val g.m = j.val by omega, show min (j.val + 1) g.m = j.val + 1 by omega]
    unfold flight
    iintro ⟨⟨HB, Ht, Hr⟩, HO⟩ Hk
    iapply (wp_waitBatchMul (countersEmb (U := Pipeline.UD sig nD τ)) Variants.none (c : Thread nD τ) none (D := delG c g) (j := g.m) (u := NC * j.val) () (N := NC)
      (srcw := bWin bM bo hbo) (dstw := yWin yM yo (hyo h)) (sem := cellD g.σ) 1 (by rw [Nat.one_mul]; rfl)
      (by rw [Nat.one_mul, ← Nat.mul_succ]; exact Nat.mul_le_mul_left _ hj)) $$ [HB HO]
    · isplitl [HB]; · iexact HB
      iexact HO
    iintro ⟨HB, HO⟩
    iapply Hk
    isplitr [HO]
    · isplitl [HB]
      · rw [Nat.mul_succ, Nat.one_mul]; iexact HB
      isplitl [Ht]; · iexact Ht
      iexact Hr
    iexact HO
  case isFalse h =>
    have hj : ¬ j.val < g.m := fun hj => h ((gtc_iff v hv4 j).2 (hv ▸ hj))
    rw [show min j.val g.m = g.m by omega, show min (j.val + 1) g.m = g.m by omega]
    iintro H Hk
    iapply Hk
    iexact H

end Cert.KernelIdeal.Hand
-- ==== Proof.Closed.lean ====
/-
  The offsets and conditions that the body computes from its grid point and its tables, in closed form.
-/
module

public import proofs.«01_k».proof.Proof.Copy

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The step's place among the down steps is its slot's parity. -/
abbrev slotN (i : grid0.Coords) : ℕ := ((i 1).val - 4) % 2

/-- Where the body stores and copies from in the staging buffer. -/
theorem offB (i : grid0.Coords) (h : 4 ≤ (i 1).val) :
    (k0_off8 i = ![slotN i, 0, 0] ∧ k0_off11 i = ![slotN i, 0, 0]) ∧ (k0_off12 i = ![slotN i, 128, 0] ∧ k0_off15 i = ![slotN i, 128, 0])
    ∧ (k0_off16 i = ![slotN i, 256, 0] ∧ k0_off19 i = ![slotN i, 256, 0]) ∧ (k0_off20 i = ![slotN i, 384, 0] ∧ k0_off23 i = ![slotN i, 384, 0]) := by
  unfold slotN k0_off8 k0_off11 k0_off12 k0_off15 k0_off16 k0_off19 k0_off20 k0_off23
  generalize i 1 = s at h ⊢
  revert s
  decide +kernel

/-- The semaphore that a step's copies count on. -/
theorem offS (i : grid0.Coords) (h : 4 ≤ (i 1).val) :
    k0_off9 i = ![slotN i] ∧ k0_off13 i = ![slotN i] ∧ k0_off17 i = ![slotN i] ∧ k0_off21 i = ![slotN i] := by
  unfold slotN k0_off9 k0_off13 k0_off17 k0_off21
  generalize i 1 = s at h ⊢
  revert s
  decide +kernel

/-- The semaphore of the step before. -/
theorem offP (i : grid0.Coords) (h : 5 ≤ (i 1).val) :
    k0_off24 i = ![((i 1).val - 5) % 2] ∧ k0_off27 i = ![((i 1).val - 5) % 2] ∧ k0_off30 i = ![((i 1).val - 5) % 2] ∧ k0_off33 i = ![((i 1).val - 5) % 2] := by
  unfold k0_off24 k0_off27 k0_off30 k0_off33
  generalize i 1 = s at h ⊢
  revert s
  decide +kernel

/-- The semaphore of the last step. -/
theorem offE (i : grid0.Coords) (h : 4 ≤ (i 1).val) :
    k0_off36 i = ![slotN i] ∧ k0_off39 i = ![slotN i] ∧ k0_off42 i = ![slotN i] ∧ k0_off45 i = ![slotN i] := by
  unfold slotN k0_off36 k0_off39 k0_off42 k0_off45
  generalize i 1 = s at h ⊢
  revert s
  decide +kernel

/-- An item's first step but the first item's. -/
theorem cond1_iff (i : grid0.Coords) : k0_cond1 i = 1#1 ↔ (i 1).val = 0 ∧ 0 < (i 0).val := by
  unfold k0_cond1
  generalize i 1 = s
  generalize i 0 = s'
  revert s s'
  decide +kernel

/-- The down steps. -/
theorem cond12_iff (i : grid0.Coords) : k0_cond12 i = 1#1 ↔ 4 ≤ (i 1).val := by
  unfold k0_cond12
  generalize i 1 = s
  revert s
  decide +kernel

/-- The down steps after the first. -/
theorem cond22_iff (i : grid0.Coords) (h : 4 ≤ (i 1).val) : k0_cond22 i = 1#1 ↔ 5 ≤ (i 1).val := by
  unfold k0_cond22
  generalize i 1 = s at h ⊢
  revert s
  decide +kernel

/-- The last grid point. -/
theorem cond27_iff (i : grid0.Coords) : k0_cond27 i = 1#1 ↔ (i 1).val = 7 ∧ (i 0).val = 385 := by
  unfold k0_cond27
  generalize i 1 = s
  generalize i 0 = s'
  revert s s'
  decide +kernel

/-- The gate-and-up steps. -/
theorem condGU_iff (i : grid0.Coords) :
    Scalar.cmpi .ne (Scalar.extui (Scalar.cmpi .slt (BitVec.ofNat 32 (i 1).val) 4#32) : BitVec 32) 0#32 = 1#1 ↔ (i 1).val < 4 := by
  generalize i 1 = s
  revert s
  decide +kernel

/-- The first of the gate-and-up steps. -/
theorem condZ_iff (i : grid0.Coords) :
    Scalar.cmpi .ne (Scalar.extui (Scalar.cmpi .eq (BitVec.ofNat 32 (i 1).val) 0#32) : BitVec 32) 0#32 = 1#1 ↔ (i 1).val = 0 := by
  generalize i 1 = s
  revert s
  decide +kernel

/-- The first of the down steps. -/
theorem condA_iff (i : grid0.Coords) :
    Scalar.cmpi .ne (Scalar.extui (Scalar.cmpi .eq (Scalar.subi (BitVec.ofNat 32 (i 1).val) 4#32) 0#32) : BitVec 32) 0#32 = 1#1 ↔ (i 1).val = 4 := by
  generalize i 1 = s
  revert s
  decide +kernel

/-- The column that a down step writes. -/
theorem colW (i : grid0.Coords) (h : 4 ≤ (i 1).val) :
    ((BitVec.ofNat 32 (i 1).val - 4#32) * 1024#32).toNat = 1024 * ((i 1).val - 4) := by
  generalize i 1 = s at h ⊢
  revert s
  decide +kernel

/-- The column before. -/
theorem colP (i : grid0.Coords) (h : 5 ≤ (i 1).val) :
    ((BitVec.ofNat 32 (i 1).val - 4#32 - 1#32) * 1024#32).toNat = 1024 * ((i 1).val - 5) := by
  generalize i 1 = s at h ⊢
  revert s
  decide +kernel

/-- A block's first row. -/
theorem rowW (v : BitVec 32) (hv : v.toNat * 128 + 512 ≤ 99584) (j : ℕ) (hj : j ≤ 384) :
    (v * 128#32 + BitVec.ofNat 32 j).toNat = v.toNat * 128 + j := by
  simp only [BitVec.toNat_add, BitVec.toNat_mul, BitVec.toNat_ofNat]
  omega

/-- Where a down step's copies go. -/
theorem offY (i : grid0.Coords) (h : 4 ≤ (i 1).val) (v : BitVec 32) (hv : v.toNat * 128 + 512 ≤ 99584) :
    k0_off10 i v = ![v.toNat * 128 + 0, 1024 * ((i 1).val - 4)] ∧ k0_off14 i v = ![v.toNat * 128 + 128, 1024 * ((i 1).val - 4)]
    ∧ k0_off18 i v = ![v.toNat * 128 + 256, 1024 * ((i 1).val - 4)] ∧ k0_off22 i v = ![v.toNat * 128 + 384, 1024 * ((i 1).val - 4)] := by
  refine ⟨?_, ?_, ?_, ?_⟩
  · exact (congrArg₂ (fun a b : ℕ => (![a, b] : Fin 2 → ℕ)) (rowW v hv 0 (by omega)) (colW i h) : _)
  · exact (congrArg₂ (fun a b : ℕ => (![a, b] : Fin 2 → ℕ)) (rowW v hv 128 (by omega)) (colW i h) : _)
  · exact (congrArg₂ (fun a b : ℕ => (![a, b] : Fin 2 → ℕ)) (rowW v hv 256 (by omega)) (colW i h) : _)
  · exact (congrArg₂ (fun a b : ℕ => (![a, b] : Fin 2 → ℕ)) (rowW v hv 384 (by omega)) (colW i h) : _)

/-- A window at rows and columns that fit is inside the result. -/
theorem inb_y (o : Fin 2 → ℕ) (a b : ℕ) (ho : o = ![a, b]) (ha : a + 128 ≤ 99584) (hb : b + 1024 ≤ 4096) :
    ∀ x, o x + S128x1024.size x ≤ S99584x4096.size x := by
  subst ho; intro x
  fin_cases x
  · exact ha
  · exact hb

/-- The bounds that the body assumes of the item before. -/
theorem chk1_of (i : grid0.Coords) (v v' : BitVec 32) (hv : v.toNat * 128 + 512 ≤ 99584) : k0_chk1 i v v' := by
  refine ⟨fun _ _ => ?_, fun _ _ => ?_, fun _ _ => ?_, fun _ _ => ?_⟩
  · exact inb_y _ _ _ rfl ((rowW v hv 0 (by omega)).symm ▸ by omega) (by decide)
  · exact inb_y _ _ _ rfl ((rowW v hv 128 (by omega)).symm ▸ by omega) (by decide)
  · exact inb_y _ _ _ rfl ((rowW v hv 256 (by omega)).symm ▸ by omega) (by decide)
  · exact inb_y _ _ _ rfl ((rowW v hv 384 (by omega)).symm ▸ by omega) (by decide)

/-- The bounds that the body assumes of the item. -/
theorem chk2_of (i : grid0.Coords) (v1 v : BitVec 32) (hv : v.toNat * 128 + 512 ≤ 99584) : k0_chk2 i v1 v := by
  have h8 : (i 1).val < 8 := (i 1).isLt
  have W : ∀ (o : Fin 2 → ℕ) (j : ℕ), j ≤ 384 → k0_cond12 i = 1#1 →
      o = ![(v * 128#32 + BitVec.ofNat 32 j).toNat, ((BitVec.ofNat 32 (i 1).val - 4#32) * 1024#32).toNat] →
      ∀ x, o x + S128x1024.size x ≤ S99584x4096.size x := fun o j hj h12 ho => by
    have h4 := (cond12_iff i).1 h12
    rw [rowW v hv j hj, colW i h4] at ho
    exact inb_y o _ _ ho (by omega) (by omega)
  have P : ∀ (o : Fin 2 → ℕ) (j : ℕ), j ≤ 384 → k0_cond12 i = 1#1 → k0_cond22 i = 1#1 →
      o = ![(v * 128#32 + BitVec.ofNat 32 j).toNat, ((BitVec.ofNat 32 (i 1).val - 4#32 - 1#32) * 1024#32).toNat] →
      ∀ x, o x + S128x1024.size x ≤ S99584x4096.size x := fun o j hj h12 h22 ho => by
    have h4 := (cond22_iff i ((cond12_iff i).1 h12)).1 h22
    rw [rowW v hv j hj, colP i h4] at ho
    exact inb_y o _ _ ho (by omega) (by omega)
  exact ⟨fun h _ => W _ 0 (by omega) h rfl, fun h _ => W _ 128 (by omega) h rfl, fun h _ => W _ 256 (by omega) h rfl, fun h _ => W _ 384 (by omega) h rfl,
    fun h h' _ => P _ 0 (by omega) h h' rfl, fun h h' _ => P _ 128 (by omega) h h' rfl, fun h h' _ => P _ 256 (by omega) h h' rfl, fun h h' _ => P _ 384 (by omega) h h' rfl,
    fun h _ _ => W _ 0 (by omega) h rfl, fun h _ _ => W _ 128 (by omega) h rfl, fun h _ _ => W _ 256 (by omega) h rfl, fun h _ _ => W _ 384 (by omega) h rfl⟩

end Cert.KernelIdeal.Hand
-- ==== Proof.Inv.lean ====
/-
  What the region computes, item by item, and what is held between two grid points.
-/
module

public import proofs.«01_k».proof.Proof.Closed

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] {α : Type}

local notation "𝕄" => MT nD τ sig Unit (Elt F) ℕ (Pipeline.UD sig nD τ) ℕ

/-- What the region reads: of each item its first row and its number of blocks, of each grid point the five staged blocks, and
    what the result holds at the start. -/
structure RD (F : FTy → Type) where
  r : ℕ → ℕ
  m : ℕ → ℕ
  hm : ∀ i, m i ≤ 4
  hr : ∀ i, r i + 512 ≤ 99584
  X : ℕ → Vec F S512x1024 .bf16
  G : ℕ → Vec F S512x128 .f32
  Wg : ℕ → Vec F S1x1x1024x1152 .f32
  Wu : ℕ → Vec F S1x1x1024x1152 .f32
  Wd : ℕ → Vec F S1x1x1152x1024 .f32
  Y0 : YC F

/-- The two projections' chunks side by side. -/
def wgu (x8 x9 : Vec F S1x1x1024x1152 .f32) (d : Vec F S1024x2304 .bf16) : Vec F S1024x2304 .bf16 :=
  VecWindow.put (VecWindow.put d ![0, 0] S1024x1152.size (k0_pay1 x8)) ![0, 1152] S1024x1152.size (k0_pay2 x9)

/-- Nothing is left of what the weight buffer held. -/
theorem wgu_indep (x8 x9 : Vec F S1x1x1024x1152 .f32) (d d' : Vec F S1024x2304 .bf16) : wgu x8 x9 d = wgu x8 x9 d' := by
  funext x
  unfold wgu VecWindow.put
  split
  · rfl
  · rename_i h
    split
    · rfl
    · rename_i h'
      exfalso
      have h0 : (x 0).val < 1024 := (x 0).isLt
      have h1 : (x 1).val < 2304 := (x 1).isLt
      by_cases hx : (x 1).val < 1152
      · refine h' fun a => ?_
        fin_cases a
        · exact ⟨Nat.zero_le _, by show (x 0).val < 0 + 1024; omega⟩
        · exact ⟨Nat.zero_le _, by show (x 1).val < 0 + 1152; omega⟩
      · refine h fun a => ?_
        fin_cases a
        · exact ⟨Nat.zero_le _, by show (x 0).val < 0 + 1024; omega⟩
        · exact ⟨by show 1152 ≤ (x 1).val; omega, by show (x 1).val < 1152 + 1152; omega⟩

namespace RD

variable (R : RD F)

/-- Block `j` of item `i`'s gate-and-up accumulator after `s` chunks. -/
def acc (i : ℕ) (j : Fin 4) : ℕ → Vec F S128x2304 .f32
  | 0 => rwA (k0_pay3 (F := F)) j
  | s + 1 => k0_pay4 (acc i j s) (rwX (R.X (8 * i + s)) j) (wgu (R.Wg (8 * i + s)) (R.Wu (8 * i + s)) (fun _ => k0_pay1 (R.Wg (8 * i + s)) (fun a => ⟨0, by revert a; decide⟩)))

/-- Block `j` of item `i`'s activations. -/
def hb (i : ℕ) (j : Fin 4) : Vec F S128x1152 .bf16 :=
  k0_pay10 (VecWindow.window (R.acc i j 4) ![0, 0] S128x1152.size (by decide)) (VecWindow.window (R.acc i j 4) ![0, 1152] S128x1152.size (by decide))

/-- Block `t` of item `i`'s result in column panel `n`. -/
def tile (i n t : ℕ) : Vec F S1x128x1024 .f32 :=
  k0_pay15 (rwG (R.G (8 * i + 4 + n)) ⟨t % 4, Nat.mod_lt _ (by decide)⟩) (R.hb i ⟨t % 4, Nat.mod_lt _ (by decide)⟩) (k0_pay14 (R.Wd (8 * i + 4 + n)))

/-- The result in column panel `n` before item `i`. -/
def y (n : ℕ) : ℕ → YC F
  | 0 => R.Y0
  | i + 1 => grpY (R.r i) n (R.m i) (R.tile i n) (y n i)

/-- The copies of item `i` and column panel `n`. -/
def grp (i : ℕ) (n : Fin 4) : Grp F where
  σ := ⟨n.val % 2, Nat.mod_lt _ (by decide)⟩
  n := n
  r0 := R.r i
  m := R.m i
  hm := R.hm i
  hr := R.hr i
  T := R.tile i n.val
  Y := R.y n.val i

/-- Panel `n` of the result, as item `i` finds it. -/
abbrev P (c : Dev nD) (n i : ℕ) : sProp 𝕄 := yPt c (panel n) (R.y n i)

/-- The other panels of the result while the copies of item `i` and panel `n` are under way. -/
def rest (c : Dev nD) (i : ℕ) : Fin 4 → sProp 𝕄
  | 0 => iprop(R.P c 1 i ∗ R.P c 2 i ∗ R.P c 3 i)
  | 1 => iprop(R.P c 2 i ∗ R.P c 0 (i + 1) ∗ R.P c 3 i)
  | 2 => iprop(R.P c 3 i ∗ R.P c 0 (i + 1) ∗ R.P c 1 (i + 1))
  | 3 => iprop(R.P c 0 (i + 1) ∗ R.P c 1 (i + 1) ∗ R.P c 2 (i + 1))

/-- The result and the staging buffer with no copy under way. -/
def idle (c : Dev nD) (i : ℕ) : sProp 𝕄 :=
  iprop(slotF c (0 : Fin 2) ∗ slotF c (1 : Fin 2) ∗ R.P c 0 i ∗ R.P c 1 i ∗ R.P c 2 i ∗ R.P c 3 i)

/-- The result and the staging buffer with the copies of item `i` and panel `n` under way. -/
def busy (c : Dev nD) (i : ℕ) (n : Fin 4) : sProp 𝕄 :=
  iprop(flight c (R.grp i n) (R.m i) 0 ∗ slotF c (⟨(n.val + 1) % 2, Nat.mod_lt _ (by decide)⟩ : Fin 2) ∗ R.rest c i n)

/-- The result and the staging buffer before step `s` of item `i`. -/
def st (c : Dev nD) (i s : ℕ) : sProp 𝕄 :=
  if s = 0 then (if i = 0 ∨ 386 ≤ i then R.idle c i else R.busy c (i - 1) 3)
  else if h : s < 5 then R.idle c i
  else if h : s < 8 then R.busy c i ⟨s - 5, by omega⟩ else iprop(False)

/-- The scratch buffers' facts before step `s` of item `i`. -/
def facts (i s : ℕ) (d12 : Vec F S512x2304 .f32) (d15 : Vec F S512x1152 .bf16) : Prop :=
  (1 ≤ s → s ≤ 4 → ∀ j : Fin 4, j.val < R.m i → rwA d12 j = R.acc i j s) ∧ (5 ≤ s → ∀ j : Fin 4, j.val < R.m i → rwH d15 j = R.hb i j)

/-- The scratch buffers before step `s` of item `i`. -/
def scr (c : Dev nD) (i s : ℕ) : sProp 𝕄 :=
  iprop(∃ d12 d13 d14 d15, ⌜R.facts i s d12 d15⌝ ∗ owns (c : Thread nD τ) (Memref.whole cc0_scratch0) fullShare d12 ∗ owns (c : Thread nD τ) (Memref.whole cc0_scratch1) fullShare d13
    ∗ owns (c : Thread nD τ) (Memref.whole cc0_scratch2) fullShare d14 ∗ owns (c : Thread nD τ) (Memref.whole cc0_scratch3) fullShare d15)

/-- The two halves of an accumulator's block. -/
theorem rwA0_of (d : Vec F S512x2304 .f32) (j : Fin 4) :
    rwA0 d j = VecWindow.window (rwA d j) ![0, 0] S128x1152.size (by decide) := by
  funext x
  refine congrArg d (funext fun a => Fin.ext ?_)
  fin_cases a
  · show 128 * j.val + 1 * (x 0).val = 128 * j.val + 1 * (0 + 1 * (x 0).val); omega
  · show 0 + 1 * (x 1).val = 0 + 1 * (0 + 1 * (x 1).val); omega

/-- The second half. -/
theorem rwA1_of (d : Vec F S512x2304 .f32) (j : Fin 4) :
    rwA1 d j = VecWindow.window (rwA d j) ![0, 1152] S128x1152.size (by decide) := by
  funext x
  refine congrArg d (funext fun a => Fin.ext ?_)
  fin_cases a
  · show 128 * j.val + 1 * (x 0).val = 128 * j.val + 1 * (0 + 1 * (x 0).val); omega
  · show 1152 + 1 * (x 1).val = 0 + 1 * (1152 + 1 * (x 1).val); omega

/-- What the first down step leaves in the activations. -/
theorem hb_of (i : ℕ) (v : BitVec 32) (hv : v.toNat = R.m i) (d12 : Vec F S512x2304 .f32) (d15 : Vec F S512x1152 .bf16)
    (h : ∀ j : Fin 4, j.val < R.m i → rwA d12 j = R.acc i j 4) (j : Fin 4) (hj : j.val < R.m i) : rwH (actAll v d12 d15) j = R.hb i j := by
  rw [actAll_row v (hv ▸ R.hm i) j (hv ▸ hj), rwA0_of, rwA1_of, h j hj]
  rfl

/-- The tile that a down block computes. -/
theorem tile_of (i n : ℕ) (j : Fin 4) (w : Vec F S128x1152 .bf16) (h : w = R.hb i j) :
    k0_pay15 (rwG (R.G (8 * i + 4 + n)) j) w (k0_pay14 (R.Wd (8 * i + 4 + n))) = R.tile i n j.val := by
  unfold tile
  rw [h]
  congr <;> exact Fin.ext (Nat.mod_eq_of_lt j.isLt).symm

end RD

end Cert.KernelIdeal.Hand
-- ==== Proof.Phase.lean ====
/-
  What each phase of the body does.
-/
module

public import proofs.«01_k».proof.Proof.Inv

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] {α : Type}

local notation "𝕄" => MT nD τ sig Unit (Elt F) ℕ (Pipeline.UD sig nD τ) ℕ

/-- Entry `n` of a table. -/
def tabAt (d : Vec F S386 .i32) (n : ℕ) : BitVec 32 := if h : n < 386 then d (fun a => ⟨n, by revert a; exact fun a => by fin_cases a; exact h⟩) else 0#32

/-- A load of a table's word. -/
theorem wp_tab (c : Dev nD) (m : Memref sig .tc .smem S386 .i32) (off : Fin 1 → ℕ) (h : ∀ a, off a + S1.size a ≤ S386.size a) (n : ℕ) (hn : n < 386) (ho : off = ![n])
    (q : PosShare TreeShare) (d : Vec F S386 .i32) {hl : (m.access (Rect.unit (s := S386) off S1.size h)).Loads} (x : (Rect.unit (s := S386) off S1.size h).shape.Idx)
    (k : BitVec 32 → PA F α) (Q : α → sProp 𝕄) :
    owns (c : Thread nD τ) m q d ⊢ iprop((owns (c : Thread nD τ) m q d -∗ WP c (k (tabAt d n)) Q)
      -∗ WP c (smemLoadElt m (Rect.unit (s := S386) off S1.size h) hl x k) Q) := by
  subst ho
  have e : VecWindow.window d ![n] S1.size h x = tabAt d n := by
    unfold tabAt; rw [dif_pos hn]
    refine congrArg d (funext fun a => Fin.ext ?_)
    have h0 : (x 0).val < 1 := (x 0).isLt
    fin_cases a
    show n + 1 * (x 0).val = n
    omega
  have key := fun hl' => wp_ld (F := F) c m ![n] S1.size h q d (hl := hl') (fun f => k (f x)) Q
  rw [e] at key
  exact key _

/-- The four waits for a group. -/
theorem wait4_wp (c : Dev nD) (g : Grp F) (v : BitVec 32) (hv : v.toNat = g.m)
    (s0 s1 s2 s3 : Fin 1 → ℕ) (e0 : s0 = ![g.σ.val]) (e1 : s1 = ![g.σ.val]) (e2 : s2 = ![g.σ.val]) (e3 : s3 = ![g.σ.val])
    (i0 : ∀ a, s0 a + S1.size a ≤ S2.size a) (i1 : ∀ a, s1 a + S1.size a ≤ S2.size a) (i2 : ∀ a, s2 a + S1.size a ≤ S2.size a) (i3 : ∀ a, s3 a + S1.size a ≤ S2.size a)
    (c0 c1 c2 c3 : BitVec 1) (q0 : c0 = gtc v 0#32) (q1 : c1 = gtc v 1#32) (q2 : c2 = gtc v 2#32) (q3 : c3 = gtc v 3#32)
    (y0 y1 y2 y3 : Fin 2 → ℕ) (z0 : c0 = 1#1 → ∀ a, y0 a + S128x1024.size a ≤ S99584x4096.size a) (z1 : c1 = 1#1 → ∀ a, y1 a + S128x1024.size a ≤ S99584x4096.size a)
    (z2 : c2 = 1#1 → ∀ a, y2 a + S128x1024.size a ≤ S99584x4096.size a) (z3 : c3 = 1#1 → ∀ a, y3 a + S128x1024.size a ≤ S99584x4096.size a)
    (b0 b1 b2 b3 : Fin 3 → ℕ) (w0 : ∀ a, b0 a + S1x128x1024.size a ≤ S2x512x1024.size a) (w1 : ∀ a, b1 a + S1x128x1024.size a ≤ S2x512x1024.size a)
    (w2 : ∀ a, b2 a + S1x128x1024.size a ≤ S2x512x1024.size a) (w3 : ∀ a, b3 a + S1x128x1024.size a ≤ S2x512x1024.size a)
    (k : PA F α) (Q : α → sProp 𝕄) (W : Waits sig Unit) :
    iprop(flight c g g.m 0 ∗ owes (c : Thread nD τ) 0 W)
    ⊢ iprop((∀ W', (slotF c g.σ ∗ yPt c (panel g.n.val) g.Y' ∗ owes (c : Thread nD τ) 0 W') -∗ WP c k Q)
      -∗ WP c (waitBlk c0 yM bM cc0_scratch5 s0 i0 y0 z0 b0 w0 <| waitBlk c1 yM bM cc0_scratch5 s1 i1 y1 z1 b1 w1 <|
        waitBlk c2 yM bM cc0_scratch5 s2 i2 y2 z2 b2 w2 <| waitBlk c3 yM bM cc0_scratch5 s3 i3 y3 z3 b3 w3 k) Q) := by
  iintro ⟨HF, HO⟩ Hk
  iapply (wait_wp c g v hv 0 s0 e0 i0 c0 q0 y0 z0 b0 w0 _ Q W) $$ [HF HO]
  · isplitl [HF]
    · iapply (Entails.of_eq (congrArg (fun u => flight c g g.m u) (Nat.zero_min _).symm)) $$ HF
    · iexact HO
  iintro %W1 ⟨HF, HO⟩
  iapply (wait_wp c g v hv 1 s1 e1 i1 c1 q1 y1 z1 b1 w1 _ Q W1) $$ [HF HO]
  · isplitl [HF]; · iexact HF
    iexact HO
  iintro %W2 ⟨HF, HO⟩
  iapply (wait_wp c g v hv 2 s2 e2 i2 c2 q2 y2 z2 b2 w2 _ Q W2) $$ [HF HO]
  · isplitl [HF]; · iexact HF
    iexact HO
  iintro %W3 ⟨HF, HO⟩
  iapply (wait_wp c g v hv 3 s3 e3 i3 c3 q3 y3 z3 b3 w3 _ Q W3) $$ [HF HO]
  · isplitl [HF]; · iexact HF
    iexact HO
  iintro %W4 ⟨HF, HO⟩
  ihave HF := (Entails.of_eq (congrArg (fun u => flight c g g.m u) (show min ((3 : Fin 4).val + 1) g.m = g.m from Nat.min_eq_right g.hm))) $$ HF
  imod (close_grp c g) $$ HF with ⟨HS, HY⟩
  iapply Hk
  isplitl [HS]; · iexact HS
  isplitl [HY]; · iexact HY
  iexact HO

/-- The chunk of the gate and up projections. -/
theorem gu4_wp (c : Dev nD) (i : grid0.Coords) (a6 : Memref sig .tc .vmem S512x1024 .bf16) (a8 a9 : Memref sig .tc .vmem S1x1x1024x1152 .f32)
    (a12 : Memref sig .tc .vmem S512x2304 .f32) (a13 : Memref sig .tc .vmem S1024x2304 .bf16) (h13 : a13.IsWhole) (v : BitVec 32) (hi : (i 1).val < 4) (k : PA F α) (Q : α → sProp 𝕄)
    (x6 : Vec F S512x1024 .bf16) (x8 x9 : Vec F S1x1x1024x1152 .f32) (d12 : Vec F S512x2304 .f32) (d13 : Vec F S1024x2304 .bf16) :
    iprop(owns (c : Thread nD τ) a6 fullShare x6 ∗ owns (c : Thread nD τ) a8 fullShare x8 ∗ owns (c : Thread nD τ) a9 fullShare x9
      ∗ owns (c : Thread nD τ) a12 fullShare d12 ∗ owns (c : Thread nD τ) a13 fullShare d13)
    ⊢ iprop(((owns (c : Thread nD τ) a6 fullShare x6 ∗ owns (c : Thread nD τ) a8 fullShare x8 ∗ owns (c : Thread nD τ) a9 fullShare x9
      ∗ owns (c : Thread nD τ) a12 fullShare (guAll v x6 (wgu x8 x9 d13) (if (i 1).val = 0 then k0_pay3 (F := F) else d12)) ∗ owns (c : Thread nD τ) a13 fullShare (wgu x8 x9 d13)) -∗ WP c k Q)
      -∗ WP c (guS i a6 a8 a9 a12 a13 h13 v k) Q) := by
  unfold guS guAll
  rw [if_pos ((condGU_iff i).2 hi)]
  iintro ⟨H6, H8, H9, H12, H13⟩ Hk
  iapply (wgu_wp c a8 a9 a13 h13 _ Q x8 x9 d13) $$ [H8 H9 H13]
  · iframe H8 H9 H13
  iintro ⟨H8, H9, H13⟩
  iapply (zero_wp c _ a12 _ Q d12) $$ H12
  iintro H12
  rw [show (if Scalar.cmpi .ne (Scalar.extui (Scalar.cmpi .eq (BitVec.ofNat 32 (i 1).val) 0#32) : BitVec 32) 0#32 = 1#1 then k0_pay3 (F := F) else d12)
    = (if (i 1).val = 0 then k0_pay3 (F := F) else d12) from if_congr (condZ_iff i) rfl rfl]
  iapply (gu_wp c _ a6 a12 a13 _ _ _ _ _ Q x6 _ _) $$ [H6 H13 H12]
  · isplitl [H6]; · iexact H6
    isplitl [H13]; · iexact H13
    iexact H12
  iintro ⟨H6, H13, H12⟩
  iapply (gu_wp c _ a6 a12 a13 _ _ _ _ _ Q x6 _ _) $$ [H6 H13 H12]
  · isplitl [H6]; · iexact H6
    isplitl [H13]; · iexact H13
    iexact H12
  iintro ⟨H6, H13, H12⟩
  iapply (gu_wp c _ a6 a12 a13 _ _ _ _ _ Q x6 _ _) $$ [H6 H13 H12]
  · isplitl [H6]; · iexact H6
    isplitl [H13]; · iexact H13
    iexact H12
  iintro ⟨H6, H13, H12⟩
  iapply (gu_wp c _ a6 a12 a13 _ _ _ _ _ Q x6 _ _) $$ [H6 H13 H12]
  · isplitl [H6]; · iexact H6
    isplitl [H13]; · iexact H13
    iexact H12
  iintro ⟨H6, H13, H12⟩
  iapply Hk
  isplitl [H6]; · iexact H6
  isplitl [H8]; · iexact H8
  isplitl [H9]; · iexact H9
  isplitl [H12]; · iexact H12
  iexact H13

/-- The activations, at the first down step. -/
theorem act4_wp (c : Dev nD) (i : grid0.Coords) (a12 : Memref sig .tc .vmem S512x2304 .f32) (a15 : Memref sig .tc .vmem S512x1152 .bf16) (h15 : a15.IsWhole) (v : BitVec 32)
    (k : PA F α) (Q : α → sProp 𝕄) (d : Vec F S512x2304 .f32) (b : Vec F S512x1152 .bf16) :
    iprop(owns (c : Thread nD τ) a12 fullShare d ∗ owns (c : Thread nD τ) a15 fullShare b)
    ⊢ iprop(((owns (c : Thread nD τ) a12 fullShare d ∗ owns (c : Thread nD τ) a15 fullShare (if (i 1).val = 4 then actAll v d b else b)) -∗ WP c k Q)
      -∗ WP c (actS i a12 a15 h15 v k) Q) := by
  unfold actS actAll
  by_cases h : (i 1).val = 4
  · rw [if_pos ((condA_iff i).2 h), if_pos h]
    iintro ⟨H12, H15⟩ Hk
    iapply (act_wp c _ a12 a15 _ _ _ _ _ _ _ _ Q d _) $$ [H12 H15]
    · isplitl [H12]; · iexact H12
      iexact H15
    iintro ⟨H12, H15⟩
    iapply (act_wp c _ a12 a15 _ _ _ _ _ _ _ _ Q d _) $$ [H12 H15]
    · isplitl [H12]; · iexact H12
      iexact H15
    iintro ⟨H12, H15⟩
    iapply (act_wp c _ a12 a15 _ _ _ _ _ _ _ _ Q d _) $$ [H12 H15]
    · isplitl [H12]; · iexact H12
      iexact H15
    iintro ⟨H12, H15⟩
    iapply (act_wp c _ a12 a15 _ _ _ _ _ _ _ _ Q d _) $$ [H12 H15]
    · isplitl [H12]; · iexact H12
      iexact H15
    iintro ⟨H12, H15⟩
    iapply Hk
    isplitl [H12]; · iexact H12
    iexact H15
  · rw [if_neg (fun h' => h ((condA_iff i).1 h')), if_neg h]
    iintro H Hk
    iapply Hk
    iexact H

end Cert.KernelIdeal.Hand
-- ==== Proof.Body.lean ====
/-
  What the body does at one grid point.
-/
module

public import proofs.«01_k».proof.Proof.Phase

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] {α : Type}

local notation "𝕄" => MT nD τ sig Unit (Elt F) ℕ (Pipeline.UD sig nD τ) ℕ

/-- The item before, as the body counts it. -/
theorem off2_eq (i : grid0.Coords) (h : 0 < (i 0).val) : k0_off2 i = ![(i 0).val - 1] := by
  unfold k0_off2
  generalize i 0 = s at h ⊢
  revert s
  decide +kernel

/-- The item, as the body counts it. -/
theorem off1_eq (i : grid0.Coords) : k0_off1 i = ![(i 0).val] := by
  unfold k0_off1
  generalize i 0 = s
  revert s
  decide +kernel

/-- The item, as the down half counts it. -/
theorem off7_eq (i : grid0.Coords) : k0_off7 i = ![(i 0).val] := by
  unfold k0_off7
  generalize i 0 = s
  revert s
  decide +kernel

/-- A program that returns. -/
theorem WP_ret (c : Dev nD) (a : α) (Q : α → sProp 𝕄) : Q a ⊢ WP c (.ret a : PA F α) Q := by
  show Q a ⊢ iprop(|={Set.univ}=> Q a)
  iintro H; imodintro; iexact H

namespace RD

variable (R : RD F)

/-- The waits at an item's first step, after which no copy is under way. -/
theorem prev_wp (c : Dev nD) (i : grid0.Coords) (n : ℕ) (hn : (i 0).val = n) (hs : (i 1).val = 0) (a4 a5 : Memref sig .tc .smem S386 .i32) (q : PosShare TreeShare)
    (d4 d5 : Vec F S386 .i32) (h4 : ∀ n, n < 386 → (tabAt d4 n).toNat * 128 = R.r n) (h5 : ∀ n, n < 386 → (tabAt d5 n).toNat = R.m n)
    (k : PA F α) (Q : α → sProp 𝕄) (W : Waits sig Unit) :
    iprop(owns (c : Thread nD τ) a4 q d4 ∗ owns (c : Thread nD τ) a5 q d5 ∗ R.st c n 0 ∗ owes (c : Thread nD τ) 0 W)
    ⊢ iprop((∀ W', (owns (c : Thread nD τ) a4 q d4 ∗ owns (c : Thread nD τ) a5 q d5 ∗ R.idle c n ∗ owes (c : Thread nD τ) 0 W') -∗ WP c k Q)
      -∗ WP c (prevS i a4 a5 yM bM cc0_scratch5 k) Q) := by
  have hn386 : n < 386 := hn ▸ (i 0).isLt
  unfold prevS st
  rw [if_pos rfl]
  by_cases h1 : k0_cond1 i = 1#1
  · have hpos : 0 < n := hn ▸ ((cond1_iff i).1 h1).2
    obtain ⟨n, rfl⟩ : ∃ n', n = n' + 1 := ⟨n - 1, by omega⟩
    rw [dif_pos h1, if_neg (by omega)]
    have ho : k0_off2 i = ![n] := by rw [off2_eq i (by omega), hn]; rfl
    have hv := h4 n (by omega)
    have hr := R.hr n
    unfold busy rest idle
    iintro ⟨H4, H5, ⟨HF, HS0, HP0, HP1, HP2⟩, HO⟩ Hk
    iapply (wp_tab c a4 _ _ n (by omega) ho q d4) $$ H4; iintro H4
    iapply (wp_tab c a5 _ _ n (by omega) ho q d5) $$ H5; iintro H5
    iapply (wp_assume Variants.none (c : Thread nD τ) none Set.univ (chk1_of i _ _ (by omega)))
    iapply (wait4_wp c (R.grp n 3) (tabAt d5 n) (h5 n (by omega)) _ _ _ _ rfl rfl rfl rfl _ _ _ _ _ _ _ _ rfl rfl rfl rfl _ _ _ _ _ _ _ _ _ _ _ _ _ _ _ _ _ Q W) $$ [HF HO]
    · isplitl [HF]; · iexact HF
      iexact HO
    iintro %W' ⟨HS1, HP3, HO⟩
    iapply Hk
    isplitl [H4]; · iexact H4
    isplitl [H5]; · iexact H5
    isplitr [HO]
    · isplitl [HS0]; · iexact HS0
      isplitl [HS1]; · iexact HS1
      isplitl [HP0]; · iexact HP0
      isplitl [HP1]; · iexact HP1
      isplitl [HP2]; · iexact HP2
      iexact HP3
    · iexact HO
  · have h0 : n = 0 := by
      by_contra h0
      exact h1 ((cond1_iff i).2 ⟨hs, by omega⟩)
    rw [dif_neg h1, if_pos (Or.inl h0)]
    iintro H Hk
    iapply Hk
    iexact H

/-- A gate-and-up step's accumulator. -/
theorem facts_lo (n s : ℕ) (hs : s < 4) (v : BitVec 32) (hv : v.toNat = R.m n) (d12 : Vec F S512x2304 .f32) (d13 : Vec F S1024x2304 .bf16) (d15 : Vec F S512x1152 .bf16)
    (h : R.facts n s d12 d15) :
    R.facts n (s + 1) (guAll v (R.X (8 * n + s)) (wgu (R.Wg (8 * n + s)) (R.Wu (8 * n + s)) d13) (if s = 0 then k0_pay3 (F := F) else d12)) d15 := by
  refine ⟨fun _ _ j hj => ?_, fun h5 => by omega⟩
  rw [guAll_row v (hv ▸ R.hm n) j (hv ▸ hj)]
  rw [wgu_indep _ _ d13 (fun _ => k0_pay1 (R.Wg (8 * n + s)) (fun a => ⟨0, by revert a; decide⟩))]
  by_cases h0 : s = 0
  · subst h0; rw [if_pos rfl]; rfl
  · rw [if_neg h0, h.1 (by omega) (by omega) j hj]; rfl

/-- The five staged blocks of a grid point. -/
def stg (c : Dev nD) (a6 : Memref sig .tc .vmem S512x1024 .bf16) (a7 : Memref sig .tc .vmem S512x128 .f32) (a8 a9 : Memref sig .tc .vmem S1x1x1024x1152 .f32)
    (a10 : Memref sig .tc .vmem S1x1x1152x1024 .f32) (k : ℕ) : sProp 𝕄 :=
  iprop(owns (c : Thread nD τ) a6 fullShare (R.X k) ∗ owns (c : Thread nD τ) a7 fullShare (R.G k) ∗ owns (c : Thread nD τ) a8 fullShare (R.Wg k)
      ∗ owns (c : Thread nD τ) a9 fullShare (R.Wu k) ∗ owns (c : Thread nD τ) a10 fullShare (R.Wd k))

/-- What a grid point holds before it and after it. -/
def held (c : Dev nD) (a4 a5 : Memref sig .tc .smem S386 .i32) (q : PosShare TreeShare) (d4 d5 : Vec F S386 .i32) (S : sProp 𝕄) (n s : ℕ) : sProp 𝕄 :=
  iprop(∃ W, owns (c : Thread nD τ) a4 q d4 ∗ owns (c : Thread nD τ) a5 q d5 ∗ S ∗ R.st c n s ∗ R.scr c n s ∗ owes (c : Thread nD τ) 0 W)

/-- A gate-and-up step. -/
theorem body_lo (c : Dev nD) (i : grid0.Coords) (n s : ℕ) (hn : (i 0).val = n) (hs : (i 1).val = s) (hs4 : s < 4) (a4 a5 : Memref sig .tc .smem S386 .i32) (q : PosShare TreeShare)
    (d4 d5 : Vec F S386 .i32) (h4 : ∀ n, n < 386 → (tabAt d4 n).toNat * 128 = R.r n) (h5 : ∀ n, n < 386 → (tabAt d5 n).toNat = R.m n)
    (a6 : Memref sig .tc .vmem S512x1024 .bf16) (a7 : Memref sig .tc .vmem S512x128 .f32) (a8 a9 : Memref sig .tc .vmem S1x1x1024x1152 .f32) (a10 : Memref sig .tc .vmem S1x1x1152x1024 .f32)
    (h13 h14 h15) :
    R.held c a4 a5 q d4 d5 (R.stg c a6 a7 a8 a9 a10 (8 * n + s)) n s
    ⊢ WP c (bodyS i a4 a5 a6 a7 a8 a9 a10 yM (Memref.whole cc0_scratch0) (Memref.whole cc0_scratch1) h13 (Memref.whole cc0_scratch2) h14 (Memref.whole cc0_scratch3) h15 bM cc0_scratch5)
      (fun _ => R.held c a4 a5 q d4 d5 (R.stg c a6 a7 a8 a9 a10 (8 * n + s)) n (s + 1)) := by
  have hn386 : n < 386 := hn ▸ (i 0).isLt
  unfold bodyS
  have hprev : ∀ (k : PK F) Q W, iprop(owns (c : Thread nD τ) a4 q d4 ∗ owns (c : Thread nD τ) a5 q d5 ∗ R.st c n s ∗ owes (c : Thread nD τ) 0 W)
    ⊢ iprop((∀ W', (owns (c : Thread nD τ) a4 q d4 ∗ owns (c : Thread nD τ) a5 q d5 ∗ R.idle c n ∗ owes (c : Thread nD τ) 0 W') -∗ WP c k Q)
      -∗ WP c (prevS i a4 a5 yM bM cc0_scratch5 k) Q) := fun k Q W => by
    by_cases h0 : s = 0
    · subst h0
      exact R.prev_wp c i n hn hs a4 a5 q d4 d5 h4 h5 k Q W
    · unfold prevS
      rw [dif_neg (fun h => h0 (hs ▸ ((cond1_iff i).1 h).1))]
      unfold st
      rw [if_neg h0, dif_pos (by omega)]
      iintro H Hk
      iapply Hk
      iexact H
  unfold held scr stg
  iintro ⟨%W, H4, H5, ⟨H6, H7, H8, H9, H10⟩, HY, ⟨%d12, %d13, %d14, %d15, %hf, H12, H13, H14, H15⟩, HO⟩
  iapply (wp_tab c a5 _ _ n hn386 (by rw [off1_eq, hn]) q d5) $$ H5; iintro H5
  iapply (hprev _ _ W) $$ [H4 H5 HY HO]
  · isplitl [H4]; · iexact H4
    isplitl [H5]; · iexact H5
    isplitl [HY]; · iexact HY
    iexact HO
  iintro %W' ⟨H4, H5, HY, HO⟩
  iapply (gu4_wp c i a6 a8 a9 _ _ _ (tabAt d5 n) (by omega) _ _ _ _ _ d12 d13) $$ [H6 H8 H9 H12 H13]
  · isplitl [H6]; · iexact H6
    isplitl [H8]; · iexact H8
    isplitl [H9]; · iexact H9
    isplitl [H12]; · iexact H12
    iexact H13
  iintro ⟨H6, H8, H9, H12, H13⟩
  unfold dnS
  rw [dif_neg (fun h => by have := (cond12_iff i).1 h; omega), hs]
  iapply (WP_ret c (⟨⟩ : PUnit) _)
  iexists W'
  isplitl [H4]; · iexact H4
  isplitl [H5]; · iexact H5
  isplitl [H6 H7 H8 H9 H10]; · iframe H6 H7 H8 H9 H10
  isplitl [HY]
  · unfold st
    rw [if_neg (by omega), dif_pos (by omega)]
    iexact HY
  isplitr [HO]
  · iexists _, _, d14, d15
    isplitr
    · ipureintro
      exact R.facts_lo n s hs4 (tabAt d5 n) (h5 n hn386) d12 d13 d15 hf
    isplitl [H12]; · iexact H12
    isplitl [H13]; · iexact H13
    isplitl [H14]; · iexact H14
    iexact H15
  · iexact HO

/-- What is left of the step before: its copies, or at the first down step the other slot. -/
def before (c : Dev nD) (i : ℕ) : Fin 4 → sProp 𝕄
  | 0 => slotF c (1 : Fin 2)
  | 1 => flight c (R.grp i 0) (R.m i) 0
  | 2 => flight c (R.grp i 1) (R.m i) 0
  | 3 => flight c (R.grp i 2) (R.m i) 0

/-- The same, when its copies are done. -/
def done (c : Dev nD) (i : ℕ) : Fin 4 → sProp 𝕄
  | 0 => slotF c (1 : Fin 2)
  | 1 => iprop(slotF c (0 : Fin 2) ∗ R.P c 0 (i + 1))
  | 2 => iprop(slotF c (1 : Fin 2) ∗ R.P c 1 (i + 1))
  | 3 => iprop(slotF c (0 : Fin 2) ∗ R.P c 2 (i + 1))

/-- The panels that a down step leaves alone. -/
def keep (c : Dev nD) (i : ℕ) : Fin 4 → sProp 𝕄
  | 0 => iprop(R.P c 1 i ∗ R.P c 2 i ∗ R.P c 3 i)
  | 1 => iprop(R.P c 2 i ∗ R.P c 3 i)
  | 2 => iprop(R.P c 0 (i + 1) ∗ R.P c 3 i)
  | 3 => iprop(R.P c 0 (i + 1) ∗ R.P c 1 (i + 1))

/-- A down step takes its slot and its panel. -/
theorem take (c : Dev nD) (i : ℕ) (n : Fin 4) :
    R.st c i (4 + n.val) ⊢ iprop((slotF c (R.grp i n).σ ∗ yPt c (panel (R.grp i n).n.val) (R.grp i n).Y) ∗ R.before c i n ∗ R.keep c i n) := by
  unfold st before keep
  match n with
  | 0 =>
    rw [if_neg (by decide), dif_pos (by decide)]
    unfold idle
    iintro ⟨H0, H1, P0, P1⟩
    isplitl [H0 P0]
    · isplitl [H0]; · iexact H0
      iexact P0
    isplitl [H1]; · iexact H1
    iexact P1
  | 1 =>
    rw [if_neg (by decide), dif_neg (by decide), dif_pos (by decide)]
    show R.busy c i 0 ⊢ _
    unfold busy rest
    iintro ⟨H0, H1, P0, P1⟩
    isplitl [H1 P0]
    · isplitl [H1]; · iexact H1
      iexact P0
    isplitl [H0]; · iexact H0
    iexact P1
  | 2 =>
    rw [if_neg (by decide), dif_neg (by decide), dif_pos (by decide)]
    show R.busy c i 1 ⊢ _
    unfold busy rest
    iintro ⟨H0, H1, P0, P1⟩
    isplitl [H1 P0]
    · isplitl [H1]; · iexact H1
      iexact P0
    isplitl [H0]; · iexact H0
    iexact P1
  | 3 =>
    rw [if_neg (by decide), dif_neg (by decide), dif_pos (by decide)]
    show R.busy c i 2 ⊢ _
    unfold busy rest
    iintro ⟨H0, H1, P0, P1⟩
    isplitl [H1 P0]
    · isplitl [H1]; · iexact H1
      iexact P0
    isplitl [H0]; · iexact H0
    iexact P1

/-- When the step before is done, all but the step's own panel is as the next step wants it. -/
theorem give (c : Dev nD) (i : ℕ) (n : Fin 4) :
    iprop(R.done c i n ∗ R.keep c i n) ⊢ iprop(slotF c (⟨(n.val + 1) % 2, Nat.mod_lt _ (by decide)⟩ : Fin 2) ∗ R.rest c i n) := by
  unfold done rest keep
  match n with
  | 0 => exact .rfl
  | 1 =>
    iintro ⟨⟨H0, P0⟩, P2, P3⟩
    isplitl [H0]; · iexact H0
    isplitl [P2]; · iexact P2
    isplitl [P0]; · iexact P0
    iexact P3
  | 2 =>
    iintro ⟨⟨H0, P1⟩, P0, P3⟩
    isplitl [H0]; · iexact H0
    isplitl [P3]; · iexact P3
    isplitl [P0]; · iexact P0
    iexact P1
  | 3 =>
    iintro ⟨⟨H0, P2⟩, P0, P1⟩
    isplitl [H0]; · iexact H0
    isplitl [P0]; · iexact P0
    isplitl [P1]; · iexact P1
    iexact P2

/-- The waits for the step before. -/
theorem dnPrev_wp (c : Dev nD) (i : grid0.Coords) (n : ℕ) (m : Fin 4) (hm : (i 1).val = 4 + m.val) (v v25 : BitVec 32) (hv : v.toNat = R.m n) (h12 : k0_cond12 i = 1#1)
    (w : k0_chk2 i v v25) (k : PK F) (Q : PUnit → sProp 𝕄) (W : Waits sig Unit) :
    iprop(R.before c n m ∗ owes (c : Thread nD τ) 0 W)
    ⊢ iprop((∀ W', (R.done c n m ∗ owes (c : Thread nD τ) 0 W') -∗ WP c k Q)
      -∗ WP c (if h22 : k0_cond22 i = 1#1 then
    waitBlk (k0_cond23 v) yM bM cc0_scratch5 (k0_off24 i) (k0_off24_inb i h12 h22) (k0_off25 i v25) (fun h => k0_off25_inb i v v25 w h12 h22 h) (k0_off26 i) (k0_off26_inb i h12 h22) <|
    waitBlk (k0_cond24 v) yM bM cc0_scratch5 (k0_off27 i) (k0_off27_inb i h12 h22) (k0_off28 i v25) (fun h => k0_off28_inb i v v25 w h12 h22 h) (k0_off29 i) (k0_off29_inb i h12 h22) <|
    waitBlk (k0_cond25 v) yM bM cc0_scratch5 (k0_off30 i) (k0_off30_inb i h12 h22) (k0_off31 i v25) (fun h => k0_off31_inb i v v25 w h12 h22 h) (k0_off32 i) (k0_off32_inb i h12 h22) <|
    waitBlk (k0_cond26 v) yM bM cc0_scratch5 (k0_off33 i) (k0_off33_inb i h12 h22) (k0_off34 i v25) (fun h => k0_off34_inb i v v25 w h12 h22 h) (k0_off35 i) (k0_off35_inb i h12 h22) k
   else k) Q) := by
  have h4 := (cond12_iff i).1 h12
  have gen : ∀ (m' : Fin 4), (i 1).val = 5 + m'.val → iprop(flight c (R.grp n m') (R.m n) 0 ∗ owes (c : Thread nD τ) 0 W)
    ⊢ iprop((∀ W', (((slotF c (R.grp n m').σ ∗ R.P c m'.val (n + 1))) ∗ owes (c : Thread nD τ) 0 W') -∗ WP c k Q)
      -∗ WP c (if h22 : k0_cond22 i = 1#1 then
    waitBlk (k0_cond23 v) yM bM cc0_scratch5 (k0_off24 i) (k0_off24_inb i h12 h22) (k0_off25 i v25) (fun h => k0_off25_inb i v v25 w h12 h22 h) (k0_off26 i) (k0_off26_inb i h12 h22) <|
    waitBlk (k0_cond24 v) yM bM cc0_scratch5 (k0_off27 i) (k0_off27_inb i h12 h22) (k0_off28 i v25) (fun h => k0_off28_inb i v v25 w h12 h22 h) (k0_off29 i) (k0_off29_inb i h12 h22) <|
    waitBlk (k0_cond25 v) yM bM cc0_scratch5 (k0_off30 i) (k0_off30_inb i h12 h22) (k0_off31 i v25) (fun h => k0_off31_inb i v v25 w h12 h22 h) (k0_off32 i) (k0_off32_inb i h12 h22) <|
    waitBlk (k0_cond26 v) yM bM cc0_scratch5 (k0_off33 i) (k0_off33_inb i h12 h22) (k0_off34 i v25) (fun h => k0_off34_inb i v v25 w h12 h22 h) (k0_off35 i) (k0_off35_inb i h12 h22) k
   else k) Q) := fun m' hm' => by
    have h22 : k0_cond22 i = 1#1 := (cond22_iff i h4).2 (by omega)
    have e : ((i 1).val - 5) % 2 = m'.val % 2 := by omega
    obtain ⟨o0, o1, o2, o3⟩ := offP i (by omega)
    rw [e] at o0 o1 o2 o3
    rw [dif_pos h22]
    iintro ⟨HF, HO⟩ Hk
    iapply (wait4_wp c (R.grp n m') v hv _ _ _ _ o0 o1 o2 o3 _ _ _ _ _ _ _ _ rfl rfl rfl rfl _ _ _ _ _ _ _ _ _ _ _ _ _ _ _ _ _ Q W) $$ [HF HO]
    · isplitl [HF]; · iexact HF
      iexact HO
    iintro %W' ⟨HS, HP, HO⟩
    iapply Hk
    isplitr [HO]
    · isplitl [HS]; · iexact HS
      iexact HP
    · iexact HO
  unfold before done
  match m, hm with
  | 0, hm =>
    have hm' : (i 1).val = 4 := hm
    rw [dif_neg (fun h => by have := (cond22_iff i h4).1 h; omega)]
    iintro H Hk
    iapply Hk
    iexact H
  | 1, hm => exact gen 0 hm
  | 2, hm => exact gen 1 hm
  | 3, hm => exact gen 2 hm

set_option maxHeartbeats 1600000 in
/-- A down step. -/
theorem body_hi (c : Dev nD) (i : grid0.Coords) (n : ℕ) (m : Fin 4) (hn : (i 0).val = n) (hs : (i 1).val = 4 + m.val) (a4 a5 : Memref sig .tc .smem S386 .i32) (q : PosShare TreeShare)
    (d4 d5 : Vec F S386 .i32) (h4 : ∀ n, n < 386 → (tabAt d4 n).toNat * 128 = R.r n) (h5 : ∀ n, n < 386 → (tabAt d5 n).toNat = R.m n)
    (a6 : Memref sig .tc .vmem S512x1024 .bf16) (a7 : Memref sig .tc .vmem S512x128 .f32) (a8 a9 : Memref sig .tc .vmem S1x1x1024x1152 .f32) (a10 : Memref sig .tc .vmem S1x1x1152x1024 .f32)
    (h13 h14 h15) :
    R.held c a4 a5 q d4 d5 (R.stg c a6 a7 a8 a9 a10 (8 * n + 4 + m.val)) n (4 + m.val)
    ⊢ WP c (bodyS i a4 a5 a6 a7 a8 a9 a10 yM (Memref.whole cc0_scratch0) (Memref.whole cc0_scratch1) h13 (Memref.whole cc0_scratch2) h14 (Memref.whole cc0_scratch3) h15 bM cc0_scratch5)
      (fun _ => R.held c a4 a5 q d4 d5 (R.stg c a6 a7 a8 a9 a10 (8 * n + 4 + m.val)) (if m = 3 then n + 1 else n) (if m = 3 then 0 else 4 + m.val + 1)) := by
  have hn386 : n < 386 := hn ▸ (i 0).isLt
  have hm4 := m.isLt
  have h12 : k0_cond12 i = 1#1 := (cond12_iff i).2 (by omega)
  have hr := R.hr n
  have hv := h4 n hn386
  have hv25 : (tabAt d4 n).toNat * 128 + 512 ≤ 99584 := by omega
  obtain ⟨⟨b8, b11⟩, ⟨b12, b15⟩, ⟨b16, b19⟩, ⟨b20, b23⟩⟩ := offB i (by omega)
  obtain ⟨s9, s13, s17, s21⟩ := offS i (by omega)
  obtain ⟨y10, y14, y18, y22⟩ := offY i (by omega) (tabAt d4 n) hv25
  obtain ⟨e36, e39, e42, e45⟩ := offE i (by omega)
  have hσ : slotN i = m.val % 2 := by unfold slotN; omega
  have hcol : (i 1).val - 4 = m.val := by omega
  rw [hσ] at b8 b11 b12 b15 b16 b19 b20 b23 s9 s13 s17 s21 e36 e39 e42 e45
  rw [hcol, hv] at y10 y14 y18 y22
  unfold bodyS
  unfold held scr
  iintro ⟨%W, H4, H5, HS, HY, ⟨%d12, %d13, %d14, %d15, %hf, H12, H13, H14, H15⟩, HO⟩
  iapply (wp_tab c a5 _ _ n hn386 (by rw [off1_eq, hn]) q d5) $$ H5; iintro H5
  unfold prevS guS dnS
  rw [dif_neg (fun h => by have := (cond1_iff i).1 h; omega), if_neg (fun h => by have := (condGU_iff i).1 h; omega), dif_pos h12]
  unfold dnA
  iapply (wp_tab c a4 _ _ n hn386 (by rw [off7_eq, hn]) q d4) $$ H4; iintro H4
  iapply (wp_assume Variants.none (c : Thread nD τ) none Set.univ (chk2_of i _ _ hv25))
  iapply (act4_wp c i _ _ _ (tabAt d5 n) _ _ d12 d15) $$ [H12 H15]
  · isplitl [H12]; · iexact H12
    iexact H15
  iintro ⟨H12, H15⟩
  have hb : ∀ j : Fin 4, j.val < R.m n → rwH (if (i 1).val = 4 then actAll (tabAt d5 n) d12 d15 else d15) j = R.hb n j := fun j hj => by
    by_cases h0 : (i 1).val = 4
    · rw [if_pos h0]
      exact R.hb_of n _ (h5 n hn386) d12 d15 (fun j hj => by
        have := hf.1 (by omega) (by omega) j hj
        rw [show 4 + m.val = 4 by omega] at this
        exact this) j hj
    · rw [if_neg h0]
      exact hf.2 (by omega) j hj
  unfold stg
  icases HS with ⟨H6, H7, H8, H9, H10⟩
  iapply (wd_wp c a10 _ _ _ _ _ d14) $$ [H10 H14]
  · isplitl [H10]; · iexact H10
    iexact H14
  iintro ⟨H10, H14⟩
  ihave HY := (R.take c n m) $$ HY
  icases HY with ⟨HG, HB, HK⟩
  imod (open_grp c (R.grp n m)) $$ HG with HF
  ihave HF := (Entails.of_eq (congrArg (fun u => flight c (R.grp n m) u 0) (Nat.zero_min (R.grp n m).m).symm)) $$ HF
  have hT : ∀ j : Fin 4, j.val < (R.grp n m).m → k0_pay15 (rwG (R.G (8 * n + 4 + m.val)) j) (rwH (if (i 1).val = 4 then actAll (tabAt d5 n) d12 d15 else d15) j) (k0_pay14 (R.Wd (8 * n + 4 + m.val)))
      = (R.grp n m).T j.val := fun j hj => R.tile_of n m.val j _ (hb j hj)
  iapply (down_wp c (R.grp n m) (tabAt d5 n) (h5 n hn386) 0 a7 _ _ _ rfl _ _ _ b8 _ _ s9 _ _ rfl _ y10 _ _ b11 _ _ _ _ _ _ _ (hT 0)) $$ [H7 H14 H15 HF]
  · isplitl [H7]; · iexact H7
    isplitl [H14]; · iexact H14
    isplitl [H15]; · iexact H15
    iexact HF
  iintro ⟨H7, H14, H15, HF⟩
  iapply (down_wp c (R.grp n m) (tabAt d5 n) (h5 n hn386) 1 a7 _ _ _ rfl _ _ _ b12 _ _ s13 _ _ rfl _ y14 _ _ b15 _ _ _ _ _ _ _ (hT 1)) $$ [H7 H14 H15 HF]
  · isplitl [H7]; · iexact H7
    isplitl [H14]; · iexact H14
    isplitl [H15]; · iexact H15
    iexact HF
  iintro ⟨H7, H14, H15, HF⟩
  unfold dnB
  iapply (down_wp c (R.grp n m) (tabAt d5 n) (h5 n hn386) 2 a7 _ _ _ rfl _ _ _ b16 _ _ s17 _ _ rfl _ y18 _ _ b19 _ _ _ _ _ _ _ (hT 2)) $$ [H7 H14 H15 HF]
  · isplitl [H7]; · iexact H7
    isplitl [H14]; · iexact H14
    isplitl [H15]; · iexact H15
    iexact HF
  iintro ⟨H7, H14, H15, HF⟩
  iapply (down_wp c (R.grp n m) (tabAt d5 n) (h5 n hn386) 3 a7 _ _ _ rfl _ _ _ b20 _ _ s21 _ _ rfl _ y22 _ _ b23 _ _ _ _ _ _ _ (hT 3)) $$ [H7 H14 H15 HF]
  · isplitl [H7]; · iexact H7
    isplitl [H14]; · iexact H14
    isplitl [H15]; · iexact H15
    iexact HF
  iintro ⟨H7, H14, H15, HF⟩
  ihave HF := (Entails.of_eq (congrArg (fun u => flight c (R.grp n m) u 0) (show min ((3 : Fin 4).val + 1) (R.grp n m).m = R.m n from Nat.min_eq_right (R.hm n)))) $$ HF
  iapply (R.dnPrev_wp c i n m hs (tabAt d5 n) (tabAt d4 n) (h5 n hn386) h12 (chk2_of i _ _ hv25) _ _ W) $$ [HB HO]
  · isplitl [HB]; · iexact HB
    iexact HO
  iintro %W' ⟨HB, HO⟩
  ihave HG := (R.give c n m) $$ [HB HK]
  · isplitl [HB]; · iexact HB
    iexact HK
  icases HG with ⟨HS, HR⟩
  have hfacts : R.facts (if m = 3 then n + 1 else n) (if m = 3 then 0 else 4 + m.val + 1) d12 (if (i 1).val = 4 then actAll (tabAt d5 n) d12 d15 else d15) := by
    by_cases h3 : m = 3
    · rw [if_pos h3, if_pos h3]
      exact ⟨fun h => by omega, fun h => by omega⟩
    · rw [if_neg h3, if_neg h3]
      exact ⟨fun _ h => by omega, fun _ j hj => hb j hj⟩
  by_cases h27 : k0_cond27 i = 1#1
  · rw [dif_pos h27]
    obtain ⟨h7, h385⟩ := (cond27_iff i).1 h27
    have hm3 : m = 3 := Fin.ext (by show m.val = 3; omega)
    iapply (wait4_wp c (R.grp n m) (tabAt d5 n) (h5 n hn386) _ _ _ _ e36 e39 e42 e45 _ _ _ _ _ _ _ _ rfl rfl rfl rfl _ _ _ _ _ _ _ _ _ _ _ _ _ _ _ _ _ _ W') $$ [HF HO]
    · isplitl [HF]; · iexact HF
      iexact HO
    iintro %W'' ⟨HS', HP, HO⟩
    iapply (WP_ret c (⟨⟩ : PUnit) _)
    iexists W''
    isplitl [H4]; · iexact H4
    isplitl [H5]; · iexact H5
    isplitl [H6 H7 H8 H9 H10]; · iframe H6 H7 H8 H9 H10
    isplitl [HS HR HS' HP]
    · subst hm3
      rw [if_pos rfl, if_pos rfl]
      unfold st
      rw [if_pos rfl, if_pos (Or.inr (by omega))]
      unfold idle rest
      icases HR with ⟨P0, P1, P2⟩
      isplitl [HS]; · iexact HS
      isplitl [HS']; · iexact HS'
      isplitl [P0]; · iexact P0
      isplitl [P1]; · iexact P1
      isplitl [P2]; · iexact P2
      iexact HP
    isplitr [HO]
    · iexists _, _, _, _
      isplitr
      · ipureintro; exact hfacts
      isplitl [H12]; · iexact H12
      isplitl [H13]; · iexact H13
      isplitl [H14]; · iexact H14
      iexact H15
    · iexact HO
  · rw [dif_neg h27]
    iapply (WP_ret c (⟨⟩ : PUnit) _)
    iexists W'
    isplitl [H4]; · iexact H4
    isplitl [H5]; · iexact H5
    isplitl [H6 H7 H8 H9 H10]; · iframe H6 H7 H8 H9 H10
    isplitl [HF HS HR]
    · have e : R.st c (if m = 3 then n + 1 else n) (if m = 3 then 0 else 4 + m.val + 1) = R.busy c n m := by
        unfold st
        by_cases h3 : m = 3
        · have hlt : ¬ 386 ≤ n + 1 := fun h => h27 ((cond27_iff i).2 ⟨by rw [hs, h3]; rfl, by omega⟩)
          subst h3
          rw [if_pos rfl, if_pos rfl, if_pos rfl, if_neg (by omega)]
          rfl
        · have hlt : m.val < 3 := by
            rcases Nat.lt_or_ge m.val 3 with h | h
            · exact h
            · exact absurd (Fin.ext (show m.val = 3 by omega)) h3
          rw [if_neg h3, if_neg h3, if_neg (by omega), dif_neg (by omega), dif_pos (by omega)]
          exact congrArg (R.busy c n) (Fin.ext (show 4 + m.val + 1 - 5 = m.val by omega))
      rw [e]
      unfold busy
      isplitl [HF]; · iexact HF
      isplitl [HS]; · iexact HS
      iexact HR
    isplitr [HO]
    · iexists _, _, _, _
      isplitr
      · ipureintro; exact hfacts
      isplitl [H12]; · iexact H12
      isplitl [H13]; · iexact H13
      isplitl [H14]; · iexact H14
      iexact H15
    · iexact HO

end RD

end Cert.KernelIdeal.Hand
-- ==== Proof.Ok.lean ====
/-
  The tables that the region's index maps read: bounds on their words, and the region's side condition from them.
-/
module

public import proofs.«01_k».proof.Proof.Body
public import Idealize.ShloMosaic.Lib.Affine

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] {α : Type}

/-- The four tables in bounds: the experts, the expert of the item before, the first row, the number of blocks. -/
structure Tab (pf : pre0.Contents (Elt F)) : Prop where
  e : ∀ n, n < 386 → (tabAt (F := F) (pf 0) n).toNat < 256
  ep : ∀ n, n < 386 → (tabAt (F := F) (pf 1) n).toNat < 256
  row : ∀ n, n < 386 → (tabAt (F := F) (pf 2) n).toNat * 128 + 512 ≤ 99584
  sub : ∀ n, n < 386 → (tabAt (F := F) (pf 3) n).toNat ≤ 4

/-- The entry that an index map reads. -/
theorem at_tab (d : Vec F S386 .i32) (i : grid0.Coords) (o : Fin 1 → ℕ) (ho : o = ![(i 0).val]) (h : ∀ a, o a + S1.size a ≤ S386.size a)
    (x : (Rect.unit (s := S386) o S1.size h).shape.Idx) :
    d ((Rect.unit (s := S386) o S1.size h).emb x) = tabAt d (i 0).val := by
  subst ho
  unfold tabAt
  rw [dif_pos (show (i 0).val < 386 from (i 0).isLt)]
  refine congrArg d (funext fun a => Fin.ext ?_)
  have h0 : (x 0).val < 1 := (x 0).isLt
  fin_cases a
  show (i 0).val + 1 * (x 0).val = (i 0).val
  omega

/-- The chunk of a gate-and-up step, as the index maps compute it. -/
def chunkW (v : BitVec 32) (s : Fin 8) : BitVec 32 :=
  Scalar.select (Scalar.cmpi .sgt v 0#32) (Scalar.minsi (BitVec.ofNat 32 s.val) 3#32) 3#32

/-- It is one of four. -/
theorem chunkW_lt (v : BitVec 32) (s : Fin 8) : (chunkW v s).toNat < 4 := by
  unfold chunkW
  generalize Scalar.cmpi .sgt v 0#32 = b
  revert b s
  decide +kernel

/-- Its columns. -/
theorem chunkW_col (v : BitVec 32) (s : Fin 8) : (Scalar.muli (chunkW v s) 1024#32).toNat ≤ 3072 ∧ (1024 : Int) ∣ (Scalar.muli (chunkW v s) 1024#32).toInt
    ∧ (1024 : ℕ) ∣ (Scalar.muli (chunkW v s) 1024#32).toNat := by
  unfold chunkW
  generalize Scalar.cmpi .sgt v 0#32 = b
  revert b s
  decide +kernel

/-- A first row's word, times its block. -/
theorem rowW_toNat (v : BitVec 32) (h : v.toNat * 128 + 512 ≤ 99584) : (Scalar.muli v 128#32).toNat = v.toNat * 128 := by
  show (v * 128#32).toNat = _
  rw [BitVec.toNat_mul]
  exact Nat.mod_eq_of_lt (by show v.toNat * 128 < _; omega)

/-- It is a multiple of a block. -/
theorem rowW_dvd (v : BitVec 32) (h : v.toNat * 128 + 512 ≤ 99584) : (128 : Int) ∣ (Scalar.muli v 128#32).toInt := by
  have e := rowW_toNat v h
  rw [BitVec.toInt_eq_toNat_of_lt (by omega), e]
  exact ⟨v.toNat, by push_cast; exact Int.mul_comm _ _⟩

section maps

variable (pf : pre0.Contents (Elt F)) (i : grid0.Coords)

/-- The first window's offsets. -/
theorem t0_eq (h1 h2) : cc0_transform_0 h1 h2 pf i = ![(Scalar.muli (tabAt (F := F) (pf 2) (i 0).val) 128#32).toNat, (Scalar.muli (chunkW (tabAt (F := F) (pf 3) (i 0).val) (i 1)) 1024#32).toNat] := by
  have a2 := at_tab (F := F) (pf 2) i _ (off1_eq i) (h1 i)
  have a3 := at_tab (F := F) (pf 3) i _ (off1_eq i) (h1 i)
  rw [← a2 (Shape.Idx.first (h2.symm ▸ Nat.one_pos)), ← a3 (Shape.Idx.first (h2.symm ▸ Nat.one_pos))]
  rfl

/-- The second window's offsets. -/
theorem t1_eq (h1 h2) : cc0_transform_1 h1 h2 pf i = ![(Scalar.muli (tabAt (F := F) (pf 2) (i 0).val) 128#32).toNat, 0] := by
  have a2 := at_tab (F := F) (pf 2) i _ (off1_eq i) (h1 i)
  rw [← a2 (Shape.Idx.first (h2.symm ▸ Nat.one_pos))]
  rfl

/-- The third window's block. -/
theorem t2_eq (h1 h2) : cc0_transform_2 h1 h2 pf i = ![0, (tabAt (F := F) (pf 0) (i 0).val).toNat, (chunkW (tabAt (F := F) (pf 3) (i 0).val) (i 1)).toNat, 0] := by
  have a2 := at_tab (F := F) (pf 0) i _ (off1_eq i) (h1 i)
  have a3 := at_tab (F := F) (pf 3) i _ (off1_eq i) (h1 i)
  rw [← a2 (Shape.Idx.first (h2.symm ▸ Nat.one_pos)), ← a3 (Shape.Idx.first (h2.symm ▸ Nat.one_pos))]
  rfl

/-- The fourth window's block. -/
theorem t3_eq (h1 h2) : cc0_transform_3 h1 h2 pf i = cc0_transform_2 h1 h2 pf i := rfl

/-- The chunk of a down step, as the index map computes it. -/
def downW (v : BitVec 32) (s : Fin 8) : BitVec 32 :=
  Scalar.select (Scalar.andi (Scalar.cmpi .sgt v 0#32) (Scalar.xori (Scalar.cmpi .slt (BitVec.ofNat 32 s.val) 4#32) 1#1))
    (Scalar.subi (BitVec.ofNat 32 s.val) 4#32) 3#32

/-- The expert of a down step, as the index map computes it. -/
def downE (a b : BitVec 32) (s : Fin 8) : BitVec 32 := Scalar.select (Scalar.cmpi .slt (BitVec.ofNat 32 s.val) 4#32) a b

/-- The chunk is one of four. -/
theorem downW_lt (v : BitVec 32) (s : Fin 8) : (downW v s).toNat < 4 := by
  unfold downW
  generalize Scalar.cmpi .sgt v 0#32 = b
  revert b s
  decide +kernel

/-- The expert is one of two. -/
theorem downE_or (a b : BitVec 32) (s : Fin 8) : downE a b s = a ∨ downE a b s = b := by
  unfold downE Scalar.select
  split
  · exact Or.inl rfl
  · exact Or.inr rfl

/-- The fifth window's block. -/
theorem t4_eq (h1 h2) : cc0_transform_4 h1 h2 pf i = ![0, (downE (tabAt (F := F) (pf 1) (i 0).val) (tabAt (F := F) (pf 0) (i 0).val) (i 1)).toNat, 0, (downW (tabAt (F := F) (pf 3) (i 0).val) (i 1)).toNat] := by
  have a0 := at_tab (F := F) (pf 0) i _ (off1_eq i) (h1 i)
  have a1 := at_tab (F := F) (pf 1) i _ (off1_eq i) (h1 i)
  have a3 := at_tab (F := F) (pf 3) i _ (off1_eq i) (h1 i)
  rw [← a0 (Shape.Idx.first (h2.symm ▸ Nat.one_pos)), ← a1 (Shape.Idx.first (h2.symm ▸ Nat.one_pos)), ← a3 (Shape.Idx.first (h2.symm ▸ Nat.one_pos))]
  rfl

/-- A table's entry, read with a default outside it. -/
theorem atD_tab (d : Vec F S386 .i32) (o : Fin 1 → ℕ) (ho : o = ![(i 0).val]) [Inhabited (BitVec 32)] :
    (if h : ∀ a, o a + 1 ≤ S386.size a then d (fun a => ⟨o a, h a⟩) else default) = tabAt d (i 0).val := by
  subst ho
  have hlt : (i 0).val < 386 := (i 0).isLt
  have h : ∀ a, (![(i 0).val] : Fin 1 → ℕ) a + 1 ≤ S386.size a := fun a => by fin_cases a; exact hlt
  unfold tabAt
  rw [dif_pos h, dif_pos hlt]
  refine congrArg d (funext fun a => Fin.ext ?_)
  fin_cases a
  rfl

/-- The first stated multiple. -/
theorem mult1_eq : k0_mult1 pf i = Scalar.muli (tabAt (F := F) (pf 2) (i 0).val) 128#32 := by
  rw [← atD_tab (F := F) i (pf 2) _ (off1_eq i)]
  rfl

/-- The third stated multiple. -/
theorem mult3_eq : k0_mult3 pf i = Scalar.muli (tabAt (F := F) (pf 2) (i 0).val) 128#32 := mult1_eq pf i

/-- The second stated multiple. -/
theorem mult2_eq : k0_mult2 pf i = Scalar.muli (chunkW (tabAt (F := F) (pf 3) (i 0).val) (i 1)) 1024#32 := by
  rw [← atD_tab (F := F) i (pf 3) _ (off1_eq i)]
  rfl

end maps

/-- The region's side condition, of tables in bounds. -/
theorem Tab.ok {pf : pre0.Contents (Elt F)} (h : Tab pf) : ok0 pf := by
  have hn : ∀ i : grid0.Coords, (i 0).val < 386 := fun i => (i 0).isLt
  refine ⟨fun i => ?_, fun i => ?_, fun i => ?_, fun i => ?_, fun i => ?_, fun i => ?_, fun i => ?_, fun i => ?_⟩
  · rw [mult1_eq]; exact rowW_dvd _ (h.row _ (hn i))
  · rw [mult2_eq]; exact (chunkW_col _ _).2.1
  · rw [mult3_eq]; exact rowW_dvd _ (h.row _ (hn i))
  · have e := t0_eq pf i k0_off1_inb numel1_S1
    have hr := h.row _ (hn i)
    have hw := rowW_toNat _ hr
    refine ⟨fun a => ?_, Or.inr (Affine.words_of_packed (Affine.packed_dvd (by decide) ?_ (by decide)))⟩
    · rw [e]
      have hc := (chunkW_col (tabAt (F := F) (pf 3) (i 0).val) (i 1)).1
      fin_cases a
      · show (Scalar.muli (tabAt (F := F) (pf 2) (i 0).val) 128#32).toNat + 512 ≤ 99584; omega
      · show (Scalar.muli (chunkW (tabAt (F := F) (pf 3) (i 0).val) (i 1)) 1024#32).toNat + 1024 ≤ 4096; omega
    · rw [e]
      show 2 ∣ (Scalar.muli (tabAt (F := F) (pf 2) (i 0).val) 128#32).toNat
      omega
  · have e := t1_eq pf i k0_off1_inb numel1_S1
    have hr := h.row _ (hn i)
    have hw := rowW_toNat _ hr
    refine ⟨fun a => ?_, Or.inl rfl⟩
    rw [e]
    fin_cases a
    · show (Scalar.muli (tabAt (F := F) (pf 2) (i 0).val) 128#32).toNat + 512 ≤ 99584; omega
    · show 0 + 128 ≤ 128; omega
  · have e := t2_eq pf i k0_off1_inb numel1_S1
    have he := h.e _ (hn i)
    have hc := chunkW_lt (tabAt (F := F) (pf 3) (i 0).val) (i 1)
    refine ⟨fun a => ?_, Or.inl rfl⟩
    rw [e]
    fin_cases a
    · show (0 + 1) * 1 ≤ 1; omega
    · show ((tabAt (F := F) (pf 0) (i 0).val).toNat + 1) * 1 ≤ 256; omega
    · show ((chunkW (tabAt (F := F) (pf 3) (i 0).val) (i 1)).toNat + 1) * 1024 ≤ 4096; omega
    · show (0 + 1) * 1152 ≤ 1152; omega
  · have e := t2_eq pf i k0_off1_inb numel1_S1
    have he := h.e _ (hn i)
    have hc := chunkW_lt (tabAt (F := F) (pf 3) (i 0).val) (i 1)
    refine ⟨fun a => ?_, Or.inl rfl⟩
    rw [t3_eq, e]
    fin_cases a
    · show (0 + 1) * 1 ≤ 1; omega
    · show ((tabAt (F := F) (pf 0) (i 0).val).toNat + 1) * 1 ≤ 256; omega
    · show ((chunkW (tabAt (F := F) (pf 3) (i 0).val) (i 1)).toNat + 1) * 1024 ≤ 4096; omega
    · show (0 + 1) * 1152 ≤ 1152; omega
  · have e := t4_eq pf i k0_off1_inb numel1_S1
    have he := h.e _ (hn i)
    have hp := h.ep _ (hn i)
    have hc := downW_lt (tabAt (F := F) (pf 3) (i 0).val) (i 1)
    have hd := downE_or (tabAt (F := F) (pf 1) (i 0).val) (tabAt (F := F) (pf 0) (i 0).val) (i 1)
    refine ⟨fun a => ?_, Or.inl rfl⟩
    rw [e]
    fin_cases a
    · show (0 + 1) * 1 ≤ 1; omega
    · show ((downE (tabAt (F := F) (pf 1) (i 0).val) (tabAt (F := F) (pf 0) (i 0).val) (i 1)).toNat + 1) * 1 ≤ 256
      rcases hd with hd | hd <;> rw [hd] <;> omega
    · show (0 + 1) * 1152 ≤ 1152; omega
    · show ((downW (tabAt (F := F) (pf 3) (i 0).val) (i 1)).toNat + 1) * 1024 ≤ 4096; omega

end Cert.KernelIdeal.Hand
-- ==== Proof.Cut.lean ====
/-
  The run: the buffers that the region holds between its grid points, cut and joined, the region's proof data, its body at every
  grid point, and the launch.
-/
module

public import proofs.«01_k».proof.Proof.Ok
public import proofs.«01_k».proof.Proof.Gen.KernelIdeal.Launch
public import Idealize.ShloMosaic.Lib.Pipeline.FrameBody
public import Idealize.ShloMosaic.Lib.Pipeline.FrameSuffixV
public import Idealize.ShloMosaic.Lib.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] {α : Type}

local notation "𝕄" => MT nD τ sig Unit (Elt F) ℕ (Pipeline.UD sig nD τ) ℕ

/-- The result's buffer is its four panels of columns. -/
theorem y_panels (c : Dev nD) (Y : YC F) :
    ((((c : Thread nD τ).loc main_v159) ↦{fullShare} Y : sProp 𝕄)) = bigSep Finset.univ fun n : Fin 4 => yPt c (panel n.val) Y := by
  refine Ring.pointsTo_blocks (ℓ := (c : Thread nD τ).loc main_v159) (fun n : Fin 4 => panel n.val) ?_ ?_ Y
  · intro n n' hne
    rw [Finset.disjoint_left]
    intro x hx hx'
    unfold panel at hx hx'
    have h1 := (Finset.mem_filter.mp hx).2
    have h2 := (Finset.mem_filter.mp hx').2
    exact hne (Fin.ext (by omega))
  · refine Finset.eq_univ_of_forall fun x => Finset.mem_biUnion.mpr ?_
    have hx : (x (1 : Fin 2)).val < 4096 := (x (1 : Fin 2)).isLt
    refine ⟨⟨(x (1 : Fin 2)).val / 1024, by omega⟩, Finset.mem_univ _, Finset.mem_filter.mpr ⟨Finset.mem_univ _, ?_⟩⟩
    show 1024 * ((x (1 : Fin 2)).val / 1024) ≤ (x (1 : Fin 2)).val ∧ (x (1 : Fin 2)).val < 1024 * ((x (1 : Fin 2)).val / 1024) + 1024
    omega

/-- Four panels, one after another. -/
theorem four_panels (Φ : Fin 4 → sProp 𝕄) : (bigSep Finset.univ Φ) = iprop(Φ 0 ∗ Φ 1 ∗ Φ 2 ∗ Φ 3) :=
  bigSep_univ_eq_bigSepL [0, 1, 2, 3] (by decide) (by decide) Φ

/-- What the result holds where each panel holds contents of its own. -/
def glue (Ys : ℕ → YC F) : YC F := fun x => Ys ((x 1).val / 1024) x

/-- Four panels joined. -/
theorem y_join (c : Dev nD) (Ys : ℕ → YC F) :
    (iprop(yPt c (panel 0) (Ys 0) ∗ yPt c (panel 1) (Ys 1) ∗ yPt c (panel 2) (Ys 2) ∗ yPt c (panel 3) (Ys 3)) : sProp 𝕄)
      = (((c : Thread nD τ).loc main_v159) ↦{fullShare} glue Ys : sProp 𝕄) := by
  have h : ∀ n : ℕ, (yPt c (panel n) (Ys n) : sProp 𝕄) = yPt c (panel n) (glue Ys) := fun n => by
    refine pointsTo_congr fun x hx => ?_
    unfold panel at hx
    have h1 := (Finset.mem_filter.mp hx).2
    have : (x 1).val / 1024 = n := by omega
    show Ys n x = Ys ((x 1).val / 1024) x
    rw [this]
  rw [y_panels, four_panels, h 0, h 1, h 2, h 3]
  rfl

/-- One slot of the staging buffer. -/
def bSlot (σ : ℕ) : Finset S2x512x1024.Idx := Finset.univ.filter fun x => (x 0).val = σ

/-- The staging buffer is its two slots. -/
theorem b_slots (c : Dev nD) (f : S2x512x1024.Idx → Elt F .f32) :
    ((((c : Thread nD τ).loc cc0_scratch4) ↦{fullShare} f : sProp 𝕄)) = bigSep Finset.univ fun σ : Fin 2 => bPt c (bSlot σ.val) f := by
  refine Ring.pointsTo_blocks (ℓ := (c : Thread nD τ).loc cc0_scratch4) (fun n : Fin 2 => bSlot n.val) ?_ ?_ f
  · intro n n' hne
    rw [Finset.disjoint_left]
    intro x hx hx'
    unfold bSlot at hx hx'
    have h1 := (Finset.mem_filter.mp hx).2
    have h2 := (Finset.mem_filter.mp hx').2
    exact hne (Fin.ext (by omega))
  · refine Finset.eq_univ_of_forall fun x => Finset.mem_biUnion.mpr ?_
    exact ⟨x (0 : Fin 3), Finset.mem_univ _, Finset.mem_filter.mpr ⟨Finset.mem_univ _, rfl⟩⟩

/-- A slot's tiles are disjoint. -/
theorem bS_disj (σ : ℕ) : ∀ t ∈ (Finset.univ : Finset (Fin 4)), ∀ t' ∈ (Finset.univ : Finset (Fin 4)), t ≠ t' → Disjoint (bS σ t.val) (bS σ t'.val) := by
  intro t _ t' _ hne
  rw [Finset.disjoint_left]
  intro x hx hx'
  unfold bS at hx hx'
  have h1 := (Finset.mem_filter.mp hx).2
  have h2 := (Finset.mem_filter.mp hx').2
  exact hne (Fin.ext (by omega))

/-- A slot is its four tiles. -/
theorem bSlot_eq (σ : ℕ) : bSlot σ = (Finset.univ : Finset (Fin 4)).biUnion fun t => bS σ t.val := by
  ext x
  unfold bSlot bS
  have hx : (x 1).val < 512 := (x 1).isLt
  constructor
  · intro h
    have h := (Finset.mem_filter.mp h).2
    exact Finset.mem_biUnion.mpr ⟨⟨(x 1).val / 128, by omega⟩, Finset.mem_univ _, Finset.mem_filter.mpr ⟨Finset.mem_univ _, h, by
      show 128 * ((x 1).val / 128) ≤ _; omega, by show _ < 128 * ((x 1).val / 128) + 128; omega⟩⟩
  · intro h
    obtain ⟨t, -, h⟩ := Finset.mem_biUnion.mp h
    exact Finset.mem_filter.mpr ⟨Finset.mem_univ _, (Finset.mem_filter.mp h).2.1⟩

/-- A slot, tile by tile. -/
theorem slot_open (c : Dev nD) (σ : ℕ) (f : S2x512x1024.Idx → Elt F .f32) :
    (bPt c (bSlot σ) f : sProp 𝕄) ⊢ bigSep Finset.univ (fun t : Fin 4 => iprop(∃ f, bPt (F := F) c (bS σ t.val) f)) := by
  have h : (bPt c (bSlot σ) f : sProp 𝕄) = bigSep Finset.univ (fun t : Fin 4 => bPt c (bS σ t.val) f) := by
    rw [bSlot_eq]
    exact pointsTo_biUnion (ℓ := (c : Thread nD τ).loc cc0_scratch4) Finset.univ (fun t : Fin 4 => bS σ t.val) (bS_disj σ)
  rw [h]
  exact bigSep_mono fun t _ => exists_intro (Φ := fun f => bPt (F := F) c (bS σ t.val) f) f

/-- A slot's tiles put together. -/
theorem slot_close (c : Dev nD) (σ : ℕ) :
    (bigSep Finset.univ (fun t : Fin 4 => iprop(∃ f, bPt (F := F) c (bS σ t.val) f)) : sProp 𝕄) ⊢ iprop(∃ f, bPt (F := F) c (bSlot σ) f) := by
  rw [four_panels]
  iintro ⟨⟨%f0, H0⟩, ⟨%f1, H1⟩, ⟨%f2, H2⟩, ⟨%f3, H3⟩⟩
  let f : S2x512x1024.Idx → Elt F .f32 := fun x => if (x 1).val < 128 then f0 x else if (x 1).val < 256 then f1 x else if (x 1).val < 384 then f2 x else f3 x
  iexists f
  have h : (bPt c (bSlot σ) f : sProp 𝕄) = iprop(bPt c (bS σ 0) f ∗ bPt c (bS σ 1) f ∗ bPt c (bS σ 2) f ∗ bPt c (bS σ 3) f) := by
    rw [bSlot_eq]
    exact (pointsTo_biUnion (ℓ := (c : Thread nD τ).loc cc0_scratch4) Finset.univ (fun t : Fin 4 => bS σ t.val) (bS_disj σ)).trans (four_panels _)
  have e0 : (bPt c (bS σ 0) f0 : sProp 𝕄) = bPt c (bS σ 0) f := pointsTo_congr fun x hx => by
    unfold bS at hx
    have h1 := (Finset.mem_filter.mp hx).2
    exact (if_pos (by omega)).symm
  have e1 : (bPt c (bS σ 1) f1 : sProp 𝕄) = bPt c (bS σ 1) f := pointsTo_congr fun x hx => by
    unfold bS at hx
    have h1 := (Finset.mem_filter.mp hx).2
    exact ((if_neg (by omega)).trans (if_pos (by omega))).symm
  have e2 : (bPt c (bS σ 2) f2 : sProp 𝕄) = bPt c (bS σ 2) f := pointsTo_congr fun x hx => by
    unfold bS at hx
    have h1 := (Finset.mem_filter.mp hx).2
    exact ((if_neg (by omega)).trans ((if_neg (by omega)).trans (if_pos (by omega)))).symm
  have e3 : (bPt c (bS σ 3) f3 : sProp 𝕄) = bPt c (bS σ 3) f := pointsTo_congr fun x hx => by
    unfold bS at hx
    have h1 := (Finset.mem_filter.mp hx).2
    exact ((if_neg (by omega)).trans ((if_neg (by omega)).trans (if_neg (by omega)))).symm
  iapply (Entails.of_eq h.symm)
  isplitl [H0]; · iapply (Entails.of_eq e0); iexact H0
  isplitl [H1]; · iapply (Entails.of_eq e1); iexact H1
  isplitl [H2]; · iapply (Entails.of_eq e2); iexact H2
  iapply (Entails.of_eq e3); iexact H3

/-- Two slots, one after the other. -/
theorem two_slots (Φ : Fin 2 → sProp 𝕄) : (bigSep Finset.univ Φ) = iprop(Φ 0 ∗ Φ 1) :=
  bigSep_univ_eq_bigSepL [0, 1] (by decide) (by decide) Φ

/-- The body's two semaphores. -/
def osem0 : Fin 2 → SemLoc sig := fun j => (![SemLoc.dma 10, SemLoc.dma 11] : Fin 2 → SemLoc sig) j

/-- They are of its own. -/
theorem ownSemFacts0 : Pipeline.OwnSemFacts spec0 osem0 := by decide

/-- The two semaphores, by name. -/
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma (cellD 0)) 0 ∗ semVal ((c : Thread nD τ), .dma (cellD 1)) 0) := by
  rw [Pipeline.ownSems0_eq_of_list c osem0 [0, 1] (by decide) (by decide)]; rfl

/-- The staging buffer and the two semaphores at rest are the two slots at rest. -/
theorem slots_open (c : Dev nD) (f : S2x512x1024.Idx → Elt F .f32) :
    (iprop((((c : Thread nD τ).loc cc0_scratch4) ↦{fullShare} f)
      ∗ semVal ((c : Thread nD τ), .dma (cellD 0)) 0 ∗ semVal ((c : Thread nD τ), .dma (cellD 1)) 0) : sProp 𝕄)
      ⊢ iprop(slotF (F := F) c (0 : Fin 2) ∗ slotF (F := F) c (1 : Fin 2)) := by
  rw [b_slots, two_slots]
  unfold slotF
  iintro ⟨⟨H0, H1⟩, S0, S1⟩
  isplitl [H0 S0]
  · isplitl [S0]; · iexact S0
    iapply (slot_open c (0 : Fin 2).val f) $$ H0
  · isplitl [S1]; · iexact S1
    iapply (slot_open c (1 : Fin 2).val f) $$ H1

/-- And back. -/
theorem slots_close (c : Dev nD) :
    iprop(slotF (F := F) c (0 : Fin 2) ∗ slotF (F := F) c (1 : Fin 2))
    ⊢ (iprop((∃ f : S2x512x1024.Idx → Elt F .f32, ((c : Thread nD τ).loc cc0_scratch4) ↦{fullShare} f)
      ∗ semVal ((c : Thread nD τ), .dma (cellD 0)) 0 ∗ semVal ((c : Thread nD τ), .dma (cellD 1)) 0) : sProp 𝕄) := by
  unfold slotF
  iintro ⟨⟨S0, H0⟩, S1, H1⟩
  ihave H0 := (slot_close (F := F) c (0 : Fin 2).val) $$ H0
  ihave H1 := (slot_close (F := F) c (1 : Fin 2).val) $$ H1
  icases H0 with ⟨%f0, H0⟩
  icases H1 with ⟨%f1, H1⟩
  isplitl [H0 H1]
  · let f : S2x512x1024.Idx → Elt F .f32 := fun x => if (x 0).val = 0 then f0 x else f1 x
    have e0 : (bPt c (bSlot (0 : Fin 2).val) f0 : sProp 𝕄) = bPt c (bSlot (0 : Fin 2).val) f := pointsTo_congr fun x hx => by
      unfold bSlot at hx
      have h1 := (Finset.mem_filter.mp hx).2
      exact (if_pos h1).symm
    have e1 : (bPt c (bSlot (1 : Fin 2).val) f1 : sProp 𝕄) = bPt c (bSlot (1 : Fin 2).val) f := pointsTo_congr fun x hx => by
      unfold bSlot at hx
      have h1 := (Finset.mem_filter.mp hx).2
      exact (if_neg (by omega)).symm
    iexists f
    iapply (Entails.of_eq ((b_slots c f).trans (two_slots _)).symm)
    isplitl [H0]; · iapply (Entails.of_eq e0); iexact H0
    iapply (Entails.of_eq e1); iexact H1
  · isplitl [S0]; · iexact S0
    iexact S1

end Cert.KernelIdeal.Hand
-- ==== Proof.Run.lean ====
/-
  The run of the region: its proof data, its body at every grid point, and the launch.
-/
module

public import proofs.«01_k».proof.Proof.Cut

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] {α : Type}

local notation "𝕄" => MT nD τ sig Unit (Elt F) ℕ (Pipeline.UD sig nD τ) ℕ

/-- A grid point's item. -/
theorem coords_item (t : Fin grid0.N) : (grid0.coords t 0).val = t.val / 8 := by
  have h : t.val < 3088 := t.isLt
  have := Pipeline.Grid.coords_val (G := grid0) t 0 (S := 8) (B := 386) rfl rfl
  omega

/-- A grid point's step. -/
theorem coords_step (t : Fin grid0.N) : (grid0.coords t 1).val = t.val % 8 := by
  have := Pipeline.Grid.coords_val (G := grid0) t 1 (S := 1) (B := 8) rfl rfl
  omega

/-- The body at one grid point, from what is held before it to what is held before the next. -/
theorem RD.point (R : RD F) (c : Dev nD) (t : Fin grid0.N) (a4 a5 : Memref sig .tc .smem S386 .i32) (q : PosShare TreeShare)
    (d4 d5 : Vec F S386 .i32) (h4 : ∀ n, n < 386 → (tabAt d4 n).toNat * 128 = R.r n) (h5 : ∀ n, n < 386 → (tabAt d5 n).toNat = R.m n)
    (a6 : Memref sig .tc .vmem S512x1024 .bf16) (a7 : Memref sig .tc .vmem S512x128 .f32) (a8 a9 : Memref sig .tc .vmem S1x1x1024x1152 .f32) (a10 : Memref sig .tc .vmem S1x1x1152x1024 .f32)
    (h13 h14 h15) :
    R.held c a4 a5 q d4 d5 (R.stg c a6 a7 a8 a9 a10 t.val) (t.val / 8) (t.val % 8)
    ⊢ WP c (bodyS (grid0.coords t) a4 a5 a6 a7 a8 a9 a10 yM (Memref.whole cc0_scratch0) (Memref.whole cc0_scratch1) h13 (Memref.whole cc0_scratch2) h14 (Memref.whole cc0_scratch3) h15 bM cc0_scratch5)
      (fun _ => R.held c a4 a5 q d4 d5 (R.stg c a6 a7 a8 a9 a10 t.val) ((t.val + 1) / 8) ((t.val + 1) % 8)) := by
  have hi := coords_item t
  have hs := coords_step t
  have hlt : t.val % 8 < 8 := Nat.mod_lt _ (by decide)
  by_cases h : t.val % 8 < 4
  · have e := R.body_lo c (grid0.coords t) (t.val / 8) (t.val % 8) hi hs h a4 a5 q d4 d5 h4 h5 a6 a7 a8 a9 a10 h13 h14 h15
    rw [show 8 * (t.val / 8) + t.val % 8 = t.val by omega] at e
    rw [show (t.val + 1) / 8 = t.val / 8 by omega, show (t.val + 1) % 8 = t.val % 8 + 1 by omega]
    exact e
  · have hm : t.val % 8 - 4 < 4 := by omega
    have e := R.body_hi c (grid0.coords t) (t.val / 8) ⟨t.val % 8 - 4, hm⟩ hi (by rw [hs]; show _ = 4 + (t.val % 8 - 4); omega) a4 a5 q d4 d5 h4 h5 a6 a7 a8 a9 a10 h13 h14 h15
    rw [show 8 * (t.val / 8) + 4 + (⟨t.val % 8 - 4, hm⟩ : Fin 4).val = t.val by show 8 * (t.val / 8) + 4 + (t.val % 8 - 4) = _; omega,
      show 4 + (⟨t.val % 8 - 4, hm⟩ : Fin 4).val = t.val % 8 by show 4 + (t.val % 8 - 4) = _; omega] at e
    by_cases h7 : t.val % 8 = 7
    · have e3 : (⟨t.val % 8 - 4, hm⟩ : Fin 4) = 3 := Fin.ext (by show t.val % 8 - 4 = 3; omega)
      rw [if_pos e3, if_pos e3] at e
      rw [show (t.val + 1) / 8 = t.val / 8 + 1 by omega, show (t.val + 1) % 8 = 0 by omega]
      exact e
    · have e3 : ¬ (⟨t.val % 8 - 4, hm⟩ : Fin 4) = 3 := fun e3 => by
        have := congrArg Fin.val e3
        have : t.val % 8 - 4 = 3 := this
        omega
      rw [if_neg e3, if_neg e3] at e
      rw [show (t.val + 1) / 8 = t.val / 8 by omega, show (t.val + 1) % 8 = t.val % 8 + 1 by omega]
      exact e

/-- What holds of zero and of every entry of a table holds of every read of it. -/
theorem tabAt_all (d : Vec F S386 .i32) (P : ℕ → Prop) (h0 : P 0) (h : ∀ n, n < 386 → P (tabAt d n).toNat) (i : ℕ) : P (tabAt d i).toNat := by
  by_cases hi : i < 386
  · exact h i hi
  · rw [show tabAt d i = 0#32 from dif_neg hi]; exact h0

/-- The grid point of a number. -/
def pt (k : ℕ) : Fin grid0.N := ⟨k % grid0.N, Nat.mod_lt _ (by rw [N_0]; decide)⟩

/-- A grid point's number is its own. -/
theorem pt_val (t : Fin grid0.N) : pt t.val = t := Fin.ext (Nat.mod_eq_of_lt t.isLt)

section Data

variable (V : Dev nD → Valuation τ sig (Elt F)) (pf : pre0.Contents (Elt F)) (hpf : Tab pf)

/-- The tables, admissible. -/
abbrev adm : pcfg0.Adm (Val := Elt F) := ⟨pf, hpf.ok⟩

/-- A window's block at a grid point, read off its array. -/
def iblk (c : Dev nD) (w : Fin (cfg0 (adm pf hpf)).W) (t : Fin (cfg0 (adm pf hpf)).N) :
    (((cfg0 (adm pf hpf)).win w).xblock ((cfg0 (adm pf hpf)).grid.coords t)).Idx → Elt F ((cfg0 (adm pf hpf)).win w).elt :=
  (((cfg0 (adm pf hpf)).win w).blk t).view.read (Elt F) (V c (Proc.devRef .tc (Pipeline.arrRef (cfg0 (adm pf hpf)).spec w)))

/-- What the region reads, from its tables and its arrays. -/
def rd (c : Dev nD) : RD F where
  r i := (tabAt (F := F) (pf 2) i).toNat * 128
  m i := (tabAt (F := F) (pf 3) i).toNat
  hm i := tabAt_all (F := F) (pf 3) (· ≤ 4) (by decide) hpf.sub i
  hr i := tabAt_all (F := F) (pf 2) (fun x => x * 128 + 512 ≤ 99584) (by decide) hpf.row i
  X k := iblk V pf hpf c 0 (pt k)
  G k := iblk V pf hpf c 1 (pt k)
  Wg k := iblk V pf hpf c 2 (pt k)
  Wu k := iblk V pf hpf c 3 (pt k)
  Wd k := iblk V pf hpf c 4 (pt k)
  Y0 := V c (Proc.devRef .tc main_v159)

/-- The tables at their shares. -/
def tabs (c : Dev nD) (R : sProp 𝕄) : sProp 𝕄 :=
  iprop((((c : Thread nD τ).loc main_v111) ↦{fullShare.right} pf 0) ∗ (((c : Thread nD τ).loc main_v155) ↦{fullShare.right} pf 1)
    ∗ owns (c : Thread nD τ) (Memref.whole main_v138) fullShare.right (pf 2) ∗ owns (c : Thread nD τ) (Memref.whole main_v152) fullShare.right (pf 3) ∗ R)

/-- What is held before grid point `k`. -/
def inv (c : Dev nD) (k : ℕ) : sProp 𝕄 :=
  tabs pf c iprop((rd V pf hpf c).st c (k / 8) (k % 8) ∗ (rd V pf hpf c).scr c (k / 8) (k % 8))

/-- The region's proof data. -/
def dat0 (c : Dev nD) : Dat τ (Elt F) Unit ℕ (Pipeline.UD sig nD τ) ℕ (cfg0 (adm pf hpf)) c where
  A w := V c (Proc.devRef .tc (Pipeline.arrRef (cfg0 (adm pf hpf)).spec w))
  after w t := iblk V pf hpf c w t
  Φ t := inv V pf hpf c t.val
  q _ := fullShare
  owed _ := 0

/-- A window's buffer holds its block. -/
theorem before_eq (c : Dev nD) (w : Fin 5) (t : Fin (cfg0 (adm pf hpf)).N) (d) : (dat0 V pf hpf c).before w t d = iblk V pf hpf c w t := by
  have hA : (dat0 V pf hpf c).A w = V c (Proc.devRef .tc (Pipeline.arrRef (cfg0 (adm pf hpf)).spec w)) := by dsimp only [dat0]
  have hafter : ∀ t, (dat0 V pf hpf c).after w t = iblk V pf hpf c w t := fun t => by dsimp only [dat0]
  have hw : ((cfg0 (adm pf hpf)).win w).isOut = false := by fin_cases w <;> rfl
  refine ((dat0 V pf hpf c).before_in_eq_fetched w hw (fun _ => rfl) (fun _ _ _ => ?_) (fun t => ?_) t d).trans ?_
  · fin_cases w <;> rfl
  · rw [hafter]; unfold Dat.blockOf iblk; rw [hA]; first | done | (fin_cases w <;> rfl)
  · unfold Dat.fetched Dat.blockOf iblk; rw [hA]; first | done | (fin_cases w <;> rfl)

/-- A window's staging buffer at a grid point. -/
abbrev ms (w : Fin 5) (t : Fin (cfg0 (adm pf hpf)).N) := ((cfg0 (adm pf hpf)).win w).stage ((cfg0 (adm pf hpf)).slots t w)

/-- What the body is given at a grid point. -/
def bodyPre (c : Dev nD) (t : Fin (cfg0 (adm pf hpf)).N) : sProp 𝕄 :=
  iprop((dat0 V pf hpf c).Φ t.castSucc ∗ (dat0 V pf hpf c).owesAt () t.castSucc
    ∗ (∃ d, owns (c : Thread nD τ) (ms pf hpf 0 t) fullShare ((dat0 V pf hpf c).before 0 t d))
    ∗ (∃ d, owns (c : Thread nD τ) (ms pf hpf 1 t) fullShare ((dat0 V pf hpf c).before 1 t d))
    ∗ (∃ d, owns (c : Thread nD τ) (ms pf hpf 2 t) fullShare ((dat0 V pf hpf c).before 2 t d))
    ∗ (∃ d, owns (c : Thread nD τ) (ms pf hpf 3 t) fullShare ((dat0 V pf hpf c).before 3 t d))
    ∗ (∃ d, owns (c : Thread nD τ) (ms pf hpf 4 t) fullShare ((dat0 V pf hpf c).before 4 t d)))

/-- What it gives back. -/
def bodyPost (c : Dev nD) (t : Fin (cfg0 (adm pf hpf)).N) : sProp 𝕄 :=
  iprop((dat0 V pf hpf c).Φ t.succ ∗ (dat0 V pf hpf c).owesAt () t.succ
    ∗ owns (c : Thread nD τ) (ms pf hpf 0 t) fullShare ((dat0 V pf hpf c).after 0 t)
    ∗ owns (c : Thread nD τ) (ms pf hpf 1 t) fullShare ((dat0 V pf hpf c).after 1 t)
    ∗ owns (c : Thread nD τ) (ms pf hpf 2 t) fullShare ((dat0 V pf hpf c).after 2 t)
    ∗ owns (c : Thread nD τ) (ms pf hpf 3 t) fullShare ((dat0 V pf hpf c).after 3 t)
    ∗ owns (c : Thread nD τ) (ms pf hpf 4 t) fullShare ((dat0 V pf hpf c).after 4 t))

/-- The body, as the pipeline calls it. -/
abbrev bodyAt (t : Fin (cfg0 (adm pf hpf)).N) : PA F PUnit :=
  bodyS (grid0.coords t) (Memref.whole main_v138) (Memref.whole main_v152) (ms pf hpf 0 t) (ms pf hpf 1 t) (ms pf hpf 2 t) (ms pf hpf 3 t) (ms pf hpf 4 t) yM
    (Memref.whole cc0_scratch0) (Memref.whole cc0_scratch1) (Memref.isWhole_whole _) (Memref.whole cc0_scratch2) (Memref.isWhole_whole _) (Memref.whole cc0_scratch3) (Memref.isWhole_whole _) bM cc0_scratch5

/-- The row of the labels' table is it. -/
theorem row_eq (t : Fin (cfg0 (adm pf hpf)).N) :
    defs₀ (F := F) .tc (cfg0 (adm pf hpf)).body ((cfg0 (adm pf hpf)).bodyArgs t ((cfg0 (adm pf hpf)).slots t)) = bodyAt pf hpf t := by
  unfold defs₀
  rw [Defs.onTc_tc]
  exact body_eq (F := F) (grid0.coords t) (Memref.whole main_v138) (Memref.whole main_v152) (ms pf hpf 0 t) (ms pf hpf 1 t) (ms pf hpf 2 t) (ms pf hpf 3 t) (ms pf hpf 4 t) yM
    (Memref.whole cc0_scratch0) (Memref.whole cc0_scratch1) (Memref.isWhole_whole _) (Memref.whole cc0_scratch2) (Memref.isWhole_whole _) (Memref.whole cc0_scratch3) (Memref.isWhole_whole _) bM cc0_scratch5
    _ _ _ _ _ _ _ _ _ _ _ _ _ _

/-- The blocks that the proof data name are the ones that the values are stated over. -/
theorem stg_eq (c : Dev nD) (t : Fin (cfg0 (adm pf hpf)).N) :
    ((rd V pf hpf c).stg c (ms pf hpf 0 t) (ms pf hpf 1 t) (ms pf hpf 2 t) (ms pf hpf 3 t) (ms pf hpf 4 t) t.val : sProp 𝕄)
      = iprop(owns (c : Thread nD τ) (ms pf hpf 0 t) fullShare (iblk V pf hpf c 0 t) ∗ owns (c : Thread nD τ) (ms pf hpf 1 t) fullShare (iblk V pf hpf c 1 t)
        ∗ owns (c : Thread nD τ) (ms pf hpf 2 t) fullShare (iblk V pf hpf c 2 t) ∗ owns (c : Thread nD τ) (ms pf hpf 3 t) fullShare (iblk V pf hpf c 3 t)
        ∗ owns (c : Thread nD τ) (ms pf hpf 4 t) fullShare (iblk V pf hpf c 4 t)) := by
  unfold RD.stg rd
  dsimp only
  rw [pt_val]

/-- The body's triple at a grid point. -/
theorem sound_body (c : Dev nD) (t : Fin (cfg0 (adm pf hpf)).N) :
    bodyPre V pf hpf c t ⊢ WP c (bodyAt pf hpf t) (fun _ => bodyPost V pf hpf c t) := by
  have hΦ : (dat0 V pf hpf c).Φ t.castSucc = inv V pf hpf c t.val := by dsimp only [dat0]; rfl
  have hΦ' : (dat0 V pf hpf c).Φ t.succ = inv V pf hpf c (t.val + 1) := by dsimp only [dat0]; rfl
  have ha : ∀ w, (dat0 V pf hpf c).after w t = iblk V pf hpf c w t := fun w => by dsimp only [dat0]
  have ho : ∀ k, (dat0 V pf hpf c).owed k = 0 := fun k => by dsimp only [dat0]
  unfold bodyPre bodyPost
  rw [hΦ, hΦ', ha 0, ha 1, ha 2, ha 3, ha 4]
  unfold Dat.owesAt Pipeline.owesWithin
  rw [ho, ho]
  unfold inv tabs
  iintro ⟨⟨H0, H1, H2, H3, Hst, Hscr⟩, ⟨%W, -, HW⟩, ⟨%d0, B0⟩, ⟨%d1, B1⟩, ⟨%d2, B2⟩, ⟨%d3, B3⟩, ⟨%d4, B4⟩⟩
  ihave B0 := (Entails.of_eq (congrArg (fun x => (owns (c : Thread nD τ) (ms pf hpf 0 t) fullShare x : sProp 𝕄)) (before_eq V pf hpf c 0 t d0))) $$ B0
  ihave B1 := (Entails.of_eq (congrArg (fun x => (owns (c : Thread nD τ) (ms pf hpf 1 t) fullShare x : sProp 𝕄)) (before_eq V pf hpf c 1 t d1))) $$ B1
  ihave B2 := (Entails.of_eq (congrArg (fun x => (owns (c : Thread nD τ) (ms pf hpf 2 t) fullShare x : sProp 𝕄)) (before_eq V pf hpf c 2 t d2))) $$ B2
  ihave B3 := (Entails.of_eq (congrArg (fun x => (owns (c : Thread nD τ) (ms pf hpf 3 t) fullShare x : sProp 𝕄)) (before_eq V pf hpf c 3 t d3))) $$ B3
  ihave B4 := (Entails.of_eq (congrArg (fun x => (owns (c : Thread nD τ) (ms pf hpf 4 t) fullShare x : sProp 𝕄)) (before_eq V pf hpf c 4 t d4))) $$ B4
  have hp := (rd V pf hpf c).point c t (Memref.whole main_v138) (Memref.whole main_v152) fullShare.right (pf 2) (pf 3) (fun _ _ => rfl) (fun _ _ => rfl)
    (ms pf hpf 0 t) (ms pf hpf 1 t) (ms pf hpf 2 t) (ms pf hpf 3 t) (ms pf hpf 4 t) (Memref.isWhole_whole _) (Memref.isWhole_whole _) (Memref.isWhole_whole _)
  unfold RD.held at hp
  rw [stg_eq] at hp
  ihave Hwp := hp $$ [H2 H3 Hst Hscr HW B0 B1 B2 B3 B4]
  · iexists W
    isplitl [H2]; · iexact H2
    isplitl [H3]; · iexact H3
    isplitl [B0 B1 B2 B3 B4]
    · isplitl [B0]; · iexact B0
      isplitl [B1]; · iexact B1
      isplitl [B2]; · iexact B2
      isplitl [B3]; · iexact B3
      iexact B4
    isplitl [Hst]; · iexact Hst
    isplitl [Hscr]; · iexact Hscr
    iexact HW
  · iapply (wp_wand frame (wpE (defs₀ (F := F)) Variants.none (c : Thread nD τ) none) Set.univ) $$ Hwp
    iintro %u ⟨%W', H2, H3, HB, Hst, Hscr, HW⟩
    isplitl [H0 H1 H2 H3 Hst Hscr]
    · isplitl [H0]; · iexact H0
      isplitl [H1]; · iexact H1
      isplitl [H2]; · iexact H2
      isplitl [H3]; · iexact H3
      isplitl [Hst]; · iexact Hst
      iexact Hscr
    isplitl [HW]
    · iexists W'; isplitr; · ipureintro; exact fun _ _ => Or.inl trivial
      iexact HW
    iexact HB

/-- The pipeline's obligation on the body. -/
theorem body_obligation (c : Dev nD) : BodyObligation (dat0 V pf hpf c) (defs₀ (F := F)) Variants.none () Set.univ := fun t => by
  rw [bigSep_W0, bigSep_W0, row_eq]
  exact triple_restated (sound_body V pf hpf c t) rfl .rfl fun _ => .rfl

end Data

end Cert.KernelIdeal.Hand
-- ==== Proof.Main.lean ====
/-
  The whole program: the host's preparation, the region, and the host's work after it.
-/
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] {α : Type}

local notation "𝕄" => MT nD τ sig Unit (Elt F) ℕ (Pipeline.UD sig nD τ) ℕ

section Ends

variable (V : Dev nD → Valuation τ sig (Elt F)) (pf : pre0.Contents (Elt F)) (hpf : Tab pf)

/-- The four tables, one after another. -/
theorem four_tabs (c : Dev nD) :
    (Pipeline.ΦT (U := Pipeline.UD sig nD τ) pre0 pf c : sProp 𝕄)
      = iprop((((c : Thread nD τ).loc main_v111) ↦{fullShare.right} pf 0) ∗ (((c : Thread nD τ).loc main_v155) ↦{fullShare.right} pf 1)
        ∗ (((c : Thread nD τ).loc main_v138) ↦{fullShare.right} pf 2) ∗ (((c : Thread nD τ).loc main_v152) ↦{fullShare.right} pf 3)) :=
  bigSep_univ_eq_bigSepL [(0 : Fin 4), 1, 2, 3] (by decide) (by decide) _

/-- The result's buffer alone. -/
theorem one_buf (G : (b : Ref sig .tc) → sProp 𝕄) : (bigSep {main_v159} G) = G main_v159 := by
  rw [BI.bigSep_eq_bigSepL_of_eq [main_v159] (by decide) (by decide)]; rfl

/-- What the region leaves in the buffers that it writes itself. -/
def left (c : Dev nD) (b : Ref sig .tc) : Buf (Elt F) ((c : Thread nD τ).loc b) :=
  if h : b = main_v159 then h ▸ (glue (fun n => (rd V pf hpf c).y n 386) : Buf (Elt F) ((c : Thread nD τ).loc main_v159)) else V c (Proc.devRef .tc b)

/-- The region's invariant at its start. -/
theorem inv_in (c : Dev nD) :
    iprop(Pipeline.ΦDRV osem0 spec0 ∅ {main_v159} (fun c b => V c (Proc.devRef .tc b)) (fun c b => V c (Proc.devRef .tc b)) c
      ∗ (Pipeline.ΦT (U := Pipeline.UD sig nD τ) pre0 pf c : sProp 𝕄)) ⊢ inv V pf hpf c 0 := by
  unfold Pipeline.ΦDRV
  rw [four_tabs, one_buf, scopedRest0_eq, ownSems_eq]
  have hs : (inv V pf hpf c 0 : sProp 𝕄) = tabs pf c iprop((rd V pf hpf c).idle c 0 ∗ (rd V pf hpf c).scr c 0 0) := by
    unfold inv
    rw [show (rd V pf hpf c).st c (0 / 8) (0 % 8) = (rd V pf hpf c).idle c 0 from by
      unfold RD.st; rw [if_pos rfl, if_pos (Or.inl rfl)]]
  rw [hs]
  unfold tabs RD.idle RD.scr
  iintro ⟨⟨⟨⟨%f0, S0⟩, ⟨%f1, S1⟩, ⟨%f2, S2⟩, ⟨%f3, S3⟩, ⟨%f4, S4⟩⟩, ⟨Q0, Q1⟩, -, HY⟩, T0, T1, T2, T3⟩
  ihave HB := (slots_open (F := F) c f4) $$ [S4 Q0 Q1]
  · isplitl [S4]; · iexact S4
    isplitl [Q0]; · iexact Q0
    iexact Q1
  icases HB with ⟨HB0, HB1⟩
  ihave HY := (Entails.of_eq ((y_panels (F := F) c (V c (Proc.devRef .tc main_v159))).trans (four_panels _))) $$ HY
  icases HY with ⟨Y0, Y1, Y2, Y3⟩
  isplitl [T0]; · iexact T0
  isplitl [T1]; · iexact T1
  isplitl [T2]; · iapply (Entails.of_eq (owns_whole (c : Thread nD τ) main_v138 fullShare.right (pf 2)).symm); iexact T2
  isplitl [T3]; · iapply (Entails.of_eq (owns_whole (c : Thread nD τ) main_v152 fullShare.right (pf 3)).symm); iexact T3
  isplitl [HB0 HB1 Y0 Y1 Y2 Y3]
  · isplitl [HB0]; · iexact HB0
    isplitl [HB1]; · iexact HB1
    isplitl [Y0]; · iexact Y0
    isplitl [Y1]; · iexact Y1
    isplitl [Y2]; · iexact Y2
    iexact Y3
  iexists f0, f1, f2, f3
  isplitr
  · ipureintro
    exact ⟨fun h => absurd h (by decide), fun h => absurd h (by decide)⟩
  isplitl [S0]; · iapply (Entails.of_eq (owns_whole (c : Thread nD τ) cc0_scratch0 fullShare f0).symm); iexact S0
  isplitl [S1]; · iapply (Entails.of_eq (owns_whole (c : Thread nD τ) cc0_scratch1 fullShare f1).symm); iexact S1
  isplitl [S2]; · iapply (Entails.of_eq (owns_whole (c : Thread nD τ) cc0_scratch2 fullShare f2).symm); iexact S2
  iapply (Entails.of_eq (owns_whole (c : Thread nD τ) cc0_scratch3 fullShare f3).symm); iexact S3

/-- What is left at its end. -/
theorem inv_out (c : Dev nD) :
    (inv V pf hpf c 3088 : sProp 𝕄) ⊢ Pipeline.ΦDRV osem0 spec0 ∅ {main_v159} (fun c b => V c (Proc.devRef .tc b)) (left V pf hpf) c := by
  unfold Pipeline.ΦDRV
  rw [one_buf, scopedRest0_eq, ownSems_eq]
  have hs : (inv V pf hpf c 3088 : sProp 𝕄) = tabs pf c iprop((rd V pf hpf c).idle c 386 ∗ (rd V pf hpf c).scr c 386 0) := by
    unfold inv
    rw [show (rd V pf hpf c).st c (3088 / 8) (3088 % 8) = (rd V pf hpf c).idle c 386 from by
      unfold RD.st; rw [if_pos rfl, if_pos (Or.inr (by decide))]]
  have hl : left V pf hpf c main_v159 = glue (fun n => (rd V pf hpf c).y n 386) := dif_pos rfl
  rw [hs]
  unfold tabs RD.idle RD.scr
  iintro ⟨T0, T1, T2, T3, ⟨HB0, HB1, Y0, Y1, Y2, Y3⟩, ⟨%f0, %f1, %f2, %f3, -, S0, S1, S2, S3⟩⟩
  ihave HB := (slots_close (F := F) c) $$ [HB0 HB1]
  · isplitl [HB0]; · iexact HB0
    iexact HB1
  icases HB with ⟨S4, Q0, Q1⟩
  ihave HY := (Entails.of_eq (y_join (F := F) c (fun n => (rd V pf hpf c).y n 386))) $$ [Y0 Y1 Y2 Y3]
  · isplitl [Y0]; · iexact Y0
    isplitl [Y1]; · iexact Y1
    isplitl [Y2]; · iexact Y2
    iexact Y3
  isplitl [S0 S1 S2 S3 S4]
  · isplitl [S0]; · iexists f0; iapply (Entails.of_eq (owns_whole (c : Thread nD τ) cc0_scratch0 fullShare f0)); iexact S0
    isplitl [S1]; · iexists f1; iapply (Entails.of_eq (owns_whole (c : Thread nD τ) cc0_scratch1 fullShare f1)); iexact S1
    isplitl [S2]; · iexists f2; iapply (Entails.of_eq (owns_whole (c : Thread nD τ) cc0_scratch2 fullShare f2)); iexact S2
    isplitl [S3]; · iexists f3; iapply (Entails.of_eq (owns_whole (c : Thread nD τ) cc0_scratch3 fullShare f3)); iexact S3
    iexact S4
  isplitl [Q0 Q1]
  · isplitl [Q0]; · iexact Q0
    iexact Q1
  isplitr
  · rw [bigSep_empty]; iempintro
  rw [hl]
  iexact HY

end Ends

variable (m : (ℓ : Loc nD τ sig) → Buf (Elt F) ℓ) (ρ : Dev nD → PrngReg)

/-- The host's operations before the region. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12,
    hostOps0_13, hostOps0_14, hostOps0_15, hostOps0_16, hostOps0_17, hostOps0_18, hostOps0_19, hostOps0_20, hostOps0_21, hostOps0_22, hostOps0_23, hostOps0_24, hostOps0_25]

/-- The host's operations after it. -/
abbrev post : List (List (HloOp τ sig (Elt F))) := [hostOps1, hostOps1_1]

/-- What the buffers hold when the region starts. -/
def V0 (c : Dev nD) : Valuation τ sig (Elt F) := StableHlo.after (pre (F := F)).flatten (fun b => m (c, b))

/-- The tables when the region starts. -/
def pf0 : pre0.Contents (Elt F) := fun k => V0 m 0 (Proc.devRef .tc (pre0.ref k))

variable (hpf : Tab (pf0 m))

/-- Every table admissible. -/
abbrev adms : (p : Fin 1) → (pcfgs (F := F) p).Adm := fun _ => adm (pf0 m) hpf

/-- The proof data of the program's one region. -/
abbrev dats (p : Fin 1) (c : Dev nD) : Dat τ (Elt F) Unit ℕ (Pipeline.UD sig nD τ) ℕ (Pipeline.pin pcfgs (adms m hpf) p) c :=
  dat0 (V0 m) (pf0 m) hpf c

/-- The host's operations allocate nothing. -/
theorem pre_fresh : (pre (F := F)).Forall fun ops => ops.Forall fun op => op.fresh = ∅ := by
  simp only [List.forall_cons, List.Forall]
  repeat' constructor

/-- They touch only the core's buffers. -/
theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub,
    hostOps0_10_sub, hostOps0_11_sub, hostOps0_12_sub, hostOps0_13_sub, hostOps0_14_sub, hostOps0_15_sub, hostOps0_16_sub, hostOps0_17_sub, hostOps0_18_sub, hostOps0_19_sub,
    hostOps0_20_sub, hostOps0_21_sub, hostOps0_22_sub, hostOps0_23_sub, hostOps0_24_sub, hostOps0_25_sub⟩

end Cert.KernelIdeal.Hand
-- ==== Proof.Frame.lean ====
/-
  The frame of the whole program: it runs, its argument arrays end unchanged, its semaphores end at zero.
-/
module

public import proofs.«01_k».proof.Proof.Main
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- No operation after the region allocates. -/
theorem post_fresh : ∀ ops ∈ (post (F := F)), ∀ op ∈ ops, op.fresh = ∅ := by
  have h : (post (F := F)).Forall fun ops => ops.Forall fun op => op.fresh = ∅ := by
    simp only [List.forall_cons, List.Forall]
    repeat' constructor
  exact fun ops ho op hop => List.forall_iff_forall_mem.mp (List.forall_iff_forall_mem.mp h ops ho) op hop

/-- What the first line after the region writes. -/
abbrev wrote1 : List (Ref sig .tc) :=
  [main_call13_c, main_call13_v0, main_call13_v1, main_call13_c_0, main_call13_v2, main_call13_v3, main_call13_v4, main_call13_v5, main_call13_c_1, main_call13_c_2,
    main_call13_v6, main_call13_v7, main_call13_v8, main_call13_v9, main_call13_v10, main_call13_v11, main_call13_c_3, main_call13_v12, main_call13_v13, main_call13_v14,
    main_call13_cst, main_call13_v15, main_v160]

/-- What the second line writes. -/
abbrev wrote2 : List (Ref sig .tc) := [main_cst_46, main_v161]

/-- Whatever an operation after the region writes is in one of the two lists. -/
theorem post_writes : ∀ ops ∈ (post (F := F)), ∀ op ∈ ops, op.writes ⊆ ((wrote1 ++ wrote2).map (Proc.devRef (τ := τ) .tc)).toFinset := by
  intro ops ho op hop
  simp only [List.mem_cons, List.mem_nil_iff, or_false] at ho
  rcases ho with rfl | rfl
  · intro b hb
    have := List.forall_iff_forall_mem.mp (StableHlo.forall_writes_sub_of_map (W := wrote1) (ops := hostOps1 (F := F)) rfl) op hop hb
    simp only [List.mem_toFinset, List.map_append, List.mem_append] at this ⊢
    exact Or.inl this
  · intro b hb
    have := List.forall_iff_forall_mem.mp (StableHlo.forall_writes_sub_of_map (W := wrote2) (ops := hostOps1_1 (F := F)) rfl) op hop hb
    simp only [List.mem_toFinset, List.map_append, List.mem_append] at this ⊢
    exact Or.inr this

/-- The operations after the region leave its arrays alone. -/
theorem post_keeps : ∀ ops ∈ (post (F := F)), ∀ op ∈ ops, ∀ w, Proc.devRef .tc (Pipeline.arrRef spec0 w) ∉ op.writes := by
  intro ops ho op hop w hb
  obtain ⟨y, hy, he⟩ := List.mem_map.mp (List.mem_toFinset.mp (post_writes ops ho op hop hb))
  exact (by decide +kernel : ∀ w, Pipeline.arrRef spec0 w ∉ (wrote1 ++ wrote2)) w (Proc.devRef_injective _ he ▸ hy)

/-- The first line touches no table. -/
theorem line_off : (hostOps1 (F := F)).Forall fun op => ∀ j, Proc.devRef .tc (pre0.ref j) ∉ op.bufs := by
  simp only [hostOps1, List.Forall]
  and_intros
  all_goals
    intro j
    fin_cases j <;>
      simp only [StableHlo.TRef.nullary, StableHlo.TRef.unary, StableHlo.TRef.binary, StableHlo.TRef.ternary, StableHlo.nullary_bufs, StableHlo.unary_bufs, StableHlo.binary_bufs,
        StableHlo.ternary_bufs, Finset.mem_insert, Finset.mem_singleton, not_or] <;>
      and_intros <;> exact StableHlo.devRef_ne_of_ne (by decide)

/-- Nor does the second. -/
theorem line_off' : (hostOps1_1 (F := F)).Forall fun op => ∀ j, Proc.devRef .tc (pre0.ref j) ∉ op.bufs := by
  simp only [hostOps1_1, List.Forall]
  and_intros
  all_goals
    intro j
    fin_cases j <;>
      simp only [StableHlo.nullary_bufs, StableHlo.unary_bufs, StableHlo.binary_bufs,
        StableHlo.ternary_bufs, Finset.mem_insert, Finset.mem_singleton, not_or] <;>
      and_intros <;> exact StableHlo.devRef_ne_of_ne (by decide)

/-- The operations after the region touch only its arrays and the buffers it leaves. -/
theorem post_sub : ∀ ops ∈ (post (F := F)), ∀ op ∈ ops, op.bufs ⊆ Pipeline.tailRefs sig pre0 spec0 := by
  intro ops ho op hop
  simp only [List.mem_cons, List.mem_nil_iff, or_false] at ho
  rcases ho with rfl | rfl
  · exact Pipeline.sub_tailRefs pre0 spec0 op ((List.forall_iff_forall_mem.mp hostOps1_sub) op hop) ((List.forall_iff_forall_mem.mp line_off) op hop)
  · exact Pipeline.sub_tailRefs pre0 spec0 op ((List.forall_iff_forall_mem.mp hostOps1_1_sub) op hop) ((List.forall_iff_forall_mem.mp line_off') op hop)

variable (m : (ℓ : Loc nD τ sig) → Buf (Elt F) ℓ)

set_option maxHeartbeats 800000 in
/-- The program is the preparation, the region, the rest. -/
theorem hmain : Pipeline.HMainPK (Ix := Unit) (Name := ℕ) (U := Pipeline.UD sig nD τ) (Lvl := ℕ) (pcfgs (F := F)) 0 defs₀ Variants.none m (main (F := F))
    (fun c b => V0 m c (Proc.devRef .tc b)) (fun _ => Pipeline.chain ((post (F := F)).map StableHlo.seq)) :=
  Pipeline.hmainP_around pcfgs 0 defs₀ Variants.none m main pre post pre_sub pre_fresh main_chain

variable (hpf : Tab (pf0 m))

/-- The output is one of the buffers the region leaves to the body. -/
theorem rest_y : ({main_v159} : Finset (Ref sig .tc)) ⊆ Pipeline.restRefsP sig pre0 spec0 \ ∅ := by decide +kernel

/-- The tables read off the buffers, on every device. -/
theorem tables_at (c : Dev nD) (k : Fin 4) : V0 m c (Proc.devRef .tc (pre0.ref k)) = pf0 m k := by
  rw [Subsingleton.elim c 0]; rfl

/-- The invariant at the start. -/
theorem starts (c : Dev nD) :
    iprop(Pipeline.ΦDRV osem0 spec0 ∅ {main_v159} (fun c b => V0 m c (Proc.devRef .tc b)) (fun c b => V0 m c (Proc.devRef .tc b)) c
      ∗ (Pipeline.ΦT (U := Pipeline.UD sig nD τ) pre0 (pf0 m) c : sProp 𝕄)) ⊢ (dats m hpf 0 c).Φ 0 := by
  dsimp only [dat0]
  exact inv_in (V0 m) (pf0 m) hpf c

/-- The invariant at the end. -/
theorem ends (c : Dev nD) :
    (dats m hpf 0 c).Φ (Fin.last grid0.N) ⊢ Pipeline.ΦDRV osem0 spec0 ∅ {main_v159} (fun c b => V0 m c (Proc.devRef .tc b)) (left (V0 m) (pf0 m) hpf) c := by
  dsimp only [dat0]
  exact inv_out (V0 m) (pf0 m) hpf c

/-- Nothing is owed. -/
theorem owes (c : Dev nD) (t : Fin (grid0.N + 1)) : (dat0 (V0 m) (pf0 m) hpf c).owed t = 0 := by
  dsimp only [dat0]

/-- The arrays start at what the preparation left. -/
theorem arr_at (c : Dev nD) (w : Fin 5) : (dat0 (V0 m) (pf0 m) hpf c).A w = V0 m c (Proc.devRef .tc (Pipeline.arrRef spec0 w)) := by
  dsimp only [dat0]

set_option backward.isDefEq.respectTransparency.types false in
/-- The whole program's run. -/
theorem run_main (ρ : Dev nD → PrngReg) :
    θ_run (defs (F := F)) (onTc (τ := τ) (main (F := F))) ⟨m, fun _ => 0, ρ⟩ (fun r =>
      (∀ c : Dev nD, (∀ w, r.2.mem ((spec0 w).arr.view.loc (c.tc : Thread nD τ)) = (dat0 (V0 m) (pf0 m) hpf c).arrAt w grid0.N)
        ∧ ∀ b ∈ Pipeline.restRefsP sig pre0 spec0, r.2.mem ((c.tc : Thread nD τ).loc b)
          = StableHlo.after (post (F := F)).flatten (Pipeline.withArrays spec0 c (Pipeline.withR (V0 m c) {main_v159} c (left (V0 m) (pf0 m) hpf c))
              fun w => (dat0 (V0 m) (pf0 m) hpf c).arrAt w grid0.N) (Proc.devRef .tc b))
      ∧ r.2.sem = fun _ => 0) :=
  Pipeline.θ_run_frameP_dmaR_aroundV pcfgs (adms m hpf) (dats m hpf) 0 launch0 osem0 defs₀ Variants.none ownSemFacts0 ∅ {main_v159}
    (Finset.empty_subset _) rest_y m ρ main (fun c => (body_obligation (V0 m) (pf0 m) hpf c).loose)
    (fun c => (dats m hpf 0 c).share_full fun _ => rfl) (owes m hpf) (V0 m) post post_sub post_fresh post_keeps
    (left (V0 m) (pf0 m) hpf) (hmain m) (arr_at m hpf)
    (tables_at m)
    (starts m hpf) (ends m hpf)
    (Q' := _) (hQ' := fun _ h => h)

/-- The preparation leaves the six arguments. -/
theorem kept (c : Dev nD) :
    V0 m c (Proc.devRef .tc main_arg0) = m (c, Proc.devRef .tc main_arg0) ∧ V0 m c (Proc.devRef .tc main_arg1) = m (c, Proc.devRef .tc main_arg1)
      ∧ V0 m c (Proc.devRef .tc main_arg2) = m (c, Proc.devRef .tc main_arg2) ∧ V0 m c (Proc.devRef .tc main_arg3) = m (c, Proc.devRef .tc main_arg3)
      ∧ V0 m c (Proc.devRef .tc main_arg4) = m (c, Proc.devRef .tc main_arg4) ∧ V0 m c (Proc.devRef .tc main_arg5) = m (c, Proc.devRef .tc main_arg5) := by
  unfold V0
  refine ⟨?_, ?_, ?_, ?_, ?_, ?_⟩ <;> after_reads_simp

/-- What the operations after the region leave. -/
theorem kept_after (V : Valuation τ sig (Elt F)) (b : Ref sig .tc) (hb : b ∉ wrote1 ++ wrote2) :
    StableHlo.after (post (F := F)).flatten V (Proc.devRef .tc b) = V (Proc.devRef .tc b) :=
  StableHlo.after_unwritten (wrote1 ++ wrote2) rfl hb V

/-- A buffer that is no array, not the output and not written afterwards ends as the preparation left it. -/
theorem kept_all (c : Dev nD) (b : Ref sig .tc) (hb : b ∉ wrote1 ++ wrote2) (hw : ∀ w, Pipeline.arrRef spec0 w ≠ b) (hy : b ∉ ({main_v159} : Finset (Ref sig .tc))) :
    StableHlo.after (post (F := F)).flatten (Pipeline.withArrays spec0 c (Pipeline.withR (V0 m c) {main_v159} c (left (V0 m) (pf0 m) hpf c))
      fun w => (dat0 (V0 m) (pf0 m) hpf c).arrAt w grid0.N) (Proc.devRef .tc b) = V0 m c (Proc.devRef .tc b) := by
  rw [kept_after _ b hb, Pipeline.withArrays_of_ne spec0 c _ _ b hw, Pipeline.withR_of_not_mem _ _ c _ b hy]

include hpf in
/-- The program runs, its arguments end unchanged, its semaphores end at zero. -/
theorem frame_of (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run (defs (F := F)) _ _).mono (fun r h => ?_) (run_main m hpf ρ)
  refine ⟨fun c => ?_, h.2⟩
  obtain ⟨k0, k1, k2, k3, k4, k5⟩ := kept m c
  obtain ⟨ha, hr⟩ := h.1 c
  refine ⟨?_, ?_, ?_, ?_, ?_, ?_⟩
  · exact (hr main_arg0 (by decide +kernel)).trans ((kept_all m hpf c main_arg0 (by decide +kernel) (by decide +kernel) (by decide +kernel)).trans k0)
  · exact (hr main_arg1 (by decide +kernel)).trans ((kept_all m hpf c main_arg1 (by decide +kernel) (by decide +kernel) (by decide +kernel)).trans k1)
  · exact (hr main_arg2 (by decide +kernel)).trans ((kept_all m hpf c main_arg2 (by decide +kernel) (by decide +kernel) (by decide +kernel)).trans k2)
  · exact (ha 2).trans (((dat0 (V0 m) (pf0 m) hpf c).arrAt_in 2 rfl _).trans ((arr_at m hpf c 2).trans k3))
  · exact (ha 3).trans (((dat0 (V0 m) (pf0 m) hpf c).arrAt_in 3 rfl _).trans ((arr_at m hpf c 3).trans k4))
  · exact (ha 4).trans (((dat0 (V0 m) (pf0 m) hpf c).arrAt_in 4 rfl _).trans ((arr_at m hpf c 4).trans k5))

end Cert.KernelIdeal.Hand
-- ==== Proof.Route.lean ====
/-
  The routing tables the host prepares, buffer by buffer.
-/
module

public import proofs.«01_k».proof.Proof.Main
public import Idealize.ShloMosaic.Lib.StableHlo.ReadAt
public import Idealize.ShloMosaic.Lib.Routing.Words
public import Idealize.ShloMosaic.Lib.Routing.OpsSearch
public import Idealize.ShloMosaic.Lib.Routing.OpsOne

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Routing

variable {F : FTy → Type} [FloatOps F]

/-- The host's preparation from its `n`-th operation on. -/
abbrev line (n : ℕ) : List (HloOp τ sig (Elt F)) := (pre (F := F)).flatten.drop n

variable (m : (ℓ : Loc nD τ sig) → Buf (Elt F) ℓ) (c : Dev nD)

/-- What the preparation leaves, as what its last operations leave after its first. -/
theorem cut (n : ℕ) : V0 m c = StableHlo.after (line n) (StableHlo.after ((pre (F := F)).flatten.take n) (fun b => m (c, b))) := by
  unfold V0
  rw [← StableHlo.after_append, List.take_append_drop]

/-- The words a table of 386 expert numbers indexes a table by: the number, or 256 more where it is negative. -/
def col (v : IVec S386 32) : IVec S386x1 32 :=
  broadcastInDim S386x1 ![0] bcast_S386_S386x1_0 (select (cmpi .slt v (broadcastInDim S386 ![] bcast_S_S386 (constantI S_ 32 0#32)))
    (addi v (broadcastInDim S386 ![] bcast_S_S386 (constantI S_ 32 256#32))) v)

/-- The padded counts, in blocks. -/
theorem eq_v33 : V0 m c (Proc.devRef .tc main_v33) = pyDiv bcast_S_S256 (subi (addi (V0 m c (Proc.devRef .tc main_v28)) (broadcastInDim S256 ![] bcast_S_S256 (constantI S_ 32 128#32))) (broadcastInDim S256 ![] bcast_S_S256 (constantI S_ 32 1#32))) (constantI S_ 32 128#32) := by
  rw [cut m c 65]
  generalize StableHlo.after ((pre (F := F)).flatten.take 65) (fun b => m (c, b)) = V
  after_reads_simp
  simp -implicitDefEqProofs only [StableHlo.TRef.toBuf, StableHlo.TRef.ofBuf, cast_cast, cast_eq, id]
  rfl

/-- The padded counts. -/
theorem eq_v35 : V0 m c (Proc.devRef .tc main_v35) = muli (V0 m c (Proc.devRef .tc main_v33)) (broadcastInDim S256 ![] bcast_S_S256 (constantI S_ 32 128#32)) := by
  rw [cut m c 89]
  generalize StableHlo.after ((pre (F := F)).flatten.take 89) (fun b => m (c, b)) = V
  after_reads_simp

/-- Their running sums. -/
theorem eq_v38 : V0 m c (Proc.devRef .tc main_v38) = Host.reduceWindow IntOp.addi ![256] ![1] ![255] ![0] (V0 m c (Proc.devRef .tc main_v35)) (broadcastInDim S_ ![] bcast_S_S_ (constantI S_ 32 0#32))
      reduceWindows_S256_S256_w256s1p255_0 h_S_ := by
  rw [cut m c 96]
  generalize StableHlo.after ((pre (F := F)).flatten.take 96) (fun b => m (c, b)) = V
  after_reads_simp
  simp -implicitDefEqProofs only [StableHlo.TRef.toBuf, StableHlo.TRef.ofBuf, cast_cast, cast_eq, id]

/-- Where each expert's rows start. -/
theorem eq_v39 : V0 m c (Proc.devRef .tc main_v39) = subi (V0 m c (Proc.devRef .tc main_v38)) (V0 m c (Proc.devRef .tc main_v35)) := by
  rw [cut m c 99]
  generalize StableHlo.after ((pre (F := F)).flatten.take 99) (fun b => m (c, b)) = V
  after_reads_simp

/-- The work items of each expert. -/
theorem eq_v95 : V0 m c (Proc.devRef .tc main_v95) = pyDiv bcast_S_S256 (subi (addi (V0 m c (Proc.devRef .tc main_v35)) (broadcastInDim S256 ![] bcast_S_S256 (constantI S_ 32 512#32))) (broadcastInDim S256 ![] bcast_S_S256 (constantI S_ 32 1#32))) (constantI S_ 32 512#32) := by
  rw [cut m c 183]
  generalize StableHlo.after ((pre (F := F)).flatten.take 183) (fun b => m (c, b)) = V
  after_reads_simp
  simp -implicitDefEqProofs only [StableHlo.TRef.toBuf, StableHlo.TRef.ofBuf, cast_cast, cast_eq, id]
  rfl

/-- Their running sums. -/
theorem eq_v96 : V0 m c (Proc.devRef .tc main_v96) = Host.reduceWindow IntOp.addi ![256] ![1] ![255] ![0] (V0 m c (Proc.devRef .tc main_v95)) (broadcastInDim S_ ![] bcast_S_S_ (constantI S_ 32 0#32))
      reduceWindows_S256_S256_w256s1p255_0 h_S_ := by
  rw [cut m c 207]
  generalize StableHlo.after ((pre (F := F)).flatten.take 207) (fun b => m (c, b)) = V
  after_reads_simp
  simp -implicitDefEqProofs only [StableHlo.TRef.toBuf, StableHlo.TRef.ofBuf, cast_cast, cast_eq, id]

/-- The number of work items. -/
theorem eq_v98 : V0 m c (Proc.devRef .tc main_v98) = shapeCast S_ (extractStridedSlice S1 ![255] (V0 m c (Proc.devRef .tc main_v96)) slices_S256_S1_255) shapeCasts_S1_S_ := by
  rw [cut m c 210]
  generalize StableHlo.after ((pre (F := F)).flatten.take 210) (fun b => m (c, b)) = V
  after_reads_simp
  rfl

/-- Which slots carry an item. -/
theorem eq_v101 : V0 m c (Proc.devRef .tc main_v101) = cmpi .slt (iotaInDim S386 32 0) (broadcastInDim S386 ![] bcast_S_S386 (V0 m c (Proc.devRef .tc main_v98))) := by
  rw [cut m c 212]
  generalize StableHlo.after ((pre (F := F)).flatten.take 212) (fun b => m (c, b)) = V
  after_reads_simp

/-- The item a slot carries, or the last. -/
theorem eq_v104 : V0 m c (Proc.devRef .tc main_v104) = minsi (iotaInDim S386 32 0) (broadcastInDim S386 ![] bcast_S_S386 (subi (V0 m c (Proc.devRef .tc main_v98)) (constantI S_ 32 1#32))) := by
  rw [cut m c 212]
  generalize StableHlo.after ((pre (F := F)).flatten.take 212) (fun b => m (c, b)) = V
  after_reads_simp

/-- The expert of a slot: how many experts' items end at or before it. -/
theorem eq_v111 : V0 m c (Proc.devRef .tc main_v111) = Host.reduce IntOp.addi (extui 32 (cmpi .sle (broadcastInDim S386x256 ![0, 1] bcast_S1x256_S386x256_0_1 (broadcastInDim S1x256 ![1] bcast_S256_S1x256_1 (V0 m c (Proc.devRef .tc main_v96))))
      (broadcastInDim S386x256 ![0, 1] bcast_S386x1_S386x256_0_1 (broadcastInDim S386x1 ![0] bcast_S386_S386x1_0 (V0 m c (Proc.devRef .tc main_v104))))) natLt_1_32) (constantI S_ 32 0#32) reducesTo_S386x256_S386_d1 h_S_ := by
  rw [cut m c 219]
  generalize StableHlo.after ((pre (F := F)).flatten.take 219) (fun b => m (c, b)) = V
  after_reads_simp

/-- The item's number within its expert. -/
theorem eq_v127 : V0 m c (Proc.devRef .tc main_v127) = subi (V0 m c (Proc.devRef .tc main_v104)) (subi (Host.gather gather_S256_S386x1_S386_n_0_n_n_0_1_1 (V0 m c (Proc.devRef .tc main_v96)) (col (V0 m c (Proc.devRef .tc main_v111)))) (Host.gather gather_S256_S386x1_S386_n_0_n_n_0_1_1 (V0 m c (Proc.devRef .tc main_v95)) (col (V0 m c (Proc.devRef .tc main_v111))))) := by
  rw [cut m c 227]
  generalize StableHlo.after ((pre (F := F)).flatten.take 227) (fun b => m (c, b)) = V
  after_reads_simp
  rfl

/-- Where the expert's rows start. -/
theorem eq_v134 : V0 m c (Proc.devRef .tc main_v134) = Host.gather gather_S256_S386x1_S386_n_0_n_n_0_1_1 (V0 m c (Proc.devRef .tc main_v39)) (col (V0 m c (Proc.devRef .tc main_v111))) := by
  rw [cut m c 247]
  generalize StableHlo.after ((pre (F := F)).flatten.take 247) (fun b => m (c, b)) = V
  after_reads_simp
  rfl

/-- The same in blocks. -/
theorem eq_v135 : V0 m c (Proc.devRef .tc main_v135) = pyDiv bcast_S_S386 (V0 m c (Proc.devRef .tc main_v134)) (constantI S_ 32 128#32) := by
  rw [cut m c 256]
  generalize StableHlo.after ((pre (F := F)).flatten.take 256) (fun b => m (c, b)) = V
  after_reads_simp
  simp -implicitDefEqProofs only [StableHlo.TRef.toBuf, StableHlo.TRef.ofBuf, cast_cast, cast_eq, id]
  rfl

/-- The first block of the item. -/
theorem eq_v138 : V0 m c (Proc.devRef .tc main_v138) = addi (V0 m c (Proc.devRef .tc main_v135)) (muli (V0 m c (Proc.devRef .tc main_v127)) (broadcastInDim S386 ![] bcast_S_S386 (constantI S_ 32 4#32))) := by
  rw [cut m c 274]
  generalize StableHlo.after ((pre (F := F)).flatten.take 274) (fun b => m (c, b)) = V
  after_reads_simp

/-- The expert's padded count. -/
theorem eq_v145 : V0 m c (Proc.devRef .tc main_v145) = Host.gather gather_S256_S386x1_S386_n_0_n_n_0_1_1 (V0 m c (Proc.devRef .tc main_v35)) (col (V0 m c (Proc.devRef .tc main_v111))) := by
  rw [cut m c 278]
  generalize StableHlo.after ((pre (F := F)).flatten.take 278) (fun b => m (c, b)) = V
  after_reads_simp
  rfl

/-- What is left of it from the item on. -/
theorem eq_v148 : V0 m c (Proc.devRef .tc main_v148) = subi (V0 m c (Proc.devRef .tc main_v145)) (muli (V0 m c (Proc.devRef .tc main_v127)) (broadcastInDim S386 ![] bcast_S_S386 (constantI S_ 32 512#32))) := by
  rw [cut m c 287]
  generalize StableHlo.after ((pre (F := F)).flatten.take 287) (fun b => m (c, b)) = V
  after_reads_simp

/-- The same in blocks. -/
theorem eq_v149 : V0 m c (Proc.devRef .tc main_v149) = pyDiv bcast_S_S386 (V0 m c (Proc.devRef .tc main_v148)) (constantI S_ 32 128#32) := by
  rw [cut m c 291]
  generalize StableHlo.after ((pre (F := F)).flatten.take 291) (fun b => m (c, b)) = V
  after_reads_simp
  simp -implicitDefEqProofs only [StableHlo.TRef.toBuf, StableHlo.TRef.ofBuf, cast_cast, cast_eq, id]
  rfl

/-- The blocks of the item. -/
theorem eq_v152 : V0 m c (Proc.devRef .tc main_v152) = select (V0 m c (Proc.devRef .tc main_v101)) (minsi (broadcastInDim S386 ![] bcast_S_S386 (constantI S_ 32 4#32)) (V0 m c (Proc.devRef .tc main_v149))) (broadcastInDim S386 ![] bcast_S_S386 (constantI S_ 32 0#32)) := by
  rw [cut m c 309]
  generalize StableHlo.after ((pre (F := F)).flatten.take 309) (fun b => m (c, b)) = V
  after_reads_simp
  simp -implicitDefEqProofs only [StableHlo.TRef.toBuf, StableHlo.TRef.ofBuf, cast_cast, cast_eq, id]

/-- The expert of the slot before. -/
theorem eq_v155 : V0 m c (Proc.devRef .tc main_v155) = concatenate S386 0 [⟨S1, extractStridedSlice S1 ![0] (V0 m c (Proc.devRef .tc main_v111)) slices_S386_S1_0⟩,
      ⟨S385, extractStridedSlice S385 ![0] (V0 m c (Proc.devRef .tc main_v111)) slices_S386_S385_0⟩] concatenates_S1_S385_S386_d0 := by
  rw [cut m c 316]
  generalize StableHlo.after ((pre (F := F)).flatten.take 316) (fun b => m (c, b)) = V
  after_reads_simp
  have h1 : StableHlo.upto (line (F := F) 316) V 2 (Proc.devRef .tc main_v153)
      = extractStridedSlice S1 ![0] (StableHlo.after (line 316) V (Proc.devRef .tc main_v111)) slices_S386_S1_0 := by after_reads_simp
  have h2 : StableHlo.upto (line (F := F) 316) V 2 (Proc.devRef .tc main_v154)
      = extractStridedSlice S385 ![0] (StableHlo.after (line 316) V (Proc.devRef .tc main_v111)) slices_S386_S385_0 := by after_reads_simp
  exact congrArg₂ (fun a b => concatenate S386 0 [⟨S1, a⟩, ⟨S385, b⟩] concatenates_S1_S385_S386_d0) h1 h2

/-- The chosen experts, flat. -/
theorem eq_v10 : V0 m c (Proc.devRef .tc main_v10) = shapeCast S66560 (Host.topK S8320x8 1 (FloatOps.cmpfTotal .gt) (V0 m c (Proc.devRef .tc main_v2)) sliceFits_S8320x256_S8320x8).2 shapeCasts_S8320x8_S66560 := by
  rw [cut m c 4]
  generalize StableHlo.after ((pre (F := F)).flatten.take 4) (fun b => m (c, b)) = V
  after_reads_simp
  rfl

/-- The same with nothing negative. -/
theorem eq_v20 : V0 m c (Proc.devRef .tc main_v20) = maxsi (broadcastInDim S66560 ![] bcast_S_S66560 (constantI S_ 32 0#32)) (V0 m c (Proc.devRef .tc main_v10)) := by
  rw [cut m c 50]
  generalize StableHlo.after ((pre (F := F)).flatten.take 50) (fun b => m (c, b)) = V
  after_reads_simp
  simp -implicitDefEqProofs only [StableHlo.TRef.toBuf, StableHlo.TRef.ofBuf, cast_cast, cast_eq, id]

/-- The counts' start. -/
theorem eq_v19 : V0 m c (Proc.devRef .tc main_v19) = broadcastInDim S256 ![] bcast_S_S256 (constantI S_ 32 0#32) := by
  rw [cut m c 48]
  generalize StableHlo.after ((pre (F := F)).flatten.take 48) (fun b => m (c, b)) = V
  after_reads_simp

/-- The words the counting goes by. -/
theorem eq_v26 : V0 m c (Proc.devRef .tc main_v26) = broadcastInDim S66560x1 ![0] bcast_S66560_S66560x1_0 (select (cmpi .slt (V0 m c (Proc.devRef .tc main_v20)) (broadcastInDim S66560 ![] bcast_S_S66560 (constantI S_ 32 0#32)))
      (addi (V0 m c (Proc.devRef .tc main_v20)) (broadcastInDim S66560 ![] bcast_S_S66560 (constantI S_ 32 256#32))) (V0 m c (Proc.devRef .tc main_v20))) := by
  rw [cut m c 54]
  generalize StableHlo.after ((pre (F := F)).flatten.take 54) (fun b => m (c, b)) = V
  after_reads_simp

/-- The counts. -/
theorem eq_v28 : V0 m c (Proc.devRef .tc main_v28) = Host.scatter scatter_S256_S66560x1_S66560_n_0_0_1 IntOp.addi (V0 m c (Proc.devRef .tc main_v19)) (V0 m c (Proc.devRef .tc main_v26)) (broadcastInDim S66560 ![] bcast_S_S66560 (constantI S_ 32 1#32)) := by
  rw [cut m c 62]
  generalize StableHlo.after ((pre (F := F)).flatten.take 62) (fun b => m (c, b)) = V
  after_reads_simp

end Cert.KernelIdeal.Hand
-- ==== Proof.Sums.lean ====
/-
  The arithmetic of the routing tables: what the host computes from how many rows each expert has.
-/
module

public import Idealize.ShloMosaic.Lib.Routing.Words
public import Idealize.ShloMosaic.Lib.Routing.OpsPair

@[expose] public section

noncomputable section

namespace Cert.KernelIdeal.Hand

open Idealize.ShloMosaic Idealize.ShloMosaic.Routing

/-- The difference of two words is the word of the difference. -/
theorem word_sub {a b : ℕ} (h : b ≤ a) (ha : a < 2 ^ 32) : BitVec.ofNat 32 a - BitVec.ofNat 32 b = BitVec.ofNat 32 (a - b) := by
  apply BitVec.eq_of_toNat_eq
  simp only [BitVec.toNat_sub, BitVec.toNat_ofNat]
  omega

/-- The sum of the first `n` values. -/
def upTo (f : ℕ → ℕ) (n : ℕ) : ℕ := ((List.range n).map f).sum

theorem upTo_zero (f : ℕ → ℕ) : upTo f 0 = 0 := rfl

/-- One more value. -/
theorem upTo_succ (f : ℕ → ℕ) (n : ℕ) : upTo f (n + 1) = upTo f n + f n := by
  unfold upTo
  rw [List.range_succ, List.map_append, List.sum_append]
  simp

/-- Partial sums grow. -/
theorem upTo_mono (f : ℕ → ℕ) {a b : ℕ} (h : a ≤ b) : upTo f a ≤ upTo f b := by
  induction h with
  | refl => exact le_rfl
  | step _ ih => rw [upTo_succ]; omega

/-- A sum of values each within a constant of others. -/
theorem upTo_le (f g : ℕ → ℕ) (k : ℕ) (h : ∀ i, f i ≤ g i + k) (n : ℕ) : upTo f n ≤ upTo g n + n * k := by
  induction n with
  | zero => simp [upTo_zero]
  | succ n ih => rw [upTo_succ, upTo_succ, Nat.succ_mul]; have := h n; omega

variable (cnt : ℕ → ℕ)

/-- An expert's rows, rounded up to whole blocks. -/
def padTo (e : ℕ) : ℕ := (cnt e + 127) / 128 * 128

/-- Its work items. -/
def itemsOf (e : ℕ) : ℕ := (padTo cnt e + 511) / 512

variable (h1 : 1 ≤ upTo cnt 256) (h2 : upTo cnt 256 ≤ 66560)

include h2 in
/-- All padded rows fit. -/
theorem pad_all : upTo (padTo cnt) 256 ≤ 99072 := by
  have := upTo_le (padTo cnt) cnt 127 (fun i => by unfold padTo; omega) 256
  omega

include h2 in
/-- So do the items. -/
theorem items_all : upTo (itemsOf cnt) 256 ≤ 99072 := by
  have := upTo_le (itemsOf cnt) (padTo cnt) 0 (fun i => by unfold itemsOf padTo; omega) 256
  have := pad_all cnt h2
  omega

include h1 in
/-- There is an item. -/
theorem items_pos : 1 ≤ upTo (itemsOf cnt) 256 := by
  have h := upTo_le cnt (fun e => 512 * itemsOf cnt e) 0 (fun i => by unfold itemsOf padTo; omega) 256
  have h' : ∀ n, upTo (fun e => 512 * itemsOf cnt e) n = 512 * upTo (itemsOf cnt) n := by
    intro n
    induction n with
    | zero => rfl
    | succ n ih => rw [upTo_succ, upTo_succ, ih]; omega
  rw [h'] at h
  omega

/-- An expert's padded rows end before all do. -/
theorem pad_le {e : ℕ} (he : e < 256) : upTo (padTo cnt) e + padTo cnt e ≤ upTo (padTo cnt) 256 := by
  rw [← upTo_succ]; exact upTo_mono _ he

/-- Its items too. -/
theorem item_le {e : ℕ} (he : e < 256) : upTo (itemsOf cnt) e + itemsOf cnt e ≤ upTo (itemsOf cnt) 256 := by
  rw [← upTo_succ]; exact upTo_mono _ he

/-- The expert of an item. -/
def expOf (s : ℕ) : ℕ := Nat.count (fun q => upTo (itemsOf cnt) (q + 1) ≤ s) 256

/-- It is an expert, and the item is among its items. -/
theorem exp_spec {s : ℕ} (hs : s < upTo (itemsOf cnt) 256) :
    expOf cnt s < 256 ∧ upTo (itemsOf cnt) (expOf cnt s) ≤ s ∧ s < upTo (itemsOf cnt) (expOf cnt s) + itemsOf cnt (expOf cnt s) := by
  have hQ : ∀ a b, a ≤ b → b < 256 → upTo (itemsOf cnt) (b + 1) ≤ s → upTo (itemsOf cnt) (a + 1) ≤ s :=
    fun a b hab _ h => (upTo_mono _ (by omega)).trans h
  have key := fun r (hr : r < 256) => lt_count_iff (N := 256) (Q := fun q => upTo (itemsOf cnt) (q + 1) ≤ s) hQ hr
  have hlt : expOf cnt s < 256 := by
    have h := key 255 (by decide)
    unfold expOf
    by_contra hc
    have : upTo (itemsOf cnt) 256 ≤ s := h.mpr (by omega)
    omega
  refine ⟨hlt, ?_, ?_⟩
  · by_cases h0 : expOf cnt s = 0
    · rw [h0, upTo_zero]; omega
    · have h := (key (expOf cnt s - 1) (by omega)).mpr (by unfold expOf at h0 ⊢; omega)
      rwa [show expOf cnt s - 1 + 1 = expOf cnt s by omega] at h
  · rw [← upTo_succ]
    by_contra hc
    have := (key (expOf cnt s) hlt).mp (by omega)
    unfold expOf at this
    omega

include h2 in
/-- The item's rows lie within the padded rows. -/
theorem item_rows {s : ℕ} (hs : s < upTo (itemsOf cnt) 256) :
    (s - upTo (itemsOf cnt) (expOf cnt s)) * 512 + 128 ≤ padTo cnt (expOf cnt s)
      ∧ upTo (padTo cnt) (expOf cnt s) + (s - upTo (itemsOf cnt) (expOf cnt s)) * 512 + 128 ≤ 99072 := by
  obtain ⟨he, ha, hb⟩ := exp_spec cnt hs
  have hp := pad_le cnt he
  have ht := pad_all cnt h2
  generalize upTo (itemsOf cnt) (expOf cnt s) = I at *
  have h : (s - I) * 512 + 128 ≤ padTo cnt (expOf cnt s) := by
    unfold itemsOf at hb
    unfold padTo at hb ⊢
    omega
  omega

/-- Adding one for every hit counts the hits. -/
theorem fold_hits {ι : Type} (l : List ι) (hit : ι → Prop) [DecidablePred hit] (u : ι → BitVec 32) (hu : ∀ n, u n = 1#32) (z : ℕ) :
    l.foldl (fun a n => if hit n then IntOp.addi a (u n) else a) (BitVec.ofNat 32 z) = BitVec.ofNat 32 (z + l.countP fun n => decide (hit n)) := by
  induction l generalizing z with
  | nil => rfl
  | cons n l ih =>
    rw [List.foldl_cons, List.countP_cons]
    by_cases h : hit n
    · rw [if_pos h, hu, show IntOp.addi (BitVec.ofNat 32 z) 1#32 = BitVec.ofNat 32 (z + 1) from (BitVec.ofNat_add z 1).symm, ih, if_pos (by simpa using h)]
      congr 1; omega
    · rw [if_neg h, ih, if_neg (by simpa using h)]; rfl

end Cert.KernelIdeal.Hand
-- ==== Proof.Tables.lean ====
/-
  The routing tables are in bounds, whatever the router scores are.
-/
module

public import proofs.«01_k».proof.Proof.Route
public import proofs.«01_k».proof.Proof.Sums
public import proofs.«01_k».proof.Proof.Ok

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Routing

variable {F : FTy → Type} [FloatOps F]
variable (m : (ℓ : Loc nD τ sig) → Buf (Elt F) ℓ) (c : Dev nD)

/-- The lesser of two words. -/
theorem word_min {a b : ℕ} (ha : a < 2 ^ 31) (hb : b < 2 ^ 31) : IntOp.minsi (BitVec.ofNat 32 a) (BitVec.ofNat 32 b) = BitVec.ofNat 32 (min a b) := by
  have h := clip_word (x := b) (lo := 0) (hi := a) hb (by decide) ha
  rw [show (BitVec.ofNat 32 0) = 0#32 from rfl, maxsi_zero_left hb] at h
  rw [h]
  congr 1
  omega

/-- A column of words below 256 is these words. -/
theorem col_ap (v : IVec S386 32) (p : Fin 386) {k : ℕ} (hk : k < 256) (h : v (ValueIdx.ix1 p) = BitVec.ofNat 32 k) :
    col v (ValueIdx.ix2 p (0 : Fin 1)) = BitVec.ofNat 32 k := by
  unfold col
  rw [bcCol, WordCmp.select_at, WordCmp.cmpi_at, bc0, h]
  exact wrap_of_lt _ _ (by rw [BitVec.toNat_ofNat]; omega)

/-- An index of the greatest scores is an expert. -/
theorem top_lt (x : S8320x256.Idx → F .f32) (gt : F .f32 → F .f32 → BitVec 1) (h : S8320x256.Slices (fun _ => 0) S8320x8) (j : S8320x8.Idx) :
    ((Host.topK S8320x8 1 gt x h).2 j).toNat < 256 := by
  have key : ∀ i : S8320x256.Idx, (iotaInDim S8320x256 32 ⟨1, by decide⟩ i).toNat < 256 := fun i => by
    have h2 : (i 1).val < 256 := (i 1).isLt
    show (BitVec.ofNat 32 (i 1).val).toNat < 256
    rw [BitVec.toNat_ofNat]
    omega
  exact key _

/-- Every choice is an expert. -/
theorem choice_lt (j : S66560.Idx) : ((V0 m c (Proc.devRef .tc main_v10) : IVec S66560 32) j).toNat < 256 := by
  rw [show (V0 m c (Proc.devRef .tc main_v10) : IVec S66560 32) j = _ from congrFun (eq_v10 m c) j]
  exact top_lt _ _ _ _

/-- A choice, no less than zero, is below 256. -/
theorem clamp_lt (v : IVec S66560 32) (h : ∀ i, (v i).toNat < 256) (i : S66560.Idx) :
    (maxsi (broadcastInDim S66560 ![] bcast_S_S66560 (constantI S_ 32 0#32)) v i).toNat < 256 := by
  show (IntOp.maxsi 0#32 (v i)).toNat < 256
  have h := h i
  have e := maxsi_zero_left (a := (v i).toNat) (by omega)
  rw [BitVec.ofNat_toNat, BitVec.setWidth_eq] at e
  rw [e]
  exact h

/-- A column of words below 256 has such words. -/
theorem column_lt (v : IVec S66560 32) (h : ∀ i, (v i).toNat < 256) (j : S66560x1.Idx) :
    (broadcastInDim S66560x1 ![0] bcast_S66560_S66560x1_0 (select (cmpi .slt v (broadcastInDim S66560 ![] bcast_S_S66560 (constantI S_ 32 0#32)))
      (addi v (broadcastInDim S66560 ![] bcast_S_S66560 (constantI S_ 32 256#32))) v) j).toNat < 256 := by
  have key : ∀ i : S66560.Idx, (Scalar.select (IntOp.cmpi .slt (v i) 0#32) (IntOp.addi (v i) 256#32) (v i)).toNat < 256 := fun i => by
    have h := h i
    rw [wrap_of_lt _ _ (by omega)]
    exact h
  exact key _

/-- So is every word the scatter reads. -/
theorem place_lt (j : S66560x1.Idx) : ((V0 m c (Proc.devRef .tc main_v26) : IVec S66560x1 32) j).toNat < 256 := by
  have h20 : ∀ i : S66560.Idx, ((V0 m c (Proc.devRef .tc main_v20) : IVec S66560 32) i).toNat < 256 := fun i => by
    rw [show (V0 m c (Proc.devRef .tc main_v20) : IVec S66560 32) i = _ from congrFun (eq_v20 m c) i]
    exact clamp_lt _ (choice_lt m c) i
  rw [show (V0 m c (Proc.devRef .tc main_v26) : IVec S66560x1 32) j = _ from congrFun (eq_v26 m c) j]
  exact column_lt _ h20 j

/-- A place's number, 256 for none. -/
def placeNo : Option S256.Idx → ℕ
  | some k => (k 0).val
  | none => 256

theorem placeNo_eq (o : Option S256.Idx) (e : Fin 256) : o = some (ValueIdx.ix1 e) ↔ placeNo o = e.val := by
  cases o with
  | none => exact ⟨fun h => (Option.some_ne_none _ h.symm).elim, fun h => absurd h (by have := e.isLt; show ¬ 256 = e.val; omega)⟩
  | some k =>
    refine ⟨fun h => by rw [Option.some.inj h]; rfl, fun h => ?_⟩
    rw [ValueIdx.eq_ix1 k]
    exact congrArg some (congrArg ValueIdx.ix1 (Fin.ext h))

section
variable (idx : IVec S66560x1 32)

/-- The expert an update lands at, 256 where none. -/
def lands (i : ℕ) : ℕ :=
  if h : i < S66560.numel then placeNo (scatter_S256_S66560x1_S66560_n_0_0_1.resultIdx? (S66560.rowMajor.symm ⟨i, h⟩) idx) else 256

theorem numel_66560 : S66560.numel = 66560 := numel1 66560

/-- The updates land at an expert. -/
theorem lands_lt (hp : ∀ j, (idx j).toNat < 256) {i : ℕ} (h : i < S66560.numel) : lands idx i < 256 := by
  unfold lands
  rw [dif_pos h]
  generalize S66560.rowMajor.symm ⟨i, h⟩ = k
  obtain ⟨q, hq⟩ : ∃ q, scatter_S256_S66560x1_S66560_n_0_0_1.start k idx 0 = (idx q).toInt :=
    ⟨_, by unfold ScatterDims.start; exact dif_pos (List.mem_singleton.mpr rfl)⟩
  have hw : scatter_S256_S66560x1_S66560_n_0_0_1.window k 0 = 0 := by unfold ScatterDims.window; exact dif_neg (by decide)
  have hl := hp q
  have e : scatter_S256_S66560x1_S66560_n_0_0_1.resultIdx? k idx = some (ValueIdx.ix1 (⟨(idx q).toNat, hl⟩ : Fin 256)) := by
    refine (resultIdx?_ix1 _ k _ _).mpr ?_
    rw [hq, hw, WordCmp.toInt_eq_toNat_of_lt_half (by omega)]
    simp
  rw [(placeNo_eq _ _).mp e]
  exact hl

/-- Ones scattered onto zeros count. -/
theorem hist_at (x : IVec S256 32) (u : IVec S66560 32) (hx : ∀ i, x i = 0#32) (hu : ∀ i, u i = 1#32) (e : Fin 256) :
    Host.scatter scatter_S256_S66560x1_S66560_n_0_0_1 IntOp.addi x idx u (ValueIdx.ix1 e)
      = BitVec.ofNat 32 (Nat.count (fun i => lands idx i = e.val) S66560.numel) := by
  rw [scatter_at, hx]
  refine (fold_hits _ _ _ (fun n => hu _) 0).trans ?_
  rw [Nat.zero_add, ← countP_finRange]
  refine congrArg (fun f => BitVec.ofNat 32 (List.countP f (List.finRange S66560.numel))) (funext fun n => decide_eq_decide.mpr ?_)
  unfold lands
  rw [dif_pos n.isLt]
  exact placeNo_eq _ e

end

/-- How many rows choose an expert. -/
def rowsOf (e : ℕ) : ℕ := Nat.count (fun i => lands (V0 m c (Proc.devRef .tc main_v26)) i = e) S66560.numel

/-- The histogram. -/
theorem word_v28 (e : Fin 256) : (V0 m c (Proc.devRef .tc main_v28) : IVec S256 32) (ValueIdx.ix1 e) = BitVec.ofNat 32 (rowsOf m c e.val) := by
  have h19 : ∀ i, (V0 m c (Proc.devRef .tc main_v19) : IVec S256 32) i = 0#32 := fun i => (congrFun (eq_v19 m c) i).trans (bc0 _ _ _)
  exact (congrFun (eq_v28 m c) (ValueIdx.ix1 e)).trans (hist_at _ _ _ h19 (fun i => bc0 _ _ _) e)

theorem rows_sum : upTo (rowsOf m c) 256 = Nat.count (fun i => lands (V0 m c (Proc.devRef .tc main_v26)) i ≤ 255) S66560.numel := sum_count_eq (lands (V0 m c (Proc.devRef .tc main_v26))) 255 S66560.numel

/-- Every choice is counted once. -/
theorem rows_le : upTo (rowsOf m c) 256 ≤ 66560 := by
  rw [rows_sum, ← numel_66560]
  exact Nat.count_le _

theorem rows_pos : 1 ≤ upTo (rowsOf m c) 256 := by
  rw [rows_sum]
  have h1 : Nat.count (fun i => lands (V0 m c (Proc.devRef .tc main_v26)) i ≤ 255) 1 ≤ _ := Nat.count_monotone (fun i => lands (V0 m c (Proc.devRef .tc main_v26)) i ≤ 255) (show 1 ≤ S66560.numel by rw [numel_66560]; decide)
  have h2 : lands (V0 m c (Proc.devRef .tc main_v26)) 0 ≤ 255 := by have := lands_lt _ (place_lt m c) (i := 0) (by rw [numel_66560]; decide); omega
  rw [Nat.count_succ, if_pos h2] at h1
  omega

/-- An expert's padded rows are bounded. -/
theorem padTo_le {e : ℕ} (he : e < 256) : padTo (rowsOf m c) e ≤ 99072 := by
  have := pad_le (rowsOf m c) he
  have := pad_all (rowsOf m c) (rows_le m c)
  omega

theorem rows_bound {e : ℕ} (he : e < 256) : rowsOf m c e ≤ 99072 := by
  have := padTo_le m c he
  unfold padTo at this
  omega

theorem word_v33 (e : Fin 256) : (V0 m c (Proc.devRef .tc main_v33) : IVec S256 32) (ValueIdx.ix1 e) = BitVec.ofNat 32 ((rowsOf m c e.val + 127) / 128) := by
  refine (congrFun (eq_v33 m c) (ValueIdx.ix1 e)).trans ?_
  have hb := rows_bound m c e.isLt
  refine pyDiv_ap _ _ _ (ValueIdx.ix1 e) ?_ rfl (by omega) (by decide) (by decide)
  rw [subi_ap, addi_ap, bc0, bc0, word_v28]
  rw [show constantI S_ 32 128#32 ValueIdx.ix0 = BitVec.ofNat 32 128 from rfl, ← BitVec.ofNat_add, show constantI S_ 32 1#32 ValueIdx.ix0 = BitVec.ofNat 32 1 from rfl,
    word_sub (by omega) (by omega)]
  congr 1

theorem word_v35 (e : Fin 256) : (V0 m c (Proc.devRef .tc main_v35) : IVec S256 32) (ValueIdx.ix1 e) = BitVec.ofNat 32 (padTo (rowsOf m c) e.val) := by
  refine (congrFun (eq_v35 m c) (ValueIdx.ix1 e)).trans ?_
  rw [muli_ap, bc0, word_v33]
  exact (BitVec.ofNat_mul _ 128).symm

theorem word_v38 (e : Fin 256) : (V0 m c (Proc.devRef .tc main_v38) : IVec S256 32) (ValueIdx.ix1 e) = BitVec.ofNat 32 (upTo (padTo (rowsOf m c)) (e.val + 1)) :=
  (congrFun (eq_v38 m c) (ValueIdx.ix1 e)).trans (cumsum1 rfl _ (padTo (rowsOf m c)) (word_v35 m c) _ (bc0 _ _ _) _ _ e)

theorem word_v39 (e : Fin 256) : (V0 m c (Proc.devRef .tc main_v39) : IVec S256 32) (ValueIdx.ix1 e) = BitVec.ofNat 32 (upTo (padTo (rowsOf m c)) e.val) := by
  refine (congrFun (eq_v39 m c) (ValueIdx.ix1 e)).trans ?_
  have h := pad_le (rowsOf m c) e.isLt
  have h' := pad_all (rowsOf m c) (rows_le m c)
  rw [subi_ap, word_v38, word_v35, upTo_succ, word_sub (by omega) (by omega), Nat.add_sub_cancel]

theorem word_v95 (e : Fin 256) : (V0 m c (Proc.devRef .tc main_v95) : IVec S256 32) (ValueIdx.ix1 e) = BitVec.ofNat 32 (itemsOf (rowsOf m c) e.val) := by
  refine (congrFun (eq_v95 m c) (ValueIdx.ix1 e)).trans ?_
  have hb := padTo_le m c e.isLt
  refine pyDiv_ap _ _ _ (ValueIdx.ix1 e) ?_ rfl (by omega) (by decide) (by decide)
  rw [subi_ap, addi_ap, bc0, bc0, word_v35]
  rw [show constantI S_ 32 512#32 ValueIdx.ix0 = BitVec.ofNat 32 512 from rfl, ← BitVec.ofNat_add, show constantI S_ 32 1#32 ValueIdx.ix0 = BitVec.ofNat 32 1 from rfl,
    word_sub (by omega) (by omega)]
  congr 1

theorem word_v96 (e : Fin 256) : (V0 m c (Proc.devRef .tc main_v96) : IVec S256 32) (ValueIdx.ix1 e) = BitVec.ofNat 32 (upTo (itemsOf (rowsOf m c)) (e.val + 1)) :=
  (congrFun (eq_v96 m c) (ValueIdx.ix1 e)).trans (cumsum1 rfl _ (itemsOf (rowsOf m c)) (word_v95 m c) _ (bc0 _ _ _) _ _ e)

/-- The number of items. -/
def total : ℕ := upTo (itemsOf (rowsOf m c)) 256

theorem total_pos : 1 ≤ total m c := items_pos _ (rows_pos m c)

theorem total_le : total m c ≤ 99072 := items_all _ (rows_le m c)

theorem word_v98 : (V0 m c (Proc.devRef .tc main_v98) : IVec S_ 32) ValueIdx.ix0 = BitVec.ofNat 32 (total m c) := by
  refine (congrFun (eq_v98 m c) ValueIdx.ix0).trans ?_
  refine (shapeCast_apply _ _ _ (ValueIdx.ix1 (0 : Fin 1)) (by decide)).trans ?_
  rw [slice1 255 _ _ (0 : Fin 1) (by decide)]
  exact word_v96 m c ⟨255, by decide⟩

/-- The item a step works on, the last one for a step beyond. -/
def itemAt (i : ℕ) : ℕ := min i (total m c - 1)

theorem itemAt_lt (i : ℕ) : itemAt m c i < upTo (itemsOf (rowsOf m c)) 256 := by
  have := total_pos m c
  unfold itemAt
  show _ < total m c
  omega

/-- A step's number, no more than the last item's. -/
theorem clip_ap (w : IVec S_ 32) {t : ℕ} (h1 : 1 ≤ t) (h2 : t ≤ 99072) (hw : w ValueIdx.ix0 = BitVec.ofNat 32 t) (i : Fin 386) :
    minsi (iotaInDim S386 32 0) (broadcastInDim S386 ![] bcast_S_S386 (subi w (constantI S_ 32 1#32))) (ValueIdx.ix1 i) = BitVec.ofNat 32 (min i.val (t - 1)) := by
  have hi := i.isLt
  have e : broadcastInDim S386 ![] bcast_S_S386 (subi w (constantI S_ 32 1#32)) (ValueIdx.ix1 i) = BitVec.ofNat 32 (t - 1) := by
    rw [bc0, subi_ap, hw, show constantI S_ 32 1#32 ValueIdx.ix0 = BitVec.ofNat 32 1 from rfl, word_sub h1 (by omega)]
  refine (congrArg (IntOp.minsi (BitVec.ofNat 32 i.val)) e).trans ?_
  exact word_min (by omega) (by omega)

theorem word_v104 (i : Fin 386) : (V0 m c (Proc.devRef .tc main_v104) : IVec S386 32) (ValueIdx.ix1 i) = BitVec.ofNat 32 (itemAt m c i.val) :=
  (congrFun (eq_v104 m c) (ValueIdx.ix1 i)).trans (clip_ap _ (total_pos m c) (total_le m c) (word_v98 m c) i)

/-- A step's expert. -/
abbrev expAt (i : ℕ) : ℕ := expOf (rowsOf m c) (itemAt m c i)

theorem expAt_lt (i : ℕ) : expAt m c i < 256 := (exp_spec _ (itemAt_lt m c i)).1

theorem word_v111 (i : Fin 386) : (V0 m c (Proc.devRef .tc main_v111) : IVec S386 32) (ValueIdx.ix1 i) = BitVec.ofNat 32 (expAt m c i.val) := by
  refine (congrFun (eq_v111 m c) (ValueIdx.ix1 i)).trans ?_
  have hs := itemAt_lt m c i.val
  have ht := total_le m c
  unfold total at ht
  refine reduce_count (by decide) _ _ _ _ i _ fun q => ?_
  have hq := upTo_mono (itemsOf (rowsOf m c)) (show q.val + 1 ≤ 256 from q.isLt)
  rw [WordCmp.cmpi_at, bcCols, bcRows, word_v96, word_v104]
  exact WordCmp.cmpi_sle_ofNat_eq_one_iff (by omega) (by omega)

theorem word_col (i : Fin 386) : col (V0 m c (Proc.devRef .tc main_v111)) (ValueIdx.ix2 i (0 : Fin 1)) = BitVec.ofNat 32 (expAt m c i.val) :=
  col_ap _ i (expAt_lt m c i.val) (word_v111 m c i)

/-- A table of experts read at a step's expert. -/
theorem take_exp (x : IVec S256 32) (i : Fin 386) : Host.gather gather_S256_S386x1_S386_n_0_n_n_0_1_1 x (col (V0 m c (Proc.devRef .tc main_v111))) (ValueIdx.ix1 i)
    = x (ValueIdx.ix1 ⟨expAt m c i.val, expAt_lt m c i.val⟩) :=
  take_ap _ rfl rfl rfl rfl x _ i (expAt_lt m c i.val) (by have := expAt_lt m c i.val; omega) (word_col m c i)

/-- Which of its expert's items a step's is. -/
abbrev partAt (i : ℕ) : ℕ := itemAt m c i - upTo (itemsOf (rowsOf m c)) (expAt m c i)

/-- The rows before its expert's. -/
abbrev baseAt (i : ℕ) : ℕ := upTo (padTo (rowsOf m c)) (expAt m c i)

/-- Its expert's rows. -/
abbrev sizeAt (i : ℕ) : ℕ := padTo (rowsOf m c) (expAt m c i)

theorem part_rows (i : ℕ) : partAt m c i * 512 + 128 ≤ sizeAt m c i ∧ baseAt m c i + partAt m c i * 512 + 128 ≤ 99072 :=
  item_rows _ (rows_le m c) (itemAt_lt m c i)

theorem word_v127 (i : Fin 386) : (V0 m c (Proc.devRef .tc main_v127) : IVec S386 32) (ValueIdx.ix1 i) = BitVec.ofNat 32 (partAt m c i.val) := by
  refine (congrFun (eq_v127 m c) (ValueIdx.ix1 i)).trans ?_
  have he := expAt_lt m c i.val
  have hs : upTo (itemsOf (rowsOf m c)) (expAt m c i.val) ≤ itemAt m c i.val := (exp_spec _ (itemAt_lt m c i.val)).2.1
  have hl := item_le (rowsOf m c) he
  have ht := total_le m c
  have hi := itemAt_lt m c i.val
  unfold total at ht
  rw [subi_ap, subi_ap, take_exp, take_exp, word_v104, word_v96, word_v95, upTo_succ]
  show _ - (BitVec.ofNat 32 (upTo (itemsOf (rowsOf m c)) (expAt m c i.val) + itemsOf (rowsOf m c) (expAt m c i.val)) - BitVec.ofNat 32 (itemsOf (rowsOf m c) (expAt m c i.val))) = _
  rw [word_sub (by omega) (by omega), Nat.add_sub_cancel, word_sub hs (by omega)]

theorem word_v134 (i : Fin 386) : (V0 m c (Proc.devRef .tc main_v134) : IVec S386 32) (ValueIdx.ix1 i) = BitVec.ofNat 32 (baseAt m c i.val) :=
  ((congrFun (eq_v134 m c) (ValueIdx.ix1 i)).trans (take_exp m c _ i)).trans (word_v39 m c _)

theorem word_v145 (i : Fin 386) : (V0 m c (Proc.devRef .tc main_v145) : IVec S386 32) (ValueIdx.ix1 i) = BitVec.ofNat 32 (sizeAt m c i.val) :=
  ((congrFun (eq_v145 m c) (ValueIdx.ix1 i)).trans (take_exp m c _ i)).trans (word_v35 m c _)

theorem word_v138 (i : Fin 386) : (V0 m c (Proc.devRef .tc main_v138) : IVec S386 32) (ValueIdx.ix1 i) = BitVec.ofNat 32 (baseAt m c i.val / 128 + partAt m c i.val * 4) := by
  refine (congrFun (eq_v138 m c) (ValueIdx.ix1 i)).trans ?_
  have hr := (part_rows m c i.val).2
  have h135 : (V0 m c (Proc.devRef .tc main_v135) : IVec S386 32) (ValueIdx.ix1 i) = BitVec.ofNat 32 (baseAt m c i.val / 128) :=
    (congrFun (eq_v135 m c) (ValueIdx.ix1 i)).trans (pyDiv_ap _ _ _ (ValueIdx.ix1 i) (word_v134 m c i) rfl (by omega) (by decide) (by decide))
  rw [addi_ap, muli_ap, bc0, h135, word_v127, show constantI S_ 32 4#32 ValueIdx.ix0 = BitVec.ofNat 32 4 from rfl, ← BitVec.ofNat_mul, ← BitVec.ofNat_add]

/-- How many blocks a step's item has. -/
def blocksAt (i : ℕ) : ℕ := if i < total m c then min 4 ((sizeAt m c i - partAt m c i * 512) / 128) else 0

theorem word_v152 (i : Fin 386) : (V0 m c (Proc.devRef .tc main_v152) : IVec S386 32) (ValueIdx.ix1 i) = BitVec.ofNat 32 (blocksAt m c i.val) := by
  refine (congrFun (eq_v152 m c) (ValueIdx.ix1 i)).trans ?_
  have hr := (part_rows m c i.val).1
  have he : sizeAt m c i.val ≤ 99072 := padTo_le m c (expAt_lt m c i.val)
  have ht := total_le m c
  have h148 : (V0 m c (Proc.devRef .tc main_v148) : IVec S386 32) (ValueIdx.ix1 i) = BitVec.ofNat 32 (sizeAt m c i.val - partAt m c i.val * 512) := by
    refine (congrFun (eq_v148 m c) (ValueIdx.ix1 i)).trans ?_
    rw [subi_ap, muli_ap, bc0, word_v145, word_v127, show constantI S_ 32 512#32 ValueIdx.ix0 = BitVec.ofNat 32 512 from rfl, ← BitVec.ofNat_mul, word_sub (by omega) (by omega)]
  have h149 : (V0 m c (Proc.devRef .tc main_v149) : IVec S386 32) (ValueIdx.ix1 i) = BitVec.ofNat 32 ((sizeAt m c i.val - partAt m c i.val * 512) / 128) :=
    (congrFun (eq_v149 m c) (ValueIdx.ix1 i)).trans (pyDiv_ap _ _ _ (ValueIdx.ix1 i) h148 rfl (by omega) (by decide) (by decide))
  have h101 : (V0 m c (Proc.devRef .tc main_v101) : IVec S386 1) (ValueIdx.ix1 i) = BitVec.ofBool (decide (i.val < total m c)) := by
    refine (congrFun (eq_v101 m c) (ValueIdx.ix1 i)).trans ?_
    rw [WordCmp.cmpi_at, iota1_ap, bc0, word_v98]
    exact WordCmp.cmpi_slt_ofNat (by have := i.isLt; omega) (by omega)
  rw [WordCmp.select_at, h101, WordCmp.select_decide]
  unfold blocksAt
  have hm : minsi (broadcastInDim S386 ![] bcast_S_S386 (constantI S_ 32 4#32)) (V0 m c (Proc.devRef .tc main_v149)) (ValueIdx.ix1 i)
      = BitVec.ofNat 32 (min 4 ((sizeAt m c i.val - partAt m c i.val * 512) / 128)) := by
    show IntOp.minsi (BitVec.ofNat 32 4) ((V0 m c (Proc.devRef .tc main_v149) : IVec S386 32) (ValueIdx.ix1 i)) = _
    rw [h149]
    exact word_min (by decide) (by omega)
  rw [hm, bc0]
  split
  · rfl
  · rfl

theorem e_lt (j : S386.Idx) : ((V0 m c (Proc.devRef .tc main_v111) : IVec S386 32) j).toNat < 256 := by
  obtain ⟨i, rfl⟩ : ∃ i : Fin 386, j = ValueIdx.ix1 i := ⟨j 0, ValueIdx.eq_ix1 j⟩
  rw [word_v111, BitVec.toNat_ofNat]
  have := expAt_lt m c i.val
  omega

/-- Two pieces of a table of experts, one after the other. -/
theorem join_lt (v : IVec S386 32) (h : ∀ j, (v j).toNat < 256) (j : S386.Idx) :
    (concatenate S386 0 [⟨S1, extractStridedSlice S1 ![0] v slices_S386_S1_0⟩, ⟨S385, extractStridedSlice S385 ![0] v slices_S386_S385_0⟩]
      concatenates_S1_S385_S386_d0 j).toNat < 256 := by
  refine concatenate_forall (P := fun w : BitVec 32 => w.toNat < 256) S386 0 _ _ ?_ j
  intro p hp i
  rcases List.mem_cons.mp hp with rfl | hp
  · exact h _
  · rcases List.mem_cons.mp hp with rfl | hp
    · exact h _
    · exact absurd hp (List.not_mem_nil)

theorem ep_lt (j : S386.Idx) : ((V0 m c (Proc.devRef .tc main_v155) : IVec S386 32) j).toNat < 256 := by
  rw [show (V0 m c (Proc.devRef .tc main_v155) : IVec S386 32) j = _ from congrFun (eq_v155 m c) j]
  exact join_lt _ (e_lt m c) j

theorem row_le (j : S386.Idx) : ((V0 m c (Proc.devRef .tc main_v138) : IVec S386 32) j).toNat * 128 + 512 ≤ 99584 := by
  obtain ⟨i, rfl⟩ : ∃ i : Fin 386, j = ValueIdx.ix1 i := ⟨j 0, ValueIdx.eq_ix1 j⟩
  rw [word_v138, BitVec.toNat_ofNat]
  have := (part_rows m c i.val).2
  omega

theorem sub_le (j : S386.Idx) : ((V0 m c (Proc.devRef .tc main_v152) : IVec S386 32) j).toNat ≤ 4 := by
  obtain ⟨i, rfl⟩ : ∃ i : Fin 386, j = ValueIdx.ix1 i := ⟨j 0, ValueIdx.eq_ix1 j⟩
  rw [word_v152, BitVec.toNat_ofNat]
  unfold blocksAt
  split <;> omega

/-- A bound for a table's words is one for the entries read. -/
theorem tab_of {P : BitVec 32 → Prop} (d : Vec F S386 .i32) (h : ∀ j, P (d j)) {n : ℕ} (hn : n < 386) : P (tabAt (F := F) d n) := by
  unfold tabAt
  rw [dif_pos hn]
  exact h _

/-- The tables are in bounds. -/
theorem tables_ok : Tab (pf0 m) where
  e n hn := tab_of (P := fun w => w.toNat < 256) _ (e_lt m 0) hn
  ep n hn := tab_of (P := fun w => w.toNat < 256) _ (ep_lt m 0) hn
  row n hn := tab_of (P := fun w => w.toNat * 128 + 512 ≤ 99584) _ (row_le m 0) hn
  sub n hn := tab_of (P := fun w => w.toNat ≤ 4) _ (sub_le m 0) hn

end Cert.KernelIdeal.Hand
-- ==== Proof.Same.Main0.lean ====
/-
  Window 0 of the two programs' main functions is the same text.
-/
module

public import proofs.«01_k».proof.Defs

@[expose] public section

set_option maxRecDepth 16384
set_option maxHeartbeats 0
set_option backward.isDefEq.respectTransparency.types false
set_option backward.isDefEq.respectTransparency false

noncomputable section

namespace Cert.Same

open Idealize.ShloMosaic

variable {F : FTy → Type} [FloatOps F] [Cert.Kernel.Facts] [Cert.KernelIdeal.Facts]

/-- The two programs agree in this window of their main functions. -/
theorem main0 : Cert.Kernel.main_part0 (F := F) = Cert.KernelIdeal.main_part0 (F := F) := by exact rfl

end Cert.Same
-- ==== Proof.Same.Main1.lean ====
/-
  Window 1 of the two programs' main functions is the same text.
-/
module

public import proofs.«01_k».proof.Defs

@[expose] public section

set_option maxRecDepth 16384
set_option maxHeartbeats 0
set_option backward.isDefEq.respectTransparency.types false
set_option backward.isDefEq.respectTransparency false

noncomputable section

namespace Cert.Same

open Idealize.ShloMosaic

variable {F : FTy → Type} [FloatOps F] [Cert.Kernel.Facts] [Cert.KernelIdeal.Facts]

/-- The two programs agree in this window of their main functions. -/
theorem main1 : Cert.Kernel.main_part1 (F := F) = Cert.KernelIdeal.main_part1 (F := F) := by exact rfl

end Cert.Same
-- ==== Proof.Same.Main2.lean ====
/-
  Window 2 of the two programs' main functions is the same text.
-/
module

public import proofs.«01_k».proof.Defs

@[expose] public section

set_option maxRecDepth 16384
set_option maxHeartbeats 0
set_option backward.isDefEq.respectTransparency.types false
set_option backward.isDefEq.respectTransparency false

noncomputable section

namespace Cert.Same

open Idealize.ShloMosaic

variable {F : FTy → Type} [FloatOps F] [Cert.Kernel.Facts] [Cert.KernelIdeal.Facts]

/-- The two programs agree in this window of their main functions. -/
theorem main2 : Cert.Kernel.main_part2 (F := F) = Cert.KernelIdeal.main_part2 (F := F) := by exact rfl

end Cert.Same
-- ==== Proof.Same.Main3.lean ====
/-
  Window 3 of the two programs' main functions is the same text.
-/
module

public import proofs.«01_k».proof.Defs

@[expose] public section

set_option maxRecDepth 16384
set_option maxHeartbeats 0
set_option backward.isDefEq.respectTransparency.types false
set_option backward.isDefEq.respectTransparency false

noncomputable section

namespace Cert.Same

open Idealize.ShloMosaic

variable {F : FTy → Type} [FloatOps F] [Cert.Kernel.Facts] [Cert.KernelIdeal.Facts]

/-- The two programs agree in this window of their main functions. -/
theorem main3 : Cert.Kernel.main_part3 (F := F) = Cert.KernelIdeal.main_part3 (F := F) := by exact rfl

end Cert.Same
-- ==== Proof.Same.Body.lean ====
/-
  The two programs' region has the same text.
-/
module

public import proofs.«01_k».proof.Defs

@[expose] public section

set_option maxRecDepth 16384
set_option maxHeartbeats 0
set_option backward.isDefEq.respectTransparency.types false
set_option backward.isDefEq.respectTransparency false

noncomputable section

namespace Cert.Same

open Idealize.ShloMosaic

variable {F : FTy → Type} [FloatOps F] [Cert.Kernel.Facts] [Cert.KernelIdeal.Facts]

/-- The two programs' region is one. -/
theorem pcfgs : Cert.Kernel.pcfgs (F := F) = Cert.KernelIdeal.pcfgs (F := F) := by exact rfl

/-- Its body is one. -/
theorem defs₀ : Cert.Kernel.defs₀ (F := F) = Cert.KernelIdeal.defs₀ (F := F) := by
  unfold Cert.Kernel.defs₀ Cert.KernelIdeal.defs₀
  refine congrArg _ ?_
  funext l x
  match l, x with
  | 0, (t, s) => exact rfl

/-- The procedures are the same. -/
theorem defs : Cert.Kernel.defs (F := F) = Cert.KernelIdeal.defs (F := F) := by
  unfold Cert.Kernel.defs
  rw [defs₀]
  exact rfl

end Cert.Same
-- ==== Proof.Same.All.lean ====
/-
  The two programs are the same.
-/
module

public import proofs.«01_k».proof.Defs
public import proofs.«01_k».proof.Proof.Same.Main0
public import proofs.«01_k».proof.Proof.Same.Main1
public import proofs.«01_k».proof.Proof.Same.Main2
public import proofs.«01_k».proof.Proof.Same.Main3
public import proofs.«01_k».proof.Proof.Same.Body
public import proofs.«01_k».proof.Proof.Gen.Kernel
public import proofs.«01_k».proof.Proof.Gen.KernelIdeal

@[expose] public section

set_option maxRecDepth 16384
set_option maxHeartbeats 0
set_option backward.isDefEq.respectTransparency.types false
set_option backward.isDefEq.respectTransparency false

noncomputable section

namespace Cert.Same

open Idealize.ShloMosaic

variable {F : FTy → Type} [FloatOps F] [Cert.Kernel.Facts] [Cert.KernelIdeal.Facts]

/-- The main functions are the same. -/
theorem main : Cert.Kernel.main (F := F) = Cert.KernelIdeal.main (F := F) := by
  funext d
  unfold Cert.Kernel.main
  rw [main0, main1, main2, main3]
  exact rfl

end Cert.Same
-- ==== Proof.Val.Host.lean ====
/-
  The order of the choices, their places and the gathered rows, buffer by buffer.
-/
module

public import proofs.«01_k».proof.Proof.Route

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Routing

variable {F : FTy → Type} [FloatOps F]

/-- The words a table of `k` entries is indexed by: the word, or `k` more where it is negative. -/
def colN (k : BitVec 32) (v : IVec S66560 32) : IVec S66560x1 32 :=
  broadcastInDim S66560x1 ![0] bcast_S66560_S66560x1_0 (select (cmpi .slt v (broadcastInDim S66560 ![] bcast_S_S66560 (constantI S_ 32 0#32)))
    (addi v (broadcastInDim S66560 ![] bcast_S_S66560 (constantI S_ 32 k))) v)

/-- The words rows are taken by. -/
def rowCol (v : IVec S99584 32) : IVec S99584x1 32 :=
  broadcastInDim S99584x1 ![0] bcast_S99584_S99584x1_0 (select (cmpi .slt v (broadcastInDim S99584 ![] bcast_S_S99584 (constantI S_ 32 0#32)))
    (addi v (broadcastInDim S99584 ![] bcast_S_S99584 (constantI S_ 32 8320#32))) v)

/-- Rows taken by number, a fill where there is no such row. -/
def takeRows (x : Vec F S8320x4096 .bf16) (v : IVec S99584 32) : Vec F S99584x4096 .bf16 :=
  select (broadcastInDim S99584x4096 ![0] bcast_S99584_S99584x4096_0 (Host.reduce IntOp.andi
      (andi (cmpi .sge (rowCol v) (broadcastInDim S99584x1 ![] bcast_S_S99584x1 (constantI S_ 32 0#32)))
        (cmpi .sle (rowCol v) (broadcastInDim S99584x1 ![0, 1] bcast_S1x1_S99584x1_0_1 (broadcastInDim S1x1 ![1] bcast_S1_S1x1_1 (constantI S1 32 8319#32)))))
      (constantI S_ 1 1#1) reducesTo_S99584x1_S99584_d1 h_S_))
    (Host.gather gather_S8320x4096_S99584x1_S99584x4096_1_0_n_n_0_1_14096 x (rowCol v))
    (broadcastInDim S99584x4096 ![] bcast_S_S99584x4096 (constant S_ .bf16 0x7FC0#16))

/-- The words the results' rows are taken by. -/
def backCol (v : IVec S8320x8 32) : IVec S8320x8x1 32 :=
  broadcastInDim S8320x8x1 ![0, 1] bcast_S8320x8_S8320x8x1_0_1 (select (cmpi .slt v (broadcastInDim S8320x8 ![] bcast_S_S8320x8 (constantI S_ 32 0#32)))
    (addi v (broadcastInDim S8320x8 ![] bcast_S_S8320x8 (constantI S_ 32 99584#32))) v)

/-- The results' rows taken by number, a fill where there is no such row. -/
def takeBack (x : Vec F S99584x4096 .f32) (v : IVec S8320x8 32) : Vec F S8320x8x4096 .f32 :=
  select (broadcastInDim S8320x8x4096 ![0, 1] bcast_S8320x8_S8320x8x4096_0_1 (Host.reduce IntOp.andi
      (andi (cmpi .sge (backCol v) (broadcastInDim S8320x8x1 ![] bcast_S_S8320x8x1 (constantI S_ 32 0#32)))
        (cmpi .sle (backCol v) (broadcastInDim S8320x8x1 ![0, 1, 2] bcast_S1x1x1_S8320x8x1_0_1_2 (broadcastInDim S1x1x1 ![2] bcast_S1_S1x1x1_2 (constantI S1 32 99583#32)))))
      (constantI S_ 1 1#1) reducesTo_S8320x8x1_S8320x8_d2 h_S_))
    (Host.gather gather_S99584x4096_S8320x8x1_S8320x8x4096_2_0_n_n_0_2_14096 x (backCol v))
    (broadcastInDim S8320x8x4096 ![] bcast_S_S8320x8x4096 (constant S_ .f32 0x7FC00000#32))

variable (m : (ℓ : Loc nD τ sig) → Buf (Elt F) ℓ) (c : Dev nD)

/-- The biased scores. -/
theorem eq_v2 : V0 m c (Proc.devRef .tc main_v2) = addf (m (c, Proc.devRef .tc main_arg1)) (broadcastInDim S8320x256 ![0, 1] bcast_S1x256_S8320x256_0_1
      (broadcastInDim S1x256 ![1] bcast_S256_S1x256_1 (m (c, Proc.devRef .tc main_arg2)))) := by
  unfold V0
  after_reads_simp

/-- The chosen experts. -/
theorem eq_indices : V0 m c (Proc.devRef .tc main_indices) = (Host.topK S8320x8 1 (FloatOps.cmpfTotal .gt) (V0 m c (Proc.devRef .tc main_v2)) sliceFits_S8320x256_S8320x8).2 := by
  rw [cut m c 3]
  generalize StableHlo.after ((pre (F := F)).flatten.take 3) (fun b => m (c, b)) = V
  after_reads_simp

/-- The words the scores are picked by. -/
def pickCol (v : IVec S8320x8 32) : IVec S8320x8x1 32 :=
  shapeCast S8320x8x1 (select (cmpi .slt v (broadcastInDim S8320x8 ![] bcast_S_S8320x8 (constantI S_ 32 0#32)))
    (addi v (broadcastInDim S8320x8 ![] bcast_S_S8320x8 (constantI S_ 32 256#32))) v) shapeCasts_S8320x8_S8320x8x1

/-- The scores picked. -/
theorem eq_v3 : V0 m c (Proc.devRef .tc main_v3) = select (Host.reduce IntOp.andi
      (andi (cmpi .sge (pickCol (V0 m c (Proc.devRef .tc main_indices))) (broadcastInDim S8320x8x1 ![] bcast_S_S8320x8x1 (constantI S_ 32 0#32)))
        (cmpi .sle (pickCol (V0 m c (Proc.devRef .tc main_indices))) (broadcastInDim S8320x8x1 ![0, 1, 2] bcast_S1x1x1_S8320x8x1_0_1_2 (broadcastInDim S1x1x1 ![2] bcast_S1_S1x1x1_2 (constantI S1 32 255#32)))))
      (constantI S_ 1 1#1) reducesTo_S8320x8x1_S8320x8_d2 h_S_)
    (Host.gather gather_S8320x256_S8320x8x1_S8320x8_n_1_0_0_1_2_11 (V0 m c (Proc.devRef .tc main_arg1)) (pickCol (V0 m c (Proc.devRef .tc main_indices))))
    (broadcastInDim S8320x8 ![] bcast_S_S8320x8 (constant S_ .f32 0x7FC00000#32)) := by
  unfold pickCol
  rw [cut m c 5]
  generalize StableHlo.after ((pre (F := F)).flatten.take 5) (fun b => m (c, b)) = V
  after_reads_simp
  simp -implicitDefEqProofs only [StableHlo.TRef.toBuf, StableHlo.TRef.ofBuf, cast_cast, cast_eq, id]
  rfl

/-- The gates. -/
theorem eq_v9 : V0 m c (Proc.devRef .tc main_v9) = mulf (Host.divf (V0 m c (Proc.devRef .tc main_v3)) (broadcastInDim S8320x8 ![0, 1] bcast_S8320x1_S8320x8_0_1
      (broadcastInDim S8320x1 ![0] bcast_S8320_S8320x1_0 (Host.reduceAdd (V0 m c (Proc.devRef .tc main_v3)) (constant S_ .f32 0x00000000#32) reducesTo_S8320x8_S8320_d1 h_S_))))
    (broadcastInDim S8320x8 ![] bcast_S_S8320x8 (constant S_ .f32 0x40200000#32)) := by
  rw [cut m c 27]
  generalize StableHlo.after ((pre (F := F)).flatten.take 27) (fun b => m (c, b)) = V
  after_reads_simp

/-- The choices by expert. -/
theorem eq_v11 : V0 m c (Proc.devRef .tc main_v11) = (Host.sort2 S66560 0 comparator_i32_i32_d0 (V0 m c (Proc.devRef .tc main_v10)) (iotaInDim S66560 32 0)).2 := by
  rw [cut m c 36]
  generalize StableHlo.after ((pre (F := F)).flatten.take 36) (fun b => m (c, b)) = V
  after_reads_simp
  simp -implicitDefEqProofs only [StableHlo.TRef.toBuf, StableHlo.TRef.ofBuf, cast_cast, cast_eq, id]

/-- Their experts. -/
theorem eq_v18 : V0 m c (Proc.devRef .tc main_v18) = Host.gather gather_S66560_S66560x1_S66560_n_0_n_n_0_1_1 (V0 m c (Proc.devRef .tc main_v10)) (colN 66560#32 (V0 m c (Proc.devRef .tc main_v11))) := by
  unfold colN
  rw [cut m c 39]
  generalize StableHlo.after ((pre (F := F)).flatten.take 39) (fun b => m (c, b)) = V
  after_reads_simp

/-- The counts' running sums. -/
theorem eq_v36 : V0 m c (Proc.devRef .tc main_v36) = Host.reduceWindow IntOp.addi ![256] ![1] ![255] ![0] (V0 m c (Proc.devRef .tc main_v28)) (broadcastInDim S_ ![] bcast_S_S_ (constantI S_ 32 0#32))
      reduceWindows_S256_S256_w256s1p255_0 h_S_ := by
  rw [cut m c 92]
  generalize StableHlo.after ((pre (F := F)).flatten.take 92) (fun b => m (c, b)) = V
  after_reads_simp
  simp -implicitDefEqProofs only [StableHlo.TRef.toBuf, StableHlo.TRef.ofBuf, cast_cast, cast_eq, id]

/-- What is before each expert's. -/
theorem eq_v37 : V0 m c (Proc.devRef .tc main_v37) = subi (V0 m c (Proc.devRef .tc main_v36)) (V0 m c (Proc.devRef .tc main_v28)) := by
  rw [cut m c 95]
  generalize StableHlo.after ((pre (F := F)).flatten.take 95) (fun b => m (c, b)) = V
  after_reads_simp

/-- The first row of each choice's expert. -/
theorem eq_v46 : V0 m c (Proc.devRef .tc main_v46) = Host.gather gather_S256_S66560x1_S66560_n_0_n_n_0_1_1 (V0 m c (Proc.devRef .tc main_v39)) (colN 256#32 (V0 m c (Proc.devRef .tc main_v18))) := by
  unfold colN
  rw [cut m c 100]
  generalize StableHlo.after ((pre (F := F)).flatten.take 100) (fun b => m (c, b)) = V
  after_reads_simp

/-- Each choice's row. -/
theorem eq_v56 : V0 m c (Proc.devRef .tc main_v56) = addi (V0 m c (Proc.devRef .tc main_v46)) (subi (iotaInDim S66560 32 0)
      (Host.gather gather_S256_S66560x1_S66560_n_0_n_n_0_1_1 (V0 m c (Proc.devRef .tc main_v37)) (colN 256#32 (V0 m c (Proc.devRef .tc main_v18))))) := by
  unfold colN
  rw [cut m c 109]
  generalize StableHlo.after ((pre (F := F)).flatten.take 109) (fun b => m (c, b)) = V
  after_reads_simp

/-- Each choice's token. -/
theorem eq_v58 : V0 m c (Proc.devRef .tc main_v58) = pyDiv bcast_S_S66560 (V0 m c (Proc.devRef .tc main_v11)) (constantI S_ 32 8#32) := by
  rw [cut m c 123]
  generalize StableHlo.after ((pre (F := F)).flatten.take 123) (fun b => m (c, b)) = V
  after_reads_simp
  simp -implicitDefEqProofs only [StableHlo.TRef.toBuf, StableHlo.TRef.ofBuf, cast_cast, cast_eq, id]
  rfl

/-- The rows' tokens' start. -/
theorem eq_v57 : V0 m c (Proc.devRef .tc main_v57) = broadcastInDim S99584 ![] bcast_S_S99584 (constantI S_ 32 0#32) := by
  rw [cut m c 121]
  generalize StableHlo.after ((pre (F := F)).flatten.take 121) (fun b => m (c, b)) = V
  after_reads_simp

/-- Each row's token. -/
theorem eq_v65 : V0 m c (Proc.devRef .tc main_v65) = Host.scatter scatter_S99584_S66560x1_S66560_n_0_0_1 (fun _ b => b) (V0 m c (Proc.devRef .tc main_v57)) (colN 99584#32 (V0 m c (Proc.devRef .tc main_v56)))
      (V0 m c (Proc.devRef .tc main_v58)) := by
  unfold colN
  rw [cut m c 141]
  generalize StableHlo.after ((pre (F := F)).flatten.take 141) (fun b => m (c, b)) = V
  after_reads_simp
  rfl

/-- Each row's gate. -/
theorem eq_v81 : V0 m c (Proc.devRef .tc main_v81) = Host.scatter scatter_S99584_S66560x1_S66560_n_0_0_1 (fun _ b => b) (broadcastInDim S99584 ![] bcast_S_S99584 (constant S_ .f32 0x00000000#32))
      (colN 99584#32 (V0 m c (Proc.devRef .tc main_v56)))
      (Host.gather gather_S66560_S66560x1_S66560_n_0_n_n_0_1_1 (shapeCast S66560 (V0 m c (Proc.devRef .tc main_v9)) shapeCasts_S8320x8_S66560) (colN 66560#32 (V0 m c (Proc.devRef .tc main_v11)))) := by
  unfold colN
  rw [cut m c 150]
  generalize StableHlo.after ((pre (F := F)).flatten.take 150) (fun b => m (c, b)) = V
  after_reads_simp
  rfl

/-- Each choice's row, by choice. -/
theorem eq_v90 : V0 m c (Proc.devRef .tc main_v90) = shapeCast S8320x8 (Host.scatter scatter_S66560_S66560x1_S66560_n_0_0_1 (fun _ b => b) (broadcastInDim S66560 ![] bcast_S_S66560 (constantI S_ 32 0#32))
      (colN 66560#32 (V0 m c (Proc.devRef .tc main_v11))) (V0 m c (Proc.devRef .tc main_v56))) shapeCasts_S66560_S8320x8 := by
  unfold colN
  rw [cut m c 171]
  generalize StableHlo.after ((pre (F := F)).flatten.take 171) (fun b => m (c, b)) = V
  after_reads_simp
  rfl

/-- The rows, gathered. -/
theorem eq_v156 : V0 m c (Proc.devRef .tc main_v156) = takeRows (V0 m c (Proc.devRef .tc main_arg0)) (V0 m c (Proc.devRef .tc main_v65)) := by
  unfold takeRows rowCol
  rw [cut m c 319]
  generalize StableHlo.after ((pre (F := F)).flatten.take 319) (fun b => m (c, b)) = V
  after_reads_simp
  simp -implicitDefEqProofs only [StableHlo.TRef.toBuf, StableHlo.TRef.ofBuf, cast_cast, cast_eq, id]

/-- The gates, spread over lanes. -/
theorem eq_v158 : V0 m c (Proc.devRef .tc main_v158) = broadcastInDim S99584x128 ![0, 1] bcast_S99584x1_S99584x128_0_1 (broadcastInDim S99584x1 ![0] bcast_S99584_S99584x1_0 (V0 m c (Proc.devRef .tc main_v81))) := by
  rw [cut m c 342]
  generalize StableHlo.after ((pre (F := F)).flatten.take 342) (fun b => m (c, b)) = V
  after_reads_simp

/-- The result, from what the region leaves. -/
theorem eq_v161 (V : Valuation τ sig (Elt F)) : StableHlo.after (post (F := F)).flatten V (Proc.devRef .tc main_v161)
    = Host.reduceAdd (takeBack (V (Proc.devRef .tc main_v159)) (V (Proc.devRef .tc main_v90))) (constant S_ .f32 0x00000000#32) reducesTo_S8320x8x4096_S8320x4096_d1 h_S_ := by
  unfold takeBack backCol
  after_reads_simp
  simp -implicitDefEqProofs only [StableHlo.TRef.toBuf, StableHlo.TRef.ofBuf, cast_cast, cast_eq, id]

end Cert.KernelIdeal.Hand
-- ==== Proof.Val.Order.lean ====
/-
  A stable order of choices by expert, and where it puts each choice among the padded rows.
-/
module

public import proofs.«01_k».proof.Proof.Tables
public import Idealize.ShloMosaic.Lib.SortFacts
public import Idealize.ShloMosaic.Lib.Routing.Count

@[expose] public section

noncomputable section

namespace Cert.KernelIdeal.Hand

open Idealize.ShloMosaic Idealize.ShloMosaic.Routing

section
variable {N : ℕ} (G : ℕ → ℕ) (σ : Fin N → Fin N)

/-- How many of the first `N` have a value. -/
abbrev having (N : ℕ) (G : ℕ → ℕ) (e : ℕ) : ℕ := Nat.count (fun i => G i = e) N

/-- An order by value puts an entry after those of a lesser value and before those of a greater one. -/
theorem sorted_card (hσ : Function.Injective σ) (hm : ∀ i j, i < j → G (σ i) ≤ G (σ j)) (j : Fin N) :
    Nat.count (fun a => G a < G (σ j)) N ≤ j.val ∧ j.val < Nat.count (fun a => G a ≤ G (σ j)) N := by
  rw [← card_filter_fin, ← card_filter_fin]
  have hs : Function.Surjective σ := Finite.surjective_of_injective hσ
  constructor
  · refine (Finset.card_le_card (t := (Finset.Iio j).image σ) fun a ha => ?_).trans (Finset.card_image_le.trans_eq (Fin.card_Iio j))
    obtain ⟨i, rfl⟩ := hs a
    refine Finset.mem_image_of_mem _ (Finset.mem_Iio.mpr ?_)
    have h := (Finset.mem_filter.mp ha).2
    rcases lt_trichotomy i j with h1 | h1 | h1
    · exact h1
    · subst h1; exact absurd h (Nat.lt_irrefl _)
    · exact absurd (hm _ _ h1) (by omega)
  · have h : ((Finset.Iic j).image σ).card = j.val + 1 := (Finset.card_image_of_injective _ hσ).trans (Fin.card_Iic j)
    refine (Nat.lt_succ_self _).trans_le (h.symm.le.trans (Finset.card_le_card fun a ha => ?_))
    obtain ⟨i, hi, rfl⟩ := Finset.mem_image.mp ha
    refine Finset.mem_filter.mpr ⟨Finset.mem_univ _, ?_⟩
    rcases (Finset.mem_Iic.mp hi).lt_or_eq with h1 | h1
    · exact hm _ _ h1
    · rw [h1]

/-- Those of a lesser value, counted value by value. -/
theorem upTo_having (e : ℕ) : upTo (having N G) e = Nat.count (fun a => G a < e) N := by
  cases e with
  | zero => simp [upTo_zero]
  | succ e =>
    refine (sum_count_eq G e N).trans ?_
    congr 1
    funext a
    exact propext Nat.lt_succ_iff.symm

/-- An ordered entry stands among those of its value. -/
theorem sorted_in (hσ : Function.Injective σ) (hm : ∀ i j, i < j → G (σ i) ≤ G (σ j)) (j : Fin N) :
    upTo (having N G) (G (σ j)) ≤ j.val ∧ j.val < upTo (having N G) (G (σ j)) + having N G (G (σ j)) := by
  have h := sorted_card G σ hσ hm j
  have e : upTo (having N G) (G (σ j)) + having N G (G (σ j)) = Nat.count (fun a => G a ≤ G (σ j)) N := by
    rw [← upTo_succ]
    exact sum_count_eq G _ N
  rw [e, upTo_having]
  exact h

end

section
variable (cnt : ℕ → ℕ)

theorem pad_ge (e : ℕ) : cnt e ≤ padTo cnt e := by
  unfold padTo; omega

theorem pad_mul (e : ℕ) : padTo cnt e % 128 = 0 := by
  unfold padTo; omega

theorem upTo_pad_mul (n : ℕ) : upTo (padTo cnt) n % 128 = 0 := by
  induction n with
  | zero => rfl
  | succ n ih => rw [upTo_succ]; have := pad_mul cnt n; omega

/-- Places among padded rows differ where the entries do. -/
theorem place_inj {e e' o o' : ℕ} (h : o < cnt e) (h' : o' < cnt e') (he : upTo (padTo cnt) e + o = upTo (padTo cnt) e' + o') : e = e' ∧ o = o' := by
  have p := pad_ge cnt e
  have p' := pad_ge cnt e'
  rcases lt_trichotomy e e' with h1 | h1 | h1
  · have := upTo_mono (padTo cnt) (show e + 1 ≤ e' from h1); rw [upTo_succ] at this; omega
  · subst h1; exact ⟨rfl, by omega⟩
  · have := upTo_mono (padTo cnt) (show e' + 1 ≤ e from h1); rw [upTo_succ] at this; omega

/-- The expert of an item that lies among an expert's items. -/
theorem exp_of {e s : ℕ} (he : e < 256) (h : upTo (itemsOf cnt) e ≤ s) (h' : s < upTo (itemsOf cnt) e + itemsOf cnt e) : expOf cnt s = e := by
  have hs : s < upTo (itemsOf cnt) 256 := lt_of_lt_of_le h' (item_le cnt he)
  obtain ⟨-, h2, h3⟩ := exp_spec cnt hs
  rcases lt_trichotomy (expOf cnt s) e with h1 | h1 | h1
  · have := upTo_mono (itemsOf cnt) (show expOf cnt s + 1 ≤ e from h1); rw [upTo_succ] at this; omega
  · exact h1
  · have := upTo_mono (itemsOf cnt) (show e + 1 ≤ expOf cnt s from h1); rw [upTo_succ] at this; omega

/-- There are no more items than grid points have. -/
theorem items_fit (h : upTo cnt 256 ≤ 66560) : upTo (itemsOf cnt) 256 ≤ 386 := by
  have key : ∀ n, 512 * upTo (itemsOf cnt) n ≤ upTo cnt n + n * 511 := by
    intro n
    induction n with
    | zero => simp [upTo_zero]
    | succ n ih =>
      rw [upTo_succ, upTo_succ]
      have : 512 * itemsOf cnt n ≤ cnt n + 511 := by unfold itemsOf padTo; omega
      omega
  have := key 256
  omega

end

end Cert.KernelIdeal.Hand
-- ==== Proof.Val.Dispatch.lean ====
/-
  The sorted choices: where each choice's row lies, and what is gathered there.
-/
module

public import proofs.«01_k».proof.Proof.Val.Host
public import proofs.«01_k».proof.Proof.Val.Order

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Routing

variable {F : FTy → Type} [FloatOps F]

/-- A wrapped column of small words has these words. -/
theorem colN_ap (k : BitVec 32) (v : IVec S66560 32) (i : Fin 66560) {a : ℕ} (ha : a < 2 ^ 31) (h : v (ValueIdx.ix1 i) = BitVec.ofNat 32 a) :
    colN k v (ValueIdx.ix2 i (0 : Fin 1)) = BitVec.ofNat 32 a := by
  unfold colN
  rw [bcCol, WordCmp.select_at, WordCmp.cmpi_at, bc0, h]
  exact wrap_of_lt _ _ (by rw [BitVec.toNat_ofNat]; omega)

/-- A small word is its number. -/
theorem toInt_word {a : ℕ} (h : a < 2 ^ 31) : (BitVec.ofNat 32 a).toInt = (a : ℤ) := StableHlo.Predicate.toInt_ofNat_small _ h

/-- Where an update of the counting scatter lands. -/
theorem count_lands (idx : IVec S66560x1 32) (i : Fin 66560) (e : Fin 256) :
    scatter_S256_S66560x1_S66560_n_0_0_1.resultIdx? (ValueIdx.ix1 i) idx = some (ValueIdx.ix1 e) ↔ (idx (ValueIdx.ix2 i (0 : Fin 1))).toInt = (e.val : ℤ) := by
  have hs : scatter_S256_S66560x1_S66560_n_0_0_1.start (ValueIdx.ix1 i) idx 0 = (idx (ValueIdx.ix2 i (0 : Fin 1))).toInt := by
    unfold ScatterDims.start
    refine (dif_pos (List.mem_singleton.mpr rfl)).trans ?_
    refine congrArg (fun q => (idx q).toInt) (funext fun b => Fin.ext ?_)
    match b with
    | ⟨0, _⟩ => rfl
    | ⟨1, _⟩ => rfl
  have hw : scatter_S256_S66560x1_S66560_n_0_0_1.window (ValueIdx.ix1 i) 0 = 0 := by unfold ScatterDims.window; exact dif_neg (by decide)
  refine (resultIdx?_ix1 _ _ _ _).trans ?_
  rw [hs, hw]
  exact Iff.of_eq (congrArg (· = (e.val : ℤ)) (add_zero _))

/-- Where an update of a scatter among the padded rows lands. -/
theorem place_lands (idx : IVec S66560x1 32) (i : Fin 66560) (p : Fin 99584) :
    scatter_S99584_S66560x1_S66560_n_0_0_1.resultIdx? (ValueIdx.ix1 i) idx = some (ValueIdx.ix1 p) ↔ (idx (ValueIdx.ix2 i (0 : Fin 1))).toInt = (p.val : ℤ) := by
  have hs : scatter_S99584_S66560x1_S66560_n_0_0_1.start (ValueIdx.ix1 i) idx 0 = (idx (ValueIdx.ix2 i (0 : Fin 1))).toInt := by
    unfold ScatterDims.start
    refine (dif_pos (List.mem_singleton.mpr rfl)).trans ?_
    refine congrArg (fun q => (idx q).toInt) (funext fun b => Fin.ext ?_)
    match b with
    | ⟨0, _⟩ => rfl
    | ⟨1, _⟩ => rfl
  have hw : scatter_S99584_S66560x1_S66560_n_0_0_1.window (ValueIdx.ix1 i) 0 = 0 := by unfold ScatterDims.window; exact dif_neg (by decide)
  refine (resultIdx?_ix1 _ _ _ _).trans ?_
  rw [hs, hw]
  exact Iff.of_eq (congrArg (· = (p.val : ℤ)) (add_zero _))

/-- Where an update of a scatter among the choices lands. -/
theorem back_lands (idx : IVec S66560x1 32) (i p : Fin 66560) :
    scatter_S66560_S66560x1_S66560_n_0_0_1.resultIdx? (ValueIdx.ix1 i) idx = some (ValueIdx.ix1 p) ↔ (idx (ValueIdx.ix2 i (0 : Fin 1))).toInt = (p.val : ℤ) :=
  scatter_lands_signed _ rfl rfl rfl idx i p

/-- Entries scattered to different places are found there. -/
theorem place_hit {α : Type} (x : S99584.Idx → α) (idx : IVec S66560x1 32) (u : S66560.Idx → α) (d : Fin 66560 → ℕ) (hd : ∀ i, d i < 99584)
    (hinj : ∀ i j, d i = d j → i = j) (hi : ∀ i, idx (ValueIdx.ix2 i (0 : Fin 1)) = BitVec.ofNat 32 (d i)) (i : Fin 66560) :
    Host.scatter scatter_S99584_S66560x1_S66560_n_0_0_1 (fun _ b => b) x idx u (ValueIdx.ix1 ⟨d i, hd i⟩) = u (ValueIdx.ix1 i) := by
  refine scatter_set_hit _ _ _ _ _ _ (fun k hk => ?_) (ValueIdx.ix1 i) ((place_lands idx i _).mpr ?_)
  · obtain ⟨j, rfl⟩ : ∃ j : Fin 66560, k = ValueIdx.ix1 j := ⟨k 0, ValueIdx.eq_ix1 k⟩
    have h := (place_lands idx j _).mp hk
    rw [hi, toInt_word (by have := hd j; omega)] at h
    rw [hinj j i (Int.ofNat.inj h)]
  · rw [hi, toInt_word (by have := hd i; omega)]

/-- What holds of what was there and of every entry scattered holds throughout. -/
theorem place_all {α : Type} (P : α → Prop) (x : S99584.Idx → α) (idx : IVec S66560x1 32) (u : S66560.Idx → α) (d : Fin 66560 → ℕ) (hd : ∀ i, d i < 99584)
    (hinj : ∀ i j, d i = d j → i = j) (hi : ∀ i, idx (ValueIdx.ix2 i (0 : Fin 1)) = BitVec.ofNat 32 (d i)) (hx : ∀ p, P (x p)) (hu : ∀ i, P (u i)) (p : Fin 99584) :
    P (Host.scatter scatter_S99584_S66560x1_S66560_n_0_0_1 (fun _ b => b) x idx u (ValueIdx.ix1 p)) := by
  by_cases h : ∃ i, d i = p.val
  · obtain ⟨i, h⟩ := h
    have e : p = ⟨d i, hd i⟩ := Fin.ext h.symm
    rw [e, place_hit x idx u d hd hinj hi i]
    exact hu _
  · rw [scatter_set_miss]
    · exact hx _
    · intro k hk
      obtain ⟨j, rfl⟩ : ∃ j : Fin 66560, k = ValueIdx.ix1 j := ⟨k 0, ValueIdx.eq_ix1 k⟩
      have h' := (place_lands idx j _).mp hk
      rw [hi, toInt_word (by have := hd j; omega)] at h'
      exact h ⟨j, Int.ofNat.inj h'⟩

/-- A choice's number from its token and its rank. -/
def flat (t : Fin 8320) (k : Fin 8) : Fin 66560 := ⟨8 * t.val + k.val, by have := t.isLt; have := k.isLt; omega⟩

theorem cast_flat {α : Type} (x : S8320x8.Idx → α) (t : Fin 8320) (k : Fin 8) : shapeCast S66560 x shapeCasts_S8320x8_S66560 (ValueIdx.ix1 (flat t k)) = x (ValueIdx.ix2 t k) := by
  refine shapeCast_apply _ _ _ _ ?_
  rw [Shape.rowMajor_val_two, Shape.rowMajor_val_one]
  show t.val * 8 + k.val = 8 * t.val + k.val
  omega

theorem cast_back {α : Type} (x : S66560.Idx → α) (t : Fin 8320) (k : Fin 8) : shapeCast S8320x8 x shapeCasts_S66560_S8320x8 (ValueIdx.ix2 t k) = x (ValueIdx.ix1 (flat t k)) := by
  refine shapeCast_apply _ _ _ _ ?_
  rw [Shape.rowMajor_val_two, Shape.rowMajor_val_one]
  show 8 * t.val + k.val = t.val * 8 + k.val
  omega

/-- A vector read at a choice's number. -/
theorem take_at {α : Type} (x : S66560.Idx → α) (v : IVec S66560 32) (j p : Fin 66560) (h : v (ValueIdx.ix1 j) = BitVec.ofNat 32 p.val) :
    Host.gather gather_S66560_S66560x1_S66560_n_0_n_n_0_1_1 x (colN 66560#32 v) (ValueIdx.ix1 j) = x (ValueIdx.ix1 p) :=
  gather_take1 _ rfl rfl rfl rfl x _ j p (colN_ap _ _ j (by have := p.isLt; omega) h) (by decide)

/-- A sort of pairs by the first word, signed, read at a place. -/
theorem sort2_read (x y : IVec S66560 32) (G : ℕ → ℕ) (hx : ∀ a : Fin 66560, x (ValueIdx.ix1 a) = BitVec.ofNat 32 (G a.val)) (hG : ∀ a : Fin 66560, G a.val < 2 ^ 31) (j : Fin 66560) :
    (Host.sort2 S66560 0 comparator_i32_i32_d0 x y).2 (ValueIdx.ix1 j) = y (ValueIdx.ix1 (sortedFrom (fun a b : Fin 66560 => decide (G a.val < G b.val)) j)) := by
  have e : ∀ b : Fin 66560, (ValueIdx.ix1 j : (shape1 66560).Idx).along (⟨0, Nat.zero_lt_one⟩ : Fin (shape1 66560).rank) b = ValueIdx.ix1 b := fun b =>
    (Shape.Idx.along_rank1 _ b).trans (ofFin_eq_ix1 b)
  have hb : (fun a b : Fin 66560 => comparator_i32_i32_d0 (x ((ValueIdx.ix1 j : (shape1 66560).Idx).along (⟨0, Nat.zero_lt_one⟩ : Fin (shape1 66560).rank) a), y ((ValueIdx.ix1 j : (shape1 66560).Idx).along (⟨0, Nat.zero_lt_one⟩ : Fin (shape1 66560).rank) a))
      (x ((ValueIdx.ix1 j : (shape1 66560).Idx).along (⟨0, Nat.zero_lt_one⟩ : Fin (shape1 66560).rank) b), y ((ValueIdx.ix1 j : (shape1 66560).Idx).along (⟨0, Nat.zero_lt_one⟩ : Fin (shape1 66560).rank) b)) == 1#1) = fun a b => decide (G a.val < G b.val) := by
    funext a b
    show (IntOp.cmpi .slt (x _) (x _) == 1#1) = _
    rw [e a, e b, hx, hx, WordCmp.cmpi_slt_ofNat (hG a) (hG b)]
    by_cases h : G a.val < G b.val <;> simp [h]
  unfold Host.sort2
  rw [dif_pos (show 0 < S66560.rank by decide)]
  exact (congrArg (fun f => y ((ValueIdx.ix1 j : (shape1 66560).Idx).along (⟨0, Nat.zero_lt_one⟩ : Fin (shape1 66560).rank) (sortedFrom f j))) hb).trans (congrArg y (e _))

variable (m : (ℓ : Loc nD τ sig) → Buf (Elt F) ℓ) (c : Dev nD)

/-- The expert of a choice. -/
@[irreducible] def expC (i : ℕ) : ℕ := lands (V0 m c (Proc.devRef .tc main_v26)) i

theorem rows_having : rowsOf m c = having 66560 (expC m c) := by
  funext e
  unfold expC rowsOf
  rw [numel_66560]

theorem expC_lt (i : Fin 66560) : expC m c i.val < 256 := by
  unfold expC
  exact lands_lt _ (place_lt m c) (by rw [numel_66560]; exact i.isLt)

/-- The number an update lands at is its word's. -/
theorem lands_word (idx : IVec S66560x1 32) (hp : ∀ j, (idx j).toNat < 256) (i : Fin 66560) : lands idx i.val = (idx (ValueIdx.ix2 i (0 : Fin 1))).toNat := by
  have h : i.val < S66560.numel := by rw [numel_66560]; exact i.isLt
  unfold lands
  rw [dif_pos h]
  refine (placeNo_eq _ ⟨_, hp (ValueIdx.ix2 i (0 : Fin 1))⟩).mp ?_
  have e : S66560.rowMajor.symm ⟨i.val, h⟩ = ValueIdx.ix1 i := symm1 _
  rw [e]
  refine (count_lands idx i _).mpr ?_
  have := hp (ValueIdx.ix2 i (0 : Fin 1))
  rw [WordCmp.toInt_eq_toNat_of_lt_half (by omega)]

/-- A word below 256 passes the clamp and the wrap. -/
theorem clamped_at (v : IVec S66560 32) (w : IVec S66560 32) (hv : ∀ i, (v i).toNat < 256)
    (hw : ∀ i, w i = maxsi (broadcastInDim S66560 ![] bcast_S_S66560 (constantI S_ 32 0#32)) v i) (i : Fin 66560) :
    broadcastInDim S66560x1 ![0] bcast_S66560_S66560x1_0 (select (cmpi .slt w (broadcastInDim S66560 ![] bcast_S_S66560 (constantI S_ 32 0#32)))
      (addi w (broadcastInDim S66560 ![] bcast_S_S66560 (constantI S_ 32 256#32))) w) (ValueIdx.ix2 i (0 : Fin 1)) = v (ValueIdx.ix1 i) := by
  have h := hv (ValueIdx.ix1 i)
  have e := maxsi_zero_left (a := (v (ValueIdx.ix1 i)).toNat) (by omega)
  rw [BitVec.ofNat_toNat, BitVec.setWidth_eq] at e
  have e' : w (ValueIdx.ix1 i) = v (ValueIdx.ix1 i) := (hw _).trans e
  rw [bcCol, WordCmp.select_at, WordCmp.cmpi_at, bc0, e']
  exact wrap_of_lt _ _ (by omega)

/-- The word the counting scatter reads is the choice. -/
theorem word_v26 (i : Fin 66560) : (V0 m c (Proc.devRef .tc main_v26) : IVec S66560x1 32) (ValueIdx.ix2 i (0 : Fin 1)) = (V0 m c (Proc.devRef .tc main_v10) : IVec S66560 32) (ValueIdx.ix1 i) :=
  (congrFun (eq_v26 m c) (ValueIdx.ix2 i (0 : Fin 1))).trans (clamped_at _ _ (choice_lt m c) (fun j => congrFun (eq_v20 m c) j) i)

/-- A choice is its expert's word. -/
theorem word_v10 (i : Fin 66560) : (V0 m c (Proc.devRef .tc main_v10) : IVec S66560 32) (ValueIdx.ix1 i) = BitVec.ofNat 32 (expC m c i.val) := by
  have h := lands_word (V0 m c (Proc.devRef .tc main_v26)) (place_lt m c) i
  rw [word_v26] at h
  unfold expC
  rw [h, BitVec.ofNat_toNat, BitVec.setWidth_eq]

/-- The choice at a place of the order. -/
@[irreducible] def pick (j : Fin 66560) : Fin 66560 := sortedFrom (fun a b : Fin 66560 => decide (expC m c a.val < expC m c b.val)) j

theorem pick_inj : Function.Injective (pick m c) := by
  unfold pick; exact sortedFrom_injective _

/-- Every choice has a place. -/
theorem pick_surj : Function.Surjective (pick m c) := by
  unfold pick; exact sortedFrom_surjective _

/-- The order is by expert. -/
theorem pick_mono (i j : Fin 66560) (h : i < j) : expC m c (pick m c i).val ≤ expC m c (pick m c j).val := by
  have key := sortedFrom_noInversion (n := 66560) (fun a b => decide (expC m c a.val < expC m c b.val)) (fun a b => decide (expC m c a.val < expC m c b.val))
    (fun a b h => by have := of_decide_eq_true h; exact decide_eq_false (by omega)) (fun a b h => h)
    (fun a b d h h' => by have := of_decide_eq_false h; have := of_decide_eq_false h'; exact decide_eq_false (by omega)) i j h
  have := of_decide_eq_false key
  unfold pick
  omega

theorem word_v11 (j : Fin 66560) : (V0 m c (Proc.devRef .tc main_v11) : IVec S66560 32) (ValueIdx.ix1 j) = BitVec.ofNat 32 (pick m c j).val := by
  unfold pick
  exact (congrFun (eq_v11 m c) (ValueIdx.ix1 j)).trans
    (sort2_read _ _ (expC m c) (word_v10 m c) (fun a => by have := expC_lt m c a; omega) j)

/-- The expert at a place of the order. -/
abbrev expP (j : Fin 66560) : ℕ := expC m c (pick m c j).val

theorem expP_lt (j : Fin 66560) : expP m c j < 256 := expC_lt m c _

theorem word_v18 (j : Fin 66560) : (V0 m c (Proc.devRef .tc main_v18) : IVec S66560 32) (ValueIdx.ix1 j) = BitVec.ofNat 32 (expP m c j) := by
  exact (congrFun (eq_v18 m c) (ValueIdx.ix1 j)).trans ((take_at _ _ j _ (word_v11 m c j)).trans (word_v10 m c (pick m c j)))

theorem word_v36 (e : Fin 256) : (V0 m c (Proc.devRef .tc main_v36) : IVec S256 32) (ValueIdx.ix1 e) = BitVec.ofNat 32 (upTo (rowsOf m c) (e.val + 1)) :=
  (congrFun (eq_v36 m c) (ValueIdx.ix1 e)).trans (cumsum1 rfl _ (rowsOf m c) (word_v28 m c) _ (bc0 _ _ _) _ _ e)

theorem word_v37 (e : Fin 256) : (V0 m c (Proc.devRef .tc main_v37) : IVec S256 32) (ValueIdx.ix1 e) = BitVec.ofNat 32 (upTo (rowsOf m c) e.val) := by
  refine (congrFun (eq_v37 m c) (ValueIdx.ix1 e)).trans ?_
  have h := upTo_mono (rowsOf m c) (show e.val + 1 ≤ 256 from e.isLt)
  have h' := rows_le m c
  rw [upTo_succ] at h
  rw [subi_ap, word_v36, word_v28, upTo_succ, word_sub (by omega) (by omega), Nat.add_sub_cancel]

/-- How many of an expert's choices come before a place. -/
abbrev rankP (j : Fin 66560) : ℕ := j.val - upTo (rowsOf m c) (expP m c j)

/-- The padded row of a place. -/
def dest (j : Fin 66560) : ℕ := upTo (padTo (rowsOf m c)) (expP m c j) + rankP m c j

theorem place_in (j : Fin 66560) : upTo (rowsOf m c) (expP m c j) ≤ j.val ∧ rankP m c j < rowsOf m c (expP m c j) := by
  have h := sorted_in (expC m c) (pick m c) (pick_inj m c) (pick_mono m c) j
  rw [← rows_having] at h
  have h2 : j.val < upTo (rowsOf m c) (expP m c j) + rowsOf m c (expP m c j) := h.2
  have h1 : upTo (rowsOf m c) (expP m c j) ≤ j.val := h.1
  refine ⟨h1, ?_⟩
  show j.val - upTo (rowsOf m c) (expP m c j) < _
  omega

theorem dest_lt (j : Fin 66560) : dest m c j < 99072 := by
  have h := (place_in m c j).2
  have h1 := pad_ge (rowsOf m c) (expP m c j)
  have h2 := pad_le (rowsOf m c) (expP_lt m c j)
  have h3 := pad_all (rowsOf m c) (rows_le m c)
  unfold dest
  omega

theorem dest_lt' (j : Fin 66560) : dest m c j < 99584 := by have := dest_lt m c j; omega

theorem dest_inj (i j : Fin 66560) (h : dest m c i = dest m c j) : i = j := by
  obtain ⟨he, ho⟩ := place_inj (rowsOf m c) (place_in m c i).2 (place_in m c j).2 h
  have h1 := (place_in m c i).1
  have h2 := (place_in m c j).1
  refine Fin.ext ?_
  unfold rankP at ho
  rw [he] at h1 ho
  omega

/-- A table of experts read at a place's expert. -/
theorem take_expP (x : IVec S256 32) (j : Fin 66560) : Host.gather gather_S256_S66560x1_S66560_n_0_n_n_0_1_1 x (colN 256#32 (V0 m c (Proc.devRef .tc main_v18))) (ValueIdx.ix1 j)
    = x (ValueIdx.ix1 ⟨expP m c j, expP_lt m c j⟩) :=
  take_ap _ rfl rfl rfl rfl x _ j (expP_lt m c j) (by have := expP_lt m c j; omega) (colN_ap _ _ j (by have := expP_lt m c j; omega) (word_v18 m c j))

theorem word_v56 (j : Fin 66560) : (V0 m c (Proc.devRef .tc main_v56) : IVec S66560 32) (ValueIdx.ix1 j) = BitVec.ofNat 32 (dest m c j) := by
  refine (congrFun (eq_v56 m c) (ValueIdx.ix1 j)).trans ?_
  have h46 : (V0 m c (Proc.devRef .tc main_v46) : IVec S66560 32) (ValueIdx.ix1 j) = BitVec.ofNat 32 (upTo (padTo (rowsOf m c)) (expP m c j)) :=
    ((congrFun (eq_v46 m c) (ValueIdx.ix1 j)).trans (take_expP m c _ j)).trans (word_v39 m c _)
  have hj := j.isLt
  rw [addi_ap, subi_ap, h46, take_expP, word_v37, iota1_ap, word_sub (place_in m c j).1 (by omega), ← BitVec.ofNat_add]
  rfl

theorem col_v56 (j : Fin 66560) : colN 99584#32 (V0 m c (Proc.devRef .tc main_v56)) (ValueIdx.ix2 j (0 : Fin 1)) = BitVec.ofNat 32 (dest m c j) :=
  colN_ap _ _ j (by have := dest_lt m c j; omega) (word_v56 m c j)

/-- The token of a place's choice. -/
theorem word_v58 (j : Fin 66560) : (V0 m c (Proc.devRef .tc main_v58) : IVec S66560 32) (ValueIdx.ix1 j) = BitVec.ofNat 32 ((pick m c j).val / 8) := by
  refine (congrFun (eq_v58 m c) (ValueIdx.ix1 j)).trans ?_
  exact pyDiv_ap _ _ _ (ValueIdx.ix1 j) (word_v11 m c j) rfl (by have := (pick m c j).isLt; omega) (by decide) (by decide)

/-- The token at a place's row. -/
theorem word_v65 (j : Fin 66560) : (V0 m c (Proc.devRef .tc main_v65) : IVec S99584 32) (ValueIdx.ix1 ⟨dest m c j, dest_lt' m c j⟩) = BitVec.ofNat 32 ((pick m c j).val / 8) :=
  ((congrFun (eq_v65 m c) _).trans (place_hit _ _ _ (dest m c) (dest_lt' m c) (dest_inj m c) (col_v56 m c) j)).trans (word_v58 m c j)

/-- Every row's token is one. -/
theorem token_lt (p : Fin 99584) : ((V0 m c (Proc.devRef .tc main_v65) : IVec S99584 32) (ValueIdx.ix1 p)).toNat < 8320 := by
  have e := congrFun (eq_v65 m c) (ValueIdx.ix1 p)
  refine (congrArg (fun w : BitVec 32 => w.toNat < 8320) e).mpr ?_
  refine place_all (fun w : BitVec 32 => w.toNat < 8320) _ _ _ (dest m c) (dest_lt' m c) (dest_inj m c) (col_v56 m c) (fun q => ?_) (fun i => ?_) p
  · refine (congrArg (fun w : BitVec 32 => w.toNat < 8320) ((congrFun (eq_v57 m c) q).trans (bc0 _ _ _))).mpr ?_
    show (0#32).toNat < 8320
    decide
  · obtain ⟨j, rfl⟩ : ∃ j : Fin 66560, i = ValueIdx.ix1 j := ⟨i 0, ValueIdx.eq_ix1 i⟩
    rw [word_v58, BitVec.toNat_ofNat]
    have := (pick m c j).isLt
    omega

/-- The gate at a place's row. -/
theorem gate_v81 (j : Fin 66560) (t : Fin 8320) (k : Fin 8) (h : pick m c j = flat t k) :
    (V0 m c (Proc.devRef .tc main_v81) : Vec F S99584 .f32) (ValueIdx.ix1 ⟨dest m c j, dest_lt' m c j⟩) = (V0 m c (Proc.devRef .tc main_v9) : Vec F S8320x8 .f32) (ValueIdx.ix2 t k) := by
  refine (congrFun (eq_v81 m c) _).trans ((place_hit _ _ _ (dest m c) (dest_lt' m c) (dest_inj m c) (col_v56 m c) j).trans ?_)
  refine (take_at _ _ j _ (word_v11 m c j)).trans ?_
  rw [h]
  exact cast_flat _ t k

/-- The row of a choice. -/
theorem word_v90 (j : Fin 66560) (t : Fin 8320) (k : Fin 8) (h : pick m c j = flat t k) :
    (V0 m c (Proc.devRef .tc main_v90) : IVec S8320x8 32) (ValueIdx.ix2 t k) = BitVec.ofNat 32 (dest m c j) := by
  refine (congrFun (eq_v90 m c) _).trans ((cast_back _ t k).trans ?_)
  rw [← h]
  have hc : ∀ i, colN 66560#32 (V0 m c (Proc.devRef .tc main_v11)) (ValueIdx.ix2 i (0 : Fin 1)) = BitVec.ofNat 32 (pick m c i).val := fun i =>
    colN_ap _ _ i (by have := (pick m c i).isLt; omega) (word_v11 m c i)
  refine (scatter_set_hit _ _ _ _ _ ((V0 m c (Proc.devRef .tc main_v56) : IVec S66560 32) (ValueIdx.ix1 j)) (fun q hq => ?_) (ValueIdx.ix1 j) ((back_lands _ j _).mpr ?_)).trans (word_v56 m c j)
  · obtain ⟨i, rfl⟩ : ∃ i : Fin 66560, q = ValueIdx.ix1 i := ⟨q 0, ValueIdx.eq_ix1 q⟩
    have h' := (back_lands _ i _).mp hq
    rw [hc, toInt_word (by have := (pick m c i).isLt; omega)] at h'
    rw [pick_inj m c (Fin.ext (Int.ofNat.inj h'))]
  · rw [hc, toInt_word (by have := (pick m c j).isLt; omega)]

end Cert.KernelIdeal.Hand
-- ==== Proof.Val.Take.lean ====
/-
  Rows taken by number, entry by entry.
-/
module

public import proofs.«01_k».proof.Proof.Val.Dispatch
public import Idealize.ShloMosaic.Lib.ReduceAll

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Routing

variable {F : FTy → Type} [FloatOps F]

/-- A small word lies between zero and a bound. -/
theorem between (w : BitVec 32) (b : ℕ) (hb : b < 2 ^ 31) (h : w.toNat ≤ b) : IntOp.andi (IntOp.cmpi .sge w 0#32) (IntOp.cmpi .sle w (BitVec.ofNat 32 b)) = 1#1 := by
  have e : w = BitVec.ofNat 32 w.toNat := by rw [BitVec.ofNat_toNat, BitVec.setWidth_eq]
  rw [e, show (0#32) = BitVec.ofNat 32 0 from rfl, WordCmp.cmpi_sge_ofNat (by omega) (by omega), WordCmp.cmpi_sle_ofNat (by omega) (by omega), decide_eq_true (Nat.zero_le _), decide_eq_true h]
  decide

/-- A column of row numbers has these numbers. -/
theorem rowCol_ap (v : IVec S99584 32) (p : Fin 99584) (h : (v (ValueIdx.ix1 p)).toNat < 8320) : rowCol v (ValueIdx.ix2 p (0 : Fin 1)) = v (ValueIdx.ix1 p) := by
  unfold rowCol
  rw [bcCol, WordCmp.select_at, WordCmp.cmpi_at, bc0]
  exact wrap_of_lt _ _ (by omega)

/-- A row taken is that row. -/
theorem takeRows_at (x : Vec F S8320x4096 .bf16) (v : IVec S99584 32) (h : ∀ p : Fin 99584, (v (ValueIdx.ix1 p)).toNat < 8320) (p : Fin 99584) (q : Fin 4096) (t : Fin 8320)
    (ht : v (ValueIdx.ix1 p) = BitVec.ofNat 32 t.val) : takeRows x v (ValueIdx.ix2 p q) = x (ValueIdx.ix2 t q) := by
  unfold takeRows
  rw [WordCmp.select_at]
  have hm : broadcastInDim S99584x4096 ![0] bcast_S99584_S99584x4096_0 (Host.reduce IntOp.andi
      (andi (cmpi .sge (rowCol v) (broadcastInDim S99584x1 ![] bcast_S_S99584x1 (constantI S_ 32 0#32)))
        (cmpi .sle (rowCol v) (broadcastInDim S99584x1 ![0, 1] bcast_S1x1_S99584x1_0_1 (broadcastInDim S1x1 ![1] bcast_S1_S1x1_1 (constantI S1 32 8319#32)))))
      (constantI S_ 1 1#1) reducesTo_S99584x1_S99584_d1 h_S_) (ValueIdx.ix2 p q) = 1#1 := by
    refine Host.reduce_andi_one _ _ _ _ _ rfl fun i => ?_
    obtain ⟨a, rfl⟩ : ∃ a : Fin 99584, i = ValueIdx.ix2 a (0 : Fin 1) := ⟨i 0, by
      rw [ValueIdx.eq_ix2 i]
      exact congrArg (ValueIdx.ix2 (i 0)) (Subsingleton.elim (α := Fin 1) _ _)⟩
    have hr := rowCol_ap v a (h a)
    show IntOp.andi (IntOp.cmpi .sge (rowCol v (ValueIdx.ix2 a (0 : Fin 1))) 0#32) (IntOp.cmpi .sle (rowCol v (ValueIdx.ix2 a (0 : Fin 1))) (BitVec.ofNat 32 8319)) = 1#1
    rw [hr]
    exact between _ 8319 (by decide) (by have := h a; omega)
  rw [hm]
  refine (show Scalar.select 1#1 _ _ = _ from rfl).trans ?_
  exact gather_row _ rfl rfl rfl rfl rfl x _ p q t ((rowCol_ap v p (h p)).trans ht) (by decide)

/-- The results' rows taken by the words, entry by entry. -/
theorem gather_back {α : Type} (x : S99584x4096.Idx → α) (idx : IVec S8320x8x1 32) (t : Fin 8320) (k : Fin 8) (d : Fin 4096) (p : Fin 99584)
    (h : idx (ValueIdx.ix3 t k (0 : Fin 1)) = BitVec.ofNat 32 p.val) :
    Host.gather gather_S99584x4096_S8320x8x1_S8320x8x4096_2_0_n_n_0_2_14096 x idx (ValueIdx.ix3 t k d) = x (ValueIdx.ix2 p d) := by
  have hp := p.isLt
  unfold Host.gather
  refine congrArg x (funext fun a => Fin.ext ?_)
  show gather_S99584x4096_S8320x8x1_S8320x8x4096_2_0_n_n_0_2_14096.start (ValueIdx.ix3 t k d) idx a + gather_S99584x4096_S8320x8x1_S8320x8x4096_2_0_n_n_0_2_14096.batchCoord (ValueIdx.ix3 t k d) a
    + gather_S99584x4096_S8320x8x1_S8320x8x4096_2_0_n_n_0_2_14096.offCoord (ValueIdx.ix3 t k d) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    have hs : gather_S99584x4096_S8320x8x1_S8320x8x4096_2_0_n_n_0_2_14096.siIdx (ValueIdx.ix3 t k d) ⟨List.idxOf (0 : Fin 2) gather_S99584x4096_S8320x8x1_S8320x8x4096_2_0_n_n_0_2_14096.startIndexMap,
        List.idxOf_lt_length_iff.2 (List.mem_singleton.mpr rfl)⟩ = ValueIdx.ix3 t k (0 : Fin 1) := by
      funext b; refine Fin.ext ?_
      match b with
      | ⟨0, _⟩ => rfl
      | ⟨1, _⟩ => rfl
      | ⟨2, _⟩ => rfl
    refine (congrArg (fun q => min (idx q).toInt.toNat (99584 - 1)) hs).trans ?_
    show min (idx (ValueIdx.ix3 t k (0 : Fin 1))).toInt.toNat (99584 - 1) = p.val
    rw [h, toInt_word (by omega)]
    show min p.val (99584 - 1) = p.val
    omega
  | ⟨1, _⟩ =>
    have hne : (1 : Fin 2) ∉ [(0 : Fin 2)] := by decide
    have hk : (1 : Fin 2) ∈ gather_S99584x4096_S8320x8x1_S8320x8x4096_2_0_n_n_0_2_14096.sKept := (GatherDims.mem_sKept _ _).mpr ⟨hne, List.not_mem_nil⟩
    unfold GatherDims.start GatherDims.offCoord
    refine (congrArg₂ (· + ·) (dif_neg hne) (dif_pos hk)).trans ?_
    exact Nat.zero_add _

/-- A column of the results' row numbers has these numbers. -/
theorem backCol_ap (v : IVec S8320x8 32) (t : Fin 8320) (k : Fin 8) (h : (v (ValueIdx.ix2 t k)).toNat < 99584) : backCol v (ValueIdx.ix3 t k (0 : Fin 1)) = v (ValueIdx.ix2 t k) := by
  unfold backCol
  have hb : ∀ w : IVec S8320x8 32, broadcastInDim S8320x8x1 ![0, 1] bcast_S8320x8_S8320x8x1_0_1 w (ValueIdx.ix3 t k (0 : Fin 1)) = w (ValueIdx.ix2 t k) := fun w => by
    pointwise []
    rfl
  rw [hb, WordCmp.select_at, WordCmp.cmpi_at, bc0]
  exact wrap_of_lt _ _ (by omega)

/-- A result's row taken is that row. -/
theorem takeBack_at (x : Vec F S99584x4096 .f32) (v : IVec S8320x8 32) (h : ∀ (t : Fin 8320) (k : Fin 8), (v (ValueIdx.ix2 t k)).toNat < 99584) (t : Fin 8320) (k : Fin 8) (d : Fin 4096) (p : Fin 99584)
    (hp : v (ValueIdx.ix2 t k) = BitVec.ofNat 32 p.val) : takeBack x v (ValueIdx.ix3 t k d) = x (ValueIdx.ix2 p d) := by
  unfold takeBack
  rw [WordCmp.select_at]
  have hm : broadcastInDim S8320x8x4096 ![0, 1] bcast_S8320x8_S8320x8x4096_0_1 (Host.reduce IntOp.andi
      (andi (cmpi .sge (backCol v) (broadcastInDim S8320x8x1 ![] bcast_S_S8320x8x1 (constantI S_ 32 0#32)))
        (cmpi .sle (backCol v) (broadcastInDim S8320x8x1 ![0, 1, 2] bcast_S1x1x1_S8320x8x1_0_1_2 (broadcastInDim S1x1x1 ![2] bcast_S1_S1x1x1_2 (constantI S1 32 99583#32)))))
      (constantI S_ 1 1#1) reducesTo_S8320x8x1_S8320x8_d2 h_S_) (ValueIdx.ix3 t k d) = 1#1 := by
    refine Host.reduce_andi_one _ _ _ _ _ rfl fun i => ?_
    obtain ⟨a, b, rfl⟩ : ∃ (a : Fin 8320) (b : Fin 8), i = ValueIdx.ix3 a b (0 : Fin 1) := ⟨i 0, i 1, by
      rw [ValueIdx.eq_ix3 i]
      exact congrArg (ValueIdx.ix3 (i 0) (i 1)) (Subsingleton.elim (α := Fin 1) _ _)⟩
    have hr := backCol_ap v a b (h a b)
    show IntOp.andi (IntOp.cmpi .sge (backCol v (ValueIdx.ix3 a b (0 : Fin 1))) 0#32) (IntOp.cmpi .sle (backCol v (ValueIdx.ix3 a b (0 : Fin 1))) (BitVec.ofNat 32 99583)) = 1#1
    rw [hr]
    exact between _ 99583 (by decide) (by have := h a b; omega)
  rw [hm]
  refine (show Scalar.select 1#1 _ _ = _ from rfl).trans ?_
  exact gather_back x _ t k d p ((backCol_ap v t k (h t k)).trans hp)

end Cert.KernelIdeal.Hand
-- ==== Proof.Val.Mlp.lean ====
/-
  An expert's network on a row, and the items that hold a padded row.
-/
module

public import proofs.«01_k».proof.Proof.Val.Order
public import Idealize.ShloMosaic.Lib.ValueIdx

@[expose] public section

noncomputable section

namespace Cert.KernelIdeal.Hand

open Idealize.ShloMosaic Idealize.ShloMosaic.Routing
open Cert.KernelIdeal Cert.KernelIdeal.Gen
open scoped BigOperators

/-- A row times a column of an expert's projection. -/
def proj (x : Vec Ideal S8320x4096 .bf16) (w : Vec Ideal S1x256x4096x1152 .f32) (t : Fin 8320) (e : Fin 256) (f : Fin 1152) : EReal :=
  ∑ q : Fin 4096, x (ValueIdx.ix2 t q) * w (ValueIdx.ix4 0 e q f)

/-- An expert's network on a row. -/
def expert (x : Vec Ideal S8320x4096 .bf16) (wg wu : Vec Ideal S1x256x4096x1152 .f32) (wd : Vec Ideal S1x256x1152x4096 .f32) (t : Fin 8320) (e : Fin 256) (d : Fin 4096) : EReal :=
  ∑ f : Fin 1152, (proj x wg t e f * Ideal.logistic (proj x wg t e f) * proj x wu t e f) * wd (ValueIdx.ix4 0 e f d)

/-- A sum taken 1024 at a time. -/
theorem sum_parts (g : ℕ → EReal) (s : ℕ) : (∑ σ ∈ Finset.range s, ∑ κ : Fin 1024, g (1024 * σ + κ.val)) = ∑ q ∈ Finset.range (1024 * s), g q := by
  induction s with
  | zero => rfl
  | succ s ih => rw [Finset.sum_range_succ, ih, Nat.mul_succ, Finset.sum_range_add, ← Fin.sum_univ_eq_sum_range (fun κ => g (1024 * s + κ))]

/-- A sum of four parts of 1024. -/
theorem sum_four (h : ℕ → Fin 1024 → EReal) (g : Fin 4096 → EReal) (hg : ∀ (σ : ℕ) (κ : Fin 1024) (q : Fin 4096), σ < 4 → q.val = 1024 * σ + κ.val → h σ κ = g q) :
    (∑ σ ∈ Finset.range 4, ∑ κ : Fin 1024, h σ κ) = ∑ q : Fin 4096, g q := by
  have e := sum_parts (fun n => if hn : n < 4096 then g ⟨n, hn⟩ else 0) 4
  rw [show 1024 * 4 = 4096 from rfl, ← Fin.sum_univ_eq_sum_range (fun q => if hn : q < 4096 then g ⟨q, hn⟩ else 0) 4096] at e
  refine Eq.trans (Finset.sum_congr rfl fun σ hσ => Finset.sum_congr rfl fun κ _ => ?_) (e.trans (Finset.sum_congr rfl fun q _ => dif_pos q.isLt))
  have h4 := Finset.mem_range.mp hσ
  have hk := κ.isLt
  have hn : 1024 * σ + κ.val < 4096 := by omega
  rw [dif_pos hn]
  exact hg σ κ ⟨_, hn⟩ h4 rfl

section
variable (cnt : ℕ → ℕ)

/-- An item's place among its expert's items. -/
abbrev segPart (i : ℕ) : ℕ := i - upTo (itemsOf cnt) (expOf cnt i)

/-- An item's first row. -/
abbrev segLo (i : ℕ) : ℕ := upTo (padTo cnt) (expOf cnt i) + segPart cnt i * 512

/-- An item's blocks. -/
abbrev segNum (i : ℕ) : ℕ := min 4 ((padTo cnt (expOf cnt i) - segPart cnt i * 512) / 128)

/-- The item that holds an expert's row. -/
theorem seg_has {e o : ℕ} (he : e < 256) (ho : o < cnt e) :
    let i := upTo (itemsOf cnt) e + o / 512
    i < upTo (itemsOf cnt) 256 ∧ expOf cnt i = e ∧ segLo cnt i ≤ upTo (padTo cnt) e + o ∧ upTo (padTo cnt) e + o < segLo cnt i + 128 * segNum cnt i := by
  intro i
  have hp := pad_ge cnt e
  have hm := pad_mul cnt e
  have hd : o / 512 < itemsOf cnt e := by unfold itemsOf; omega
  have hi : i < upTo (itemsOf cnt) e + itemsOf cnt e := Nat.add_lt_add_left hd _
  have hx : expOf cnt i = e := exp_of cnt he (Nat.le_add_right _ _) hi
  have hq : i - upTo (itemsOf cnt) e = o / 512 := Nat.add_sub_cancel_left (upTo (itemsOf cnt) e) (o / 512)
  refine ⟨lt_of_lt_of_le hi (item_le cnt he), hx, ?_, ?_⟩
  · simp only [segLo, segPart, hx, hq]; omega
  · simp only [segLo, segPart, segNum, hx, hq]; omega

/-- A row of an item's blocks is within its expert's rows. -/
theorem seg_end {b q z p : ℕ} (h1 : b + q * 512 ≤ p) (h2 : p < b + q * 512 + 128 * min 4 ((z - q * 512) / 128)) (hz : q * 512 + 128 ≤ z) : p < b + z := by
  omega

/-- A row of an item's blocks gives the item's place. -/
theorem seg_part {b q z p : ℕ} (h1 : b + q * 512 ≤ p) (h2 : p < b + q * 512 + 128 * min 4 ((z - q * 512) / 128)) : q = (p - b) / 512 := by
  omega

/-- No two items hold one row. -/
theorem seg_unique (h2 : upTo cnt 256 ≤ 66560) {i k p : ℕ} (hi : i < upTo (itemsOf cnt) 256) (hk : k < upTo (itemsOf cnt) 256)
    (i1 : segLo cnt i ≤ p) (i2 : p < segLo cnt i + 128 * segNum cnt i) (k1 : segLo cnt k ≤ p) (k2 : p < segLo cnt k + 128 * segNum cnt k) : i = k := by
  obtain ⟨-, a1, a2⟩ := exp_spec cnt hi
  obtain ⟨-, b1, b2⟩ := exp_spec cnt hk
  have ci := (item_rows cnt h2 hi).1
  have ck := (item_rows cnt h2 hk).1
  have pi := seg_end i1 i2 ci
  have pk := seg_end k1 k2 ck
  have li : upTo (padTo cnt) (expOf cnt i) ≤ p := (Nat.le_add_right _ _).trans i1
  have lk : upTo (padTo cnt) (expOf cnt k) ≤ p := (Nat.le_add_right _ _).trans k1
  have he : expOf cnt i = expOf cnt k := by
    rcases lt_trichotomy (expOf cnt i) (expOf cnt k) with h1 | h1 | h1
    · have h := upTo_mono (padTo cnt) (show expOf cnt i + 1 ≤ expOf cnt k from h1)
      rw [upTo_succ] at h
      exact absurd (pi.trans_le (h.trans lk)) (lt_irrefl p)
    · exact h1
    · have h := upTo_mono (padTo cnt) (show expOf cnt k + 1 ≤ expOf cnt i from h1)
      rw [upTo_succ] at h
      exact absurd (pk.trans_le (h.trans li)) (lt_irrefl p)
  have ji : segPart cnt i = (p - upTo (padTo cnt) (expOf cnt i)) / 512 := seg_part i1 i2
  have jk : segPart cnt k = (p - upTo (padTo cnt) (expOf cnt k)) / 512 := seg_part k1 k2
  have hj : i - upTo (itemsOf cnt) (expOf cnt k) = k - upTo (itemsOf cnt) (expOf cnt k) := by
    have h := ji.trans ((congrArg (fun e => (p - upTo (padTo cnt) e) / 512) he).trans jk.symm)
    unfold segPart at h
    rwa [he] at h
  rw [he] at a1
  exact (tsub_left_inj a1 b1).mp hj

end

end Cert.KernelIdeal.Hand
-- ==== Proof.Val.Tile.lean ====
module

public import proofs.«01_k».proof.Proof.Cut
public import Idealize.ShloMosaic.Lib.Pointwise
public import Idealize.ShloMosaic.Lib.ValueIdx

@[expose] public section

set_option maxRecDepth 16384

noncomputable section

namespace Cert.KernelIdeal.Hand

open Cert.KernelIdeal Cert.KernelIdeal.Gen
open Idealize.ShloMosaic
open scoped BigOperators

/-- A chunk of the gate projection, entry by entry. -/
theorem pay1_at (x : Vec Ideal S1x1x1024x1152 .f32) (k : Fin 1024) (f : Fin 1152) :
    k0_pay1 x (ValueIdx.ix2 k f) = x (ValueIdx.ix4 0 0 k f) := by
  pointwise [k0_pay1]
  rfl

/-- A chunk of the up projection, entry by entry. -/
theorem pay2_at (x : Vec Ideal S1x1x1024x1152 .f32) (k : Fin 1024) (f : Fin 1152) :
    k0_pay2 x (ValueIdx.ix2 k f) = x (ValueIdx.ix4 0 0 k f) := by
  pointwise [k0_pay2]
  rfl

/-- A panel of the down projection, entry by entry. -/
theorem pay14_at (x : Vec Ideal S1x1x1152x1024 .f32) (f : Fin 1152) (d : Fin 1024) :
    k0_pay14 x (ValueIdx.ix2 f d) = x (ValueIdx.ix4 0 0 f d) := by
  pointwise [k0_pay14]
  rfl

/-- One chunk's product added, entry by entry. -/
theorem pay4_at (a : Vec Ideal S128x2304 .f32) (x : Vec Ideal S128x1024 .bf16) (w : Vec Ideal S1024x2304 .bf16) (r : Fin 128) (l : Fin 2304) :
    k0_pay4 a x w (ValueIdx.ix2 r l) = a (ValueIdx.ix2 r l) + ∑ k : Fin 1024, x (ValueIdx.ix2 r k) * w (ValueIdx.ix2 k l) := by
  pointwise [k0_pay4]
  rfl

/-- The activations, entry by entry. -/
theorem pay10_at (g u : Vec Ideal S128x1152 .f32) (r : Fin 128) (f : Fin 1152) :
    k0_pay10 g u (ValueIdx.ix2 r f)
      = g (ValueIdx.ix2 r f) * Ideal.logistic (g (ValueIdx.ix2 r f)) * u (ValueIdx.ix2 r f) := by
  pointwise [k0_pay10]

/-- The copy of the 128 lanes that a column falls in. -/
theorem pick_lane {α : Type} (g : Fin 128 → α) (n : ℕ) (hn : n < 1024) :
    (if h : n < 128 then g ⟨n, h⟩ else if h : n - 128 < 128 then g ⟨n - 128, h⟩ else if h : n - 128 - 128 < 128 then g ⟨n - 128 - 128, h⟩
      else if h : n - 128 - 128 - 128 < 128 then g ⟨n - 128 - 128 - 128, h⟩ else if h : n - 128 - 128 - 128 - 128 < 128 then g ⟨n - 128 - 128 - 128 - 128, h⟩
      else if h : n - 128 - 128 - 128 - 128 - 128 < 128 then g ⟨n - 128 - 128 - 128 - 128 - 128, h⟩
      else if h : n - 128 - 128 - 128 - 128 - 128 - 128 < 128 then g ⟨n - 128 - 128 - 128 - 128 - 128 - 128, h⟩
      else g ⟨n - 128 - 128 - 128 - 128 - 128 - 128 - 128, by omega⟩) = g ⟨n % 128, Nat.mod_lt _ (by decide)⟩ := by
  split_ifs <;> exact congrArg g (Fin.ext (by dsimp only; omega))

/-- A tile of the result, entry by entry. -/
theorem pay15_at (g : Vec Ideal S128x128 .f32) (h : Vec Ideal S128x1152 .bf16) (w : Vec Ideal S1152x1024 .bf16) (r : Fin 128) (d : Fin 1024) :
    k0_pay15 g h w (ValueIdx.ix3 0 r d)
      = (∑ f : Fin 1152, h (ValueIdx.ix2 r f) * w (ValueIdx.ix2 f d)) * g (ValueIdx.ix2 r ⟨d.val % 128, Nat.mod_lt _ (by decide)⟩) := by
  pointwise [k0_pay15]
  exact congrArg₂ (· * ·) rfl (pick_lane (fun l => g (ValueIdx.ix2 r l)) d.val d.isLt)

/-- The entry of the gate-and-up chunk in its gate half. -/
theorem wgu_gate (x8 x9 : Vec Ideal S1x1x1024x1152 .f32) (d : Vec Ideal S1024x2304 .bf16) (k : Fin 1024) (f : Fin 1152) (l : Fin 2304) (hl : l.val = f.val) :
    wgu x8 x9 d (ValueIdx.ix2 k l) = x8 (ValueIdx.ix4 0 0 k f) := by
  unfold wgu VecWindow.put
  rw [dif_neg (fun h => by have h1 : 1152 ≤ l.val := (h 1).1; have := f.isLt; omega), dif_pos (fun a => by
    fin_cases a
    · exact ⟨Nat.zero_le _, by show k.val < 0 + 1024; have := k.isLt; omega⟩
    · exact ⟨Nat.zero_le _, by show l.val < 0 + 1152; have := f.isLt; omega⟩)]
  refine Eq.trans (congrArg (k0_pay1 x8) (funext fun a => Fin.ext ?_)) (pay1_at x8 k f)
  fin_cases a
  · show k.val - 0 = k.val; omega
  · show l.val - 0 = f.val; omega

/-- The entry of the gate-and-up chunk in its up half. -/
theorem wgu_up (x8 x9 : Vec Ideal S1x1x1024x1152 .f32) (d : Vec Ideal S1024x2304 .bf16) (k : Fin 1024) (f : Fin 1152) (l : Fin 2304) (hl : l.val = 1152 + f.val) :
    wgu x8 x9 d (ValueIdx.ix2 k l) = x9 (ValueIdx.ix4 0 0 k f) := by
  unfold wgu VecWindow.put
  rw [dif_pos (fun a => by
    fin_cases a
    · exact ⟨Nat.zero_le _, by show k.val < 0 + 1024; have := k.isLt; omega⟩
    · exact ⟨by show 1152 ≤ l.val; omega, by show l.val < 1152 + 1152; have := f.isLt; omega⟩)]
  refine Eq.trans (congrArg (k0_pay2 x9) (funext fun a => Fin.ext ?_)) (pay2_at x9 k f)
  fin_cases a
  · show k.val - 0 = k.val; omega
  · show l.val - 1152 = f.val; omega

/-- A row of a block of 128 in the item's 512. -/
def row512 (j : Fin 4) (r : Fin 128) : Fin 512 := ⟨128 * j.val + r.val, by have := j.isLt; have := r.isLt; omega⟩

/-- A block's row of the staged tokens. -/
theorem rwX_at (x : Vec Ideal S512x1024 .bf16) (j : Fin 4) (r : Fin 128) (k : Fin 1024) : rwX x j (ValueIdx.ix2 r k) = x (ValueIdx.ix2 (row512 j r) k) := by
  refine congrArg x (funext fun a => Fin.ext ?_)
  fin_cases a
  · show 128 * j.val + 1 * r.val = 128 * j.val + r.val; omega
  · show 0 + 1 * k.val = k.val; omega

/-- A block's row of the staged gates. -/
theorem rwG_at (x : Vec Ideal S512x128 .f32) (j : Fin 4) (r : Fin 128) (k : Fin 128) : rwG x j (ValueIdx.ix2 r k) = x (ValueIdx.ix2 (row512 j r) k) := by
  refine congrArg x (funext fun a => Fin.ext ?_)
  fin_cases a
  · show 128 * j.val + 1 * r.val = 128 * j.val + r.val; omega
  · show 0 + 1 * k.val = k.val; omega

/-- The gate-and-up accumulator after some chunks, as a sum over the chunks. -/
theorem acc_at (R : RD Ideal) (i : ℕ) (j : Fin 4) (s : ℕ) (r : Fin 128) (l : Fin 2304) :
    R.acc i j s (ValueIdx.ix2 r l) = ∑ σ ∈ Finset.range s, ∑ k : Fin 1024,
      R.X (8 * i + σ) (ValueIdx.ix2 (row512 j r) k) * wgu (R.Wg (8 * i + σ)) (R.Wu (8 * i + σ)) (fun _ => k0_pay1 (R.Wg (8 * i + σ)) (fun a => ⟨0, by revert a; decide⟩)) (ValueIdx.ix2 k l) := by
  induction s with
  | zero =>
    rw [Finset.range_zero, Finset.sum_empty]
    show rwA (F := Ideal) (k0_pay3 (F := Ideal)) j _ = 0
    unfold rwA VecWindow.window
    pointwise [k0_pay3]
  | succ s ih =>
    rw [Finset.sum_range_succ, ← ih]
    show k0_pay4 (F := Ideal) _ _ _ _ = _
    rw [pay4_at]
    exact congrArg _ (Finset.sum_congr rfl fun k _ => congrArg (· * _) (rwX_at _ j r k))

/-- The sum of the products of a row of tokens with a column of a projection, chunk by chunk. -/
def chunks (X : ℕ → Vec Ideal S512x1024 .bf16) (W : ℕ → Vec Ideal S1x1x1024x1152 .f32) (i : ℕ) (ρ : Fin 512) (f : Fin 1152) : EReal :=
  ∑ σ ∈ Finset.range 4, ∑ k : Fin 1024, X (8 * i + σ) (ValueIdx.ix2 ρ k) * W (8 * i + σ) (ValueIdx.ix4 0 0 k f)

/-- An item's activations, entry by entry. -/
theorem hb_at (R : RD Ideal) (i : ℕ) (j : Fin 4) (r : Fin 128) (f : Fin 1152) :
    R.hb i j (ValueIdx.ix2 r f)
      = chunks R.X R.Wg i (row512 j r) f * Ideal.logistic (chunks R.X R.Wg i (row512 j r) f) * chunks R.X R.Wu i (row512 j r) f := by
  have hf : f.val < 1152 := f.isLt
  have e0 : ValueIdx.ix2 (n0 := 128) (n1 := 2304) r ⟨f.val, by omega⟩ = (Rect.unit (s := S128x2304) ![0, 0] S128x1152.size (by decide)).emb (ValueIdx.ix2 r f) := by
    funext a; refine Fin.ext ?_
    fin_cases a
    · show r.val = 0 + 1 * r.val; omega
    · show f.val = 0 + 1 * f.val; omega
  have e1 : ValueIdx.ix2 (n0 := 128) (n1 := 2304) r ⟨1152 + f.val, by omega⟩ = (Rect.unit (s := S128x2304) ![0, 1152] S128x1152.size (by decide)).emb (ValueIdx.ix2 r f) := by
    funext a; refine Fin.ext ?_
    fin_cases a
    · show r.val = 0 + 1 * r.val; omega
    · show 1152 + f.val = 1152 + 1 * f.val; omega
  have g : R.acc i j 4 (ValueIdx.ix2 r ⟨f.val, by omega⟩) = chunks R.X R.Wg i (row512 j r) f := by
    rw [acc_at]
    exact Finset.sum_congr rfl fun σ _ => Finset.sum_congr rfl fun k _ => congrArg _ (wgu_gate _ _ _ k f _ rfl)
  have u : R.acc i j 4 (ValueIdx.ix2 r ⟨1152 + f.val, by omega⟩) = chunks R.X R.Wu i (row512 j r) f := by
    rw [acc_at]
    exact Finset.sum_congr rfl fun σ _ => Finset.sum_congr rfl fun k _ => congrArg _ (wgu_up _ _ _ k f _ rfl)
  unfold RD.hb
  rw [pay10_at, ← g, ← u, e0, e1]
  rfl

/-- An item's tile of the result, entry by entry. -/
theorem tile_at (R : RD Ideal) (i n : ℕ) (j : Fin 4) (r : Fin 128) (d : Fin 1024) :
    R.tile i n j.val (ValueIdx.ix3 0 r d)
      = (∑ f : Fin 1152, (chunks R.X R.Wg i (row512 j r) f * Ideal.logistic (chunks R.X R.Wg i (row512 j r) f) * chunks R.X R.Wu i (row512 j r) f)
          * R.Wd (8 * i + 4 + n) (ValueIdx.ix4 0 0 f d))
        * R.G (8 * i + 4 + n) (ValueIdx.ix2 (row512 j r) ⟨d.val % 128, Nat.mod_lt _ (by decide)⟩) := by
  have hj : (⟨j.val % 4, Nat.mod_lt _ (by decide)⟩ : Fin 4) = j := Fin.ext (Nat.mod_eq_of_lt j.isLt)
  unfold RD.tile
  rw [hj, pay15_at, rwG_at]
  refine congrArg (· * _) (Finset.sum_congr rfl fun f _ => ?_)
  rw [hb_at, pay14_at]

/-- What the result holds at a row of an item's live blocks that no later item writes. -/
theorem glue_at {F : FTy → Type} [FloatOps F] (R : RD F) (N i : ℕ) (hi : i < N) (x : S99584x4096.Idx) (hlo : R.r i ≤ (x 0).val) (hhi : (x 0).val < R.r i + 128 * R.m i)
    (hlast : ∀ k, i < k → k < N → ¬ (R.r k ≤ (x 0).val ∧ (x 0).val < R.r k + 128 * R.m k)) :
    glue (fun n => R.y n N) x = tileAt (R.tile i ((x 1).val / 1024)) ((x 0).val - R.r i) (x 1).val := by
  show R.y ((x 1).val / 1024) N x = _
  induction N with
  | zero => omega
  | succ N ih =>
    show grpY (R.r N) _ (R.m N) _ _ x = _
    unfold grpY
    by_cases h : i = N
    · subst h
      exact if_pos ⟨by omega, hlo, hhi⟩
    · rw [if_neg (fun hc => hlast N (by omega) (by omega) hc.2)]
      exact ih (by omega) fun k h1 h2 => hlast k h1 (by omega)

end Cert.KernelIdeal.Hand
-- ==== Proof.Val.Staged.lean ====
module

public import proofs.«01_k».proof.Proof.Run
public import proofs.«01_k».proof.Proof.Val.Tile

@[expose] public section

set_option maxRecDepth 16384

noncomputable section

namespace Cert.KernelIdeal.Hand

open Cert.KernelIdeal Cert.KernelIdeal.Gen
open Idealize.ShloMosaic
open scoped BigOperators

variable {F : FTy → Type} [FloatOps F]
variable (V : Dev nD → Valuation τ sig (Elt F)) (pf : pre0.Contents (Elt F)) (hpf : Tab pf) (c : Dev nD)

/-- The item of a grid point, by its number. -/
theorem item_pt {i s : ℕ} (hi : i < 386) (hs : s < 8) : (grid0.coords (pt (8 * i + s)) 0).val = i := by
  have h : (pt (8 * i + s)).val = 8 * i + s := Nat.mod_eq_of_lt (by rw [N_0]; omega)
  rw [coords_item, h]; omega

/-- The step of a grid point, by its number. -/
theorem step_pt {i s : ℕ} (hi : i < 386) (hs : s < 8) : (grid0.coords (pt (8 * i + s)) 1) = (⟨s, hs⟩ : Fin 8) := by
  refine Fin.ext ?_
  have h : (pt (8 * i + s)).val = 8 * i + s := Nat.mod_eq_of_lt (by rw [N_0]; omega)
  rw [coords_step, h]
  show (8 * i + s) % 8 = s
  omega

/-- The chunk of a gate-and-up step of an item with rows. -/
theorem chunk_live (v : BitVec 32) (h0 : 0 < v.toNat) (h4 : v.toNat ≤ 4) (s : Fin 8) (hs : s.val < 4) : (chunkW v s).toNat = s.val := by
  obtain ⟨m, hm⟩ : ∃ m : Fin 5, v = BitVec.ofNat 32 m.val := ⟨⟨v.toNat, by omega⟩, by simp⟩
  subst hm
  revert h0 h4 hs m s; decide +kernel

/-- Its first column. -/
theorem chunk_live_col (v : BitVec 32) (h0 : 0 < v.toNat) (h4 : v.toNat ≤ 4) (s : Fin 8) (hs : s.val < 4) : (Scalar.muli (chunkW v s) 1024#32).toNat = 1024 * s.val := by
  obtain ⟨m, hm⟩ : ∃ m : Fin 5, v = BitVec.ofNat 32 m.val := ⟨⟨v.toNat, by omega⟩, by simp⟩
  subst hm
  revert h0 h4 hs m s; decide +kernel

/-- The panel of a down step of an item with rows. -/
theorem down_live (v : BitVec 32) (h0 : 0 < v.toNat) (h4 : v.toNat ≤ 4) (s : Fin 8) (hs : 4 ≤ s.val) : (downW v s).toNat = s.val - 4 := by
  obtain ⟨m, hm⟩ : ∃ m : Fin 5, v = BitVec.ofNat 32 m.val := ⟨⟨v.toNat, by omega⟩, by simp⟩
  subst hm
  revert h0 h4 hs m s; decide +kernel

/-- The expert of a down step. -/
theorem downE_live (a b : BitVec 32) (s : Fin 8) (hs : 4 ≤ s.val) : downE a b s = b := by
  have h : Scalar.cmpi .slt (BitVec.ofNat 32 s.val) 4#32 = 0#1 := by revert hs s; decide +kernel
  unfold downE
  rw [h]
  rfl

/-- The tokens' rows staged for a gate-and-up step. -/
theorem X_at {i s : ℕ} (hi : i < 386) (hs : s < 4) (h0 : 0 < (rd V pf hpf c).m i) (ρ : Fin 512) (κ : Fin 1024) (p : Fin 99584) (q : Fin 4096)
    (hp : p.val = (rd V pf hpf c).r i + ρ.val) (hq : q.val = 1024 * s + κ.val) :
    (rd V pf hpf c).X (8 * i + s) (ValueIdx.ix2 ρ κ) = V c (Proc.devRef .tc main_v156) (ValueIdx.ix2 p q) := by
  have e := t0_eq pf (grid0.coords (pt (8 * i + s))) k0_off1_inb numel1_S1
  rw [item_pt hi (by omega), step_pt hi (by omega), chunk_live_col _ h0 ((rd V pf hpf c).hm i) _ (by show s < 4; omega), rowW_toNat _ (hpf.row i hi)] at e
  refine congrArg (V c (Proc.devRef .tc main_v156)) (funext fun a => Fin.ext ?_)
  have e0 := congrFun e a
  fin_cases a
  · refine (congrArg (· + 1 * ρ.val) e0).trans ?_
    show _ + 1 * ρ.val = p.val
    rw [hp]
    show (tabAt (F := F) (pf 2) i).toNat * 128 + 1 * ρ.val = (tabAt (F := F) (pf 2) i).toNat * 128 + ρ.val
    omega
  · refine (congrArg (· + 1 * κ.val) e0).trans ?_
    show 1024 * s + 1 * κ.val = q.val
    omega

/-- The gates' rows staged for a step. -/
theorem G_at {i s : ℕ} (hi : i < 386) (hs : s < 8) (ρ : Fin 512) (κ : Fin 128) (p : Fin 99584)
    (hp : p.val = (rd V pf hpf c).r i + ρ.val) :
    (rd V pf hpf c).G (8 * i + s) (ValueIdx.ix2 ρ κ) = V c (Proc.devRef .tc main_v158) (ValueIdx.ix2 p κ) := by
  have e := t1_eq pf (grid0.coords (pt (8 * i + s))) k0_off1_inb numel1_S1
  rw [item_pt hi (by omega), rowW_toNat _ (hpf.row i hi)] at e
  refine congrArg (V c (Proc.devRef .tc main_v158)) (funext fun a => Fin.ext ?_)
  have e0 := congrFun e a
  fin_cases a
  · refine (congrArg (· + 1 * ρ.val) e0).trans ?_
    show _ + 1 * ρ.val = p.val
    rw [hp]
    show (tabAt (F := F) (pf 2) i).toNat * 128 + 1 * ρ.val = (tabAt (F := F) (pf 2) i).toNat * 128 + ρ.val
    omega
  · refine (congrArg (· + 1 * κ.val) e0).trans ?_
    show 0 + 1 * κ.val = κ.val
    omega

/-- The gate projection's rows staged for a gate-and-up step. -/
theorem Wg_at {i s : ℕ} (hi : i < 386) (hs : s < 4) (h0 : 0 < (rd V pf hpf c).m i) (κ : Fin 1024) (f : Fin 1152) (e : Fin 256) (q : Fin 4096)
    (he : (tabAt (F := F) (pf 0) i).toNat = e.val) (hq : q.val = 1024 * s + κ.val) :
    (rd V pf hpf c).Wg (8 * i + s) (ValueIdx.ix4 0 0 κ f) = V c (Proc.devRef .tc main_arg3) (ValueIdx.ix4 0 e q f) := by
  have e' := t2_eq pf (grid0.coords (pt (8 * i + s))) k0_off1_inb numel1_S1
  rw [item_pt hi (by omega), step_pt hi (by omega), chunk_live _ h0 ((rd V pf hpf c).hm i) _ (by show s < 4; omega), he] at e'
  refine congrArg (V c (Proc.devRef .tc main_arg3)) (funext fun a => Fin.ext ?_)
  have e0 := congrFun e' a
  fin_cases a
  · refine (congrArg (· * 1 + 1 * 0) e0).trans ?_
    rfl
  · refine (congrArg (· * 1 + 1 * 0) e0).trans ?_
    show e.val * 1 + 1 * 0 = e.val; omega
  · refine (congrArg (· * 1024 + 1 * κ.val) e0).trans ?_
    show s * 1024 + 1 * κ.val = q.val; omega
  · refine (congrArg (· * 1152 + 1 * f.val) e0).trans ?_
    show 0 * 1152 + 1 * f.val = f.val; omega

/-- The up projection's rows staged for a gate-and-up step. -/
theorem Wu_at {i s : ℕ} (hi : i < 386) (hs : s < 4) (h0 : 0 < (rd V pf hpf c).m i) (κ : Fin 1024) (f : Fin 1152) (e : Fin 256) (q : Fin 4096)
    (he : (tabAt (F := F) (pf 0) i).toNat = e.val) (hq : q.val = 1024 * s + κ.val) :
    (rd V pf hpf c).Wu (8 * i + s) (ValueIdx.ix4 0 0 κ f) = V c (Proc.devRef .tc main_arg4) (ValueIdx.ix4 0 e q f) := by
  have e' := (t3_eq pf (grid0.coords (pt (8 * i + s))) k0_off1_inb numel1_S1).trans (t2_eq pf (grid0.coords (pt (8 * i + s))) k0_off1_inb numel1_S1)
  rw [item_pt hi (by omega), step_pt hi (by omega), chunk_live _ h0 ((rd V pf hpf c).hm i) _ (by show s < 4; omega), he] at e'
  refine congrArg (V c (Proc.devRef .tc main_arg4)) (funext fun a => Fin.ext ?_)
  have e0 := congrFun e' a
  fin_cases a
  · refine (congrArg (· * 1 + 1 * 0) e0).trans ?_
    rfl
  · refine (congrArg (· * 1 + 1 * 0) e0).trans ?_
    show e.val * 1 + 1 * 0 = e.val; omega
  · refine (congrArg (· * 1024 + 1 * κ.val) e0).trans ?_
    show s * 1024 + 1 * κ.val = q.val; omega
  · refine (congrArg (· * 1152 + 1 * f.val) e0).trans ?_
    show 0 * 1152 + 1 * f.val = f.val; omega

/-- The down projection's columns staged for a down step. -/
theorem Wd_at {i n : ℕ} (hi : i < 386) (hn : n < 4) (h0 : 0 < (rd V pf hpf c).m i) (f : Fin 1152) (δ : Fin 1024) (e : Fin 256) (q : Fin 4096)
    (he : (tabAt (F := F) (pf 0) i).toNat = e.val) (hq : q.val = 1024 * n + δ.val) :
    (rd V pf hpf c).Wd (8 * i + 4 + n) (ValueIdx.ix4 0 0 f δ) = V c (Proc.devRef .tc main_arg5) (ValueIdx.ix4 0 e f q) := by
  have e' := t4_eq pf (grid0.coords (pt (8 * i + (4 + n)))) k0_off1_inb numel1_S1
  rw [item_pt hi (by omega), step_pt hi (by omega), down_live _ h0 ((rd V pf hpf c).hm i) _ (by show 4 ≤ 4 + n; omega), downE_live _ _ _ (by show 4 ≤ 4 + n; omega), he] at e'
  rw [show 8 * i + 4 + n = 8 * i + (4 + n) by omega]
  refine congrArg (V c (Proc.devRef .tc main_arg5)) (funext fun a => Fin.ext ?_)
  have e0 := congrFun e' a
  fin_cases a
  · refine (congrArg (· * 1 + 1 * 0) e0).trans ?_
    rfl
  · refine (congrArg (· * 1 + 1 * 0) e0).trans ?_
    show e.val * 1 + 1 * 0 = e.val; omega
  · refine (congrArg (· * 1152 + 1 * f.val) e0).trans ?_
    show 0 * 1152 + 1 * f.val = f.val; omega
  · refine (congrArg (· * 1024 + 1 * δ.val) e0).trans ?_
    show (4 + n - 4) * 1024 + 1 * δ.val = q.val; omega

end Cert.KernelIdeal.Hand
-- ==== Proof.Val.Post.lean ====
/-
  The region's result at a token's padded row: its expert's network, times its gate.
-/
module

public import proofs.«01_k».proof.Proof.Val.Take
public import proofs.«01_k».proof.Proof.Val.Mlp
public import proofs.«01_k».proof.Proof.Val.Staged
public import proofs.«01_k».proof.Proof.Frame
public import proofs.«01_k».proof.Proof.Tables

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Routing
open scoped BigOperators

section
variable {F : FTy → Type} [FloatOps F]

/-- A table's word, as an entry. -/
theorem tab_at (d : Vec F S386 .i32) (n : ℕ) (hn : n < 386) : tabAt d n = d (ValueIdx.ix1 ⟨n, hn⟩) := by
  unfold tabAt
  rw [dif_pos hn]
  refine congrArg d (funext fun a => ?_)
  match a with
  | ⟨0, _⟩ => rfl

/-- A table's word, as a number. -/
theorem tab_nat (d : Vec F S386 .i32) (n : ℕ) (hn : n < 386) {a : ℕ} (ha : a < 2 ^ 32) (h : d (ValueIdx.ix1 ⟨n, hn⟩) = BitVec.ofNat 32 a) : (tabAt d n).toNat = a := by
  rw [tab_at d n hn, h, BitVec.toNat_ofNat]
  exact Nat.mod_eq_of_lt ha

variable (m : (ℓ : Loc nD τ sig) → Buf (Elt F) ℓ) (hpf : Tab (pf0 m))

/-- The first row of an item. -/
theorem rd_r (c : Dev nD) (i : ℕ) (hi : i < 386) : (rd (V0 m) (pf0 m) hpf c).r i = baseAt m 0 i + partAt m 0 i * 512 := by
  have hb := part_rows m 0 i
  have hm : baseAt m 0 i % 128 = 0 := upTo_pad_mul _ _
  have h := tab_nat (F := F) (pf0 m 2) i hi (a := baseAt m 0 i / 128 + partAt m 0 i * 4) (by omega) (word_v138 m 0 ⟨i, hi⟩)
  refine (congrArg (· * 128) h).trans ?_
  show (baseAt m 0 i / 128 + partAt m 0 i * 4) * 128 = _
  omega

/-- The blocks of an item. -/
theorem rd_m (c : Dev nD) (i : ℕ) (hi : i < 386) : (rd (V0 m) (pf0 m) hpf c).m i = blocksAt m 0 i :=
  tab_nat (F := F) (pf0 m 3) i hi (by unfold blocksAt; split <;> omega) (word_v152 m 0 ⟨i, hi⟩)

/-- The expert of an item. -/
theorem tab_e (i : ℕ) (hi : i < 386) : (tabAt (F := F) (pf0 m 0) i).toNat = expAt m 0 i :=
  tab_nat (F := F) (pf0 m 0) i hi (by have := expAt_lt m 0 i; omega) (word_v111 m 0 ⟨i, hi⟩)

/-- An item with rows is itself. -/
theorem item_self (c : Dev nD) {i : ℕ} (hi : i < total m c) : itemAt m c i = i := by
  unfold itemAt; omega

end

variable (m : (ℓ : Loc nD τ sig) → Buf (Elt Ideal) ℓ) (hpf : Tab (pf0 m))

/-- The rows gathered for the region. -/
theorem rows_at (p : Fin 99584) (q : Fin 4096) (t : Fin 8320) (ht : (V0 m 0 (Proc.devRef .tc main_v65) : IVec S99584 32) (ValueIdx.ix1 p) = BitVec.ofNat 32 t.val) :
    (V0 m 0 (Proc.devRef .tc main_v156) : Vec Ideal S99584x4096 .bf16) (ValueIdx.ix2 p q) = (m (0, Proc.devRef .tc main_arg0) : Vec Ideal S8320x4096 .bf16) (ValueIdx.ix2 t q) :=
  (congrFun (eq_v156 m 0) _).trans ((takeRows_at (F := Ideal) _ _ (token_lt m 0) p q t ht).trans (congrFun (kept m 0).1 _))

/-- The gates broadcast for the region. -/
theorem gates_at (p : Fin 99584) (l : Fin 128) :
    (V0 m 0 (Proc.devRef .tc main_v158) : Vec Ideal S99584x128 .f32) (ValueIdx.ix2 p l) = (V0 m 0 (Proc.devRef .tc main_v81) : Vec Ideal S99584 .f32) (ValueIdx.ix1 p) :=
  (congrFun (eq_v158 m 0) _).trans (bcRows _ _ _ p l)

/-- The result at a row of an item's live blocks, when the staged blocks are a token's and an expert's. -/
theorem glue_expert (R : RD Ideal) (i p : ℕ) (hp : p < 99584) (hi : i < 386) (hlo : R.r i ≤ p) (hhi : p < R.r i + 128 * R.m i)
    (hlast : ∀ k, i < k → k < 386 → ¬ (R.r k ≤ p ∧ p < R.r k + 128 * R.m k))
    (x : Vec Ideal S8320x4096 .bf16) (wg wu : Vec Ideal S1x256x4096x1152 .f32) (wd : Vec Ideal S1x256x1152x4096 .f32) (t : Fin 8320) (e : Fin 256) (d : Fin 4096) (γ : EReal)
    (hX : ∀ (σ : ℕ) (ρ : Fin 512) (κ : Fin 1024) (q : Fin 4096), σ < 4 → p = R.r i + ρ.val → q.val = 1024 * σ + κ.val → R.X (8 * i + σ) (ValueIdx.ix2 ρ κ) = x (ValueIdx.ix2 t q))
    (hG : ∀ (σ : ℕ) (κ : Fin 1024) (f : Fin 1152) (q : Fin 4096), σ < 4 → q.val = 1024 * σ + κ.val → R.Wg (8 * i + σ) (ValueIdx.ix4 0 0 κ f) = wg (ValueIdx.ix4 0 e q f))
    (hU : ∀ (σ : ℕ) (κ : Fin 1024) (f : Fin 1152) (q : Fin 4096), σ < 4 → q.val = 1024 * σ + κ.val → R.Wu (8 * i + σ) (ValueIdx.ix4 0 0 κ f) = wu (ValueIdx.ix4 0 e q f))
    (hD : ∀ (n : ℕ) (δ : Fin 1024) (f : Fin 1152) (q : Fin 4096), n < 4 → q.val = 1024 * n + δ.val → R.Wd (8 * i + 4 + n) (ValueIdx.ix4 0 0 f δ) = wd (ValueIdx.ix4 0 e f q))
    (hγ : ∀ (n : ℕ) (ρ : Fin 512) (l : Fin 128), n < 4 → p = R.r i + ρ.val → R.G (8 * i + 4 + n) (ValueIdx.ix2 ρ l) = γ) :
    glue (fun n => R.y n 386) (ValueIdx.ix2 ⟨p, hp⟩ d) = expert x wg wu wd t e d * γ := by
  refine (glue_at R 386 i hi _ hlo hhi hlast).trans ?_
  have h4 := R.hm i
  have hd := d.isLt
  have hn : d.val / 1024 < 4 := by omega
  have hb : (p - R.r i) / 128 < 4 := by omega
  have hr : (p - R.r i) % 128 < 128 := Nat.mod_lt _ (by decide)
  have hq : d.val % 1024 < 1024 := Nat.mod_lt _ (by decide)
  have hpr : p = R.r i + (row512 ⟨(p - R.r i) / 128, hb⟩ ⟨(p - R.r i) % 128, hr⟩).val := by
    show p = R.r i + (128 * ((p - R.r i) / 128) + (p - R.r i) % 128); omega
  generalize hρ : row512 ⟨(p - R.r i) / 128, hb⟩ ⟨(p - R.r i) % 128, hr⟩ = ρ at hpr
  refine (tileAt_eq (R.tile i (d.val / 1024)) (p - R.r i) d.val ((p - R.r i) / 128) ⟨(p - R.r i) % 128, hr⟩ ⟨d.val % 1024, hq⟩ (by show p - R.r i = 128 * ((p - R.r i) / 128) + (p - R.r i) % 128; omega) rfl).trans ?_
  refine (tile_at R i (d.val / 1024) ⟨(p - R.r i) / 128, hb⟩ ⟨(p - R.r i) % 128, hr⟩ ⟨d.val % 1024, hq⟩).trans ?_
  rw [hρ]
  have cg : ∀ f, chunks R.X R.Wg i ρ f = proj x wg t e f := fun f =>
    sum_four _ (fun q => x (ValueIdx.ix2 t q) * wg (ValueIdx.ix4 0 e q f)) fun σ κ q hσ hq => congrArg₂ (· * ·) (hX σ ρ κ q hσ hpr hq) (hG σ κ f q hσ hq)
  have cu : ∀ f, chunks R.X R.Wu i ρ f = proj x wu t e f := fun f =>
    sum_four _ (fun q => x (ValueIdx.ix2 t q) * wu (ValueIdx.ix4 0 e q f)) fun σ κ q hσ hq => congrArg₂ (· * ·) (hX σ ρ κ q hσ hpr hq) (hU σ κ f q hσ hq)
  refine congrArg₂ (· * ·) (Finset.sum_congr rfl fun f _ => ?_) (hγ _ ρ _ hn hpr)
  rw [cg, cu, hD _ ⟨d.val % 1024, hq⟩ f d hn (by show d.val = 1024 * (d.val / 1024) + d.val % 1024; omega)]

section
variable {F : FTy → Type} [FloatOps F]
variable (m : (ℓ : Loc nD τ sig) → Buf (Elt F) ℓ) (hpf : Tab (pf0 m))

/-- An item's rows, when it has any. -/
theorem seg_of (c : Dev nD) {i : ℕ} (hi : i < total m 0) :
    (rd (V0 m) (pf0 m) hpf c).r i = segLo (rowsOf m 0) i ∧ (rd (V0 m) (pf0 m) hpf c).m i = segNum (rowsOf m 0) i := by
  have hfit : total m 0 ≤ 386 := items_fit _ (rows_le m 0)
  have hs := item_self m 0 hi
  constructor
  · rw [rd_r m hpf c i (by omega)]; simp only [baseAt, partAt, expAt, hs]
  · rw [rd_m m hpf c i (by omega)]; unfold blocksAt; rw [if_pos hi]; simp only [sizeAt, partAt, expAt, hs]

/-- The item that holds a place's row. -/
theorem item_for (c : Dev nD) (j : Fin 66560) : ∃ i, i < 386 ∧ (rd (V0 m) (pf0 m) hpf c).r i ≤ dest m 0 j
    ∧ dest m 0 j < (rd (V0 m) (pf0 m) hpf c).r i + 128 * (rd (V0 m) (pf0 m) hpf c).m i
    ∧ (∀ k, i < k → k < 386 → ¬ ((rd (V0 m) (pf0 m) hpf c).r k ≤ dest m 0 j ∧ dest m 0 j < (rd (V0 m) (pf0 m) hpf c).r k + 128 * (rd (V0 m) (pf0 m) hpf c).m k))
    ∧ (tabAt (F := F) (pf0 m 0) i).toNat = expP m 0 j := by
  obtain ⟨-, ho⟩ := place_in m 0 j
  obtain ⟨hi, hx, hlo, hhi⟩ := seg_has (rowsOf m 0) (expP_lt m 0 j) ho
  generalize upTo (itemsOf (rowsOf m 0)) (expP m 0 j) + rankP m 0 j / 512 = i at hi hx hlo hhi
  have hfit : total m 0 ≤ 386 := items_fit _ (rows_le m 0)
  obtain ⟨hr, hm⟩ := seg_of m hpf c (i := i) hi
  refine ⟨i, lt_of_lt_of_le hi hfit, ?_, ?_, fun k h1 h2 hc => ?_, ?_⟩
  · rw [hr]; exact hlo
  · rw [hr, hm]; exact hhi
  · by_cases hk : k < total m 0
    · obtain ⟨hr', hm'⟩ := seg_of m hpf c (i := k) hk
      rw [hr', hm'] at hc
      exact absurd (seg_unique (rowsOf m 0) (rows_le m 0) hi hk hlo hhi hc.1 hc.2) (Nat.ne_of_lt h1)
    · have hz : (rd (V0 m) (pf0 m) hpf c).m k = 0 := by
        rw [rd_m m hpf c k h2]; unfold blocksAt; exact if_neg hk
      rw [hz] at hc
      exact absurd (hc.1.trans_lt hc.2) (lt_irrefl _)
  · rw [tab_e m i (lt_of_lt_of_le hi hfit)]
    unfold expAt
    rw [item_self m 0 (i := i) hi]
    exact hx

end

/-- The region's result at a token's padded row. -/
theorem glue_dest (j : Fin 66560) (t : Fin 8320) (k : Fin 8) (h : pick m 0 j = flat t k) (d : Fin 4096) (e : Fin 256) (he : expC m 0 (flat t k).val = e.val) :
    glue (fun n => (rd (V0 m) (pf0 m) hpf 0).y n 386) (ValueIdx.ix2 ⟨dest m 0 j, dest_lt' m 0 j⟩ d)
      = expert (m (0, Proc.devRef .tc main_arg0)) (m (0, Proc.devRef .tc main_arg3)) (m (0, Proc.devRef .tc main_arg4)) (m (0, Proc.devRef .tc main_arg5)) t e d
        * (V0 m 0 (Proc.devRef .tc main_v9) : Vec Ideal S8320x8 .f32) (ValueIdx.ix2 t k) := by
  obtain ⟨i, hi, hlo, hhi, hlast, hx⟩ := item_for m hpf 0 j
  have hg : (tabAt (F := Ideal) (pf0 m 0) i).toNat = e.val := by rw [hx, ← he, ← h]
  have h0 : 0 < (rd (V0 m) (pf0 m) hpf 0).m i := by
    rcases Nat.eq_zero_or_pos ((rd (V0 m) (pf0 m) hpf 0).m i) with hz | hz
    · rw [hz] at hhi; exact absurd (hlo.trans_lt hhi) (lt_irrefl _)
    · exact hz
  have ht : (V0 m 0 (Proc.devRef .tc main_v65) : IVec S99584 32) (ValueIdx.ix1 ⟨dest m 0 j, dest_lt' m 0 j⟩) = BitVec.ofNat 32 t.val := by
    rw [word_v65, h]
    refine congrArg (BitVec.ofNat 32) ?_
    show (8 * t.val + k.val) / 8 = t.val
    have := k.isLt; omega
  refine glue_expert (rd (V0 m) (pf0 m) hpf 0) i (dest m 0 j) (dest_lt' m 0 j) hi hlo hhi hlast _ _ _ _ t e d _ (fun σ ρ κ q hσ hp hq => ?_) (fun σ κ f q hσ hq => ?_)
    (fun σ κ f q hσ hq => ?_) (fun n δ f q hn hq => ?_) (fun n ρ l hn hp => ?_)
  · exact (X_at (V0 m) (pf0 m) hpf 0 hi hσ h0 ρ κ ⟨dest m 0 j, dest_lt' m 0 j⟩ q hp hq).trans (rows_at m _ q t ht)
  · exact (Wg_at (V0 m) (pf0 m) hpf 0 hi hσ h0 κ f e q hg hq).trans (congrFun (kept m 0).2.2.2.1 _)
  · exact (Wu_at (V0 m) (pf0 m) hpf 0 hi hσ h0 κ f e q hg hq).trans (congrFun (kept m 0).2.2.2.2.1 _)
  · exact (Wd_at (V0 m) (pf0 m) hpf 0 hi hn h0 f δ e q hg hq).trans (congrFun (kept m 0).2.2.2.2.2 _)
  · rw [Nat.add_assoc]
    exact (G_at (V0 m) (pf0 m) hpf 0 hi (by omega) ρ l ⟨dest m 0 j, dest_lt' m 0 j⟩ hp).trans ((gates_at m _ _).trans (gate_v81 m 0 j t k h))

end Cert.KernelIdeal.Hand
-- ==== Proof.Val.Gates.lean ====
/-
  The chosen experts and their gates, as functions of the router's scores.
-/
module

public import proofs.«01_k».proof.Proof.Val.Post

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Routing

section
variable {F : FTy → Type} [FloatOps F]

/-- The chosen experts: those of the eight greatest biased scores. -/
def chosen (s : Vec F S8320x256 .f32) (b : Vec F S256 .f32) : IVec S8320x8 32 :=
  (Host.topK S8320x8 1 (FloatOps.cmpfTotal .gt) (addf s (broadcastInDim S8320x256 ![0, 1] bcast_S1x256_S8320x256_0_1 (broadcastInDim S1x256 ![1] bcast_S256_S1x256_1 b))) sliceFits_S8320x256_S8320x8).2

/-- The scores of the chosen experts. -/
def picked (s : Vec F S8320x256 .f32) (v : IVec S8320x8 32) : Vec F S8320x8 .f32 :=
  select (Host.reduce IntOp.andi
      (andi (cmpi .sge (pickCol v) (broadcastInDim S8320x8x1 ![] bcast_S_S8320x8x1 (constantI S_ 32 0#32)))
        (cmpi .sle (pickCol v) (broadcastInDim S8320x8x1 ![0, 1, 2] bcast_S1x1x1_S8320x8x1_0_1_2 (broadcastInDim S1x1x1 ![2] bcast_S1_S1x1x1_2 (constantI S1 32 255#32)))))
      (constantI S_ 1 1#1) reducesTo_S8320x8x1_S8320x8_d2 h_S_)
    (Host.gather gather_S8320x256_S8320x8x1_S8320x8_n_1_0_0_1_2_11 s (pickCol v))
    (broadcastInDim S8320x8 ![] bcast_S_S8320x8 (constant S_ .f32 0x7FC00000#32))

/-- The gates: the scores over their sum, scaled. -/
def gateOf (p : Vec F S8320x8 .f32) : Vec F S8320x8 .f32 :=
  mulf (Host.divf p (broadcastInDim S8320x8 ![0, 1] bcast_S8320x1_S8320x8_0_1
      (broadcastInDim S8320x1 ![0] bcast_S8320_S8320x1_0 (Host.reduceAdd p (constant S_ .f32 0x00000000#32) reducesTo_S8320x8_S8320_d1 h_S_))))
    (broadcastInDim S8320x8 ![] bcast_S_S8320x8 (constant S_ .f32 0x40200000#32))

variable (m : (ℓ : Loc nD τ sig) → Buf (Elt F) ℓ)

/-- The chosen experts, of the arguments. -/
theorem chosen_eq (c : Dev nD) : V0 m c (Proc.devRef .tc main_indices) = chosen (m (c, Proc.devRef .tc main_arg1)) (m (c, Proc.devRef .tc main_arg2)) := by
  rw [eq_indices, eq_v2]
  rfl

/-- The gates, of the arguments. -/
theorem gates_eq (c : Dev nD) : V0 m c (Proc.devRef .tc main_v9)
    = gateOf (picked (m (c, Proc.devRef .tc main_arg1)) (chosen (m (c, Proc.devRef .tc main_arg1)) (m (c, Proc.devRef .tc main_arg2)))) := by
  rw [eq_v9, eq_v3, chosen_eq, (kept m c).2.1]
  rfl

/-- The expert of a choice, by the chosen experts. -/
theorem chosen_word (c : Dev nD) (t : Fin 8320) (k : Fin 8) :
    chosen (m (c, Proc.devRef .tc main_arg1)) (m (c, Proc.devRef .tc main_arg2)) (ValueIdx.ix2 t k) = BitVec.ofNat 32 (expC m c (flat t k).val) := by
  rw [← word_v10, eq_v10, cast_flat, ← chosen_eq, eq_indices]

end

end Cert.KernelIdeal.Hand
-- ==== Proof.Val.Ref.lean ====
/-
  The reference, entry by entry.
-/
module

public import proofs.«01_k».proof.Proof.Gen.ReferenceIdeal
public import proofs.«01_k».proof.Proof.Gen.ReferenceIdeal.Run
public import proofs.«01_k».proof.Proof.Val.Gates
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.ShloMosaic.Routing
open scoped BigOperators

/-- The pairs a weight is picked by: layer zero, and the expert. -/
def pairs (v : IVec S8320x8 32) : IVec S8320x8x2 32 :=
  concatenate S8320x8x2 2 [⟨S8320x8x1, (broadcastInDim S8320x8x1 ![0, 1] bcast_S8320x8_S8320x8x1_0_1 (id (broadcastInDim S8320x8 ![] bcast_S_S8320x8 (constantI S_ 32 0#32))))⟩,
    ⟨S8320x8x1, (broadcastInDim S8320x8x1 ![0, 1] bcast_S8320x8_S8320x8x1_0_1 (select (cmpi .slt v (broadcastInDim S8320x8 ![] bcast_S_S8320x8 (constantI S_ 32 0#32)))
      (addi v (broadcastInDim S8320x8 ![] bcast_S_S8320x8 (constantI S_ 32 256#32))) v))⟩] concatenates_S8320x8x1_S8320x8x1_S8320x8x2_d2

/-- The layer of a pair. -/
theorem pairs_zero (v : IVec S8320x8 32) (t : Fin 8320) (k : Fin 8) : pairs v (ValueIdx.ix3 t k (0 : Fin 2)) = 0#32 := by
  pointwise [pairs]
  rfl

/-- The expert of a pair. -/
theorem pairs_one (v : IVec S8320x8 32) (t : Fin 8320) (k : Fin 8) (h : (v (ValueIdx.ix2 t k)).toNat < 256) : pairs v (ValueIdx.ix3 t k (1 : Fin 2)) = v (ValueIdx.ix2 t k) := by
  pointwise [pairs]
  exact wrap_of_lt (v (ValueIdx.ix2 t k)) _ (by omega)

/-- The gate and up projections, as sums. -/
theorem dot_up (x : Vec Ideal S8320x4096 .f32) (w : Vec Ideal S8320x8x4096x1152 .f32) (t : Fin 8320) (k : Fin 8) (f : Fin 1152) :
    Host.dotGeneral (F := Ideal) (φ₁ := .f32) (φ₂ := .f32) dot_S8320x4096_S8320x8x4096x1152_S8320x8x1152_1_2_n_13_0_0 none x w (ValueIdx.ix3 t k f) = ∑ q : Fin 4096, x (ValueIdx.ix2 t q) * w (ValueIdx.ix4 t k q f) := by
  pointwise []
  rfl

/-- The down projection, as a sum. -/
theorem dot_down (x : Vec Ideal S8320x8x1152 .f32) (w : Vec Ideal S8320x8x1152x4096 .f32) (t : Fin 8320) (k : Fin 8) (d : Fin 4096) :
    Host.dotGeneral (F := Ideal) (φ₁ := .f32) (φ₂ := .f32) dot_S8320x8x1152_S8320x8x1152x4096_S8320x8x4096_2_2_n_3_01_01 none x w (ValueIdx.ix3 t k d) = ∑ f : Fin 1152, x (ValueIdx.ix3 t k f) * w (ValueIdx.ix4 t k f d) := by
  pointwise []
  rfl

/-- The picked gate and up weights, entry by entry. -/
theorem gather_up {α : Type} (w : S1x256x4096x1152.Idx → α) (idx : IVec S8320x8x2 32) (t : Fin 8320) (k : Fin 8) (a : Fin 4096) (b : Fin 1152) (e : Fin 256)
    (h0 : idx (ValueIdx.ix3 t k (0 : Fin 2)) = 0#32) (h1 : idx (ValueIdx.ix3 t k (1 : Fin 2)) = BitVec.ofNat 32 e.val) :
    Host.gather gather_S1x256x4096x1152_S8320x8x2_S8320x8x4096x1152_23_01_n_n_01_2_1140961152 w idx (ValueIdx.ix4 t k a b) = w (ValueIdx.ix4 0 e a b) := by
  have he := e.isLt
  unfold Host.gather
  refine congrArg w (funext fun x => Fin.ext ?_)
  show gather_S1x256x4096x1152_S8320x8x2_S8320x8x4096x1152_23_01_n_n_01_2_1140961152.start (ValueIdx.ix4 t k a b) idx x + gather_S1x256x4096x1152_S8320x8x2_S8320x8x4096x1152_23_01_n_n_01_2_1140961152.batchCoord (ValueIdx.ix4 t k a b) x
    + gather_S1x256x4096x1152_S8320x8x2_S8320x8x4096x1152_23_01_n_n_01_2_1140961152.offCoord (ValueIdx.ix4 t k a b) x = _
  rw [GatherDims.batchCoord_eq_zero _ _ _ List.not_mem_nil, Nat.add_zero]
  have hs : ∀ (i : Fin 2) (hi : i.val < gather_S1x256x4096x1152_S8320x8x2_S8320x8x4096x1152_23_01_n_n_01_2_1140961152.startIndexMap.length), gather_S1x256x4096x1152_S8320x8x2_S8320x8x4096x1152_23_01_n_n_01_2_1140961152.siIdx (ValueIdx.ix4 t k a b) ⟨i.val, hi⟩ = ValueIdx.ix3 t k i := fun i hi => by
    funext y; refine Fin.ext ?_
    match y with
    | ⟨0, _⟩ => rfl
    | ⟨1, _⟩ => rfl
    | ⟨2, _⟩ => rfl
  match x with
  | ⟨0, _⟩ =>
    have hm : (0 : Fin 4) ∈ [(0 : Fin 4), 1] := by decide
    rw [GatherDims.offCoord_eq_zero _ _ _ (fun h => ((GatherDims.mem_sKept _ _).mp h).1 hm), Nat.add_zero]
    unfold GatherDims.start
    refine (dif_pos hm).trans ?_
    refine (congrArg (fun q => min (idx q).toInt.toNat (1 - 1)) (hs 0 (by decide))).trans ?_
    exact Nat.min_zero _
  | ⟨1, _⟩ =>
    have hm : (1 : Fin 4) ∈ [(0 : Fin 4), 1] := by decide
    rw [GatherDims.offCoord_eq_zero _ _ _ (fun h => ((GatherDims.mem_sKept _ _).mp h).1 hm), Nat.add_zero]
    unfold GatherDims.start
    refine (dif_pos hm).trans ?_
    refine (congrArg (fun q => min (idx q).toInt.toNat (256 - 1)) (hs 1 (by decide))).trans ?_
    show min (idx (ValueIdx.ix3 t k (1 : Fin 2))).toInt.toNat (256 - 1) = e.val
    rw [h1, KernelIdeal.Hand.toInt_word (by omega)]
    show min e.val (256 - 1) = e.val
    omega
  | ⟨2, _⟩ =>
    have hn : (2 : Fin 4) ∉ [(0 : Fin 4), 1] := by decide
    have hk : (2 : Fin 4) ∈ gather_S1x256x4096x1152_S8320x8x2_S8320x8x4096x1152_23_01_n_n_01_2_1140961152.sKept := (GatherDims.mem_sKept _ _).mpr ⟨hn, List.not_mem_nil⟩
    unfold GatherDims.start GatherDims.offCoord
    refine (congrArg₂ (· + ·) (dif_neg hn) (dif_pos hk)).trans ?_
    exact Nat.zero_add _
  | ⟨3, _⟩ =>
    have hn : (3 : Fin 4) ∉ [(0 : Fin 4), 1] := by decide
    have hk : (3 : Fin 4) ∈ gather_S1x256x4096x1152_S8320x8x2_S8320x8x4096x1152_23_01_n_n_01_2_1140961152.sKept := (GatherDims.mem_sKept _ _).mpr ⟨hn, List.not_mem_nil⟩
    unfold GatherDims.start GatherDims.offCoord
    refine (congrArg₂ (· + ·) (dif_neg hn) (dif_pos hk)).trans ?_
    exact Nat.zero_add _

/-- The picked down weights, entry by entry. -/
theorem gather_down {α : Type} (w : S1x256x1152x4096.Idx → α) (idx : IVec S8320x8x2 32) (t : Fin 8320) (k : Fin 8) (a : Fin 1152) (b : Fin 4096) (e : Fin 256)
    (h0 : idx (ValueIdx.ix3 t k (0 : Fin 2)) = 0#32) (h1 : idx (ValueIdx.ix3 t k (1 : Fin 2)) = BitVec.ofNat 32 e.val) :
    Host.gather gather_S1x256x1152x4096_S8320x8x2_S8320x8x1152x4096_23_01_n_n_01_2_1111524096 w idx (ValueIdx.ix4 t k a b) = w (ValueIdx.ix4 0 e a b) := by
  have he := e.isLt
  unfold Host.gather
  refine congrArg w (funext fun x => Fin.ext ?_)
  show gather_S1x256x1152x4096_S8320x8x2_S8320x8x1152x4096_23_01_n_n_01_2_1111524096.start (ValueIdx.ix4 t k a b) idx x + gather_S1x256x1152x4096_S8320x8x2_S8320x8x1152x4096_23_01_n_n_01_2_1111524096.batchCoord (ValueIdx.ix4 t k a b) x
    + gather_S1x256x1152x4096_S8320x8x2_S8320x8x1152x4096_23_01_n_n_01_2_1111524096.offCoord (ValueIdx.ix4 t k a b) x = _
  rw [GatherDims.batchCoord_eq_zero _ _ _ List.not_mem_nil, Nat.add_zero]
  have hs : ∀ (i : Fin 2) (hi : i.val < gather_S1x256x1152x4096_S8320x8x2_S8320x8x1152x4096_23_01_n_n_01_2_1111524096.startIndexMap.length), gather_S1x256x1152x4096_S8320x8x2_S8320x8x1152x4096_23_01_n_n_01_2_1111524096.siIdx (ValueIdx.ix4 t k a b) ⟨i.val, hi⟩ = ValueIdx.ix3 t k i := fun i hi => by
    funext y; refine Fin.ext ?_
    match y with
    | ⟨0, _⟩ => rfl
    | ⟨1, _⟩ => rfl
    | ⟨2, _⟩ => rfl
  match x with
  | ⟨0, _⟩ =>
    have hm : (0 : Fin 4) ∈ [(0 : Fin 4), 1] := by decide
    rw [GatherDims.offCoord_eq_zero _ _ _ (fun h => ((GatherDims.mem_sKept _ _).mp h).1 hm), Nat.add_zero]
    unfold GatherDims.start
    refine (dif_pos hm).trans ?_
    refine (congrArg (fun q => min (idx q).toInt.toNat (1 - 1)) (hs 0 (by decide))).trans ?_
    exact Nat.min_zero _
  | ⟨1, _⟩ =>
    have hm : (1 : Fin 4) ∈ [(0 : Fin 4), 1] := by decide
    rw [GatherDims.offCoord_eq_zero _ _ _ (fun h => ((GatherDims.mem_sKept _ _).mp h).1 hm), Nat.add_zero]
    unfold GatherDims.start
    refine (dif_pos hm).trans ?_
    refine (congrArg (fun q => min (idx q).toInt.toNat (256 - 1)) (hs 1 (by decide))).trans ?_
    show min (idx (ValueIdx.ix3 t k (1 : Fin 2))).toInt.toNat (256 - 1) = e.val
    rw [h1, KernelIdeal.Hand.toInt_word (by omega)]
    show min e.val (256 - 1) = e.val
    omega
  | ⟨2, _⟩ =>
    have hn : (2 : Fin 4) ∉ [(0 : Fin 4), 1] := by decide
    have hk : (2 : Fin 4) ∈ gather_S1x256x1152x4096_S8320x8x2_S8320x8x1152x4096_23_01_n_n_01_2_1111524096.sKept := (GatherDims.mem_sKept _ _).mpr ⟨hn, List.not_mem_nil⟩
    unfold GatherDims.start GatherDims.offCoord
    refine (congrArg₂ (· + ·) (dif_neg hn) (dif_pos hk)).trans ?_
    exact Nat.zero_add _
  | ⟨3, _⟩ =>
    have hn : (3 : Fin 4) ∉ [(0 : Fin 4), 1] := by decide
    have hk : (3 : Fin 4) ∈ gather_S1x256x1152x4096_S8320x8x2_S8320x8x1152x4096_23_01_n_n_01_2_1111524096.sKept := (GatherDims.mem_sKept _ _).mpr ⟨hn, List.not_mem_nil⟩
    unfold GatherDims.start GatherDims.offCoord
    refine (congrArg₂ (· + ·) (dif_neg hn) (dif_pos hk)).trans ?_
    exact Nat.zero_add _

/-- A picked projection of the rows. -/
def up (x : Vec Ideal S8320x4096 .bf16) (w : Vec Ideal S1x256x4096x1152 .f32) (v : IVec S8320x8 32) : Vec Ideal S8320x8x1152 .f32 :=
  Host.dotGeneral (F := Ideal) (φ₁ := .f32) (φ₂ := .f32) dot_S8320x4096_S8320x8x4096x1152_S8320x8x1152_1_2_n_13_0_0 none (extf .f32 x bitsLt_bf16_f32)
    (Host.gather gather_S1x256x4096x1152_S8320x8x2_S8320x8x4096x1152_23_01_n_n_01_2_1140961152 w (pairs v))

/-- A picked projection, entry by entry. -/
theorem up_at (x : Vec Ideal S8320x4096 .bf16) (w : Vec Ideal S1x256x4096x1152 .f32) (v : IVec S8320x8 32) (t : Fin 8320) (k : Fin 8) (f : Fin 1152) (e : Fin 256)
    (h : v (ValueIdx.ix2 t k) = BitVec.ofNat 32 e.val) : up x w v (ValueIdx.ix3 t k f) = KernelIdeal.Hand.proj x w t e f := by
  have he := e.isLt
  have hv : (v (ValueIdx.ix2 t k)).toNat < 256 := by rw [h, BitVec.toNat_ofNat]; omega
  unfold up
  rw [dot_up]
  refine Finset.sum_congr rfl fun q _ => ?_
  rw [gather_up w _ t k q f e (pairs_zero v t k) ((pairs_one v t k hv).trans h)]
  rfl

/-- The gated activations. -/
def act {F : FTy → Type} [FloatOps F] (g u : Vec F S8320x8x1152 .f32) : Vec F S8320x8x1152 .f32 :=
  mulf (mulf g (Host.divf (broadcastInDim S8320x8x1152 ![] bcast_S_S8320x8x1152 (constant S_ .f32 0x3F800000#32))
    (addf (broadcastInDim S8320x8x1152 ![] bcast_S_S8320x8x1152 (constant S_ .f32 0x3F800000#32)) (Host.exp (Host.negf g))))) u

/-- An activation, entry by entry. -/
theorem act_at (g u : Vec Ideal S8320x8x1152 .f32) (i : S8320x8x1152.Idx) :
    act (F := Ideal) g u i = g i * Ideal.logistic (g i) * u i := by
  pointwise [act]
  rfl

/-- The experts' outputs times their gates. -/
def terms (x : Vec Ideal S8320x4096 .bf16) (wg wu : Vec Ideal S1x256x4096x1152 .f32) (wd : Vec Ideal S1x256x1152x4096 .f32) (v : IVec S8320x8 32) (γ : Vec Ideal S8320x8 .f32) : Vec Ideal S8320x8x4096 .f32 :=
  mulf (Host.dotGeneral (F := Ideal) (φ₁ := .f32) (φ₂ := .f32) dot_S8320x8x1152_S8320x8x1152x4096_S8320x8x4096_2_2_n_3_01_01 none
      (act (up x wg v) (up x wu v))
      (Host.gather gather_S1x256x1152x4096_S8320x8x2_S8320x8x1152x4096_23_01_n_n_01_2_1111524096 wd (pairs v)))
    (broadcastInDim S8320x8x4096 ![0, 1, 2] bcast_S8320x8x1_S8320x8x4096_0_1_2 (broadcastInDim S8320x8x1 ![0, 1] bcast_S8320x8_S8320x8x1_0_1 γ))

/-- A term, entry by entry. -/
theorem terms_at (x : Vec Ideal S8320x4096 .bf16) (wg wu : Vec Ideal S1x256x4096x1152 .f32) (wd : Vec Ideal S1x256x1152x4096 .f32) (v : IVec S8320x8 32) (γ : Vec Ideal S8320x8 .f32)
    (t : Fin 8320) (k : Fin 8) (d : Fin 4096) (e : Fin 256) (h : v (ValueIdx.ix2 t k) = BitVec.ofNat 32 e.val) :
    terms x wg wu wd v γ (ValueIdx.ix3 t k d) = KernelIdeal.Hand.expert x wg wu wd t e d * γ (ValueIdx.ix2 t k) := by
  have he := e.isLt
  have hv : (v (ValueIdx.ix2 t k)).toNat < 256 := by rw [h, BitVec.toNat_ofNat]; omega
  have hb : broadcastInDim S8320x8x4096 ![0, 1, 2] bcast_S8320x8x1_S8320x8x4096_0_1_2 (broadcastInDim S8320x8x1 ![0, 1] bcast_S8320x8_S8320x8x1_0_1 γ) (ValueIdx.ix3 t k d)
      = γ (ValueIdx.ix2 t k) := by
    pointwise []
    rfl
  unfold terms
  refine congrArg₂ (· * ·) ?_ hb
  rw [dot_down]
  refine Finset.sum_congr rfl fun f _ => ?_
  rw [act_at, up_at x wg v t k f e h, up_at x wu v t k f e h, gather_down wd _ t k f d e (pairs_zero v t k) ((pairs_one v t k hv).trans h)]

/-- What the reference leaves: the terms added over the choices. -/
theorem res_eq (m : (ℓ : Loc nD τ sig) → Buf (Elt Ideal) ℓ) (c : Dev nD) : Value.res_main_v52 m c
    = Host.reduceAdd (F := Ideal) (terms (m ((c.tc : Thread nD τ).loc main_arg0)) (m ((c.tc : Thread nD τ).loc main_arg3)) (m ((c.tc : Thread nD τ).loc main_arg4)) (m ((c.tc : Thread nD τ).loc main_arg5))
        (KernelIdeal.Hand.chosen (F := Ideal) (m ((c.tc : Thread nD τ).loc main_arg1)) (m ((c.tc : Thread nD τ).loc main_arg2)))
        (KernelIdeal.Hand.gateOf (KernelIdeal.Hand.picked (m ((c.tc : Thread nD τ).loc main_arg1))
          (KernelIdeal.Hand.chosen (F := Ideal) (m ((c.tc : Thread nD τ).loc main_arg1)) (m ((c.tc : Thread nD τ).loc main_arg2))))))
      (constant S_ .f32 0x00000000#32) reducesTo_S8320x8x4096_S8320x4096_d1 h_S_ := by
  unfold Value.res_main_v52
  rfl

end Cert.ReferenceIdeal.Hand
-- ==== Proof.Val.Out.lean ====
/-
  What the program leaves: the experts' outputs times their gates, added over the choices.
-/
module

public import proofs.«01_k».proof.Proof.Val.Ref

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Routing

section
variable {F : FTy → Type} [FloatOps F]
variable (m : (ℓ : Loc nD τ sig) → Buf (Elt F) ℓ) (hpf : Tab (pf0 m))

/-- A choice's padded row fits. -/
theorem back_lt (c : Dev nD) (t : Fin 8320) (k : Fin 8) : ((V0 m c (Proc.devRef .tc main_v90) : IVec S8320x8 32) (ValueIdx.ix2 t k)).toNat < 99584 := by
  obtain ⟨j, hj⟩ := pick_surj m c (flat t k)
  have := dest_lt' m c j
  rw [word_v90 m c j t k hj, BitVec.toNat_ofNat]
  omega

/-- What the program leaves, of the region's result. -/
theorem out_of (c : Dev nD) :
    StableHlo.after (post (F := F)).flatten (Pipeline.withArrays spec0 c (Pipeline.withR (V0 m c) {main_v159} c (left (V0 m) (pf0 m) hpf c))
      fun w => (dat0 (V0 m) (pf0 m) hpf c).arrAt w grid0.N) (Proc.devRef .tc main_v161)
      = Host.reduceAdd (takeBack (glue (fun n => (rd (V0 m) (pf0 m) hpf c).y n 386)) (V0 m c (Proc.devRef .tc main_v90))) (constant S_ .f32 0x00000000#32) reducesTo_S8320x8x4096_S8320x4096_d1 h_S_ := by
  rw [eq_v161]
  have h1 : Pipeline.withArrays spec0 c (Pipeline.withR (V0 m c) {main_v159} c (left (V0 m) (pf0 m) hpf c))
      (fun w => (dat0 (V0 m) (pf0 m) hpf c).arrAt w grid0.N) (Proc.devRef .tc main_v159) = glue (fun n => (rd (V0 m) (pf0 m) hpf c).y n 386) := by
    rw [Pipeline.withArrays_of_ne spec0 c _ _ main_v159 (by decide +kernel), Pipeline.withR_of_mem _ _ c _ main_v159 (by decide +kernel)]
    exact dif_pos rfl
  have h2 : Pipeline.withArrays spec0 c (Pipeline.withR (V0 m c) {main_v159} c (left (V0 m) (pf0 m) hpf c))
      (fun w => (dat0 (V0 m) (pf0 m) hpf c).arrAt w grid0.N) (Proc.devRef .tc main_v90) = V0 m c (Proc.devRef .tc main_v90) := by
    rw [Pipeline.withArrays_of_ne spec0 c _ _ main_v90 (by decide +kernel), Pipeline.withR_of_not_mem _ _ c _ main_v90 (by decide +kernel)]
  rw [h1, h2]

end

variable (m : (ℓ : Loc nD τ sig) → Buf (Elt Ideal) ℓ) (hpf : Tab (pf0 m))

/-- The results' rows taken back are the reference's terms. -/
theorem back_terms : takeBack (F := Ideal) (glue (fun n => (rd (V0 m) (pf0 m) hpf 0).y n 386)) (V0 m 0 (Proc.devRef .tc main_v90))
    = ReferenceIdeal.Hand.terms (m (0, Proc.devRef .tc main_arg0)) (m (0, Proc.devRef .tc main_arg3)) (m (0, Proc.devRef .tc main_arg4)) (m (0, Proc.devRef .tc main_arg5))
        (chosen (F := Ideal) (m (0, Proc.devRef .tc main_arg1)) (m (0, Proc.devRef .tc main_arg2)))
        (gateOf (F := Ideal) (picked (m (0, Proc.devRef .tc main_arg1)) (chosen (F := Ideal) (m (0, Proc.devRef .tc main_arg1)) (m (0, Proc.devRef .tc main_arg2))))) := by
  funext i
  obtain ⟨t, k, d, rfl⟩ : ∃ (t : Fin 8320) (k : Fin 8) (d : Fin 4096), i = ValueIdx.ix3 t k d := ⟨i 0, i 1, i 2, ValueIdx.eq_ix3 i⟩
  obtain ⟨j, hj⟩ := pick_surj m 0 (flat t k)
  refine (takeBack_at (F := Ideal) _ _ (back_lt m 0) t k d ⟨dest m 0 j, dest_lt' m 0 j⟩ (word_v90 m 0 j t k hj)).trans ?_
  refine (glue_dest m hpf j t k hj d ⟨expC m 0 (flat t k).val, expC_lt m 0 _⟩ rfl).trans ?_
  refine Eq.trans ?_ (ReferenceIdeal.Hand.terms_at _ _ _ _ _ _ t k d ⟨expC m 0 (flat t k).val, expC_lt m 0 _⟩ (chosen_word m 0 t k)).symm
  exact congrArg _ (congrFun (gates_eq m 0) _)

include hpf in
/-- The program runs, its result is the reference's sum of terms, its arguments end unchanged. -/
theorem value_of (ρ : Dev nD → PrngReg) :
    θ_run (defs (F := Ideal)) (onTc (τ := τ) (main (F := Ideal))) ⟨m, fun _ => 0, ρ⟩ (fun r => ∀ c : Dev nD,
      r.2.mem ((c.tc : Thread nD τ).loc main_v161) = Host.reduceAdd (F := Ideal)
        (ReferenceIdeal.Hand.terms (m ((c.tc : Thread nD τ).loc main_arg0)) (m ((c.tc : Thread nD τ).loc main_arg3)) (m ((c.tc : Thread nD τ).loc main_arg4)) (m ((c.tc : Thread nD τ).loc main_arg5))
          (chosen (F := Ideal) (m ((c.tc : Thread nD τ).loc main_arg1)) (m ((c.tc : Thread nD τ).loc main_arg2)))
          (gateOf (F := Ideal) (picked (m ((c.tc : Thread nD τ).loc main_arg1)) (chosen (F := Ideal) (m ((c.tc : Thread nD τ).loc main_arg1)) (m ((c.tc : Thread nD τ).loc main_arg2))))))
        (constant S_ .f32 0x00000000#32) reducesTo_S8320x8x4096_S8320x4096_d1 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run (defs (F := Ideal)) _ _).mono (fun r h => ?_) (run_main m hpf ρ)
  intro c
  obtain ⟨k0, k1, k2, k3, k4, k5⟩ := kept m c
  obtain ⟨ha, hr⟩ := h.1 c
  refine ⟨?_, ?_, ?_, ?_, ?_, ?_, ?_⟩
  · have hc : c = 0 := Subsingleton.elim (α := Fin 1) _ _
    subst hc
    refine (hr main_v161 (by decide +kernel)).trans ((out_of m hpf 0).trans ?_)
    rw [back_terms m hpf]
  · exact (hr main_arg0 (by decide +kernel)).trans ((kept_all m hpf c main_arg0 (by decide +kernel) (by decide +kernel) (by decide +kernel)).trans k0)
  · exact (hr main_arg1 (by decide +kernel)).trans ((kept_all m hpf c main_arg1 (by decide +kernel) (by decide +kernel) (by decide +kernel)).trans k1)
  · exact (hr main_arg2 (by decide +kernel)).trans ((kept_all m hpf c main_arg2 (by decide +kernel) (by decide +kernel) (by decide +kernel)).trans k2)
  · exact (ha 2).trans (((dat0 (V0 m) (pf0 m) hpf c).arrAt_in 2 rfl _).trans ((arr_at m hpf c 2).trans k3))
  · exact (ha 3).trans (((dat0 (V0 m) (pf0 m) hpf c).arrAt_in 3 rfl _).trans ((arr_at m hpf c 3).trans k4))
  · exact (ha 4).trans (((dat0 (V0 m) (pf0 m) hpf c).arrAt_in 4 rfl _).trans ((arr_at m hpf c 4).trans k5))

end Cert.KernelIdeal.Hand
-- ==== Proof.lean ====
module

public import proofs.«01_k».proof.Proof.Gen.ReferenceIdeal
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.Shared
public import proofs.«01_k».proof.Proof.Gen.Shared.Frame
public import proofs.«01_k».proof.Proof.Gen.Shared.Value
public import proofs.«01_k».proof.Proof.Gen.SharedIdeal
public import proofs.«01_k».proof.Proof.Gen.SharedIdeal.Frame
public import proofs.«01_k».proof.Proof.Gen.SharedIdeal.Value
public import proofs.«01_k».proof.Proof.Gen.SharedRefIdeal
public import proofs.«01_k».proof.Proof.Gen.SharedRefIdeal.Run
public import proofs.«01_k».proof.Proof.Gen.Norm
public import proofs.«01_k».proof.Proof.Gen.Norm.Frame
public import proofs.«01_k».proof.Proof.Gen.Norm.Value
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.Conv
public import proofs.«01_k».proof.Proof.Gen.Conv.Frame
public import proofs.«01_k».proof.Proof.Gen.Conv.Value
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.Proj
public import proofs.«01_k».proof.Proof.Gen.Proj.Frame
public import proofs.«01_k».proof.Proof.Gen.Proj.Value
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Val.NormRef
public import proofs.«01_k».proof.Proof.Val.SharedRef
public import proofs.«01_k».proof.Proof.Val.ConvRef
public import proofs.«01_k».proof.Proof.Val.ProjRef
public import proofs.«01_k».proof.Proof.Frame
public import proofs.«01_k».proof.Proof.Tables
public import proofs.«01_k».proof.Proof.Same.All
public import proofs.«01_k».proof.Proof.Val.Out
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The idealized program's frame. -/
theorem frame_kernelIdeal : Cert.quiescent_KernelIdeal := fun m g _ =>
  Cert.KernelIdeal.Hand.frame_of m (Cert.KernelIdeal.Hand.tables_ok m) g

set_option maxHeartbeats 0 in
set_option backward.isDefEq.respectTransparency.types false in
set_option backward.isDefEq.respectTransparency false in
/-- The kernel's frame: the same run, at the bits. -/
theorem frame_kernel : Cert.quiescent_Kernel := by
  intro m g _
  rw [Cert.Same.main, Cert.Same.defs]
  exact Cert.KernelIdeal.Hand.frame_of (F := Bits) m (Cert.KernelIdeal.Hand.tables_ok m) g

/-- The reference's frame: it has no semaphore. -/
theorem frame_referenceIdeal : Cert.quiescent_ReferenceIdeal := fun m g _ =>
  (θ_run (Cert.ReferenceIdeal.defs (F := Ideal)) _ _).mono (fun r h => ⟨fun c => (h c).2, sem_eq_zero_of_no_sems rfl r.2⟩) (Cert.ReferenceIdeal.Value.run (F := Ideal) m g)

/-- The idealized kernel and the reference leave equal results. -/
theorem algebraic : Cert.algebraic_KernelIdeal_ReferenceIdeal := by
  intro m g m' g' _ h
  refine ⟨fun c => Cert.ReferenceIdeal.Value.res_main_v52 (F := Ideal) m' c, ?_, Cert.ReferenceIdeal.Value.run (F := Ideal) m' g'⟩
  refine (θ_run (Cert.KernelIdeal.defs (F := Ideal)) _ _).mono (fun r hr c => ⟨(hr c).1.trans ?_, (hr c).2⟩)
    (Cert.KernelIdeal.Hand.value_of m (Cert.KernelIdeal.Hand.tables_ok m) g)
  obtain ⟨h0, h1, h2, h3, h4, h5⟩ := h c
  refine Eq.trans ?_ (Cert.ReferenceIdeal.Hand.res_eq m' c).symm
  rw [h0, h1, h2, h3, h4, h5]

/-- The shared expert's frame claim. -/
theorem frame_shared : Cert.quiescent_Shared := fun m ρ _ => Cert.Shared.Gen.frame m ρ
/-- The idealized shared expert's frame claim. -/
theorem frame_sharedIdeal : Cert.quiescent_SharedIdeal := fun m ρ _ => Cert.SharedIdeal.Gen.frame m ρ
/-- The shared expert's reference's frame claim. -/
theorem frame_sharedRefIdeal : Cert.quiescent_SharedRefIdeal := fun m g _ =>
  (θ_run (Cert.SharedRefIdeal.defs (F := Ideal)) _ _).mono (fun r h => ⟨fun c => (h c).2, sem_eq_zero_of_no_sems rfl r.2⟩) (Cert.SharedRefIdeal.Value.run (F := Ideal) m g)

/-- The last norm's frame claim. -/
theorem frame_norm : Cert.quiescent_Norm := fun m ρ _ => Cert.Norm.Gen.frame m ρ
/-- The idealized last norm's frame claim. -/
theorem frame_normIdeal : Cert.quiescent_NormIdeal := fun m ρ _ => Cert.NormIdeal.Gen.frame m ρ
/-- The last norm's reference's frame claim. -/
theorem frame_normRefIdeal : Cert.quiescent_NormRefIdeal := fun m g _ =>
  (θ_run (Cert.NormRefIdeal.defs (F := Ideal)) _ _).mono (fun r h => ⟨fun c => (h c).2, sem_eq_zero_of_no_sems rfl r.2⟩) (Cert.NormRefIdeal.Value.run (F := Ideal) m g)

/-- The idealized shared expert and its reference leave equal results. -/
theorem algebraic_shared : Cert.algebraic_SharedIdeal_SharedRefIdeal := by
  intro m g m' g' _ h
  refine ⟨fun c => Cert.SharedRefIdeal.Hand.outF (F := Ideal) (m' ((c.tc : Thread Cert.SharedRefIdeal.nD Cert.SharedRefIdeal.τ).loc Cert.SharedRefIdeal.main_arg0)) (m' ((c.tc : Thread Cert.SharedRefIdeal.nD Cert.SharedRefIdeal.τ).loc Cert.SharedRefIdeal.main_arg1))
    (m' ((c.tc : Thread Cert.SharedRefIdeal.nD Cert.SharedRefIdeal.τ).loc Cert.SharedRefIdeal.main_arg2)) (m' ((c.tc : Thread Cert.SharedRefIdeal.nD Cert.SharedRefIdeal.τ).loc Cert.SharedRefIdeal.main_arg3)), ?_, Cert.SharedRefIdeal.Value.run (F := Ideal) m' g'⟩
  refine (θ_run (Cert.SharedIdeal.defs (F := Ideal)) _ _).mono (fun r hr c => ⟨(hr c).1.trans ?_, (hr c).2⟩) (Cert.SharedIdeal.Value.run_blocks m g)
  obtain ⟨h0, h1, h2, h3⟩ := h c
  refine Eq.trans ?_ (Cert.SharedRefIdeal.Hand.outF_at _ _ _ _).symm
  rw [h0, h1, h2, h3]
  exact Cert.SharedIdeal.Hand.left m c

/-- The idealized last norm and its reference leave equal results. -/
theorem algebraic_norm : Cert.algebraic_NormIdeal_NormRefIdeal := by
  intro m g m' g' _ h
  refine ⟨fun c => Cert.NormRefIdeal.Hand.normF (F := Ideal) (Cert.NormRefIdeal.Hand.sumF (m' ((c.tc : Thread Cert.NormRefIdeal.nD Cert.NormRefIdeal.τ).loc Cert.NormRefIdeal.main_arg0)) (m' ((c.tc : Thread Cert.NormRefIdeal.nD Cert.NormRefIdeal.τ).loc Cert.NormRefIdeal.main_arg1))
    (m' ((c.tc : Thread Cert.NormRefIdeal.nD Cert.NormRefIdeal.τ).loc Cert.NormRefIdeal.main_arg2))) (m' ((c.tc : Thread Cert.NormRefIdeal.nD Cert.NormRefIdeal.τ).loc Cert.NormRefIdeal.main_arg3)) (m' ((c.tc : Thread Cert.NormRefIdeal.nD Cert.NormRefIdeal.τ).loc Cert.NormRefIdeal.main_arg4)), ?_, Cert.NormRefIdeal.Value.run (F := Ideal) m' g'⟩
  refine (θ_run (Cert.NormIdeal.defs (F := Ideal)) _ _).mono (fun r hr c => ⟨(hr c).1.trans ?_, (hr c).2⟩) (Cert.NormIdeal.Value.run_blocks m g)
  obtain ⟨h0, h1, h2, h3, h4⟩ := h c
  refine Eq.trans ?_ (Cert.NormRefIdeal.Hand.normF_at _ _ _ _ _).symm
  rw [h0, h1, h2, h3, h4]
  exact Cert.NormIdeal.Hand.left m c

/-- The prompt convolution's frame claim. -/
theorem frame_conv : Cert.quiescent_Conv := fun m ρ _ => Cert.Conv.Gen.frame m ρ
/-- The idealized prompt convolution's frame claim. -/
theorem frame_convIdeal : Cert.quiescent_ConvIdeal := fun m ρ _ => Cert.ConvIdeal.Gen.frame m ρ
/-- The prompt convolution's reference's frame claim. -/
theorem frame_convRefIdeal : Cert.quiescent_ConvRefIdeal := fun m g _ =>
  (θ_run (Cert.ConvRefIdeal.defs (F := Ideal)) _ _).mono (fun r h => ⟨fun c => (h c).2.2, sem_eq_zero_of_no_sems rfl r.2⟩) (Cert.ConvRefIdeal.Value.run (F := Ideal) m g)

/-- The output projection's frame claim. -/
theorem frame_proj : Cert.quiescent_Proj := fun m ρ _ => Cert.Proj.Gen.frame m ρ
/-- The idealized output projection's frame claim. -/
theorem frame_projIdeal : Cert.quiescent_ProjIdeal := fun m ρ _ => Cert.ProjIdeal.Gen.frame m ρ
/-- The output projection's reference's frame claim. -/
theorem frame_projRefIdeal : Cert.quiescent_ProjRefIdeal := fun m g _ =>
  (θ_run (Cert.ProjRefIdeal.defs (F := Ideal)) _ _).mono (fun r h => ⟨fun c => (h c).2.2.2, sem_eq_zero_of_no_sems rfl r.2⟩) (Cert.ProjRefIdeal.Value.run (F := Ideal) m g)

/-- The idealized prompt convolution and its reference leave equal results. -/
theorem algebraic_conv : Cert.algebraic_ConvIdeal_ConvRefIdeal := by
  intro m g m' g' _ h
  refine ⟨fun c => Cert.ConvRefIdeal.Hand.flatF (F := Ideal) (Cert.ConvRefIdeal.Hand.gateF (Cert.ConvRefIdeal.Hand.projF (F := Ideal) (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1))) (Cert.ConvRefIdeal.Hand.catF (Cert.ConvRefIdeal.Hand.projF (F := Ideal) (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1)))) (m' ((c.tc : Thread Cert.ConvRefIdeal.nD Cert.ConvRefIdeal.τ).loc Cert.ConvRefIdeal.main_arg2))),
    fun c => Cert.ConvRefIdeal.Hand.lastF (F := Ideal) (Cert.ConvRefIdeal.Hand.catF (Cert.ConvRefIdeal.Hand.projF (F := Ideal) (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1)))), ?_, Cert.ConvRefIdeal.Value.run (F := Ideal) m' g'⟩
  refine (θ_run (Cert.ConvIdeal.defs (F := Ideal)) _ _).mono (fun r hr c => ⟨(hr c).1.trans ?_, (hr c).2.1.trans ?_, (hr c).2.2⟩) (Cert.ConvIdeal.Value.run_blocks m g)
  · obtain ⟨h0, h1, h2⟩ := h c
    refine Eq.trans ?_ (Cert.ConvRefIdeal.Hand.conv_eq _ _ _).symm
    rw [h0, h1, h2]
    exact Cert.ConvIdeal.Hand.left5 m c
  · obtain ⟨h0, h1, h2⟩ := h c
    refine Eq.trans ?_ (Cert.ConvRefIdeal.Hand.last_eq _ _).symm
    rw [h0, h1]
    exact Cert.ConvIdeal.Hand.left6 m c

/-- The idealized output projection and its reference leave equal results. -/
theorem algebraic_proj : Cert.algebraic_ProjIdeal_ProjRefIdeal := by
  intro m g m' g' _ h
  refine ⟨fun c => Cert.ProjRefIdeal.Hand.normF (F := Ideal) (Cert.ProjRefIdeal.Hand.preF (Cert.ProjRefIdeal.Hand.bothF (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3))) (m' ((c.tc : Thread Cert.ProjRefIdeal.nD Cert.ProjRefIdeal.τ).loc Cert.ProjRefIdeal.main_arg4)) (m' ((c.tc : Thread Cert.ProjRefIdeal.nD Cert.ProjRefIdeal.τ).loc Cert.ProjRefIdeal.main_arg5)),
    fun c => truncf .bf16 (Cert.ProjRefIdeal.Hand.normF (F := Ideal) (Cert.ProjRefIdeal.Hand.preF (Cert.ProjRefIdeal.Hand.bothF (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3))) (m' ((c.tc : Thread Cert.ProjRefIdeal.nD Cert.ProjRefIdeal.τ).loc Cert.ProjRefIdeal.main_arg4)) (m' ((c.tc : Thread Cert.ProjRefIdeal.nD Cert.ProjRefIdeal.τ).loc Cert.ProjRefIdeal.main_arg5))) Cert.ProjRefIdeal.Facts₀.bitsLt_bf16_f32,
    fun c => Cert.ProjRefIdeal.Hand.scF (F := Ideal) (Cert.ProjRefIdeal.Hand.normF (F := Ideal) (Cert.ProjRefIdeal.Hand.preF (Cert.ProjRefIdeal.Hand.bothF (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3))) (m' ((c.tc : Thread Cert.ProjRefIdeal.nD Cert.ProjRefIdeal.τ).loc Cert.ProjRefIdeal.main_arg4)) (m' ((c.tc : Thread Cert.ProjRefIdeal.nD Cert.ProjRefIdeal.τ).loc Cert.ProjRefIdeal.main_arg5))) (m' ((c.tc : Thread Cert.ProjRefIdeal.nD Cert.ProjRefIdeal.τ).loc Cert.ProjRefIdeal.main_arg6)), ?_, Cert.ProjRefIdeal.Value.run (F := Ideal) m' g'⟩
  refine (θ_run (Cert.ProjIdeal.defs (F := Ideal)) _ _).mono (fun r hr c => ⟨(hr c).1.trans ?_, (hr c).2.1.trans ?_, (hr c).2.2.1.trans ?_, (hr c).2.2.2⟩) (Cert.ProjIdeal.Value.run_blocks m g)
  · obtain ⟨h0, h1, h2, h3, h4, h5, h6⟩ := h c
    refine Eq.trans ?_ (Cert.ProjRefIdeal.Hand.rows_eq _ _ _ _ _ _).symm
    rw [h0, h1, h2, h3, h4, h5]
    exact Cert.ProjIdeal.Hand.left7 m c
  · obtain ⟨h0, h1, h2, h3, h4, h5, h6⟩ := h c
    refine Eq.trans ?_ (Cert.ProjRefIdeal.Hand.rows_eq _ _ _ _ _ _).symm
    rw [h0, h1, h2, h3, h4, h5]
    exact Cert.ProjIdeal.Hand.left8 m c
  · obtain ⟨h0, h1, h2, h3, h4, h5, h6⟩ := h c
    refine Eq.trans ?_ (Cert.ProjRefIdeal.Hand.sc_eq _ _ _ _ _ _ _).symm
    rw [h0, h1, h2, h3, h4, h5, h6]
    exact Cert.ProjIdeal.Hand.left9 m c

/-- Every claim. -/
theorem claim : Cert.Claim := ⟨Cert.Kernel.Gen.facts, Cert.KernelIdeal.Gen.facts, Cert.ReferenceIdeal.Gen.facts,
  Cert.Shared.Gen.facts, Cert.SharedIdeal.Gen.facts, Cert.SharedRefIdeal.Gen.facts, Cert.Norm.Gen.facts, Cert.NormIdeal.Gen.facts, Cert.NormRefIdeal.Gen.facts,
  Cert.Conv.Gen.facts, Cert.ConvIdeal.Gen.facts, Cert.ConvRefIdeal.Gen.facts, Cert.Proj.Gen.facts, Cert.ProjIdeal.Gen.facts, Cert.ProjRefIdeal.Gen.facts,
  frame_kernel, frame_kernelIdeal, frame_referenceIdeal, frame_shared, frame_sharedIdeal, frame_sharedRefIdeal, frame_norm, frame_normIdeal, frame_normRefIdeal,
  frame_conv, frame_convIdeal, frame_convRefIdeal, frame_proj, frame_projIdeal, frame_projRefIdeal,
  trivial, algebraic, trivial, algebraic_shared, trivial, algebraic_norm, trivial, algebraic_conv, trivial, algebraic_proj⟩

end Cert.Proof

end
